-- ==== Defs.lean ====
def Pre_RecKernel (m : (ℓ : Loc Cert.RecKernel.nD Cert.RecKernel.τ Cert.RecKernel.sig) → Buf (Elt Bits) ℓ) : Prop :=
  True

def Pre_RecKernelIdeal (m : (ℓ : Loc Cert.RecKernelIdeal.nD Cert.RecKernelIdeal.τ Cert.RecKernelIdeal.sig) → Buf (Elt Ideal) ℓ) : Prop :=
  True

def Pre_RecReferenceIdeal (m : (ℓ : Loc Cert.RecReferenceIdeal.nD Cert.RecReferenceIdeal.τ Cert.RecReferenceIdeal.sig) → Buf (Elt Ideal) ℓ) : Prop :=
  True

def Pre_EvenQueryKernel (m : (ℓ : Loc Cert.EvenQueryKernel.nD Cert.EvenQueryKernel.τ Cert.EvenQueryKernel.sig) → Buf (Elt Bits) ℓ) : Prop :=
  True

def Pre_EvenQueryKernelIdeal (m : (ℓ : Loc Cert.EvenQueryKernelIdeal.nD Cert.EvenQueryKernelIdeal.τ Cert.EvenQueryKernelIdeal.sig) → Buf (Elt Ideal) ℓ) : Prop :=
  True

def Pre_EvenQueryReferenceIdeal (m : (ℓ : Loc Cert.EvenQueryReferenceIdeal.nD Cert.EvenQueryReferenceIdeal.τ Cert.EvenQueryReferenceIdeal.sig) → Buf (Elt Ideal) ℓ) : Prop :=
  True

def Pre_EvenKeyKernel (m : (ℓ : Loc Cert.EvenKeyKernel.nD Cert.EvenKeyKernel.τ Cert.EvenKeyKernel.sig) → Buf (Elt Bits) ℓ) : Prop :=
  True

def Pre_EvenKeyKernelIdeal (m : (ℓ : Loc Cert.EvenKeyKernelIdeal.nD Cert.EvenKeyKernelIdeal.τ Cert.EvenKeyKernelIdeal.sig) → Buf (Elt Ideal) ℓ) : Prop :=
  True

def Pre_EvenKeyReferenceIdeal (m : (ℓ : Loc Cert.EvenKeyReferenceIdeal.nD Cert.EvenKeyReferenceIdeal.τ Cert.EvenKeyReferenceIdeal.sig) → Buf (Elt Ideal) ℓ) : Prop :=
  True

def Pre_EvenValueKernel (m : (ℓ : Loc Cert.EvenValueKernel.nD Cert.EvenValueKernel.τ Cert.EvenValueKernel.sig) → Buf (Elt Bits) ℓ) : Prop :=
  True

def Pre_EvenValueKernelIdeal (m : (ℓ : Loc Cert.EvenValueKernelIdeal.nD Cert.EvenValueKernelIdeal.τ Cert.EvenValueKernelIdeal.sig) → Buf (Elt Ideal) ℓ) : Prop :=
  True

def Pre_EvenValueReferenceIdeal (m : (ℓ : Loc Cert.EvenValueReferenceIdeal.nD Cert.EvenValueReferenceIdeal.τ Cert.EvenValueReferenceIdeal.sig) → Buf (Elt Ideal) ℓ) : Prop :=
  True

def Pre_EvenGateKernel (m : (ℓ : Loc Cert.EvenGateKernel.nD Cert.EvenGateKernel.τ Cert.EvenGateKernel.sig) → Buf (Elt Bits) ℓ) : Prop :=
  True

def Pre_EvenGateKernelIdeal (m : (ℓ : Loc Cert.EvenGateKernelIdeal.nD Cert.EvenGateKernelIdeal.τ Cert.EvenGateKernelIdeal.sig) → Buf (Elt Ideal) ℓ) : Prop :=
  True

def Pre_EvenGateReferenceIdeal (m : (ℓ : Loc Cert.EvenGateReferenceIdeal.nD Cert.EvenGateReferenceIdeal.τ Cert.EvenGateReferenceIdeal.sig) → Buf (Elt Ideal) ℓ) : Prop :=
  True

def Pre_EvenOutKernel (m : (ℓ : Loc Cert.EvenOutKernel.nD Cert.EvenOutKernel.τ Cert.EvenOutKernel.sig) → Buf (Elt Bits) ℓ) : Prop :=
  True

def Pre_EvenOutKernelIdeal (m : (ℓ : Loc Cert.EvenOutKernelIdeal.nD Cert.EvenOutKernelIdeal.τ Cert.EvenOutKernelIdeal.sig) → Buf (Elt Ideal) ℓ) : Prop :=
  True

def Pre_EvenOutReferenceIdeal (m : (ℓ : Loc Cert.EvenOutReferenceIdeal.nD Cert.EvenOutReferenceIdeal.τ Cert.EvenOutReferenceIdeal.sig) → Buf (Elt Ideal) ℓ) : Prop :=
  True

def Pre_OddQueryKernel (m : (ℓ : Loc Cert.OddQueryKernel.nD Cert.OddQueryKernel.τ Cert.OddQueryKernel.sig) → Buf (Elt Bits) ℓ) : Prop :=
  True

def Pre_OddQueryKernelIdeal (m : (ℓ : Loc Cert.OddQueryKernelIdeal.nD Cert.OddQueryKernelIdeal.τ Cert.OddQueryKernelIdeal.sig) → Buf (Elt Ideal) ℓ) : Prop :=
  True

def Pre_OddQueryReferenceIdeal (m : (ℓ : Loc Cert.OddQueryReferenceIdeal.nD Cert.OddQueryReferenceIdeal.τ Cert.OddQueryReferenceIdeal.sig) → Buf (Elt Ideal) ℓ) : Prop :=
  True

def Pre_OddKeyKernel (m : (ℓ : Loc Cert.OddKeyKernel.nD Cert.OddKeyKernel.τ Cert.OddKeyKernel.sig) → Buf (Elt Bits) ℓ) : Prop :=
  True

def Pre_OddKeyKernelIdeal (m : (ℓ : Loc Cert.OddKeyKernelIdeal.nD Cert.OddKeyKernelIdeal.τ Cert.OddKeyKernelIdeal.sig) → Buf (Elt Ideal) ℓ) : Prop :=
  True

def Pre_OddKeyReferenceIdeal (m : (ℓ : Loc Cert.OddKeyReferenceIdeal.nD Cert.OddKeyReferenceIdeal.τ Cert.OddKeyReferenceIdeal.sig) → Buf (Elt Ideal) ℓ) : Prop :=
  True

def Pre_OddValueKernel (m : (ℓ : Loc Cert.OddValueKernel.nD Cert.OddValueKernel.τ Cert.OddValueKernel.sig) → Buf (Elt Bits) ℓ) : Prop :=
  True

def Pre_OddValueKernelIdeal (m : (ℓ : Loc Cert.OddValueKernelIdeal.nD Cert.OddValueKernelIdeal.τ Cert.OddValueKernelIdeal.sig) → Buf (Elt Ideal) ℓ) : Prop :=
  True

def Pre_OddValueReferenceIdeal (m : (ℓ : Loc Cert.OddValueReferenceIdeal.nD Cert.OddValueReferenceIdeal.τ Cert.OddValueReferenceIdeal.sig) → Buf (Elt Ideal) ℓ) : Prop :=
  True

def Pre_OddGateKernel (m : (ℓ : Loc Cert.OddGateKernel.nD Cert.OddGateKernel.τ Cert.OddGateKernel.sig) → Buf (Elt Bits) ℓ) : Prop :=
  True

def Pre_OddGateKernelIdeal (m : (ℓ : Loc Cert.OddGateKernelIdeal.nD Cert.OddGateKernelIdeal.τ Cert.OddGateKernelIdeal.sig) → Buf (Elt Ideal) ℓ) : Prop :=
  True

def Pre_OddGateReferenceIdeal (m : (ℓ : Loc Cert.OddGateReferenceIdeal.nD Cert.OddGateReferenceIdeal.τ Cert.OddGateReferenceIdeal.sig) → Buf (Elt Ideal) ℓ) : Prop :=
  True

def Pre_OddForgetKernel (m : (ℓ : Loc Cert.OddForgetKernel.nD Cert.OddForgetKernel.τ Cert.OddForgetKernel.sig) → Buf (Elt Bits) ℓ) : Prop :=
  True

def Pre_OddForgetKernelIdeal (m : (ℓ : Loc Cert.OddForgetKernelIdeal.nD Cert.OddForgetKernelIdeal.τ Cert.OddForgetKernelIdeal.sig) → Buf (Elt Ideal) ℓ) : Prop :=
  True

def Pre_OddForgetReferenceIdeal (m : (ℓ : Loc Cert.OddForgetReferenceIdeal.nD Cert.OddForgetReferenceIdeal.τ Cert.OddForgetReferenceIdeal.sig) → Buf (Elt Ideal) ℓ) : Prop :=
  True

def Pre_OddOutKernel (m : (ℓ : Loc Cert.OddOutKernel.nD Cert.OddOutKernel.τ Cert.OddOutKernel.sig) → Buf (Elt Bits) ℓ) : Prop :=
  True

def Pre_OddOutKernelIdeal (m : (ℓ : Loc Cert.OddOutKernelIdeal.nD Cert.OddOutKernelIdeal.τ Cert.OddOutKernelIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def Pre_EvenColsKernel (m : (ℓ : Loc Cert.EvenColsKernel.nD Cert.EvenColsKernel.τ Cert.EvenColsKernel.sig) → Buf (Elt Bits) ℓ) : Prop :=
  True

def Pre_EvenColsKernelIdeal (m : (ℓ : Loc Cert.EvenColsKernelIdeal.nD Cert.EvenColsKernelIdeal.τ Cert.EvenColsKernelIdeal.sig) → Buf (Elt Ideal) ℓ) : Prop :=
  True

def Pre_EvenColsReferenceIdeal (m : (ℓ : Loc Cert.EvenColsReferenceIdeal.nD Cert.EvenColsReferenceIdeal.τ Cert.EvenColsReferenceIdeal.sig) → Buf (Elt Ideal) ℓ) : Prop :=
  True

def Pre_EvenColsOutKernel (m : (ℓ : Loc Cert.EvenColsOutKernel.nD Cert.EvenColsOutKernel.τ Cert.EvenColsOutKernel.sig) → Buf (Elt Bits) ℓ) : Prop :=
  True

def Pre_EvenColsOutKernelIdeal (m : (ℓ : Loc Cert.EvenColsOutKernelIdeal.nD Cert.EvenColsOutKernelIdeal.τ Cert.EvenColsOutKernelIdeal.sig) → Buf (Elt Ideal) ℓ) : Prop :=
  True

def Pre_EvenColsOutReferenceIdeal (m : (ℓ : Loc Cert.EvenColsOutReferenceIdeal.nD Cert.EvenColsOutReferenceIdeal.τ Cert.EvenColsOutReferenceIdeal.sig) → Buf (Elt Ideal) ℓ) : Prop :=
  True

def Pre_OddColsOutKernel (m : (ℓ : Loc Cert.OddColsOutKernel.nD Cert.OddColsOutKernel.τ Cert.OddColsOutKernel.sig) → Buf (Elt Bits) ℓ) : Prop :=
  True

def Pre_OddColsOutKernelIdeal (m : (ℓ : Loc Cert.OddColsOutKernelIdeal.nD Cert.OddColsOutKernelIdeal.τ Cert.OddColsOutKernelIdeal.sig) → Buf (Elt Ideal) ℓ) : Prop :=
  True

def Pre_OddColsOutReferenceIdeal (m : (ℓ : Loc Cert.OddColsOutReferenceIdeal.nD Cert.OddColsOutReferenceIdeal.τ Cert.OddColsOutReferenceIdeal.sig) → Buf (Elt Ideal) ℓ) : Prop :=
  True

def Pre_LogfKernel (m : (ℓ : Loc Cert.LogfKernel.nD Cert.LogfKernel.τ Cert.LogfKernel.sig) → Buf (Elt Bits) ℓ) : Prop :=
  True

def Pre_LogfKernelIdeal (m : (ℓ : Loc Cert.LogfKernelIdeal.nD Cert.LogfKernelIdeal.τ Cert.LogfKernelIdeal.sig) → Buf (Elt Ideal) ℓ) : Prop :=
  True

def Pre_LogfReferenceIdeal (m : (ℓ : Loc Cert.LogfReferenceIdeal.nD Cert.LogfReferenceIdeal.τ Cert.LogfReferenceIdeal.sig) → Buf (Elt Ideal) ℓ) : Prop :=
  True

def Pre_LogfCumsumKernel (m : (ℓ : Loc Cert.LogfCumsumKernel.nD Cert.LogfCumsumKernel.τ Cert.LogfCumsumKernel.sig) → Buf (Elt Bits) ℓ) : Prop :=
  True

def Pre_LogfCumsumKernelIdeal (m : (ℓ : Loc Cert.LogfCumsumKernelIdeal.nD Cert.LogfCumsumKernelIdeal.τ Cert.LogfCumsumKernelIdeal.sig) → Buf (Elt Ideal) ℓ) : Prop :=
  True

def Pre_LogfCumsumReferenceIdeal (m : (ℓ : Loc Cert.LogfCumsumReferenceIdeal.nD Cert.LogfCumsumReferenceIdeal.τ Cert.LogfCumsumReferenceIdeal.sig) → Buf (Elt Ideal) ℓ) : Prop :=
  True

def Pre_StickKernel (m : (ℓ : Loc Cert.StickKernel.nD Cert.StickKernel.τ Cert.StickKernel.sig) → Buf (Elt Bits) ℓ) : Prop :=
  True

def Pre_StickKernelIdeal (m : (ℓ : Loc Cert.StickKernelIdeal.nD Cert.StickKernelIdeal.τ Cert.StickKernelIdeal.sig) → Buf (Elt Ideal) ℓ) : Prop :=
  True

def Pre_StickReferenceIdeal (m : (ℓ : Loc Cert.StickReferenceIdeal.nD Cert.StickReferenceIdeal.τ Cert.StickReferenceIdeal.sig) → Buf (Elt Ideal) ℓ) : Prop :=
  True

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxReferenceIdeal (m : (ℓ : Loc Cert.FoxReferenceIdeal.nD Cert.FoxReferenceIdeal.τ Cert.FoxReferenceIdeal.sig) → Buf (Elt Ideal) ℓ) : Prop :=
  True

def quiescent_RecKernel [hRecKernel : Cert.RecKernel.Facts] : Prop :=
  ∀ (m : (ℓ : Loc Cert.RecKernel.nD Cert.RecKernel.τ Cert.RecKernel.sig) → Buf (Elt Bits) ℓ) (g : Dev Cert.RecKernel.nD → PrngReg), Pre_RecKernel m →
    θ_run (Cert.RecKernel.defs (F := Bits)) (onTc (τ := Cert.RecKernel.τ) (Cert.RecKernel.main (F := Bits))) ⟨m, fun _ => 0, g⟩ (fun r => (∀ c : Dev Cert.RecKernel.nD,
      r.2.mem ((c.tc : Thread Cert.RecKernel.nD Cert.RecKernel.τ).loc Cert.RecKernel.main_arg0) = m ((c.tc : Thread Cert.RecKernel.nD Cert.RecKernel.τ).loc Cert.RecKernel.main_arg0)
      ∧ r.2.mem ((c.tc : Thread Cert.RecKernel.nD Cert.RecKernel.τ).loc Cert.RecKernel.main_arg1) = m ((c.tc : Thread Cert.RecKernel.nD Cert.RecKernel.τ).loc Cert.RecKernel.main_arg1))
      ∧ r.2.sem = fun _ => 0)

def quiescent_RecKernelIdeal [hRecKernelIdeal : Cert.RecKernelIdeal.Facts] : Prop :=
  ∀ (m : (ℓ : Loc Cert.RecKernelIdeal.nD Cert.RecKernelIdeal.τ Cert.RecKernelIdeal.sig) → Buf (Elt Ideal) ℓ) (g : Dev Cert.RecKernelIdeal.nD → PrngReg), Pre_RecKernelIdeal m →
    θ_run (Cert.RecKernelIdeal.defs (F := Ideal)) (onTc (τ := Cert.RecKernelIdeal.τ) (Cert.RecKernelIdeal.main (F := Ideal))) ⟨m, fun _ => 0, g⟩ (fun r => (∀ c : Dev Cert.RecKernelIdeal.nD,
      r.2.mem ((c.tc : Thread Cert.RecKernelIdeal.nD Cert.RecKernelIdeal.τ).loc Cert.RecKernelIdeal.main_arg0) = m ((c.tc : Thread Cert.RecKernelIdeal.nD Cert.RecKernelIdeal.τ).loc Cert.RecKernelIdeal.main_arg0)
      ∧ r.2.mem ((c.tc : Thread Cert.RecKernelIdeal.nD Cert.RecKernelIdeal.τ).loc Cert.RecKernelIdeal.main_arg1) = m ((c.tc : Thread Cert.RecKernelIdeal.nD Cert.RecKernelIdeal.τ).loc Cert.RecKernelIdeal.main_arg1))
      ∧ r.2.sem = fun _ => 0)

def quiescent_RecReferenceIdeal [hRecReferenceIdeal : Cert.RecReferenceIdeal.Facts] : Prop :=
  ∀ (m : (ℓ : Loc Cert.RecReferenceIdeal.nD Cert.RecReferenceIdeal.τ Cert.RecReferenceIdeal.sig) → Buf (Elt Ideal) ℓ) (g : Dev Cert.RecReferenceIdeal.nD → PrngReg), Pre_RecReferenceIdeal m →
    θ_run (Cert.RecReferenceIdeal.defs (F := Ideal)) (onTc (τ := Cert.RecReferenceIdeal.τ) (Cert.RecReferenceIdeal.main (F := Ideal))) ⟨m, fun _ => 0, g⟩ (fun r => (∀ c : Dev Cert.RecReferenceIdeal.nD,
      r.2.mem ((c.tc : Thread Cert.RecReferenceIdeal.nD Cert.RecReferenceIdeal.τ).loc Cert.RecReferenceIdeal.main_arg0) = m ((c.tc : Thread Cert.RecReferenceIdeal.nD Cert.RecReferenceIdeal.τ).loc Cert.RecReferenceIdeal.main_arg0)
      ∧ r.2.mem ((c.tc : Thread Cert.RecReferenceIdeal.nD Cert.RecReferenceIdeal.τ).loc Cert.RecReferenceIdeal.main_arg1) = m ((c.tc : Thread Cert.RecReferenceIdeal.nD Cert.RecReferenceIdeal.τ).loc Cert.RecReferenceIdeal.main_arg1))
      ∧ r.2.sem = fun _ => 0)

def quiescent_EvenQueryKernel [hEvenQueryKernel : Cert.EvenQueryKernel.Facts] : Prop :=
  ∀ (m : (ℓ : Loc Cert.EvenQueryKernel.nD Cert.EvenQueryKernel.τ Cert.EvenQueryKernel.sig) → Buf (Elt Bits) ℓ) (g : Dev Cert.EvenQueryKernel.nD → PrngReg), Pre_EvenQueryKernel m →
    θ_run (Cert.EvenQueryKernel.defs (F := Bits)) (onTc (τ := Cert.EvenQueryKernel.τ) (Cert.EvenQueryKernel.main (F := Bits))) ⟨m, fun _ => 0, g⟩ (fun r => (∀ c : Dev Cert.EvenQueryKernel.nD,
      r.2.mem ((c.tc : Thread Cert.EvenQueryKernel.nD Cert.EvenQueryKernel.τ).loc Cert.EvenQueryKernel.main_arg0) = m ((c.tc : Thread Cert.EvenQueryKernel.nD Cert.EvenQueryKernel.τ).loc Cert.EvenQueryKernel.main_arg0)
      ∧ r.2.mem ((c.tc : Thread Cert.EvenQueryKernel.nD Cert.EvenQueryKernel.τ).loc Cert.EvenQueryKernel.main_arg1) = m ((c.tc : Thread Cert.EvenQueryKernel.nD Cert.EvenQueryKernel.τ).loc Cert.EvenQueryKernel.main_arg1))
      ∧ r.2.sem = fun _ => 0)

def quiescent_EvenQueryKernelIdeal [hEvenQueryKernelIdeal : Cert.EvenQueryKernelIdeal.Facts] : Prop :=
  ∀ (m : (ℓ : Loc Cert.EvenQueryKernelIdeal.nD Cert.EvenQueryKernelIdeal.τ Cert.EvenQueryKernelIdeal.sig) → Buf (Elt Ideal) ℓ) (g : Dev Cert.EvenQueryKernelIdeal.nD → PrngReg), Pre_EvenQueryKernelIdeal m →
    θ_run (Cert.EvenQueryKernelIdeal.defs (F := Ideal)) (onTc (τ := Cert.EvenQueryKernelIdeal.τ) (Cert.EvenQueryKernelIdeal.main (F := Ideal))) ⟨m, fun _ => 0, g⟩ (fun r => (∀ c : Dev Cert.EvenQueryKernelIdeal.nD,
      r.2.mem ((c.tc : Thread Cert.EvenQueryKernelIdeal.nD Cert.EvenQueryKernelIdeal.τ).loc Cert.EvenQueryKernelIdeal.main_arg0) = m ((c.tc : Thread Cert.EvenQueryKernelIdeal.nD Cert.EvenQueryKernelIdeal.τ).loc Cert.EvenQueryKernelIdeal.main_arg0)
      ∧ r.2.mem ((c.tc : Thread Cert.EvenQueryKernelIdeal.nD Cert.EvenQueryKernelIdeal.τ).loc Cert.EvenQueryKernelIdeal.main_arg1) = m ((c.tc : Thread Cert.EvenQueryKernelIdeal.nD Cert.EvenQueryKernelIdeal.τ).loc Cert.EvenQueryKernelIdeal.main_arg1))
      ∧ r.2.sem = fun _ => 0)

def quiescent_EvenQueryReferenceIdeal [hEvenQueryReferenceIdeal : Cert.EvenQueryReferenceIdeal.Facts] : Prop :=
  ∀ (m : (ℓ : Loc Cert.EvenQueryReferenceIdeal.nD Cert.EvenQueryReferenceIdeal.τ Cert.EvenQueryReferenceIdeal.sig) → Buf (Elt Ideal) ℓ) (g : Dev Cert.EvenQueryReferenceIdeal.nD → PrngReg), Pre_EvenQueryReferenceIdeal m →
    θ_run (Cert.EvenQueryReferenceIdeal.defs (F := Ideal)) (onTc (τ := Cert.EvenQueryReferenceIdeal.τ) (Cert.EvenQueryReferenceIdeal.main (F := Ideal))) ⟨m, fun _ => 0, g⟩ (fun r => (∀ c : Dev Cert.EvenQueryReferenceIdeal.nD,
      r.2.mem ((c.tc : Thread Cert.EvenQueryReferenceIdeal.nD Cert.EvenQueryReferenceIdeal.τ).loc Cert.EvenQueryReferenceIdeal.main_arg0) = m ((c.tc : Thread Cert.EvenQueryReferenceIdeal.nD Cert.EvenQueryReferenceIdeal.τ).loc Cert.EvenQueryReferenceIdeal.main_arg0)
      ∧ r.2.mem ((c.tc : Thread Cert.EvenQueryReferenceIdeal.nD Cert.EvenQueryReferenceIdeal.τ).loc Cert.EvenQueryReferenceIdeal.main_arg1) = m ((c.tc : Thread Cert.EvenQueryReferenceIdeal.nD Cert.EvenQueryReferenceIdeal.τ).loc Cert.EvenQueryReferenceIdeal.main_arg1))
      ∧ r.2.sem = fun _ => 0)

def quiescent_EvenKeyKernel [hEvenKeyKernel : Cert.EvenKeyKernel.Facts] : Prop :=
  ∀ (m : (ℓ : Loc Cert.EvenKeyKernel.nD Cert.EvenKeyKernel.τ Cert.EvenKeyKernel.sig) → Buf (Elt Bits) ℓ) (g : Dev Cert.EvenKeyKernel.nD → PrngReg), Pre_EvenKeyKernel m →
    θ_run (Cert.EvenKeyKernel.defs (F := Bits)) (onTc (τ := Cert.EvenKeyKernel.τ) (Cert.EvenKeyKernel.main (F := Bits))) ⟨m, fun _ => 0, g⟩ (fun r => (∀ c : Dev Cert.EvenKeyKernel.nD,
      r.2.mem ((c.tc : Thread Cert.EvenKeyKernel.nD Cert.EvenKeyKernel.τ).loc Cert.EvenKeyKernel.main_arg0) = m ((c.tc : Thread Cert.EvenKeyKernel.nD Cert.EvenKeyKernel.τ).loc Cert.EvenKeyKernel.main_arg0)
      ∧ r.2.mem ((c.tc : Thread Cert.EvenKeyKernel.nD Cert.EvenKeyKernel.τ).loc Cert.EvenKeyKernel.main_arg1) = m ((c.tc : Thread Cert.EvenKeyKernel.nD Cert.EvenKeyKernel.τ).loc Cert.EvenKeyKernel.main_arg1))
      ∧ r.2.sem = fun _ => 0)

def quiescent_EvenKeyKernelIdeal [hEvenKeyKernelIdeal : Cert.EvenKeyKernelIdeal.Facts] : Prop :=
  ∀ (m : (ℓ : Loc Cert.EvenKeyKernelIdeal.nD Cert.EvenKeyKernelIdeal.τ Cert.EvenKeyKernelIdeal.sig) → Buf (Elt Ideal) ℓ) (g : Dev Cert.EvenKeyKernelIdeal.nD → PrngReg), Pre_EvenKeyKernelIdeal m →
    θ_run (Cert.EvenKeyKernelIdeal.defs (F := Ideal)) (onTc (τ := Cert.EvenKeyKernelIdeal.τ) (Cert.EvenKeyKernelIdeal.main (F := Ideal))) ⟨m, fun _ => 0, g⟩ (fun r => (∀ c : Dev Cert.EvenKeyKernelIdeal.nD,
      r.2.mem ((c.tc : Thread Cert.EvenKeyKernelIdeal.nD Cert.EvenKeyKernelIdeal.τ).loc Cert.EvenKeyKernelIdeal.main_arg0) = m ((c.tc : Thread Cert.EvenKeyKernelIdeal.nD Cert.EvenKeyKernelIdeal.τ).loc Cert.EvenKeyKernelIdeal.main_arg0)
      ∧ r.2.mem ((c.tc : Thread Cert.EvenKeyKernelIdeal.nD Cert.EvenKeyKernelIdeal.τ).loc Cert.EvenKeyKernelIdeal.main_arg1) = m ((c.tc : Thread Cert.EvenKeyKernelIdeal.nD Cert.EvenKeyKernelIdeal.τ).loc Cert.EvenKeyKernelIdeal.main_arg1))
      ∧ r.2.sem = fun _ => 0)

def quiescent_EvenKeyReferenceIdeal [hEvenKeyReferenceIdeal : Cert.EvenKeyReferenceIdeal.Facts] : Prop :=
  ∀ (m : (ℓ : Loc Cert.EvenKeyReferenceIdeal.nD Cert.EvenKeyReferenceIdeal.τ Cert.EvenKeyReferenceIdeal.sig) → Buf (Elt Ideal) ℓ) (g : Dev Cert.EvenKeyReferenceIdeal.nD → PrngReg), Pre_EvenKeyReferenceIdeal m →
    θ_run (Cert.EvenKeyReferenceIdeal.defs (F := Ideal)) (onTc (τ := Cert.EvenKeyReferenceIdeal.τ) (Cert.EvenKeyReferenceIdeal.main (F := Ideal))) ⟨m, fun _ => 0, g⟩ (fun r => (∀ c : Dev Cert.EvenKeyReferenceIdeal.nD,
      r.2.mem ((c.tc : Thread Cert.EvenKeyReferenceIdeal.nD Cert.EvenKeyReferenceIdeal.τ).loc Cert.EvenKeyReferenceIdeal.main_arg0) = m ((c.tc : Thread Cert.EvenKeyReferenceIdeal.nD Cert.EvenKeyReferenceIdeal.τ).loc Cert.EvenKeyReferenceIdeal.main_arg0)
      ∧ r.2.mem ((c.tc : Thread Cert.EvenKeyReferenceIdeal.nD Cert.EvenKeyReferenceIdeal.τ).loc Cert.EvenKeyReferenceIdeal.main_arg1) = m ((c.tc : Thread Cert.EvenKeyReferenceIdeal.nD Cert.EvenKeyReferenceIdeal.τ).loc Cert.EvenKeyReferenceIdeal.main_arg1))
      ∧ r.2.sem = fun _ => 0)

def quiescent_EvenValueKernel [hEvenValueKernel : Cert.EvenValueKernel.Facts] : Prop :=
  ∀ (m : (ℓ : Loc Cert.EvenValueKernel.nD Cert.EvenValueKernel.τ Cert.EvenValueKernel.sig) → Buf (Elt Bits) ℓ) (g : Dev Cert.EvenValueKernel.nD → PrngReg), Pre_EvenValueKernel m →
    θ_run (Cert.EvenValueKernel.defs (F := Bits)) (onTc (τ := Cert.EvenValueKernel.τ) (Cert.EvenValueKernel.main (F := Bits))) ⟨m, fun _ => 0, g⟩ (fun r => (∀ c : Dev Cert.EvenValueKernel.nD,
      r.2.mem ((c.tc : Thread Cert.EvenValueKernel.nD Cert.EvenValueKernel.τ).loc Cert.EvenValueKernel.main_arg0) = m ((c.tc : Thread Cert.EvenValueKernel.nD Cert.EvenValueKernel.τ).loc Cert.EvenValueKernel.main_arg0)
      ∧ r.2.mem ((c.tc : Thread Cert.EvenValueKernel.nD Cert.EvenValueKernel.τ).loc Cert.EvenValueKernel.main_arg1) = m ((c.tc : Thread Cert.EvenValueKernel.nD Cert.EvenValueKernel.τ).loc Cert.EvenValueKernel.main_arg1))
      ∧ r.2.sem = fun _ => 0)

def quiescent_EvenValueKernelIdeal [hEvenValueKernelIdeal : Cert.EvenValueKernelIdeal.Facts] : Prop :=
  ∀ (m : (ℓ : Loc Cert.EvenValueKernelIdeal.nD Cert.EvenValueKernelIdeal.τ Cert.EvenValueKernelIdeal.sig) → Buf (Elt Ideal) ℓ) (g : Dev Cert.EvenValueKernelIdeal.nD → PrngReg), Pre_EvenValueKernelIdeal m →
    θ_run (Cert.EvenValueKernelIdeal.defs (F := Ideal)) (onTc (τ := Cert.EvenValueKernelIdeal.τ) (Cert.EvenValueKernelIdeal.main (F := Ideal))) ⟨m, fun _ => 0, g⟩ (fun r => (∀ c : Dev Cert.EvenValueKernelIdeal.nD,
      r.2.mem ((c.tc : Thread Cert.EvenValueKernelIdeal.nD Cert.EvenValueKernelIdeal.τ).loc Cert.EvenValueKernelIdeal.main_arg0) = m ((c.tc : Thread Cert.EvenValueKernelIdeal.nD Cert.EvenValueKernelIdeal.τ).loc Cert.EvenValueKernelIdeal.main_arg0)
      ∧ r.2.mem ((c.tc : Thread Cert.EvenValueKernelIdeal.nD Cert.EvenValueKernelIdeal.τ).loc Cert.EvenValueKernelIdeal.main_arg1) = m ((c.tc : Thread Cert.EvenValueKernelIdeal.nD Cert.EvenValueKernelIdeal.τ).loc Cert.EvenValueKernelIdeal.main_arg1))
      ∧ r.2.sem = fun _ => 0)

def quiescent_EvenValueReferenceIdeal [hEvenValueReferenceIdeal : Cert.EvenValueReferenceIdeal.Facts] : Prop :=
  ∀ (m : (ℓ : Loc Cert.EvenValueReferenceIdeal.nD Cert.EvenValueReferenceIdeal.τ Cert.EvenValueReferenceIdeal.sig) → Buf (Elt Ideal) ℓ) (g : Dev Cert.EvenValueReferenceIdeal.nD → PrngReg), Pre_EvenValueReferenceIdeal m →
    θ_run (Cert.EvenValueReferenceIdeal.defs (F := Ideal)) (onTc (τ := Cert.EvenValueReferenceIdeal.τ) (Cert.EvenValueReferenceIdeal.main (F := Ideal))) ⟨m, fun _ => 0, g⟩ (fun r => (∀ c : Dev Cert.EvenValueReferenceIdeal.nD,
      r.2.mem ((c.tc : Thread Cert.EvenValueReferenceIdeal.nD Cert.EvenValueReferenceIdeal.τ).loc Cert.EvenValueReferenceIdeal.main_arg0) = m ((c.tc : Thread Cert.EvenValueReferenceIdeal.nD Cert.EvenValueReferenceIdeal.τ).loc Cert.EvenValueReferenceIdeal.main_arg0)
      ∧ r.2.mem ((c.tc : Thread Cert.EvenValueReferenceIdeal.nD Cert.EvenValueReferenceIdeal.τ).loc Cert.EvenValueReferenceIdeal.main_arg1) = m ((c.tc : Thread Cert.EvenValueReferenceIdeal.nD Cert.EvenValueReferenceIdeal.τ).loc Cert.EvenValueReferenceIdeal.main_arg1))
      ∧ r.2.sem = fun _ => 0)

def quiescent_EvenGateKernel [hEvenGateKernel : Cert.EvenGateKernel.Facts] : Prop :=
  ∀ (m : (ℓ : Loc Cert.EvenGateKernel.nD Cert.EvenGateKernel.τ Cert.EvenGateKernel.sig) → Buf (Elt Bits) ℓ) (g : Dev Cert.EvenGateKernel.nD → PrngReg), Pre_EvenGateKernel m →
    θ_run (Cert.EvenGateKernel.defs (F := Bits)) (onTc (τ := Cert.EvenGateKernel.τ) (Cert.EvenGateKernel.main (F := Bits))) ⟨m, fun _ => 0, g⟩ (fun r => (∀ c : Dev Cert.EvenGateKernel.nD,
      r.2.mem ((c.tc : Thread Cert.EvenGateKernel.nD Cert.EvenGateKernel.τ).loc Cert.EvenGateKernel.main_arg0) = m ((c.tc : Thread Cert.EvenGateKernel.nD Cert.EvenGateKernel.τ).loc Cert.EvenGateKernel.main_arg0)
      ∧ r.2.mem ((c.tc : Thread Cert.EvenGateKernel.nD Cert.EvenGateKernel.τ).loc Cert.EvenGateKernel.main_arg1) = m ((c.tc : Thread Cert.EvenGateKernel.nD Cert.EvenGateKernel.τ).loc Cert.EvenGateKernel.main_arg1))
      ∧ r.2.sem = fun _ => 0)

def quiescent_EvenGateKernelIdeal [hEvenGateKernelIdeal : Cert.EvenGateKernelIdeal.Facts] : Prop :=
  ∀ (m : (ℓ : Loc Cert.EvenGateKernelIdeal.nD Cert.EvenGateKernelIdeal.τ Cert.EvenGateKernelIdeal.sig) → Buf (Elt Ideal) ℓ) (g : Dev Cert.EvenGateKernelIdeal.nD → PrngReg), Pre_EvenGateKernelIdeal m →
    θ_run (Cert.EvenGateKernelIdeal.defs (F := Ideal)) (onTc (τ := Cert.EvenGateKernelIdeal.τ) (Cert.EvenGateKernelIdeal.main (F := Ideal))) ⟨m, fun _ => 0, g⟩ (fun r => (∀ c : Dev Cert.EvenGateKernelIdeal.nD,
      r.2.mem ((c.tc : Thread Cert.EvenGateKernelIdeal.nD Cert.EvenGateKernelIdeal.τ).loc Cert.EvenGateKernelIdeal.main_arg0) = m ((c.tc : Thread Cert.EvenGateKernelIdeal.nD Cert.EvenGateKernelIdeal.τ).loc Cert.EvenGateKernelIdeal.main_arg0)
      ∧ r.2.mem ((c.tc : Thread Cert.EvenGateKernelIdeal.nD Cert.EvenGateKernelIdeal.τ).loc Cert.EvenGateKernelIdeal.main_arg1) = m ((c.tc : Thread Cert.EvenGateKernelIdeal.nD Cert.EvenGateKernelIdeal.τ).loc Cert.EvenGateKernelIdeal.main_arg1))
      ∧ r.2.sem = fun _ => 0)

def quiescent_EvenGateReferenceIdeal [hEvenGateReferenceIdeal : Cert.EvenGateReferenceIdeal.Facts] : Prop :=
  ∀ (m : (ℓ : Loc Cert.EvenGateReferenceIdeal.nD Cert.EvenGateReferenceIdeal.τ Cert.EvenGateReferenceIdeal.sig) → Buf (Elt Ideal) ℓ) (g : Dev Cert.EvenGateReferenceIdeal.nD → PrngReg), Pre_EvenGateReferenceIdeal m →
    θ_run (Cert.EvenGateReferenceIdeal.defs (F := Ideal)) (onTc (τ := Cert.EvenGateReferenceIdeal.τ) (Cert.EvenGateReferenceIdeal.main (F := Ideal))) ⟨m, fun _ => 0, g⟩ (fun r => (∀ c : Dev Cert.EvenGateReferenceIdeal.nD,
      r.2.mem ((c.tc : Thread Cert.EvenGateReferenceIdeal.nD Cert.EvenGateReferenceIdeal.τ).loc Cert.EvenGateReferenceIdeal.main_arg0) = m ((c.tc : Thread Cert.EvenGateReferenceIdeal.nD Cert.EvenGateReferenceIdeal.τ).loc Cert.EvenGateReferenceIdeal.main_arg0)
      ∧ r.2.mem ((c.tc : Thread Cert.EvenGateReferenceIdeal.nD Cert.EvenGateReferenceIdeal.τ).loc Cert.EvenGateReferenceIdeal.main_arg1) = m ((c.tc : Thread Cert.EvenGateReferenceIdeal.nD Cert.EvenGateReferenceIdeal.τ).loc Cert.EvenGateReferenceIdeal.main_arg1))
      ∧ r.2.sem = fun _ => 0)

def quiescent_EvenOutKernel [hEvenOutKernel : Cert.EvenOutKernel.Facts] : Prop :=
  ∀ (m : (ℓ : Loc Cert.EvenOutKernel.nD Cert.EvenOutKernel.τ Cert.EvenOutKernel.sig) → Buf (Elt Bits) ℓ) (g : Dev Cert.EvenOutKernel.nD → PrngReg), Pre_EvenOutKernel m →
    θ_run (Cert.EvenOutKernel.defs (F := Bits)) (onTc (τ := Cert.EvenOutKernel.τ) (Cert.EvenOutKernel.main (F := Bits))) ⟨m, fun _ => 0, g⟩ (fun r => (∀ c : Dev Cert.EvenOutKernel.nD,
      r.2.mem ((c.tc : Thread Cert.EvenOutKernel.nD Cert.EvenOutKernel.τ).loc Cert.EvenOutKernel.main_arg0) = m ((c.tc : Thread Cert.EvenOutKernel.nD Cert.EvenOutKernel.τ).loc Cert.EvenOutKernel.main_arg0)
      ∧ r.2.mem ((c.tc : Thread Cert.EvenOutKernel.nD Cert.EvenOutKernel.τ).loc Cert.EvenOutKernel.main_arg1) = m ((c.tc : Thread Cert.EvenOutKernel.nD Cert.EvenOutKernel.τ).loc Cert.EvenOutKernel.main_arg1)
      ∧ r.2.mem ((c.tc : Thread Cert.EvenOutKernel.nD Cert.EvenOutKernel.τ).loc Cert.EvenOutKernel.main_arg2) = m ((c.tc : Thread Cert.EvenOutKernel.nD Cert.EvenOutKernel.τ).loc Cert.EvenOutKernel.main_arg2)
      ∧ r.2.mem ((c.tc : Thread Cert.EvenOutKernel.nD Cert.EvenOutKernel.τ).loc Cert.EvenOutKernel.main_arg3) = m ((c.tc : Thread Cert.EvenOutKernel.nD Cert.EvenOutKernel.τ).loc Cert.EvenOutKernel.main_arg3))
      ∧ r.2.sem = fun _ => 0)

def quiescent_EvenOutKernelIdeal [hEvenOutKernelIdeal : Cert.EvenOutKernelIdeal.Facts] : Prop :=
  ∀ (m : (ℓ : Loc Cert.EvenOutKernelIdeal.nD Cert.EvenOutKernelIdeal.τ Cert.EvenOutKernelIdeal.sig) → Buf (Elt Ideal) ℓ) (g : Dev Cert.EvenOutKernelIdeal.nD → PrngReg), Pre_EvenOutKernelIdeal m →
    θ_run (Cert.EvenOutKernelIdeal.defs (F := Ideal)) (onTc (τ := Cert.EvenOutKernelIdeal.τ) (Cert.EvenOutKernelIdeal.main (F := Ideal))) ⟨m, fun _ => 0, g⟩ (fun r => (∀ c : Dev Cert.EvenOutKernelIdeal.nD,
      r.2.mem ((c.tc : Thread Cert.EvenOutKernelIdeal.nD Cert.EvenOutKernelIdeal.τ).loc Cert.EvenOutKernelIdeal.main_arg0) = m ((c.tc : Thread Cert.EvenOutKernelIdeal.nD Cert.EvenOutKernelIdeal.τ).loc Cert.EvenOutKernelIdeal.main_arg0)
      ∧ r.2.mem ((c.tc : Thread Cert.EvenOutKernelIdeal.nD Cert.EvenOutKernelIdeal.τ).loc Cert.EvenOutKernelIdeal.main_arg1) = m ((c.tc : Thread Cert.EvenOutKernelIdeal.nD Cert.EvenOutKernelIdeal.τ).loc Cert.EvenOutKernelIdeal.main_arg1)
      ∧ r.2.mem ((c.tc : Thread Cert.EvenOutKernelIdeal.nD Cert.EvenOutKernelIdeal.τ).loc Cert.EvenOutKernelIdeal.main_arg2) = m ((c.tc : Thread Cert.EvenOutKernelIdeal.nD Cert.EvenOutKernelIdeal.τ).loc Cert.EvenOutKernelIdeal.main_arg2)
      ∧ r.2.mem ((c.tc : Thread Cert.EvenOutKernelIdeal.nD Cert.EvenOutKernelIdeal.τ).loc Cert.EvenOutKernelIdeal.main_arg3) = m ((c.tc : Thread Cert.EvenOutKernelIdeal.nD Cert.EvenOutKernelIdeal.τ).loc Cert.EvenOutKernelIdeal.main_arg3))
      ∧ r.2.sem = fun _ => 0)

def quiescent_EvenOutReferenceIdeal [hEvenOutReferenceIdeal : Cert.EvenOutReferenceIdeal.Facts] : Prop :=
  ∀ (m : (ℓ : Loc Cert.EvenOutReferenceIdeal.nD Cert.EvenOutReferenceIdeal.τ Cert.EvenOutReferenceIdeal.sig) → Buf (Elt Ideal) ℓ) (g : Dev Cert.EvenOutReferenceIdeal.nD → PrngReg), Pre_EvenOutReferenceIdeal m →
    θ_run (Cert.EvenOutReferenceIdeal.defs (F := Ideal)) (onTc (τ := Cert.EvenOutReferenceIdeal.τ) (Cert.EvenOutReferenceIdeal.main (F := Ideal))) ⟨m, fun _ => 0, g⟩ (fun r => (∀ c : Dev Cert.EvenOutReferenceIdeal.nD,
      r.2.mem ((c.tc : Thread Cert.EvenOutReferenceIdeal.nD Cert.EvenOutReferenceIdeal.τ).loc Cert.EvenOutReferenceIdeal.main_arg0) = m ((c.tc : Thread Cert.EvenOutReferenceIdeal.nD Cert.EvenOutReferenceIdeal.τ).loc Cert.EvenOutReferenceIdeal.main_arg0)
      ∧ r.2.mem ((c.tc : Thread Cert.EvenOutReferenceIdeal.nD Cert.EvenOutReferenceIdeal.τ).loc Cert.EvenOutReferenceIdeal.main_arg1) = m ((c.tc : Thread Cert.EvenOutReferenceIdeal.nD Cert.EvenOutReferenceIdeal.τ).loc Cert.EvenOutReferenceIdeal.main_arg1)
      ∧ r.2.mem ((c.tc : Thread Cert.EvenOutReferenceIdeal.nD Cert.EvenOutReferenceIdeal.τ).loc Cert.EvenOutReferenceIdeal.main_arg2) = m ((c.tc : Thread Cert.EvenOutReferenceIdeal.nD Cert.EvenOutReferenceIdeal.τ).loc Cert.EvenOutReferenceIdeal.main_arg2)
      ∧ r.2.mem ((c.tc : Thread Cert.EvenOutReferenceIdeal.nD Cert.EvenOutReferenceIdeal.τ).loc Cert.EvenOutReferenceIdeal.main_arg3) = m ((c.tc : Thread Cert.EvenOutReferenceIdeal.nD Cert.EvenOutReferenceIdeal.τ).loc Cert.EvenOutReferenceIdeal.main_arg3))
      ∧ r.2.sem = fun _ => 0)

def quiescent_OddQueryKernel [hOddQueryKernel : Cert.OddQueryKernel.Facts] : Prop :=
  ∀ (m : (ℓ : Loc Cert.OddQueryKernel.nD Cert.OddQueryKernel.τ Cert.OddQueryKernel.sig) → Buf (Elt Bits) ℓ) (g : Dev Cert.OddQueryKernel.nD → PrngReg), Pre_OddQueryKernel m →
    θ_run (Cert.OddQueryKernel.defs (F := Bits)) (onTc (τ := Cert.OddQueryKernel.τ) (Cert.OddQueryKernel.main (F := Bits))) ⟨m, fun _ => 0, g⟩ (fun r => (∀ c : Dev Cert.OddQueryKernel.nD,
      r.2.mem ((c.tc : Thread Cert.OddQueryKernel.nD Cert.OddQueryKernel.τ).loc Cert.OddQueryKernel.main_arg0) = m ((c.tc : Thread Cert.OddQueryKernel.nD Cert.OddQueryKernel.τ).loc Cert.OddQueryKernel.main_arg0)
      ∧ r.2.mem ((c.tc : Thread Cert.OddQueryKernel.nD Cert.OddQueryKernel.τ).loc Cert.OddQueryKernel.main_arg1) = m ((c.tc : Thread Cert.OddQueryKernel.nD Cert.OddQueryKernel.τ).loc Cert.OddQueryKernel.main_arg1))
      ∧ r.2.sem = fun _ => 0)

def quiescent_OddQueryKernelIdeal [hOddQueryKernelIdeal : Cert.OddQueryKernelIdeal.Facts] : Prop :=
  ∀ (m : (ℓ : Loc Cert.OddQueryKernelIdeal.nD Cert.OddQueryKernelIdeal.τ Cert.OddQueryKernelIdeal.sig) → Buf (Elt Ideal) ℓ) (g : Dev Cert.OddQueryKernelIdeal.nD → PrngReg), Pre_OddQueryKernelIdeal m →
    θ_run (Cert.OddQueryKernelIdeal.defs (F := Ideal)) (onTc (τ := Cert.OddQueryKernelIdeal.τ) (Cert.OddQueryKernelIdeal.main (F := Ideal))) ⟨m, fun _ => 0, g⟩ (fun r => (∀ c : Dev Cert.OddQueryKernelIdeal.nD,
      r.2.mem ((c.tc : Thread Cert.OddQueryKernelIdeal.nD Cert.OddQueryKernelIdeal.τ).loc Cert.OddQueryKernelIdeal.main_arg0) = m ((c.tc : Thread Cert.OddQueryKernelIdeal.nD Cert.OddQueryKernelIdeal.τ).loc Cert.OddQueryKernelIdeal.main_arg0)
      ∧ r.2.mem ((c.tc : Thread Cert.OddQueryKernelIdeal.nD Cert.OddQueryKernelIdeal.τ).loc Cert.OddQueryKernelIdeal.main_arg1) = m ((c.tc : Thread Cert.OddQueryKernelIdeal.nD Cert.OddQueryKernelIdeal.τ).loc Cert.OddQueryKernelIdeal.main_arg1))
      ∧ r.2.sem = fun _ => 0)

def quiescent_OddQueryReferenceIdeal [hOddQueryReferenceIdeal : Cert.OddQueryReferenceIdeal.Facts] : Prop :=
  ∀ (m : (ℓ : Loc Cert.OddQueryReferenceIdeal.nD Cert.OddQueryReferenceIdeal.τ Cert.OddQueryReferenceIdeal.sig) → Buf (Elt Ideal) ℓ) (g : Dev Cert.OddQueryReferenceIdeal.nD → PrngReg), Pre_OddQueryReferenceIdeal m →
    θ_run (Cert.OddQueryReferenceIdeal.defs (F := Ideal)) (onTc (τ := Cert.OddQueryReferenceIdeal.τ) (Cert.OddQueryReferenceIdeal.main (F := Ideal))) ⟨m, fun _ => 0, g⟩ (fun r => (∀ c : Dev Cert.OddQueryReferenceIdeal.nD,
      r.2.mem ((c.tc : Thread Cert.OddQueryReferenceIdeal.nD Cert.OddQueryReferenceIdeal.τ).loc Cert.OddQueryReferenceIdeal.main_arg0) = m ((c.tc : Thread Cert.OddQueryReferenceIdeal.nD Cert.OddQueryReferenceIdeal.τ).loc Cert.OddQueryReferenceIdeal.main_arg0)
      ∧ r.2.mem ((c.tc : Thread Cert.OddQueryReferenceIdeal.nD Cert.OddQueryReferenceIdeal.τ).loc Cert.OddQueryReferenceIdeal.main_arg1) = m ((c.tc : Thread Cert.OddQueryReferenceIdeal.nD Cert.OddQueryReferenceIdeal.τ).loc Cert.OddQueryReferenceIdeal.main_arg1))
      ∧ r.2.sem = fun _ => 0)

def quiescent_OddKeyKernel [hOddKeyKernel : Cert.OddKeyKernel.Facts] : Prop :=
  ∀ (m : (ℓ : Loc Cert.OddKeyKernel.nD Cert.OddKeyKernel.τ Cert.OddKeyKernel.sig) → Buf (Elt Bits) ℓ) (g : Dev Cert.OddKeyKernel.nD → PrngReg), Pre_OddKeyKernel m →
    θ_run (Cert.OddKeyKernel.defs (F := Bits)) (onTc (τ := Cert.OddKeyKernel.τ) (Cert.OddKeyKernel.main (F := Bits))) ⟨m, fun _ => 0, g⟩ (fun r => (∀ c : Dev Cert.OddKeyKernel.nD,
      r.2.mem ((c.tc : Thread Cert.OddKeyKernel.nD Cert.OddKeyKernel.τ).loc Cert.OddKeyKernel.main_arg0) = m ((c.tc : Thread Cert.OddKeyKernel.nD Cert.OddKeyKernel.τ).loc Cert.OddKeyKernel.main_arg0)
      ∧ r.2.mem ((c.tc : Thread Cert.OddKeyKernel.nD Cert.OddKeyKernel.τ).loc Cert.OddKeyKernel.main_arg1) = m ((c.tc : Thread Cert.OddKeyKernel.nD Cert.OddKeyKernel.τ).loc Cert.OddKeyKernel.main_arg1))
      ∧ r.2.sem = fun _ => 0)

def quiescent_OddKeyKernelIdeal [hOddKeyKernelIdeal : Cert.OddKeyKernelIdeal.Facts] : Prop :=
  ∀ (m : (ℓ : Loc Cert.OddKeyKernelIdeal.nD Cert.OddKeyKernelIdeal.τ Cert.OddKeyKernelIdeal.sig) → Buf (Elt Ideal) ℓ) (g : Dev Cert.OddKeyKernelIdeal.nD → PrngReg), Pre_OddKeyKernelIdeal m →
    θ_run (Cert.OddKeyKernelIdeal.defs (F := Ideal)) (onTc (τ := Cert.OddKeyKernelIdeal.τ) (Cert.OddKeyKernelIdeal.main (F := Ideal))) ⟨m, fun _ => 0, g⟩ (fun r => (∀ c : Dev Cert.OddKeyKernelIdeal.nD,
      r.2.mem ((c.tc : Thread Cert.OddKeyKernelIdeal.nD Cert.OddKeyKernelIdeal.τ).loc Cert.OddKeyKernelIdeal.main_arg0) = m ((c.tc : Thread Cert.OddKeyKernelIdeal.nD Cert.OddKeyKernelIdeal.τ).loc Cert.OddKeyKernelIdeal.main_arg0)
      ∧ r.2.mem ((c.tc : Thread Cert.OddKeyKernelIdeal.nD Cert.OddKeyKernelIdeal.τ).loc Cert.OddKeyKernelIdeal.main_arg1) = m ((c.tc : Thread Cert.OddKeyKernelIdeal.nD Cert.OddKeyKernelIdeal.τ).loc Cert.OddKeyKernelIdeal.main_arg1))
      ∧ r.2.sem = fun _ => 0)

def quiescent_OddKeyReferenceIdeal [hOddKeyReferenceIdeal : Cert.OddKeyReferenceIdeal.Facts] : Prop :=
  ∀ (m : (ℓ : Loc Cert.OddKeyReferenceIdeal.nD Cert.OddKeyReferenceIdeal.τ Cert.OddKeyReferenceIdeal.sig) → Buf (Elt Ideal) ℓ) (g : Dev Cert.OddKeyReferenceIdeal.nD → PrngReg), Pre_OddKeyReferenceIdeal m →
    θ_run (Cert.OddKeyReferenceIdeal.defs (F := Ideal)) (onTc (τ := Cert.OddKeyReferenceIdeal.τ) (Cert.OddKeyReferenceIdeal.main (F := Ideal))) ⟨m, fun _ => 0, g⟩ (fun r => (∀ c : Dev Cert.OddKeyReferenceIdeal.nD,
      r.2.mem ((c.tc : Thread Cert.OddKeyReferenceIdeal.nD Cert.OddKeyReferenceIdeal.τ).loc Cert.OddKeyReferenceIdeal.main_arg0) = m ((c.tc : Thread Cert.OddKeyReferenceIdeal.nD Cert.OddKeyReferenceIdeal.τ).loc Cert.OddKeyReferenceIdeal.main_arg0)
      ∧ r.2.mem ((c.tc : Thread Cert.OddKeyReferenceIdeal.nD Cert.OddKeyReferenceIdeal.τ).loc Cert.OddKeyReferenceIdeal.main_arg1) = m ((c.tc : Thread Cert.OddKeyReferenceIdeal.nD Cert.OddKeyReferenceIdeal.τ).loc Cert.OddKeyReferenceIdeal.main_arg1))
      ∧ r.2.sem = fun _ => 0)

def quiescent_OddValueKernel [hOddValueKernel : Cert.OddValueKernel.Facts] : Prop :=
  ∀ (m : (ℓ : Loc Cert.OddValueKernel.nD Cert.OddValueKernel.τ Cert.OddValueKernel.sig) → Buf (Elt Bits) ℓ) (g : Dev Cert.OddValueKernel.nD → PrngReg), Pre_OddValueKernel m →
    θ_run (Cert.OddValueKernel.defs (F := Bits)) (onTc (τ := Cert.OddValueKernel.τ) (Cert.OddValueKernel.main (F := Bits))) ⟨m, fun _ => 0, g⟩ (fun r => (∀ c : Dev Cert.OddValueKernel.nD,
      r.2.mem ((c.tc : Thread Cert.OddValueKernel.nD Cert.OddValueKernel.τ).loc Cert.OddValueKernel.main_arg0) = m ((c.tc : Thread Cert.OddValueKernel.nD Cert.OddValueKernel.τ).loc Cert.OddValueKernel.main_arg0)
      ∧ r.2.mem ((c.tc : Thread Cert.OddValueKernel.nD Cert.OddValueKernel.τ).loc Cert.OddValueKernel.main_arg1) = m ((c.tc : Thread Cert.OddValueKernel.nD Cert.OddValueKernel.τ).loc Cert.OddValueKernel.main_arg1))
      ∧ r.2.sem = fun _ => 0)

def quiescent_OddValueKernelIdeal [hOddValueKernelIdeal : Cert.OddValueKernelIdeal.Facts] : Prop :=
  ∀ (m : (ℓ : Loc Cert.OddValueKernelIdeal.nD Cert.OddValueKernelIdeal.τ Cert.OddValueKernelIdeal.sig) → Buf (Elt Ideal) ℓ) (g : Dev Cert.OddValueKernelIdeal.nD → PrngReg), Pre_OddValueKernelIdeal m →
    θ_run (Cert.OddValueKernelIdeal.defs (F := Ideal)) (onTc (τ := Cert.OddValueKernelIdeal.τ) (Cert.OddValueKernelIdeal.main (F := Ideal))) ⟨m, fun _ => 0, g⟩ (fun r => (∀ c : Dev Cert.OddValueKernelIdeal.nD,
      r.2.mem ((c.tc : Thread Cert.OddValueKernelIdeal.nD Cert.OddValueKernelIdeal.τ).loc Cert.OddValueKernelIdeal.main_arg0) = m ((c.tc : Thread Cert.OddValueKernelIdeal.nD Cert.OddValueKernelIdeal.τ).loc Cert.OddValueKernelIdeal.main_arg0)
      ∧ r.2.mem ((c.tc : Thread Cert.OddValueKernelIdeal.nD Cert.OddValueKernelIdeal.τ).loc Cert.OddValueKernelIdeal.main_arg1) = m ((c.tc : Thread Cert.OddValueKernelIdeal.nD Cert.OddValueKernelIdeal.τ).loc Cert.OddValueKernelIdeal.main_arg1))
      ∧ r.2.sem = fun _ => 0)

def quiescent_OddValueReferenceIdeal [hOddValueReferenceIdeal : Cert.OddValueReferenceIdeal.Facts] : Prop :=
  ∀ (m : (ℓ : Loc Cert.OddValueReferenceIdeal.nD Cert.OddValueReferenceIdeal.τ Cert.OddValueReferenceIdeal.sig) → Buf (Elt Ideal) ℓ) (g : Dev Cert.OddValueReferenceIdeal.nD → PrngReg), Pre_OddValueReferenceIdeal m →
    θ_run (Cert.OddValueReferenceIdeal.defs (F := Ideal)) (onTc (τ := Cert.OddValueReferenceIdeal.τ) (Cert.OddValueReferenceIdeal.main (F := Ideal))) ⟨m, fun _ => 0, g⟩ (fun r => (∀ c : Dev Cert.OddValueReferenceIdeal.nD,
      r.2.mem ((c.tc : Thread Cert.OddValueReferenceIdeal.nD Cert.OddValueReferenceIdeal.τ).loc Cert.OddValueReferenceIdeal.main_arg0) = m ((c.tc : Thread Cert.OddValueReferenceIdeal.nD Cert.OddValueReferenceIdeal.τ).loc Cert.OddValueReferenceIdeal.main_arg0)
      ∧ r.2.mem ((c.tc : Thread Cert.OddValueReferenceIdeal.nD Cert.OddValueReferenceIdeal.τ).loc Cert.OddValueReferenceIdeal.main_arg1) = m ((c.tc : Thread Cert.OddValueReferenceIdeal.nD Cert.OddValueReferenceIdeal.τ).loc Cert.OddValueReferenceIdeal.main_arg1))
      ∧ r.2.sem = fun _ => 0)

def quiescent_OddGateKernel [hOddGateKernel : Cert.OddGateKernel.Facts] : Prop :=
  ∀ (m : (ℓ : Loc Cert.OddGateKernel.nD Cert.OddGateKernel.τ Cert.OddGateKernel.sig) → Buf (Elt Bits) ℓ) (g : Dev Cert.OddGateKernel.nD → PrngReg), Pre_OddGateKernel m →
    θ_run (Cert.OddGateKernel.defs (F := Bits)) (onTc (τ := Cert.OddGateKernel.τ) (Cert.OddGateKernel.main (F := Bits))) ⟨m, fun _ => 0, g⟩ (fun r => (∀ c : Dev Cert.OddGateKernel.nD,
      r.2.mem ((c.tc : Thread Cert.OddGateKernel.nD Cert.OddGateKernel.τ).loc Cert.OddGateKernel.main_arg0) = m ((c.tc : Thread Cert.OddGateKernel.nD Cert.OddGateKernel.τ).loc Cert.OddGateKernel.main_arg0)
      ∧ r.2.mem ((c.tc : Thread Cert.OddGateKernel.nD Cert.OddGateKernel.τ).loc Cert.OddGateKernel.main_arg1) = m ((c.tc : Thread Cert.OddGateKernel.nD Cert.OddGateKernel.τ).loc Cert.OddGateKernel.main_arg1))
      ∧ r.2.sem = fun _ => 0)

def quiescent_OddGateKernelIdeal [hOddGateKernelIdeal : Cert.OddGateKernelIdeal.Facts] : Prop :=
  ∀ (m : (ℓ : Loc Cert.OddGateKernelIdeal.nD Cert.OddGateKernelIdeal.τ Cert.OddGateKernelIdeal.sig) → Buf (Elt Ideal) ℓ) (g : Dev Cert.OddGateKernelIdeal.nD → PrngReg), Pre_OddGateKernelIdeal m →
    θ_run (Cert.OddGateKernelIdeal.defs (F := Ideal)) (onTc (τ := Cert.OddGateKernelIdeal.τ) (Cert.OddGateKernelIdeal.main (F := Ideal))) ⟨m, fun _ => 0, g⟩ (fun r => (∀ c : Dev Cert.OddGateKernelIdeal.nD,
      r.2.mem ((c.tc : Thread Cert.OddGateKernelIdeal.nD Cert.OddGateKernelIdeal.τ).loc Cert.OddGateKernelIdeal.main_arg0) = m ((c.tc : Thread Cert.OddGateKernelIdeal.nD Cert.OddGateKernelIdeal.τ).loc Cert.OddGateKernelIdeal.main_arg0)
      ∧ r.2.mem ((c.tc : Thread Cert.OddGateKernelIdeal.nD Cert.OddGateKernelIdeal.τ).loc Cert.OddGateKernelIdeal.main_arg1) = m ((c.tc : Thread Cert.OddGateKernelIdeal.nD Cert.OddGateKernelIdeal.τ).loc Cert.OddGateKernelIdeal.main_arg1))
      ∧ r.2.sem = fun _ => 0)

def quiescent_OddGateReferenceIdeal [hOddGateReferenceIdeal : Cert.OddGateReferenceIdeal.Facts] : Prop :=
  ∀ (m : (ℓ : Loc Cert.OddGateReferenceIdeal.nD Cert.OddGateReferenceIdeal.τ Cert.OddGateReferenceIdeal.sig) → Buf (Elt Ideal) ℓ) (g : Dev Cert.OddGateReferenceIdeal.nD → PrngReg), Pre_OddGateReferenceIdeal m →
    θ_run (Cert.OddGateReferenceIdeal.defs (F := Ideal)) (onTc (τ := Cert.OddGateReferenceIdeal.τ) (Cert.OddGateReferenceIdeal.main (F := Ideal))) ⟨m, fun _ => 0, g⟩ (fun r => (∀ c : Dev Cert.OddGateReferenceIdeal.nD,
      r.2.mem ((c.tc : Thread Cert.OddGateReferenceIdeal.nD Cert.OddGateReferenceIdeal.τ).loc Cert.OddGateReferenceIdeal.main_arg0) = m ((c.tc : Thread Cert.OddGateReferenceIdeal.nD Cert.OddGateReferenceIdeal.τ).loc Cert.OddGateReferenceIdeal.main_arg0)
      ∧ r.2.mem ((c.tc : Thread Cert.OddGateReferenceIdeal.nD Cert.OddGateReferenceIdeal.τ).loc Cert.OddGateReferenceIdeal.main_arg1) = m ((c.tc : Thread Cert.OddGateReferenceIdeal.nD Cert.OddGateReferenceIdeal.τ).loc Cert.OddGateReferenceIdeal.main_arg1))
      ∧ r.2.sem = fun _ => 0)

def quiescent_OddForgetKernel [hOddForgetKernel : Cert.OddForgetKernel.Facts] : Prop :=
  ∀ (m : (ℓ : Loc Cert.OddForgetKernel.nD Cert.OddForgetKernel.τ Cert.OddForgetKernel.sig) → Buf (Elt Bits) ℓ) (g : Dev Cert.OddForgetKernel.nD → PrngReg), Pre_OddForgetKernel m →
    θ_run (Cert.OddForgetKernel.defs (F := Bits)) (onTc (τ := Cert.OddForgetKernel.τ) (Cert.OddForgetKernel.main (F := Bits))) ⟨m, fun _ => 0, g⟩ (fun r => (∀ c : Dev Cert.OddForgetKernel.nD,
      r.2.mem ((c.tc : Thread Cert.OddForgetKernel.nD Cert.OddForgetKernel.τ).loc Cert.OddForgetKernel.main_arg0) = m ((c.tc : Thread Cert.OddForgetKernel.nD Cert.OddForgetKernel.τ).loc Cert.OddForgetKernel.main_arg0)
      ∧ r.2.mem ((c.tc : Thread Cert.OddForgetKernel.nD Cert.OddForgetKernel.τ).loc Cert.OddForgetKernel.main_arg1) = m ((c.tc : Thread Cert.OddForgetKernel.nD Cert.OddForgetKernel.τ).loc Cert.OddForgetKernel.main_arg1))
      ∧ r.2.sem = fun _ => 0)

def quiescent_OddForgetKernelIdeal [hOddForgetKernelIdeal : Cert.OddForgetKernelIdeal.Facts] : Prop :=
  ∀ (m : (ℓ : Loc Cert.OddForgetKernelIdeal.nD Cert.OddForgetKernelIdeal.τ Cert.OddForgetKernelIdeal.sig) → Buf (Elt Ideal) ℓ) (g : Dev Cert.OddForgetKernelIdeal.nD → PrngReg), Pre_OddForgetKernelIdeal m →
    θ_run (Cert.OddForgetKernelIdeal.defs (F := Ideal)) (onTc (τ := Cert.OddForgetKernelIdeal.τ) (Cert.OddForgetKernelIdeal.main (F := Ideal))) ⟨m, fun _ => 0, g⟩ (fun r => (∀ c : Dev Cert.OddForgetKernelIdeal.nD,
      r.2.mem ((c.tc : Thread Cert.OddForgetKernelIdeal.nD Cert.OddForgetKernelIdeal.τ).loc Cert.OddForgetKernelIdeal.main_arg0) = m ((c.tc : Thread Cert.OddForgetKernelIdeal.nD Cert.OddForgetKernelIdeal.τ).loc Cert.OddForgetKernelIdeal.main_arg0)
      ∧ r.2.mem ((c.tc : Thread Cert.OddForgetKernelIdeal.nD Cert.OddForgetKernelIdeal.τ).loc Cert.OddForgetKernelIdeal.main_arg1) = m ((c.tc : Thread Cert.OddForgetKernelIdeal.nD Cert.OddForgetKernelIdeal.τ).loc Cert.OddForgetKernelIdeal.main_arg1))
      ∧ r.2.sem = fun _ => 0)

def quiescent_OddForgetReferenceIdeal [hOddForgetReferenceIdeal : Cert.OddForgetReferenceIdeal.Facts] : Prop :=
  ∀ (m : (ℓ : Loc Cert.OddForgetReferenceIdeal.nD Cert.OddForgetReferenceIdeal.τ Cert.OddForgetReferenceIdeal.sig) → Buf (Elt Ideal) ℓ) (g : Dev Cert.OddForgetReferenceIdeal.nD → PrngReg), Pre_OddForgetReferenceIdeal m →
    θ_run (Cert.OddForgetReferenceIdeal.defs (F := Ideal)) (onTc (τ := Cert.OddForgetReferenceIdeal.τ) (Cert.OddForgetReferenceIdeal.main (F := Ideal))) ⟨m, fun _ => 0, g⟩ (fun r => (∀ c : Dev Cert.OddForgetReferenceIdeal.nD,
      r.2.mem ((c.tc : Thread Cert.OddForgetReferenceIdeal.nD Cert.OddForgetReferenceIdeal.τ).loc Cert.OddForgetReferenceIdeal.main_arg0) = m ((c.tc : Thread Cert.OddForgetReferenceIdeal.nD Cert.OddForgetReferenceIdeal.τ).loc Cert.OddForgetReferenceIdeal.main_arg0)
      ∧ r.2.mem ((c.tc : Thread Cert.OddForgetReferenceIdeal.nD Cert.OddForgetReferenceIdeal.τ).loc Cert.OddForgetReferenceIdeal.main_arg1) = m ((c.tc : Thread Cert.OddForgetReferenceIdeal.nD Cert.OddForgetReferenceIdeal.τ).loc Cert.OddForgetReferenceIdeal.main_arg1))
      ∧ r.2.sem = fun _ => 0)

def quiescent_OddOutKernel [hOddOutKernel : Cert.OddOutKernel.Facts] : Prop :=
  ∀ (m : (ℓ : Loc Cert.OddOutKernel.nD Cert.OddOutKernel.τ Cert.OddOutKernel.sig) → Buf (Elt Bits) ℓ) (g : Dev Cert.OddOutKernel.nD → PrngReg), Pre_OddOutKernel m →
    θ_run (Cert.OddOutKernel.defs (F := Bits)) (onTc (τ := Cert.OddOutKernel.τ) (Cert.OddOutKernel.main (F := Bits))) ⟨m, fun _ => 0, g⟩ (fun r => (∀ c : Dev Cert.OddOutKernel.nD,
      r.2.mem ((c.tc : Thread Cert.OddOutKernel.nD Cert.OddOutKernel.τ).loc Cert.OddOutKernel.main_arg0) = m ((c.tc : Thread Cert.OddOutKernel.nD Cert.OddOutKernel.τ).loc Cert.OddOutKernel.main_arg0)
      ∧ r.2.mem ((c.tc : Thread Cert.OddOutKernel.nD Cert.OddOutKernel.τ).loc Cert.OddOutKernel.main_arg1) = m ((c.tc : Thread Cert.OddOutKernel.nD Cert.OddOutKernel.τ).loc Cert.OddOutKernel.main_arg1)
      ∧ r.2.mem ((c.tc : Thread Cert.OddOutKernel.nD Cert.OddOutKernel.τ).loc Cert.OddOutKernel.main_arg2) = m ((c.tc : Thread Cert.OddOutKernel.nD Cert.OddOutKernel.τ).loc Cert.OddOutKernel.main_arg2))
      ∧ r.2.sem = fun _ => 0)

def quiescent_OddOutKernelIdeal [hOddOutKernelIdeal : Cert.OddOutKernelIdeal.Facts] : Prop :=
  ∀ (m : (ℓ : Loc Cert.OddOutKernelIdeal.nD Cert.OddOutKernelIdeal.τ Cert.OddOutKernelIdeal.sig) → Buf (Elt Ideal) ℓ) (g : Dev Cert.OddOutKernelIdeal.nD → PrngReg), Pre_OddOutKernelIdeal m →
    θ_run (Cert.OddOutKernelIdeal.defs (F := Ideal)) (onTc (τ := Cert.OddOutKernelIdeal.τ) (Cert.OddOutKernelIdeal.main (F := Ideal))) ⟨m, fun _ => 0, g⟩ (fun r => (∀ c : Dev Cert.OddOutKernelIdeal.nD,
      r.2.mem ((c.tc : Thread Cert.OddOutKernelIdeal.nD Cert.OddOutKernelIdeal.τ).loc Cert.OddOutKernelIdeal.main_arg0) = m ((c.tc : Thread Cert.OddOutKernelIdeal.nD Cert.OddOutKernelIdeal.τ).loc Cert.OddOutKernelIdeal.main_arg0)
      ∧ r.2.mem ((c.tc : Thread Cert.OddOutKernelIdeal.nD Cert.OddOutKernelIdeal.τ).loc Cert.OddOutKernelIdeal.main_arg1) = m ((c.tc : Thread Cert.OddOutKernelIdeal.nD Cert.OddOutKernelIdeal.τ).loc Cert.OddOutKernelIdeal.main_arg1)
      ∧ r.2.mem ((c.tc : Thread Cert.OddOutKernelIdeal.nD Cert.OddOutKernelIdeal.τ).loc Cert.OddOutKernelIdeal.main_arg2) = m ((c.tc : Thread Cert.OddOutKernelIdeal.nD Cert.OddOutKernelIdeal.τ).loc Cert.OddOutKernelIdeal.main_arg2))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1)
      ∧ r.2.mem ((c.tc : Thread Cert.OddOutReferenceIdeal.nD Cert.OddOutReferenceIdeal.τ).loc Cert.OddOutReferenceIdeal.main_arg2) = m ((c.tc : Thread Cert.OddOutReferenceIdeal.nD Cert.OddOutReferenceIdeal.τ).loc Cert.OddOutReferenceIdeal.main_arg2))
      ∧ r.2.sem = fun _ => 0)

def quiescent_EvenColsKernel [hEvenColsKernel : Cert.EvenColsKernel.Facts] : Prop :=
  ∀ (m : (ℓ : Loc Cert.EvenColsKernel.nD Cert.EvenColsKernel.τ Cert.EvenColsKernel.sig) → Buf (Elt Bits) ℓ) (g : Dev Cert.EvenColsKernel.nD → PrngReg), Pre_EvenColsKernel m →
    θ_run (Cert.EvenColsKernel.defs (F := Bits)) (onTc (τ := Cert.EvenColsKernel.τ) (Cert.EvenColsKernel.main (F := Bits))) ⟨m, fun _ => 0, g⟩ (fun r => (∀ c : Dev Cert.EvenColsKernel.nD,
      r.2.mem ((c.tc : Thread Cert.EvenColsKernel.nD Cert.EvenColsKernel.τ).loc Cert.EvenColsKernel.main_arg0) = m ((c.tc : Thread Cert.EvenColsKernel.nD Cert.EvenColsKernel.τ).loc Cert.EvenColsKernel.main_arg0)
      ∧ r.2.mem ((c.tc : Thread Cert.EvenColsKernel.nD Cert.EvenColsKernel.τ).loc Cert.EvenColsKernel.main_arg1) = m ((c.tc : Thread Cert.EvenColsKernel.nD Cert.EvenColsKernel.τ).loc Cert.EvenColsKernel.main_arg1))
      ∧ r.2.sem = fun _ => 0)

def quiescent_EvenColsKernelIdeal [hEvenColsKernelIdeal : Cert.EvenColsKernelIdeal.Facts] : Prop :=
  ∀ (m : (ℓ : Loc Cert.EvenColsKernelIdeal.nD Cert.EvenColsKernelIdeal.τ Cert.EvenColsKernelIdeal.sig) → Buf (Elt Ideal) ℓ) (g : Dev Cert.EvenColsKernelIdeal.nD → PrngReg), Pre_EvenColsKernelIdeal m →
    θ_run (Cert.EvenColsKernelIdeal.defs (F := Ideal)) (onTc (τ := Cert.EvenColsKernelIdeal.τ) (Cert.EvenColsKernelIdeal.main (F := Ideal))) ⟨m, fun _ => 0, g⟩ (fun r => (∀ c : Dev Cert.EvenColsKernelIdeal.nD,
      r.2.mem ((c.tc : Thread Cert.EvenColsKernelIdeal.nD Cert.EvenColsKernelIdeal.τ).loc Cert.EvenColsKernelIdeal.main_arg0) = m ((c.tc : Thread Cert.EvenColsKernelIdeal.nD Cert.EvenColsKernelIdeal.τ).loc Cert.EvenColsKernelIdeal.main_arg0)
      ∧ r.2.mem ((c.tc : Thread Cert.EvenColsKernelIdeal.nD Cert.EvenColsKernelIdeal.τ).loc Cert.EvenColsKernelIdeal.main_arg1) = m ((c.tc : Thread Cert.EvenColsKernelIdeal.nD Cert.EvenColsKernelIdeal.τ).loc Cert.EvenColsKernelIdeal.main_arg1))
      ∧ r.2.sem = fun _ => 0)

def quiescent_EvenColsReferenceIdeal [hEvenColsReferenceIdeal : Cert.EvenColsReferenceIdeal.Facts] : Prop :=
  ∀ (m : (ℓ : Loc Cert.EvenColsReferenceIdeal.nD Cert.EvenColsReferenceIdeal.τ Cert.EvenColsReferenceIdeal.sig) → Buf (Elt Ideal) ℓ) (g : Dev Cert.EvenColsReferenceIdeal.nD → PrngReg), Pre_EvenColsReferenceIdeal m →
    θ_run (Cert.EvenColsReferenceIdeal.defs (F := Ideal)) (onTc (τ := Cert.EvenColsReferenceIdeal.τ) (Cert.EvenColsReferenceIdeal.main (F := Ideal))) ⟨m, fun _ => 0, g⟩ (fun r => (∀ c : Dev Cert.EvenColsReferenceIdeal.nD,
      r.2.mem ((c.tc : Thread Cert.EvenColsReferenceIdeal.nD Cert.EvenColsReferenceIdeal.τ).loc Cert.EvenColsReferenceIdeal.main_arg0) = m ((c.tc : Thread Cert.EvenColsReferenceIdeal.nD Cert.EvenColsReferenceIdeal.τ).loc Cert.EvenColsReferenceIdeal.main_arg0)
      ∧ r.2.mem ((c.tc : Thread Cert.EvenColsReferenceIdeal.nD Cert.EvenColsReferenceIdeal.τ).loc Cert.EvenColsReferenceIdeal.main_arg1) = m ((c.tc : Thread Cert.EvenColsReferenceIdeal.nD Cert.EvenColsReferenceIdeal.τ).loc Cert.EvenColsReferenceIdeal.main_arg1))
      ∧ r.2.sem = fun _ => 0)

def quiescent_EvenColsOutKernel [hEvenColsOutKernel : Cert.EvenColsOutKernel.Facts] : Prop :=
  ∀ (m : (ℓ : Loc Cert.EvenColsOutKernel.nD Cert.EvenColsOutKernel.τ Cert.EvenColsOutKernel.sig) → Buf (Elt Bits) ℓ) (g : Dev Cert.EvenColsOutKernel.nD → PrngReg), Pre_EvenColsOutKernel m →
    θ_run (Cert.EvenColsOutKernel.defs (F := Bits)) (onTc (τ := Cert.EvenColsOutKernel.τ) (Cert.EvenColsOutKernel.main (F := Bits))) ⟨m, fun _ => 0, g⟩ (fun r => (∀ c : Dev Cert.EvenColsOutKernel.nD,
      r.2.mem ((c.tc : Thread Cert.EvenColsOutKernel.nD Cert.EvenColsOutKernel.τ).loc Cert.EvenColsOutKernel.main_arg0) = m ((c.tc : Thread Cert.EvenColsOutKernel.nD Cert.EvenColsOutKernel.τ).loc Cert.EvenColsOutKernel.main_arg0)
      ∧ r.2.mem ((c.tc : Thread Cert.EvenColsOutKernel.nD Cert.EvenColsOutKernel.τ).loc Cert.EvenColsOutKernel.main_arg1) = m ((c.tc : Thread Cert.EvenColsOutKernel.nD Cert.EvenColsOutKernel.τ).loc Cert.EvenColsOutKernel.main_arg1)
      ∧ r.2.mem ((c.tc : Thread Cert.EvenColsOutKernel.nD Cert.EvenColsOutKernel.τ).loc Cert.EvenColsOutKernel.main_arg2) = m ((c.tc : Thread Cert.EvenColsOutKernel.nD Cert.EvenColsOutKernel.τ).loc Cert.EvenColsOutKernel.main_arg2)
      ∧ r.2.mem ((c.tc : Thread Cert.EvenColsOutKernel.nD Cert.EvenColsOutKernel.τ).loc Cert.EvenColsOutKernel.main_arg3) = m ((c.tc : Thread Cert.EvenColsOutKernel.nD Cert.EvenColsOutKernel.τ).loc Cert.EvenColsOutKernel.main_arg3))
      ∧ r.2.sem = fun _ => 0)

def quiescent_EvenColsOutKernelIdeal [hEvenColsOutKernelIdeal : Cert.EvenColsOutKernelIdeal.Facts] : Prop :=
  ∀ (m : (ℓ : Loc Cert.EvenColsOutKernelIdeal.nD Cert.EvenColsOutKernelIdeal.τ Cert.EvenColsOutKernelIdeal.sig) → Buf (Elt Ideal) ℓ) (g : Dev Cert.EvenColsOutKernelIdeal.nD → PrngReg), Pre_EvenColsOutKernelIdeal m →
    θ_run (Cert.EvenColsOutKernelIdeal.defs (F := Ideal)) (onTc (τ := Cert.EvenColsOutKernelIdeal.τ) (Cert.EvenColsOutKernelIdeal.main (F := Ideal))) ⟨m, fun _ => 0, g⟩ (fun r => (∀ c : Dev Cert.EvenColsOutKernelIdeal.nD,
      r.2.mem ((c.tc : Thread Cert.EvenColsOutKernelIdeal.nD Cert.EvenColsOutKernelIdeal.τ).loc Cert.EvenColsOutKernelIdeal.main_arg0) = m ((c.tc : Thread Cert.EvenColsOutKernelIdeal.nD Cert.EvenColsOutKernelIdeal.τ).loc Cert.EvenColsOutKernelIdeal.main_arg0)
      ∧ r.2.mem ((c.tc : Thread Cert.EvenColsOutKernelIdeal.nD Cert.EvenColsOutKernelIdeal.τ).loc Cert.EvenColsOutKernelIdeal.main_arg1) = m ((c.tc : Thread Cert.EvenColsOutKernelIdeal.nD Cert.EvenColsOutKernelIdeal.τ).loc Cert.EvenColsOutKernelIdeal.main_arg1)
      ∧ r.2.mem ((c.tc : Thread Cert.EvenColsOutKernelIdeal.nD Cert.EvenColsOutKernelIdeal.τ).loc Cert.EvenColsOutKernelIdeal.main_arg2) = m ((c.tc : Thread Cert.EvenColsOutKernelIdeal.nD Cert.EvenColsOutKernelIdeal.τ).loc Cert.EvenColsOutKernelIdeal.main_arg2)
      ∧ r.2.mem ((c.tc : Thread Cert.EvenColsOutKernelIdeal.nD Cert.EvenColsOutKernelIdeal.τ).loc Cert.EvenColsOutKernelIdeal.main_arg3) = m ((c.tc : Thread Cert.EvenColsOutKernelIdeal.nD Cert.EvenColsOutKernelIdeal.τ).loc Cert.EvenColsOutKernelIdeal.main_arg3))
      ∧ r.2.sem = fun _ => 0)

def quiescent_EvenColsOutReferenceIdeal [hEvenColsOutReferenceIdeal : Cert.EvenColsOutReferenceIdeal.Facts] : Prop :=
  ∀ (m : (ℓ : Loc Cert.EvenColsOutReferenceIdeal.nD Cert.EvenColsOutReferenceIdeal.τ Cert.EvenColsOutReferenceIdeal.sig) → Buf (Elt Ideal) ℓ) (g : Dev Cert.EvenColsOutReferenceIdeal.nD → PrngReg), Pre_EvenColsOutReferenceIdeal m →
    θ_run (Cert.EvenColsOutReferenceIdeal.defs (F := Ideal)) (onTc (τ := Cert.EvenColsOutReferenceIdeal.τ) (Cert.EvenColsOutReferenceIdeal.main (F := Ideal))) ⟨m, fun _ => 0, g⟩ (fun r => (∀ c : Dev Cert.EvenColsOutReferenceIdeal.nD,
      r.2.mem ((c.tc : Thread Cert.EvenColsOutReferenceIdeal.nD Cert.EvenColsOutReferenceIdeal.τ).loc Cert.EvenColsOutReferenceIdeal.main_arg0) = m ((c.tc : Thread Cert.EvenColsOutReferenceIdeal.nD Cert.EvenColsOutReferenceIdeal.τ).loc Cert.EvenColsOutReferenceIdeal.main_arg0)
      ∧ r.2.mem ((c.tc : Thread Cert.EvenColsOutReferenceIdeal.nD Cert.EvenColsOutReferenceIdeal.τ).loc Cert.EvenColsOutReferenceIdeal.main_arg1) = m ((c.tc : Thread Cert.EvenColsOutReferenceIdeal.nD Cert.EvenColsOutReferenceIdeal.τ).loc Cert.EvenColsOutReferenceIdeal.main_arg1)
      ∧ r.2.mem ((c.tc : Thread Cert.EvenColsOutReferenceIdeal.nD Cert.EvenColsOutReferenceIdeal.τ).loc Cert.EvenColsOutReferenceIdeal.main_arg2) = m ((c.tc : Thread Cert.EvenColsOutReferenceIdeal.nD Cert.EvenColsOutReferenceIdeal.τ).loc Cert.EvenColsOutReferenceIdeal.main_arg2)
      ∧ r.2.mem ((c.tc : Thread Cert.EvenColsOutReferenceIdeal.nD Cert.EvenColsOutReferenceIdeal.τ).loc Cert.EvenColsOutReferenceIdeal.main_arg3) = m ((c.tc : Thread Cert.EvenColsOutReferenceIdeal.nD Cert.EvenColsOutReferenceIdeal.τ).loc Cert.EvenColsOutReferenceIdeal.main_arg3))
      ∧ r.2.sem = fun _ => 0)

def quiescent_OddColsOutKernel [hOddColsOutKernel : Cert.OddColsOutKernel.Facts] : Prop :=
  ∀ (m : (ℓ : Loc Cert.OddColsOutKernel.nD Cert.OddColsOutKernel.τ Cert.OddColsOutKernel.sig) → Buf (Elt Bits) ℓ) (g : Dev Cert.OddColsOutKernel.nD → PrngReg), Pre_OddColsOutKernel m →
    θ_run (Cert.OddColsOutKernel.defs (F := Bits)) (onTc (τ := Cert.OddColsOutKernel.τ) (Cert.OddColsOutKernel.main (F := Bits))) ⟨m, fun _ => 0, g⟩ (fun r => (∀ c : Dev Cert.OddColsOutKernel.nD,
      r.2.mem ((c.tc : Thread Cert.OddColsOutKernel.nD Cert.OddColsOutKernel.τ).loc Cert.OddColsOutKernel.main_arg0) = m ((c.tc : Thread Cert.OddColsOutKernel.nD Cert.OddColsOutKernel.τ).loc Cert.OddColsOutKernel.main_arg0)
      ∧ r.2.mem ((c.tc : Thread Cert.OddColsOutKernel.nD Cert.OddColsOutKernel.τ).loc Cert.OddColsOutKernel.main_arg1) = m ((c.tc : Thread Cert.OddColsOutKernel.nD Cert.OddColsOutKernel.τ).loc Cert.OddColsOutKernel.main_arg1)
      ∧ r.2.mem ((c.tc : Thread Cert.OddColsOutKernel.nD Cert.OddColsOutKernel.τ).loc Cert.OddColsOutKernel.main_arg2) = m ((c.tc : Thread Cert.OddColsOutKernel.nD Cert.OddColsOutKernel.τ).loc Cert.OddColsOutKernel.main_arg2))
      ∧ r.2.sem = fun _ => 0)

def quiescent_OddColsOutKernelIdeal [hOddColsOutKernelIdeal : Cert.OddColsOutKernelIdeal.Facts] : Prop :=
  ∀ (m : (ℓ : Loc Cert.OddColsOutKernelIdeal.nD Cert.OddColsOutKernelIdeal.τ Cert.OddColsOutKernelIdeal.sig) → Buf (Elt Ideal) ℓ) (g : Dev Cert.OddColsOutKernelIdeal.nD → PrngReg), Pre_OddColsOutKernelIdeal m →
    θ_run (Cert.OddColsOutKernelIdeal.defs (F := Ideal)) (onTc (τ := Cert.OddColsOutKernelIdeal.τ) (Cert.OddColsOutKernelIdeal.main (F := Ideal))) ⟨m, fun _ => 0, g⟩ (fun r => (∀ c : Dev Cert.OddColsOutKernelIdeal.nD,
      r.2.mem ((c.tc : Thread Cert.OddColsOutKernelIdeal.nD Cert.OddColsOutKernelIdeal.τ).loc Cert.OddColsOutKernelIdeal.main_arg0) = m ((c.tc : Thread Cert.OddColsOutKernelIdeal.nD Cert.OddColsOutKernelIdeal.τ).loc Cert.OddColsOutKernelIdeal.main_arg0)
      ∧ r.2.mem ((c.tc : Thread Cert.OddColsOutKernelIdeal.nD Cert.OddColsOutKernelIdeal.τ).loc Cert.OddColsOutKernelIdeal.main_arg1) = m ((c.tc : Thread Cert.OddColsOutKernelIdeal.nD Cert.OddColsOutKernelIdeal.τ).loc Cert.OddColsOutKernelIdeal.main_arg1)
      ∧ r.2.mem ((c.tc : Thread Cert.OddColsOutKernelIdeal.nD Cert.OddColsOutKernelIdeal.τ).loc Cert.OddColsOutKernelIdeal.main_arg2) = m ((c.tc : Thread Cert.OddColsOutKernelIdeal.nD Cert.OddColsOutKernelIdeal.τ).loc Cert.OddColsOutKernelIdeal.main_arg2))
      ∧ r.2.sem = fun _ => 0)

def quiescent_OddColsOutReferenceIdeal [hOddColsOutReferenceIdeal : Cert.OddColsOutReferenceIdeal.Facts] : Prop :=
  ∀ (m : (ℓ : Loc Cert.OddColsOutReferenceIdeal.nD Cert.OddColsOutReferenceIdeal.τ Cert.OddColsOutReferenceIdeal.sig) → Buf (Elt Ideal) ℓ) (g : Dev Cert.OddColsOutReferenceIdeal.nD → PrngReg), Pre_OddColsOutReferenceIdeal m →
    θ_run (Cert.OddColsOutReferenceIdeal.defs (F := Ideal)) (onTc (τ := Cert.OddColsOutReferenceIdeal.τ) (Cert.OddColsOutReferenceIdeal.main (F := Ideal))) ⟨m, fun _ => 0, g⟩ (fun r => (∀ c : Dev Cert.OddColsOutReferenceIdeal.nD,
      r.2.mem ((c.tc : Thread Cert.OddColsOutReferenceIdeal.nD Cert.OddColsOutReferenceIdeal.τ).loc Cert.OddColsOutReferenceIdeal.main_arg0) = m ((c.tc : Thread Cert.OddColsOutReferenceIdeal.nD Cert.OddColsOutReferenceIdeal.τ).loc Cert.OddColsOutReferenceIdeal.main_arg0)
      ∧ r.2.mem ((c.tc : Thread Cert.OddColsOutReferenceIdeal.nD Cert.OddColsOutReferenceIdeal.τ).loc Cert.OddColsOutReferenceIdeal.main_arg1) = m ((c.tc : Thread Cert.OddColsOutReferenceIdeal.nD Cert.OddColsOutReferenceIdeal.τ).loc Cert.OddColsOutReferenceIdeal.main_arg1)
      ∧ r.2.mem ((c.tc : Thread Cert.OddColsOutReferenceIdeal.nD Cert.OddColsOutReferenceIdeal.τ).loc Cert.OddColsOutReferenceIdeal.main_arg2) = m ((c.tc : Thread Cert.OddColsOutReferenceIdeal.nD Cert.OddColsOutReferenceIdeal.τ).loc Cert.OddColsOutReferenceIdeal.main_arg2))
      ∧ r.2.sem = fun _ => 0)

def quiescent_LogfKernel [hLogfKernel : Cert.LogfKernel.Facts] : Prop :=
  ∀ (m : (ℓ : Loc Cert.LogfKernel.nD Cert.LogfKernel.τ Cert.LogfKernel.sig) → Buf (Elt Bits) ℓ) (g : Dev Cert.LogfKernel.nD → PrngReg), Pre_LogfKernel m →
    θ_run (Cert.LogfKernel.defs (F := Bits)) (onTc (τ := Cert.LogfKernel.τ) (Cert.LogfKernel.main (F := Bits))) ⟨m, fun _ => 0, g⟩ (fun r => (∀ c : Dev Cert.LogfKernel.nD,
      r.2.mem ((c.tc : Thread Cert.LogfKernel.nD Cert.LogfKernel.τ).loc Cert.LogfKernel.main_arg0) = m ((c.tc : Thread Cert.LogfKernel.nD Cert.LogfKernel.τ).loc Cert.LogfKernel.main_arg0)
      ∧ r.2.mem ((c.tc : Thread Cert.LogfKernel.nD Cert.LogfKernel.τ).loc Cert.LogfKernel.main_arg1) = m ((c.tc : Thread Cert.LogfKernel.nD Cert.LogfKernel.τ).loc Cert.LogfKernel.main_arg1))
      ∧ r.2.sem = fun _ => 0)

def quiescent_LogfKernelIdeal [hLogfKernelIdeal : Cert.LogfKernelIdeal.Facts] : Prop :=
  ∀ (m : (ℓ : Loc Cert.LogfKernelIdeal.nD Cert.LogfKernelIdeal.τ Cert.LogfKernelIdeal.sig) → Buf (Elt Ideal) ℓ) (g : Dev Cert.LogfKernelIdeal.nD → PrngReg), Pre_LogfKernelIdeal m →
    θ_run (Cert.LogfKernelIdeal.defs (F := Ideal)) (onTc (τ := Cert.LogfKernelIdeal.τ) (Cert.LogfKernelIdeal.main (F := Ideal))) ⟨m, fun _ => 0, g⟩ (fun r => (∀ c : Dev Cert.LogfKernelIdeal.nD,
      r.2.mem ((c.tc : Thread Cert.LogfKernelIdeal.nD Cert.LogfKernelIdeal.τ).loc Cert.LogfKernelIdeal.main_arg0) = m ((c.tc : Thread Cert.LogfKernelIdeal.nD Cert.LogfKernelIdeal.τ).loc Cert.LogfKernelIdeal.main_arg0)
      ∧ r.2.mem ((c.tc : Thread Cert.LogfKernelIdeal.nD Cert.LogfKernelIdeal.τ).loc Cert.LogfKernelIdeal.main_arg1) = m ((c.tc : Thread Cert.LogfKernelIdeal.nD Cert.LogfKernelIdeal.τ).loc Cert.LogfKernelIdeal.main_arg1))
      ∧ r.2.sem = fun _ => 0)

def quiescent_LogfReferenceIdeal [hLogfReferenceIdeal : Cert.LogfReferenceIdeal.Facts] : Prop :=
  ∀ (m : (ℓ : Loc Cert.LogfReferenceIdeal.nD Cert.LogfReferenceIdeal.τ Cert.LogfReferenceIdeal.sig) → Buf (Elt Ideal) ℓ) (g : Dev Cert.LogfReferenceIdeal.nD → PrngReg), Pre_LogfReferenceIdeal m →
    θ_run (Cert.LogfReferenceIdeal.defs (F := Ideal)) (onTc (τ := Cert.LogfReferenceIdeal.τ) (Cert.LogfReferenceIdeal.main (F := Ideal))) ⟨m, fun _ => 0, g⟩ (fun r => (∀ c : Dev Cert.LogfReferenceIdeal.nD,
      r.2.mem ((c.tc : Thread Cert.LogfReferenceIdeal.nD Cert.LogfReferenceIdeal.τ).loc Cert.LogfReferenceIdeal.main_arg0) = m ((c.tc : Thread Cert.LogfReferenceIdeal.nD Cert.LogfReferenceIdeal.τ).loc Cert.LogfReferenceIdeal.main_arg0)
      ∧ r.2.mem ((c.tc : Thread Cert.LogfReferenceIdeal.nD Cert.LogfReferenceIdeal.τ).loc Cert.LogfReferenceIdeal.main_arg1) = m ((c.tc : Thread Cert.LogfReferenceIdeal.nD Cert.LogfReferenceIdeal.τ).loc Cert.LogfReferenceIdeal.main_arg1))
      ∧ r.2.sem = fun _ => 0)

def quiescent_LogfCumsumKernel [hLogfCumsumKernel : Cert.LogfCumsumKernel.Facts] : Prop :=
  ∀ (m : (ℓ : Loc Cert.LogfCumsumKernel.nD Cert.LogfCumsumKernel.τ Cert.LogfCumsumKernel.sig) → Buf (Elt Bits) ℓ) (g : Dev Cert.LogfCumsumKernel.nD → PrngReg), Pre_LogfCumsumKernel m →
    θ_run (Cert.LogfCumsumKernel.defs (F := Bits)) (onTc (τ := Cert.LogfCumsumKernel.τ) (Cert.LogfCumsumKernel.main (F := Bits))) ⟨m, fun _ => 0, g⟩ (fun r => (∀ c : Dev Cert.LogfCumsumKernel.nD,
      r.2.mem ((c.tc : Thread Cert.LogfCumsumKernel.nD Cert.LogfCumsumKernel.τ).loc Cert.LogfCumsumKernel.main_arg0) = m ((c.tc : Thread Cert.LogfCumsumKernel.nD Cert.LogfCumsumKernel.τ).loc Cert.LogfCumsumKernel.main_arg0)
      ∧ r.2.mem ((c.tc : Thread Cert.LogfCumsumKernel.nD Cert.LogfCumsumKernel.τ).loc Cert.LogfCumsumKernel.main_arg1) = m ((c.tc : Thread Cert.LogfCumsumKernel.nD Cert.LogfCumsumKernel.τ).loc Cert.LogfCumsumKernel.main_arg1))
      ∧ r.2.sem = fun _ => 0)

def quiescent_LogfCumsumKernelIdeal [hLogfCumsumKernelIdeal : Cert.LogfCumsumKernelIdeal.Facts] : Prop :=
  ∀ (m : (ℓ : Loc Cert.LogfCumsumKernelIdeal.nD Cert.LogfCumsumKernelIdeal.τ Cert.LogfCumsumKernelIdeal.sig) → Buf (Elt Ideal) ℓ) (g : Dev Cert.LogfCumsumKernelIdeal.nD → PrngReg), Pre_LogfCumsumKernelIdeal m →
    θ_run (Cert.LogfCumsumKernelIdeal.defs (F := Ideal)) (onTc (τ := Cert.LogfCumsumKernelIdeal.τ) (Cert.LogfCumsumKernelIdeal.main (F := Ideal))) ⟨m, fun _ => 0, g⟩ (fun r => (∀ c : Dev Cert.LogfCumsumKernelIdeal.nD,
      r.2.mem ((c.tc : Thread Cert.LogfCumsumKernelIdeal.nD Cert.LogfCumsumKernelIdeal.τ).loc Cert.LogfCumsumKernelIdeal.main_arg0) = m ((c.tc : Thread Cert.LogfCumsumKernelIdeal.nD Cert.LogfCumsumKernelIdeal.τ).loc Cert.LogfCumsumKernelIdeal.main_arg0)
      ∧ r.2.mem ((c.tc : Thread Cert.LogfCumsumKernelIdeal.nD Cert.LogfCumsumKernelIdeal.τ).loc Cert.LogfCumsumKernelIdeal.main_arg1) = m ((c.tc : Thread Cert.LogfCumsumKernelIdeal.nD Cert.LogfCumsumKernelIdeal.τ).loc Cert.LogfCumsumKernelIdeal.main_arg1))
      ∧ r.2.sem = fun _ => 0)

def quiescent_LogfCumsumReferenceIdeal [hLogfCumsumReferenceIdeal : Cert.LogfCumsumReferenceIdeal.Facts] : Prop :=
  ∀ (m : (ℓ : Loc Cert.LogfCumsumReferenceIdeal.nD Cert.LogfCumsumReferenceIdeal.τ Cert.LogfCumsumReferenceIdeal.sig) → Buf (Elt Ideal) ℓ) (g : Dev Cert.LogfCumsumReferenceIdeal.nD → PrngReg), Pre_LogfCumsumReferenceIdeal m →
    θ_run (Cert.LogfCumsumReferenceIdeal.defs (F := Ideal)) (onTc (τ := Cert.LogfCumsumReferenceIdeal.τ) (Cert.LogfCumsumReferenceIdeal.main (F := Ideal))) ⟨m, fun _ => 0, g⟩ (fun r => (∀ c : Dev Cert.LogfCumsumReferenceIdeal.nD,
      r.2.mem ((c.tc : Thread Cert.LogfCumsumReferenceIdeal.nD Cert.LogfCumsumReferenceIdeal.τ).loc Cert.LogfCumsumReferenceIdeal.main_arg0) = m ((c.tc : Thread Cert.LogfCumsumReferenceIdeal.nD Cert.LogfCumsumReferenceIdeal.τ).loc Cert.LogfCumsumReferenceIdeal.main_arg0)
      ∧ r.2.mem ((c.tc : Thread Cert.LogfCumsumReferenceIdeal.nD Cert.LogfCumsumReferenceIdeal.τ).loc Cert.LogfCumsumReferenceIdeal.main_arg1) = m ((c.tc : Thread Cert.LogfCumsumReferenceIdeal.nD Cert.LogfCumsumReferenceIdeal.τ).loc Cert.LogfCumsumReferenceIdeal.main_arg1))
      ∧ r.2.sem = fun _ => 0)

def quiescent_StickKernel [hStickKernel : Cert.StickKernel.Facts] : Prop :=
  ∀ (m : (ℓ : Loc Cert.StickKernel.nD Cert.StickKernel.τ Cert.StickKernel.sig) → Buf (Elt Bits) ℓ) (g : Dev Cert.StickKernel.nD → PrngReg), Pre_StickKernel m →
    θ_run (Cert.StickKernel.defs (F := Bits)) (onTc (τ := Cert.StickKernel.τ) (Cert.StickKernel.main (F := Bits))) ⟨m, fun _ => 0, g⟩ (fun r => (∀ c : Dev Cert.StickKernel.nD,
      r.2.mem ((c.tc : Thread Cert.StickKernel.nD Cert.StickKernel.τ).loc Cert.StickKernel.main_arg0) = m ((c.tc : Thread Cert.StickKernel.nD Cert.StickKernel.τ).loc Cert.StickKernel.main_arg0)
      ∧ r.2.mem ((c.tc : Thread Cert.StickKernel.nD Cert.StickKernel.τ).loc Cert.StickKernel.main_arg1) = m ((c.tc : Thread Cert.StickKernel.nD Cert.StickKernel.τ).loc Cert.StickKernel.main_arg1)
      ∧ r.2.mem ((c.tc : Thread Cert.StickKernel.nD Cert.StickKernel.τ).loc Cert.StickKernel.main_arg2) = m ((c.tc : Thread Cert.StickKernel.nD Cert.StickKernel.τ).loc Cert.StickKernel.main_arg2))
      ∧ r.2.sem = fun _ => 0)

def quiescent_StickKernelIdeal [hStickKernelIdeal : Cert.StickKernelIdeal.Facts] : Prop :=
  ∀ (m : (ℓ : Loc Cert.StickKernelIdeal.nD Cert.StickKernelIdeal.τ Cert.StickKernelIdeal.sig) → Buf (Elt Ideal) ℓ) (g : Dev Cert.StickKernelIdeal.nD → PrngReg), Pre_StickKernelIdeal m →
    θ_run (Cert.StickKernelIdeal.defs (F := Ideal)) (onTc (τ := Cert.StickKernelIdeal.τ) (Cert.StickKernelIdeal.main (F := Ideal))) ⟨m, fun _ => 0, g⟩ (fun r => (∀ c : Dev Cert.StickKernelIdeal.nD,
      r.2.mem ((c.tc : Thread Cert.StickKernelIdeal.nD Cert.StickKernelIdeal.τ).loc Cert.StickKernelIdeal.main_arg0) = m ((c.tc : Thread Cert.StickKernelIdeal.nD Cert.StickKernelIdeal.τ).loc Cert.StickKernelIdeal.main_arg0)
      ∧ r.2.mem ((c.tc : Thread Cert.StickKernelIdeal.nD Cert.StickKernelIdeal.τ).loc Cert.StickKernelIdeal.main_arg1) = m ((c.tc : Thread Cert.StickKernelIdeal.nD Cert.StickKernelIdeal.τ).loc Cert.StickKernelIdeal.main_arg1)
      ∧ r.2.mem ((c.tc : Thread Cert.StickKernelIdeal.nD Cert.StickKernelIdeal.τ).loc Cert.StickKernelIdeal.main_arg2) = m ((c.tc : Thread Cert.StickKernelIdeal.nD Cert.StickKernelIdeal.τ).loc Cert.StickKernelIdeal.main_arg2))
      ∧ r.2.sem = fun _ => 0)

def quiescent_StickReferenceIdeal [hStickReferenceIdeal : Cert.StickReferenceIdeal.Facts] : Prop :=
  ∀ (m : (ℓ : Loc Cert.StickReferenceIdeal.nD Cert.StickReferenceIdeal.τ Cert.StickReferenceIdeal.sig) → Buf (Elt Ideal) ℓ) (g : Dev Cert.StickReferenceIdeal.nD → PrngReg), Pre_StickReferenceIdeal m →
    θ_run (Cert.StickReferenceIdeal.defs (F := Ideal)) (onTc (τ := Cert.StickReferenceIdeal.τ) (Cert.StickReferenceIdeal.main (F := Ideal))) ⟨m, fun _ => 0, g⟩ (fun r => (∀ c : Dev Cert.StickReferenceIdeal.nD,
      r.2.mem ((c.tc : Thread Cert.StickReferenceIdeal.nD Cert.StickReferenceIdeal.τ).loc Cert.StickReferenceIdeal.main_arg0) = m ((c.tc : Thread Cert.StickReferenceIdeal.nD Cert.StickReferenceIdeal.τ).loc Cert.StickReferenceIdeal.main_arg0)
      ∧ r.2.mem ((c.tc : Thread Cert.StickReferenceIdeal.nD Cert.StickReferenceIdeal.τ).loc Cert.StickReferenceIdeal.main_arg1) = m ((c.tc : Thread Cert.StickReferenceIdeal.nD Cert.StickReferenceIdeal.τ).loc Cert.StickReferenceIdeal.main_arg1)
      ∧ r.2.mem ((c.tc : Thread Cert.StickReferenceIdeal.nD Cert.StickReferenceIdeal.τ).loc Cert.StickReferenceIdeal.main_arg2) = m ((c.tc : Thread Cert.StickReferenceIdeal.nD Cert.StickReferenceIdeal.τ).loc Cert.StickReferenceIdeal.main_arg2))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2)
      ∧ r.2.mem ((c.tc : Thread Cert.FoxKernel.nD Cert.FoxKernel.τ).loc Cert.FoxKernel.main_arg3) = m ((c.tc : Thread Cert.FoxKernel.nD Cert.FoxKernel.τ).loc Cert.FoxKernel.main_arg3)
      ∧ r.2.mem ((c.tc : Thread Cert.FoxKernel.nD Cert.FoxKernel.τ).loc Cert.FoxKernel.main_arg4) = m ((c.tc : Thread Cert.FoxKernel.nD Cert.FoxKernel.τ).loc Cert.FoxKernel.main_arg4))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
      ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
      ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3)
      ∧ r.2.mem ((c.tc : Thread Cert.FoxReferenceIdeal.nD Cert.FoxReferenceIdeal.τ).loc Cert.FoxReferenceIdeal.main_arg4) = m ((c.tc : Thread Cert.FoxReferenceIdeal.nD Cert.FoxReferenceIdeal.τ).loc Cert.FoxReferenceIdeal.main_arg4))
      ∧ r.2.sem = fun _ => 0)

def preserves_RecKernel_RecKernelIdeal : Prop :=
  True

def algebraic_RecKernelIdeal_RecReferenceIdeal [hRecKernelIdeal : Cert.RecKernelIdeal.Facts] [hRecReferenceIdeal : Cert.RecReferenceIdeal.Facts] : Prop :=
  ∀ (m : (ℓ : Loc Cert.RecKernelIdeal.nD Cert.RecKernelIdeal.τ Cert.RecKernelIdeal.sig) → Buf (Elt Ideal) ℓ) (g : Dev Cert.RecKernelIdeal.nD → PrngReg)
    (m' : (ℓ : Loc Cert.RecReferenceIdeal.nD Cert.RecReferenceIdeal.τ Cert.RecReferenceIdeal.sig) → Buf (Elt Ideal) ℓ) (g' : Dev Cert.RecReferenceIdeal.nD → PrngReg), Pre_RecKernelIdeal m →
    (∀ c : Dev Cert.RecKernelIdeal.nD,
      m' ((c.tc : Thread Cert.RecReferenceIdeal.nD Cert.RecReferenceIdeal.τ).loc Cert.RecReferenceIdeal.main_arg0) = m ((c.tc : Thread Cert.RecKernelIdeal.nD Cert.RecKernelIdeal.τ).loc Cert.RecKernelIdeal.main_arg0)
      ∧ m' ((c.tc : Thread Cert.RecReferenceIdeal.nD Cert.RecReferenceIdeal.τ).loc Cert.RecReferenceIdeal.main_arg1) = m ((c.tc : Thread Cert.RecKernelIdeal.nD Cert.RecKernelIdeal.τ).loc Cert.RecKernelIdeal.main_arg1)) →
    ∃ (v0 : (c : Dev Cert.RecKernelIdeal.nD) → Buf (Elt Ideal) ((c.tc : Thread Cert.RecKernelIdeal.nD Cert.RecKernelIdeal.τ).loc Cert.RecKernelIdeal.main_v3)),
      θ_run (Cert.RecKernelIdeal.defs (F := Ideal)) (onTc (τ := Cert.RecKernelIdeal.τ) (Cert.RecKernelIdeal.main (F := Ideal))) ⟨m, fun _ => 0, g⟩ (fun r => ∀ c : Dev Cert.RecKernelIdeal.nD,
          r.2.mem ((c.tc : Thread Cert.RecKernelIdeal.nD Cert.RecKernelIdeal.τ).loc Cert.RecKernelIdeal.main_v3) = v0 c
          ∧ r.2.mem ((c.tc : Thread Cert.RecKernelIdeal.nD Cert.RecKernelIdeal.τ).loc Cert.RecKernelIdeal.main_arg0) = m ((c.tc : Thread Cert.RecKernelIdeal.nD Cert.RecKernelIdeal.τ).loc Cert.RecKernelIdeal.main_arg0)
          ∧ r.2.mem ((c.tc : Thread Cert.RecKernelIdeal.nD Cert.RecKernelIdeal.τ).loc Cert.RecKernelIdeal.main_arg1) = m ((c.tc : Thread Cert.RecKernelIdeal.nD Cert.RecKernelIdeal.τ).loc Cert.RecKernelIdeal.main_arg1))
      ∧ θ_run (Cert.RecReferenceIdeal.defs (F := Ideal)) (onTc (τ := Cert.RecReferenceIdeal.τ) (Cert.RecReferenceIdeal.main (F := Ideal))) ⟨m', fun _ => 0, g'⟩ (fun r => ∀ c : Dev Cert.RecReferenceIdeal.nD,
          r.2.mem ((c.tc : Thread Cert.RecReferenceIdeal.nD Cert.RecReferenceIdeal.τ).loc Cert.RecReferenceIdeal.main_v2) = v0 c
          ∧ r.2.mem ((c.tc : Thread Cert.RecReferenceIdeal.nD Cert.RecReferenceIdeal.τ).loc Cert.RecReferenceIdeal.main_arg0) = m' ((c.tc : Thread Cert.RecReferenceIdeal.nD Cert.RecReferenceIdeal.τ).loc Cert.RecReferenceIdeal.main_arg0)
          ∧ r.2.mem ((c.tc : Thread Cert.RecReferenceIdeal.nD Cert.RecReferenceIdeal.τ).loc Cert.RecReferenceIdeal.main_arg1) = m' ((c.tc : Thread Cert.RecReferenceIdeal.nD Cert.RecReferenceIdeal.τ).loc Cert.RecReferenceIdeal.main_arg1))

def preserves_EvenQueryKernel_EvenQueryKernelIdeal : Prop :=
  True

def algebraic_EvenQueryKernelIdeal_EvenQueryReferenceIdeal [hEvenQueryKernelIdeal : Cert.EvenQueryKernelIdeal.Facts] [hEvenQueryReferenceIdeal : Cert.EvenQueryReferenceIdeal.Facts] : Prop :=
  ∀ (m : (ℓ : Loc Cert.EvenQueryKernelIdeal.nD Cert.EvenQueryKernelIdeal.τ Cert.EvenQueryKernelIdeal.sig) → Buf (Elt Ideal) ℓ) (g : Dev Cert.EvenQueryKernelIdeal.nD → PrngReg)
    (m' : (ℓ : Loc Cert.EvenQueryReferenceIdeal.nD Cert.EvenQueryReferenceIdeal.τ Cert.EvenQueryReferenceIdeal.sig) → Buf (Elt Ideal) ℓ) (g' : Dev Cert.EvenQueryReferenceIdeal.nD → PrngReg), Pre_EvenQueryKernelIdeal m →
    (∀ c : Dev Cert.EvenQueryKernelIdeal.nD,
      m' ((c.tc : Thread Cert.EvenQueryReferenceIdeal.nD Cert.EvenQueryReferenceIdeal.τ).loc Cert.EvenQueryReferenceIdeal.main_arg0) = m ((c.tc : Thread Cert.EvenQueryKernelIdeal.nD Cert.EvenQueryKernelIdeal.τ).loc Cert.EvenQueryKernelIdeal.main_arg0)
      ∧ m' ((c.tc : Thread Cert.EvenQueryReferenceIdeal.nD Cert.EvenQueryReferenceIdeal.τ).loc Cert.EvenQueryReferenceIdeal.main_arg1) = m ((c.tc : Thread Cert.EvenQueryKernelIdeal.nD Cert.EvenQueryKernelIdeal.τ).loc Cert.EvenQueryKernelIdeal.main_arg1)) →
    ∃ (v0 : (c : Dev Cert.EvenQueryKernelIdeal.nD) → Buf (Elt Ideal) ((c.tc : Thread Cert.EvenQueryKernelIdeal.nD Cert.EvenQueryKernelIdeal.τ).loc Cert.EvenQueryKernelIdeal.main_v3)),
      θ_run (Cert.EvenQueryKernelIdeal.defs (F := Ideal)) (onTc (τ := Cert.EvenQueryKernelIdeal.τ) (Cert.EvenQueryKernelIdeal.main (F := Ideal))) ⟨m, fun _ => 0, g⟩ (fun r => ∀ c : Dev Cert.EvenQueryKernelIdeal.nD,
          r.2.mem ((c.tc : Thread Cert.EvenQueryKernelIdeal.nD Cert.EvenQueryKernelIdeal.τ).loc Cert.EvenQueryKernelIdeal.main_v3) = v0 c
          ∧ r.2.mem ((c.tc : Thread Cert.EvenQueryKernelIdeal.nD Cert.EvenQueryKernelIdeal.τ).loc Cert.EvenQueryKernelIdeal.main_arg0) = m ((c.tc : Thread Cert.EvenQueryKernelIdeal.nD Cert.EvenQueryKernelIdeal.τ).loc Cert.EvenQueryKernelIdeal.main_arg0)
          ∧ r.2.mem ((c.tc : Thread Cert.EvenQueryKernelIdeal.nD Cert.EvenQueryKernelIdeal.τ).loc Cert.EvenQueryKernelIdeal.main_arg1) = m ((c.tc : Thread Cert.EvenQueryKernelIdeal.nD Cert.EvenQueryKernelIdeal.τ).loc Cert.EvenQueryKernelIdeal.main_arg1))
      ∧ θ_run (Cert.EvenQueryReferenceIdeal.defs (F := Ideal)) (onTc (τ := Cert.EvenQueryReferenceIdeal.τ) (Cert.EvenQueryReferenceIdeal.main (F := Ideal))) ⟨m', fun _ => 0, g'⟩ (fun r => ∀ c : Dev Cert.EvenQueryReferenceIdeal.nD,
          r.2.mem ((c.tc : Thread Cert.EvenQueryReferenceIdeal.nD Cert.EvenQueryReferenceIdeal.τ).loc Cert.EvenQueryReferenceIdeal.main_v5) = v0 c
          ∧ r.2.mem ((c.tc : Thread Cert.EvenQueryReferenceIdeal.nD Cert.EvenQueryReferenceIdeal.τ).loc Cert.EvenQueryReferenceIdeal.main_arg0) = m' ((c.tc : Thread Cert.EvenQueryReferenceIdeal.nD Cert.EvenQueryReferenceIdeal.τ).loc Cert.EvenQueryReferenceIdeal.main_arg0)
          ∧ r.2.mem ((c.tc : Thread Cert.EvenQueryReferenceIdeal.nD Cert.EvenQueryReferenceIdeal.τ).loc Cert.EvenQueryReferenceIdeal.main_arg1) = m' ((c.tc : Thread Cert.EvenQueryReferenceIdeal.nD Cert.EvenQueryReferenceIdeal.τ).loc Cert.EvenQueryReferenceIdeal.main_arg1))

def preserves_EvenKeyKernel_EvenKeyKernelIdeal : Prop :=
  True

def algebraic_EvenKeyKernelIdeal_EvenKeyReferenceIdeal [hEvenKeyKernelIdeal : Cert.EvenKeyKernelIdeal.Facts] [hEvenKeyReferenceIdeal : Cert.EvenKeyReferenceIdeal.Facts] : Prop :=
  ∀ (m : (ℓ : Loc Cert.EvenKeyKernelIdeal.nD Cert.EvenKeyKernelIdeal.τ Cert.EvenKeyKernelIdeal.sig) → Buf (Elt Ideal) ℓ) (g : Dev Cert.EvenKeyKernelIdeal.nD → PrngReg)
    (m' : (ℓ : Loc Cert.EvenKeyReferenceIdeal.nD Cert.EvenKeyReferenceIdeal.τ Cert.EvenKeyReferenceIdeal.sig) → Buf (Elt Ideal) ℓ) (g' : Dev Cert.EvenKeyReferenceIdeal.nD → PrngReg), Pre_EvenKeyKernelIdeal m →
    (∀ c : Dev Cert.EvenKeyKernelIdeal.nD,
      m' ((c.tc : Thread Cert.EvenKeyReferenceIdeal.nD Cert.EvenKeyReferenceIdeal.τ).loc Cert.EvenKeyReferenceIdeal.main_arg0) = m ((c.tc : Thread Cert.EvenKeyKernelIdeal.nD Cert.EvenKeyKernelIdeal.τ).loc Cert.EvenKeyKernelIdeal.main_arg0)
      ∧ m' ((c.tc : Thread Cert.EvenKeyReferenceIdeal.nD Cert.EvenKeyReferenceIdeal.τ).loc Cert.EvenKeyReferenceIdeal.main_arg1) = m ((c.tc : Thread Cert.EvenKeyKernelIdeal.nD Cert.EvenKeyKernelIdeal.τ).loc Cert.EvenKeyKernelIdeal.main_arg1)) →
    ∃ (v0 : (c : Dev Cert.EvenKeyKernelIdeal.nD) → Buf (Elt Ideal) ((c.tc : Thread Cert.EvenKeyKernelIdeal.nD Cert.EvenKeyKernelIdeal.τ).loc Cert.EvenKeyKernelIdeal.main_v3_0)) (v1 : (c : Dev Cert.EvenKeyKernelIdeal.nD) → Buf (Elt Ideal) ((c.tc : Thread Cert.EvenKeyKernelIdeal.nD Cert.EvenKeyKernelIdeal.τ).loc Cert.EvenKeyKernelIdeal.main_v3_1)),
      θ_run (Cert.EvenKeyKernelIdeal.defs (F := Ideal)) (onTc (τ := Cert.EvenKeyKernelIdeal.τ) (Cert.EvenKeyKernelIdeal.main (F := Ideal))) ⟨m, fun _ => 0, g⟩ (fun r => ∀ c : Dev Cert.EvenKeyKernelIdeal.nD,
          r.2.mem ((c.tc : Thread Cert.EvenKeyKernelIdeal.nD Cert.EvenKeyKernelIdeal.τ).loc Cert.EvenKeyKernelIdeal.main_v3_0) = v0 c
          ∧ r.2.mem ((c.tc : Thread Cert.EvenKeyKernelIdeal.nD Cert.EvenKeyKernelIdeal.τ).loc Cert.EvenKeyKernelIdeal.main_v3_1) = v1 c
          ∧ r.2.mem ((c.tc : Thread Cert.EvenKeyKernelIdeal.nD Cert.EvenKeyKernelIdeal.τ).loc Cert.EvenKeyKernelIdeal.main_arg0) = m ((c.tc : Thread Cert.EvenKeyKernelIdeal.nD Cert.EvenKeyKernelIdeal.τ).loc Cert.EvenKeyKernelIdeal.main_arg0)
          ∧ r.2.mem ((c.tc : Thread Cert.EvenKeyKernelIdeal.nD Cert.EvenKeyKernelIdeal.τ).loc Cert.EvenKeyKernelIdeal.main_arg1) = m ((c.tc : Thread Cert.EvenKeyKernelIdeal.nD Cert.EvenKeyKernelIdeal.τ).loc Cert.EvenKeyKernelIdeal.main_arg1))
      ∧ θ_run (Cert.EvenKeyReferenceIdeal.defs (F := Ideal)) (onTc (τ := Cert.EvenKeyReferenceIdeal.τ) (Cert.EvenKeyReferenceIdeal.main (F := Ideal))) ⟨m', fun _ => 0, g'⟩ (fun r => ∀ c : Dev Cert.EvenKeyReferenceIdeal.nD,
          r.2.mem ((c.tc : Thread Cert.EvenKeyReferenceIdeal.nD Cert.EvenKeyReferenceIdeal.τ).loc Cert.EvenKeyReferenceIdeal.main_v2) = v0 c
          ∧ r.2.mem ((c.tc : Thread Cert.EvenKeyReferenceIdeal.nD Cert.EvenKeyReferenceIdeal.τ).loc Cert.EvenKeyReferenceIdeal.main_v3) = v1 c
          ∧ r.2.mem ((c.tc : Thread Cert.EvenKeyReferenceIdeal.nD Cert.EvenKeyReferenceIdeal.τ).loc Cert.EvenKeyReferenceIdeal.main_arg0) = m' ((c.tc : Thread Cert.EvenKeyReferenceIdeal.nD Cert.EvenKeyReferenceIdeal.τ).loc Cert.EvenKeyReferenceIdeal.main_arg0)
          ∧ r.2.mem ((c.tc : Thread Cert.EvenKeyReferenceIdeal.nD Cert.EvenKeyReferenceIdeal.τ).loc Cert.EvenKeyReferenceIdeal.main_arg1) = m' ((c.tc : Thread Cert.EvenKeyReferenceIdeal.nD Cert.EvenKeyReferenceIdeal.τ).loc Cert.EvenKeyReferenceIdeal.main_arg1))

def preserves_EvenValueKernel_EvenValueKernelIdeal : Prop :=
  True

def algebraic_EvenValueKernelIdeal_EvenValueReferenceIdeal [hEvenValueKernelIdeal : Cert.EvenValueKernelIdeal.Facts] [hEvenValueReferenceIdeal : Cert.EvenValueReferenceIdeal.Facts] : Prop :=
  ∀ (m : (ℓ : Loc Cert.EvenValueKernelIdeal.nD Cert.EvenValueKernelIdeal.τ Cert.EvenValueKernelIdeal.sig) → Buf (Elt Ideal) ℓ) (g : Dev Cert.EvenValueKernelIdeal.nD → PrngReg)
    (m' : (ℓ : Loc Cert.EvenValueReferenceIdeal.nD Cert.EvenValueReferenceIdeal.τ Cert.EvenValueReferenceIdeal.sig) → Buf (Elt Ideal) ℓ) (g' : Dev Cert.EvenValueReferenceIdeal.nD → PrngReg), Pre_EvenValueKernelIdeal m →
    (∀ c : Dev Cert.EvenValueKernelIdeal.nD,
      m' ((c.tc : Thread Cert.EvenValueReferenceIdeal.nD Cert.EvenValueReferenceIdeal.τ).loc Cert.EvenValueReferenceIdeal.main_arg0) = m ((c.tc : Thread Cert.EvenValueKernelIdeal.nD Cert.EvenValueKernelIdeal.τ).loc Cert.EvenValueKernelIdeal.main_arg0)
      ∧ m' ((c.tc : Thread Cert.EvenValueReferenceIdeal.nD Cert.EvenValueReferenceIdeal.τ).loc Cert.EvenValueReferenceIdeal.main_arg1) = m ((c.tc : Thread Cert.EvenValueKernelIdeal.nD Cert.EvenValueKernelIdeal.τ).loc Cert.EvenValueKernelIdeal.main_arg1)) →
    ∃ (v0 : (c : Dev Cert.EvenValueKernelIdeal.nD) → Buf (Elt Ideal) ((c.tc : Thread Cert.EvenValueKernelIdeal.nD Cert.EvenValueKernelIdeal.τ).loc Cert.EvenValueKernelIdeal.main_v3_0)) (v1 : (c : Dev Cert.EvenValueKernelIdeal.nD) → Buf (Elt Ideal) ((c.tc : Thread Cert.EvenValueKernelIdeal.nD Cert.EvenValueKernelIdeal.τ).loc Cert.EvenValueKernelIdeal.main_v3_1)),
      θ_run (Cert.EvenValueKernelIdeal.defs (F := Ideal)) (onTc (τ := Cert.EvenValueKernelIdeal.τ) (Cert.EvenValueKernelIdeal.main (F := Ideal))) ⟨m, fun _ => 0, g⟩ (fun r => ∀ c : Dev Cert.EvenValueKernelIdeal.nD,
          r.2.mem ((c.tc : Thread Cert.EvenValueKernelIdeal.nD Cert.EvenValueKernelIdeal.τ).loc Cert.EvenValueKernelIdeal.main_v3_0) = v0 c
          ∧ r.2.mem ((c.tc : Thread Cert.EvenValueKernelIdeal.nD Cert.EvenValueKernelIdeal.τ).loc Cert.EvenValueKernelIdeal.main_v3_1) = v1 c
          ∧ r.2.mem ((c.tc : Thread Cert.EvenValueKernelIdeal.nD Cert.EvenValueKernelIdeal.τ).loc Cert.EvenValueKernelIdeal.main_arg0) = m ((c.tc : Thread Cert.EvenValueKernelIdeal.nD Cert.EvenValueKernelIdeal.τ).loc Cert.EvenValueKernelIdeal.main_arg0)
          ∧ r.2.mem ((c.tc : Thread Cert.EvenValueKernelIdeal.nD Cert.EvenValueKernelIdeal.τ).loc Cert.EvenValueKernelIdeal.main_arg1) = m ((c.tc : Thread Cert.EvenValueKernelIdeal.nD Cert.EvenValueKernelIdeal.τ).loc Cert.EvenValueKernelIdeal.main_arg1))
      ∧ θ_run (Cert.EvenValueReferenceIdeal.defs (F := Ideal)) (onTc (τ := Cert.EvenValueReferenceIdeal.τ) (Cert.EvenValueReferenceIdeal.main (F := Ideal))) ⟨m', fun _ => 0, g'⟩ (fun r => ∀ c : Dev Cert.EvenValueReferenceIdeal.nD,
          r.2.mem ((c.tc : Thread Cert.EvenValueReferenceIdeal.nD Cert.EvenValueReferenceIdeal.τ).loc Cert.EvenValueReferenceIdeal.main_v2) = v0 c
          ∧ r.2.mem ((c.tc : Thread Cert.EvenValueReferenceIdeal.nD Cert.EvenValueReferenceIdeal.τ).loc Cert.EvenValueReferenceIdeal.main_v3) = v1 c
          ∧ r.2.mem ((c.tc : Thread Cert.EvenValueReferenceIdeal.nD Cert.EvenValueReferenceIdeal.τ).loc Cert.EvenValueReferenceIdeal.main_arg0) = m' ((c.tc : Thread Cert.EvenValueReferenceIdeal.nD Cert.EvenValueReferenceIdeal.τ).loc Cert.EvenValueReferenceIdeal.main_arg0)
          ∧ r.2.mem ((c.tc : Thread Cert.EvenValueReferenceIdeal.nD Cert.EvenValueReferenceIdeal.τ).loc Cert.EvenValueReferenceIdeal.main_arg1) = m' ((c.tc : Thread Cert.EvenValueReferenceIdeal.nD Cert.EvenValueReferenceIdeal.τ).loc Cert.EvenValueReferenceIdeal.main_arg1))

def preserves_EvenGateKernel_EvenGateKernelIdeal : Prop :=
  True

def algebraic_EvenGateKernelIdeal_EvenGateReferenceIdeal [hEvenGateKernelIdeal : Cert.EvenGateKernelIdeal.Facts] [hEvenGateReferenceIdeal : Cert.EvenGateReferenceIdeal.Facts] : Prop :=
  ∀ (m : (ℓ : Loc Cert.EvenGateKernelIdeal.nD Cert.EvenGateKernelIdeal.τ Cert.EvenGateKernelIdeal.sig) → Buf (Elt Ideal) ℓ) (g : Dev Cert.EvenGateKernelIdeal.nD → PrngReg)
    (m' : (ℓ : Loc Cert.EvenGateReferenceIdeal.nD Cert.EvenGateReferenceIdeal.τ Cert.EvenGateReferenceIdeal.sig) → Buf (Elt Ideal) ℓ) (g' : Dev Cert.EvenGateReferenceIdeal.nD → PrngReg), Pre_EvenGateKernelIdeal m →
    (∀ c : Dev Cert.EvenGateKernelIdeal.nD,
      m' ((c.tc : Thread Cert.EvenGateReferenceIdeal.nD Cert.EvenGateReferenceIdeal.τ).loc Cert.EvenGateReferenceIdeal.main_arg0) = m ((c.tc : Thread Cert.EvenGateKernelIdeal.nD Cert.EvenGateKernelIdeal.τ).loc Cert.EvenGateKernelIdeal.main_arg0)
      ∧ m' ((c.tc : Thread Cert.EvenGateReferenceIdeal.nD Cert.EvenGateReferenceIdeal.τ).loc Cert.EvenGateReferenceIdeal.main_arg1) = m ((c.tc : Thread Cert.EvenGateKernelIdeal.nD Cert.EvenGateKernelIdeal.τ).loc Cert.EvenGateKernelIdeal.main_arg1)) →
    ∃ (v0 : (c : Dev Cert.EvenGateKernelIdeal.nD) → Buf (Elt Ideal) ((c.tc : Thread Cert.EvenGateKernelIdeal.nD Cert.EvenGateKernelIdeal.τ).loc Cert.EvenGateKernelIdeal.main_v3)),
      θ_run (Cert.EvenGateKernelIdeal.defs (F := Ideal)) (onTc (τ := Cert.EvenGateKernelIdeal.τ) (Cert.EvenGateKernelIdeal.main (F := Ideal))) ⟨m, fun _ => 0, g⟩ (fun r => ∀ c : Dev Cert.EvenGateKernelIdeal.nD,
          r.2.mem ((c.tc : Thread Cert.EvenGateKernelIdeal.nD Cert.EvenGateKernelIdeal.τ).loc Cert.EvenGateKernelIdeal.main_v3) = v0 c
          ∧ r.2.mem ((c.tc : Thread Cert.EvenGateKernelIdeal.nD Cert.EvenGateKernelIdeal.τ).loc Cert.EvenGateKernelIdeal.main_arg0) = m ((c.tc : Thread Cert.EvenGateKernelIdeal.nD Cert.EvenGateKernelIdeal.τ).loc Cert.EvenGateKernelIdeal.main_arg0)
          ∧ r.2.mem ((c.tc : Thread Cert.EvenGateKernelIdeal.nD Cert.EvenGateKernelIdeal.τ).loc Cert.EvenGateKernelIdeal.main_arg1) = m ((c.tc : Thread Cert.EvenGateKernelIdeal.nD Cert.EvenGateKernelIdeal.τ).loc Cert.EvenGateKernelIdeal.main_arg1))
      ∧ θ_run (Cert.EvenGateReferenceIdeal.defs (F := Ideal)) (onTc (τ := Cert.EvenGateReferenceIdeal.τ) (Cert.EvenGateReferenceIdeal.main (F := Ideal))) ⟨m', fun _ => 0, g'⟩ (fun r => ∀ c : Dev Cert.EvenGateReferenceIdeal.nD,
          r.2.mem ((c.tc : Thread Cert.EvenGateReferenceIdeal.nD Cert.EvenGateReferenceIdeal.τ).loc Cert.EvenGateReferenceIdeal.main_v2) = v0 c
          ∧ r.2.mem ((c.tc : Thread Cert.EvenGateReferenceIdeal.nD Cert.EvenGateReferenceIdeal.τ).loc Cert.EvenGateReferenceIdeal.main_arg0) = m' ((c.tc : Thread Cert.EvenGateReferenceIdeal.nD Cert.EvenGateReferenceIdeal.τ).loc Cert.EvenGateReferenceIdeal.main_arg0)
          ∧ r.2.mem ((c.tc : Thread Cert.EvenGateReferenceIdeal.nD Cert.EvenGateReferenceIdeal.τ).loc Cert.EvenGateReferenceIdeal.main_arg1) = m' ((c.tc : Thread Cert.EvenGateReferenceIdeal.nD Cert.EvenGateReferenceIdeal.τ).loc Cert.EvenGateReferenceIdeal.main_arg1))

def preserves_EvenOutKernel_EvenOutKernelIdeal : Prop :=
  True

def algebraic_EvenOutKernelIdeal_EvenOutReferenceIdeal [hEvenOutKernelIdeal : Cert.EvenOutKernelIdeal.Facts] [hEvenOutReferenceIdeal : Cert.EvenOutReferenceIdeal.Facts] : Prop :=
  ∀ (m : (ℓ : Loc Cert.EvenOutKernelIdeal.nD Cert.EvenOutKernelIdeal.τ Cert.EvenOutKernelIdeal.sig) → Buf (Elt Ideal) ℓ) (g : Dev Cert.EvenOutKernelIdeal.nD → PrngReg)
    (m' : (ℓ : Loc Cert.EvenOutReferenceIdeal.nD Cert.EvenOutReferenceIdeal.τ Cert.EvenOutReferenceIdeal.sig) → Buf (Elt Ideal) ℓ) (g' : Dev Cert.EvenOutReferenceIdeal.nD → PrngReg), Pre_EvenOutKernelIdeal m →
    (∀ c : Dev Cert.EvenOutKernelIdeal.nD,
      m' ((c.tc : Thread Cert.EvenOutReferenceIdeal.nD Cert.EvenOutReferenceIdeal.τ).loc Cert.EvenOutReferenceIdeal.main_arg0) = m ((c.tc : Thread Cert.EvenOutKernelIdeal.nD Cert.EvenOutKernelIdeal.τ).loc Cert.EvenOutKernelIdeal.main_arg0)
      ∧ m' ((c.tc : Thread Cert.EvenOutReferenceIdeal.nD Cert.EvenOutReferenceIdeal.τ).loc Cert.EvenOutReferenceIdeal.main_arg1) = m ((c.tc : Thread Cert.EvenOutKernelIdeal.nD Cert.EvenOutKernelIdeal.τ).loc Cert.EvenOutKernelIdeal.main_arg1)
      ∧ m' ((c.tc : Thread Cert.EvenOutReferenceIdeal.nD Cert.EvenOutReferenceIdeal.τ).loc Cert.EvenOutReferenceIdeal.main_arg2) = m ((c.tc : Thread Cert.EvenOutKernelIdeal.nD Cert.EvenOutKernelIdeal.τ).loc Cert.EvenOutKernelIdeal.main_arg2)
      ∧ m' ((c.tc : Thread Cert.EvenOutReferenceIdeal.nD Cert.EvenOutReferenceIdeal.τ).loc Cert.EvenOutReferenceIdeal.main_arg3) = m ((c.tc : Thread Cert.EvenOutKernelIdeal.nD Cert.EvenOutKernelIdeal.τ).loc Cert.EvenOutKernelIdeal.main_arg3)) →
    ∃ (v0 : (c : Dev Cert.EvenOutKernelIdeal.nD) → Buf (Elt Ideal) ((c.tc : Thread Cert.EvenOutKernelIdeal.nD Cert.EvenOutKernelIdeal.τ).loc Cert.EvenOutKernelIdeal.main_v2)),
      θ_run (Cert.EvenOutKernelIdeal.defs (F := Ideal)) (onTc (τ := Cert.EvenOutKernelIdeal.τ) (Cert.EvenOutKernelIdeal.main (F := Ideal))) ⟨m, fun _ => 0, g⟩ (fun r => ∀ c : Dev Cert.EvenOutKernelIdeal.nD,
          r.2.mem ((c.tc : Thread Cert.EvenOutKernelIdeal.nD Cert.EvenOutKernelIdeal.τ).loc Cert.EvenOutKernelIdeal.main_v2) = v0 c
          ∧ r.2.mem ((c.tc : Thread Cert.EvenOutKernelIdeal.nD Cert.EvenOutKernelIdeal.τ).loc Cert.EvenOutKernelIdeal.main_arg0) = m ((c.tc : Thread Cert.EvenOutKernelIdeal.nD Cert.EvenOutKernelIdeal.τ).loc Cert.EvenOutKernelIdeal.main_arg0)
          ∧ r.2.mem ((c.tc : Thread Cert.EvenOutKernelIdeal.nD Cert.EvenOutKernelIdeal.τ).loc Cert.EvenOutKernelIdeal.main_arg1) = m ((c.tc : Thread Cert.EvenOutKernelIdeal.nD Cert.EvenOutKernelIdeal.τ).loc Cert.EvenOutKernelIdeal.main_arg1)
          ∧ r.2.mem ((c.tc : Thread Cert.EvenOutKernelIdeal.nD Cert.EvenOutKernelIdeal.τ).loc Cert.EvenOutKernelIdeal.main_arg2) = m ((c.tc : Thread Cert.EvenOutKernelIdeal.nD Cert.EvenOutKernelIdeal.τ).loc Cert.EvenOutKernelIdeal.main_arg2)
          ∧ r.2.mem ((c.tc : Thread Cert.EvenOutKernelIdeal.nD Cert.EvenOutKernelIdeal.τ).loc Cert.EvenOutKernelIdeal.main_arg3) = m ((c.tc : Thread Cert.EvenOutKernelIdeal.nD Cert.EvenOutKernelIdeal.τ).loc Cert.EvenOutKernelIdeal.main_arg3))
      ∧ θ_run (Cert.EvenOutReferenceIdeal.defs (F := Ideal)) (onTc (τ := Cert.EvenOutReferenceIdeal.τ) (Cert.EvenOutReferenceIdeal.main (F := Ideal))) ⟨m', fun _ => 0, g'⟩ (fun r => ∀ c : Dev Cert.EvenOutReferenceIdeal.nD,
          r.2.mem ((c.tc : Thread Cert.EvenOutReferenceIdeal.nD Cert.EvenOutReferenceIdeal.τ).loc Cert.EvenOutReferenceIdeal.main_v4) = v0 c
          ∧ r.2.mem ((c.tc : Thread Cert.EvenOutReferenceIdeal.nD Cert.EvenOutReferenceIdeal.τ).loc Cert.EvenOutReferenceIdeal.main_arg0) = m' ((c.tc : Thread Cert.EvenOutReferenceIdeal.nD Cert.EvenOutReferenceIdeal.τ).loc Cert.EvenOutReferenceIdeal.main_arg0)
          ∧ r.2.mem ((c.tc : Thread Cert.EvenOutReferenceIdeal.nD Cert.EvenOutReferenceIdeal.τ).loc Cert.EvenOutReferenceIdeal.main_arg1) = m' ((c.tc : Thread Cert.EvenOutReferenceIdeal.nD Cert.EvenOutReferenceIdeal.τ).loc Cert.EvenOutReferenceIdeal.main_arg1)
          ∧ r.2.mem ((c.tc : Thread Cert.EvenOutReferenceIdeal.nD Cert.EvenOutReferenceIdeal.τ).loc Cert.EvenOutReferenceIdeal.main_arg2) = m' ((c.tc : Thread Cert.EvenOutReferenceIdeal.nD Cert.EvenOutReferenceIdeal.τ).loc Cert.EvenOutReferenceIdeal.main_arg2)
          ∧ r.2.mem ((c.tc : Thread Cert.EvenOutReferenceIdeal.nD Cert.EvenOutReferenceIdeal.τ).loc Cert.EvenOutReferenceIdeal.main_arg3) = m' ((c.tc : Thread Cert.EvenOutReferenceIdeal.nD Cert.EvenOutReferenceIdeal.τ).loc Cert.EvenOutReferenceIdeal.main_arg3))

def preserves_OddQueryKernel_OddQueryKernelIdeal : Prop :=
  True

def algebraic_OddQueryKernelIdeal_OddQueryReferenceIdeal [hOddQueryKernelIdeal : Cert.OddQueryKernelIdeal.Facts] [hOddQueryReferenceIdeal : Cert.OddQueryReferenceIdeal.Facts] : Prop :=
  ∀ (m : (ℓ : Loc Cert.OddQueryKernelIdeal.nD Cert.OddQueryKernelIdeal.τ Cert.OddQueryKernelIdeal.sig) → Buf (Elt Ideal) ℓ) (g : Dev Cert.OddQueryKernelIdeal.nD → PrngReg)
    (m' : (ℓ : Loc Cert.OddQueryReferenceIdeal.nD Cert.OddQueryReferenceIdeal.τ Cert.OddQueryReferenceIdeal.sig) → Buf (Elt Ideal) ℓ) (g' : Dev Cert.OddQueryReferenceIdeal.nD → PrngReg), Pre_OddQueryKernelIdeal m →
    (∀ c : Dev Cert.OddQueryKernelIdeal.nD,
      m' ((c.tc : Thread Cert.OddQueryReferenceIdeal.nD Cert.OddQueryReferenceIdeal.τ).loc Cert.OddQueryReferenceIdeal.main_arg0) = m ((c.tc : Thread Cert.OddQueryKernelIdeal.nD Cert.OddQueryKernelIdeal.τ).loc Cert.OddQueryKernelIdeal.main_arg0)
      ∧ m' ((c.tc : Thread Cert.OddQueryReferenceIdeal.nD Cert.OddQueryReferenceIdeal.τ).loc Cert.OddQueryReferenceIdeal.main_arg1) = m ((c.tc : Thread Cert.OddQueryKernelIdeal.nD Cert.OddQueryKernelIdeal.τ).loc Cert.OddQueryKernelIdeal.main_arg1)) →
    ∃ (v0 : (c : Dev Cert.OddQueryKernelIdeal.nD) → Buf (Elt Ideal) ((c.tc : Thread Cert.OddQueryKernelIdeal.nD Cert.OddQueryKernelIdeal.τ).loc Cert.OddQueryKernelIdeal.main_v4)),
      θ_run (Cert.OddQueryKernelIdeal.defs (F := Ideal)) (onTc (τ := Cert.OddQueryKernelIdeal.τ) (Cert.OddQueryKernelIdeal.main (F := Ideal))) ⟨m, fun _ => 0, g⟩ (fun r => ∀ c : Dev Cert.OddQueryKernelIdeal.nD,
          r.2.mem ((c.tc : Thread Cert.OddQueryKernelIdeal.nD Cert.OddQueryKernelIdeal.τ).loc Cert.OddQueryKernelIdeal.main_v4) = v0 c
          ∧ r.2.mem ((c.tc : Thread Cert.OddQueryKernelIdeal.nD Cert.OddQueryKernelIdeal.τ).loc Cert.OddQueryKernelIdeal.main_arg0) = m ((c.tc : Thread Cert.OddQueryKernelIdeal.nD Cert.OddQueryKernelIdeal.τ).loc Cert.OddQueryKernelIdeal.main_arg0)
          ∧ r.2.mem ((c.tc : Thread Cert.OddQueryKernelIdeal.nD Cert.OddQueryKernelIdeal.τ).loc Cert.OddQueryKernelIdeal.main_arg1) = m ((c.tc : Thread Cert.OddQueryKernelIdeal.nD Cert.OddQueryKernelIdeal.τ).loc Cert.OddQueryKernelIdeal.main_arg1))
      ∧ θ_run (Cert.OddQueryReferenceIdeal.defs (F := Ideal)) (onTc (τ := Cert.OddQueryReferenceIdeal.τ) (Cert.OddQueryReferenceIdeal.main (F := Ideal))) ⟨m', fun _ => 0, g'⟩ (fun r => ∀ c : Dev Cert.OddQueryReferenceIdeal.nD,
          r.2.mem ((c.tc : Thread Cert.OddQueryReferenceIdeal.nD Cert.OddQueryReferenceIdeal.τ).loc Cert.OddQueryReferenceIdeal.main_v5) = v0 c
          ∧ r.2.mem ((c.tc : Thread Cert.OddQueryReferenceIdeal.nD Cert.OddQueryReferenceIdeal.τ).loc Cert.OddQueryReferenceIdeal.main_arg0) = m' ((c.tc : Thread Cert.OddQueryReferenceIdeal.nD Cert.OddQueryReferenceIdeal.τ).loc Cert.OddQueryReferenceIdeal.main_arg0)
          ∧ r.2.mem ((c.tc : Thread Cert.OddQueryReferenceIdeal.nD Cert.OddQueryReferenceIdeal.τ).loc Cert.OddQueryReferenceIdeal.main_arg1) = m' ((c.tc : Thread Cert.OddQueryReferenceIdeal.nD Cert.OddQueryReferenceIdeal.τ).loc Cert.OddQueryReferenceIdeal.main_arg1))

def preserves_OddKeyKernel_OddKeyKernelIdeal : Prop :=
  True

def algebraic_OddKeyKernelIdeal_OddKeyReferenceIdeal [hOddKeyKernelIdeal : Cert.OddKeyKernelIdeal.Facts] [hOddKeyReferenceIdeal : Cert.OddKeyReferenceIdeal.Facts] : Prop :=
  ∀ (m : (ℓ : Loc Cert.OddKeyKernelIdeal.nD Cert.OddKeyKernelIdeal.τ Cert.OddKeyKernelIdeal.sig) → Buf (Elt Ideal) ℓ) (g : Dev Cert.OddKeyKernelIdeal.nD → PrngReg)
    (m' : (ℓ : Loc Cert.OddKeyReferenceIdeal.nD Cert.OddKeyReferenceIdeal.τ Cert.OddKeyReferenceIdeal.sig) → Buf (Elt Ideal) ℓ) (g' : Dev Cert.OddKeyReferenceIdeal.nD → PrngReg), Pre_OddKeyKernelIdeal m →
    (∀ c : Dev Cert.OddKeyKernelIdeal.nD,
      m' ((c.tc : Thread Cert.OddKeyReferenceIdeal.nD Cert.OddKeyReferenceIdeal.τ).loc Cert.OddKeyReferenceIdeal.main_arg0) = m ((c.tc : Thread Cert.OddKeyKernelIdeal.nD Cert.OddKeyKernelIdeal.τ).loc Cert.OddKeyKernelIdeal.main_arg0)
      ∧ m' ((c.tc : Thread Cert.OddKeyReferenceIdeal.nD Cert.OddKeyReferenceIdeal.τ).loc Cert.OddKeyReferenceIdeal.main_arg1) = m ((c.tc : Thread Cert.OddKeyKernelIdeal.nD Cert.OddKeyKernelIdeal.τ).loc Cert.OddKeyKernelIdeal.main_arg1)) →
    ∃ (v0 : (c : Dev Cert.OddKeyKernelIdeal.nD) → Buf (Elt Ideal) ((c.tc : Thread Cert.OddKeyKernelIdeal.nD Cert.OddKeyKernelIdeal.τ).loc Cert.OddKeyKernelIdeal.main_v4)),
      θ_run (Cert.OddKeyKernelIdeal.defs (F := Ideal)) (onTc (τ := Cert.OddKeyKernelIdeal.τ) (Cert.OddKeyKernelIdeal.main (F := Ideal))) ⟨m, fun _ => 0, g⟩ (fun r => ∀ c : Dev Cert.OddKeyKernelIdeal.nD,
          r.2.mem ((c.tc : Thread Cert.OddKeyKernelIdeal.nD Cert.OddKeyKernelIdeal.τ).loc Cert.OddKeyKernelIdeal.main_v4) = v0 c
          ∧ r.2.mem ((c.tc : Thread Cert.OddKeyKernelIdeal.nD Cert.OddKeyKernelIdeal.τ).loc Cert.OddKeyKernelIdeal.main_arg0) = m ((c.tc : Thread Cert.OddKeyKernelIdeal.nD Cert.OddKeyKernelIdeal.τ).loc Cert.OddKeyKernelIdeal.main_arg0)
          ∧ r.2.mem ((c.tc : Thread Cert.OddKeyKernelIdeal.nD Cert.OddKeyKernelIdeal.τ).loc Cert.OddKeyKernelIdeal.main_arg1) = m ((c.tc : Thread Cert.OddKeyKernelIdeal.nD Cert.OddKeyKernelIdeal.τ).loc Cert.OddKeyKernelIdeal.main_arg1))
      ∧ θ_run (Cert.OddKeyReferenceIdeal.defs (F := Ideal)) (onTc (τ := Cert.OddKeyReferenceIdeal.τ) (Cert.OddKeyReferenceIdeal.main (F := Ideal))) ⟨m', fun _ => 0, g'⟩ (fun r => ∀ c : Dev Cert.OddKeyReferenceIdeal.nD,
          r.2.mem ((c.tc : Thread Cert.OddKeyReferenceIdeal.nD Cert.OddKeyReferenceIdeal.τ).loc Cert.OddKeyReferenceIdeal.main_v2) = v0 c
          ∧ r.2.mem ((c.tc : Thread Cert.OddKeyReferenceIdeal.nD Cert.OddKeyReferenceIdeal.τ).loc Cert.OddKeyReferenceIdeal.main_arg0) = m' ((c.tc : Thread Cert.OddKeyReferenceIdeal.nD Cert.OddKeyReferenceIdeal.τ).loc Cert.OddKeyReferenceIdeal.main_arg0)
          ∧ r.2.mem ((c.tc : Thread Cert.OddKeyReferenceIdeal.nD Cert.OddKeyReferenceIdeal.τ).loc Cert.OddKeyReferenceIdeal.main_arg1) = m' ((c.tc : Thread Cert.OddKeyReferenceIdeal.nD Cert.OddKeyReferenceIdeal.τ).loc Cert.OddKeyReferenceIdeal.main_arg1))

def preserves_OddValueKernel_OddValueKernelIdeal : Prop :=
  True

def algebraic_OddValueKernelIdeal_OddValueReferenceIdeal [hOddValueKernelIdeal : Cert.OddValueKernelIdeal.Facts] [hOddValueReferenceIdeal : Cert.OddValueReferenceIdeal.Facts] : Prop :=
  ∀ (m : (ℓ : Loc Cert.OddValueKernelIdeal.nD Cert.OddValueKernelIdeal.τ Cert.OddValueKernelIdeal.sig) → Buf (Elt Ideal) ℓ) (g : Dev Cert.OddValueKernelIdeal.nD → PrngReg)
    (m' : (ℓ : Loc Cert.OddValueReferenceIdeal.nD Cert.OddValueReferenceIdeal.τ Cert.OddValueReferenceIdeal.sig) → Buf (Elt Ideal) ℓ) (g' : Dev Cert.OddValueReferenceIdeal.nD → PrngReg), Pre_OddValueKernelIdeal m →
    (∀ c : Dev Cert.OddValueKernelIdeal.nD,
      m' ((c.tc : Thread Cert.OddValueReferenceIdeal.nD Cert.OddValueReferenceIdeal.τ).loc Cert.OddValueReferenceIdeal.main_arg0) = m ((c.tc : Thread Cert.OddValueKernelIdeal.nD Cert.OddValueKernelIdeal.τ).loc Cert.OddValueKernelIdeal.main_arg0)
      ∧ m' ((c.tc : Thread Cert.OddValueReferenceIdeal.nD Cert.OddValueReferenceIdeal.τ).loc Cert.OddValueReferenceIdeal.main_arg1) = m ((c.tc : Thread Cert.OddValueKernelIdeal.nD Cert.OddValueKernelIdeal.τ).loc Cert.OddValueKernelIdeal.main_arg1)) →
    ∃ (v0 : (c : Dev Cert.OddValueKernelIdeal.nD) → Buf (Elt Ideal) ((c.tc : Thread Cert.OddValueKernelIdeal.nD Cert.OddValueKernelIdeal.τ).loc Cert.OddValueKernelIdeal.main_v4)),
      θ_run (Cert.OddValueKernelIdeal.defs (F := Ideal)) (onTc (τ := Cert.OddValueKernelIdeal.τ) (Cert.OddValueKernelIdeal.main (F := Ideal))) ⟨m, fun _ => 0, g⟩ (fun r => ∀ c : Dev Cert.OddValueKernelIdeal.nD,
          r.2.mem ((c.tc : Thread Cert.OddValueKernelIdeal.nD Cert.OddValueKernelIdeal.τ).loc Cert.OddValueKernelIdeal.main_v4) = v0 c
          ∧ r.2.mem ((c.tc : Thread Cert.OddValueKernelIdeal.nD Cert.OddValueKernelIdeal.τ).loc Cert.OddValueKernelIdeal.main_arg0) = m ((c.tc : Thread Cert.OddValueKernelIdeal.nD Cert.OddValueKernelIdeal.τ).loc Cert.OddValueKernelIdeal.main_arg0)
          ∧ r.2.mem ((c.tc : Thread Cert.OddValueKernelIdeal.nD Cert.OddValueKernelIdeal.τ).loc Cert.OddValueKernelIdeal.main_arg1) = m ((c.tc : Thread Cert.OddValueKernelIdeal.nD Cert.OddValueKernelIdeal.τ).loc Cert.OddValueKernelIdeal.main_arg1))
      ∧ θ_run (Cert.OddValueReferenceIdeal.defs (F := Ideal)) (onTc (τ := Cert.OddValueReferenceIdeal.τ) (Cert.OddValueReferenceIdeal.main (F := Ideal))) ⟨m', fun _ => 0, g'⟩ (fun r => ∀ c : Dev Cert.OddValueReferenceIdeal.nD,
          r.2.mem ((c.tc : Thread Cert.OddValueReferenceIdeal.nD Cert.OddValueReferenceIdeal.τ).loc Cert.OddValueReferenceIdeal.main_v2) = v0 c
          ∧ r.2.mem ((c.tc : Thread Cert.OddValueReferenceIdeal.nD Cert.OddValueReferenceIdeal.τ).loc Cert.OddValueReferenceIdeal.main_arg0) = m' ((c.tc : Thread Cert.OddValueReferenceIdeal.nD Cert.OddValueReferenceIdeal.τ).loc Cert.OddValueReferenceIdeal.main_arg0)
          ∧ r.2.mem ((c.tc : Thread Cert.OddValueReferenceIdeal.nD Cert.OddValueReferenceIdeal.τ).loc Cert.OddValueReferenceIdeal.main_arg1) = m' ((c.tc : Thread Cert.OddValueReferenceIdeal.nD Cert.OddValueReferenceIdeal.τ).loc Cert.OddValueReferenceIdeal.main_arg1))

def preserves_OddGateKernel_OddGateKernelIdeal : Prop :=
  True

def algebraic_OddGateKernelIdeal_OddGateReferenceIdeal [hOddGateKernelIdeal : Cert.OddGateKernelIdeal.Facts] [hOddGateReferenceIdeal : Cert.OddGateReferenceIdeal.Facts] : Prop :=
  ∀ (m : (ℓ : Loc Cert.OddGateKernelIdeal.nD Cert.OddGateKernelIdeal.τ Cert.OddGateKernelIdeal.sig) → Buf (Elt Ideal) ℓ) (g : Dev Cert.OddGateKernelIdeal.nD → PrngReg)
    (m' : (ℓ : Loc Cert.OddGateReferenceIdeal.nD Cert.OddGateReferenceIdeal.τ Cert.OddGateReferenceIdeal.sig) → Buf (Elt Ideal) ℓ) (g' : Dev Cert.OddGateReferenceIdeal.nD → PrngReg), Pre_OddGateKernelIdeal m →
    (∀ c : Dev Cert.OddGateKernelIdeal.nD,
      m' ((c.tc : Thread Cert.OddGateReferenceIdeal.nD Cert.OddGateReferenceIdeal.τ).loc Cert.OddGateReferenceIdeal.main_arg0) = m ((c.tc : Thread Cert.OddGateKernelIdeal.nD Cert.OddGateKernelIdeal.τ).loc Cert.OddGateKernelIdeal.main_arg0)
      ∧ m' ((c.tc : Thread Cert.OddGateReferenceIdeal.nD Cert.OddGateReferenceIdeal.τ).loc Cert.OddGateReferenceIdeal.main_arg1) = m ((c.tc : Thread Cert.OddGateKernelIdeal.nD Cert.OddGateKernelIdeal.τ).loc Cert.OddGateKernelIdeal.main_arg1)) →
    ∃ (v0 : (c : Dev Cert.OddGateKernelIdeal.nD) → Buf (Elt Ideal) ((c.tc : Thread Cert.OddGateKernelIdeal.nD Cert.OddGateKernelIdeal.τ).loc Cert.OddGateKernelIdeal.main_v4)),
      θ_run (Cert.OddGateKernelIdeal.defs (F := Ideal)) (onTc (τ := Cert.OddGateKernelIdeal.τ) (Cert.OddGateKernelIdeal.main (F := Ideal))) ⟨m, fun _ => 0, g⟩ (fun r => ∀ c : Dev Cert.OddGateKernelIdeal.nD,
          r.2.mem ((c.tc : Thread Cert.OddGateKernelIdeal.nD Cert.OddGateKernelIdeal.τ).loc Cert.OddGateKernelIdeal.main_v4) = v0 c
          ∧ r.2.mem ((c.tc : Thread Cert.OddGateKernelIdeal.nD Cert.OddGateKernelIdeal.τ).loc Cert.OddGateKernelIdeal.main_arg0) = m ((c.tc : Thread Cert.OddGateKernelIdeal.nD Cert.OddGateKernelIdeal.τ).loc Cert.OddGateKernelIdeal.main_arg0)
          ∧ r.2.mem ((c.tc : Thread Cert.OddGateKernelIdeal.nD Cert.OddGateKernelIdeal.τ).loc Cert.OddGateKernelIdeal.main_arg1) = m ((c.tc : Thread Cert.OddGateKernelIdeal.nD Cert.OddGateKernelIdeal.τ).loc Cert.OddGateKernelIdeal.main_arg1))
      ∧ θ_run (Cert.OddGateReferenceIdeal.defs (F := Ideal)) (onTc (τ := Cert.OddGateReferenceIdeal.τ) (Cert.OddGateReferenceIdeal.main (F := Ideal))) ⟨m', fun _ => 0, g'⟩ (fun r => ∀ c : Dev Cert.OddGateReferenceIdeal.nD,
          r.2.mem ((c.tc : Thread Cert.OddGateReferenceIdeal.nD Cert.OddGateReferenceIdeal.τ).loc Cert.OddGateReferenceIdeal.main_v2) = v0 c
          ∧ r.2.mem ((c.tc : Thread Cert.OddGateReferenceIdeal.nD Cert.OddGateReferenceIdeal.τ).loc Cert.OddGateReferenceIdeal.main_arg0) = m' ((c.tc : Thread Cert.OddGateReferenceIdeal.nD Cert.OddGateReferenceIdeal.τ).loc Cert.OddGateReferenceIdeal.main_arg0)
          ∧ r.2.mem ((c.tc : Thread Cert.OddGateReferenceIdeal.nD Cert.OddGateReferenceIdeal.τ).loc Cert.OddGateReferenceIdeal.main_arg1) = m' ((c.tc : Thread Cert.OddGateReferenceIdeal.nD Cert.OddGateReferenceIdeal.τ).loc Cert.OddGateReferenceIdeal.main_arg1))

def preserves_OddForgetKernel_OddForgetKernelIdeal : Prop :=
  True

def algebraic_OddForgetKernelIdeal_OddForgetReferenceIdeal [hOddForgetKernelIdeal : Cert.OddForgetKernelIdeal.Facts] [hOddForgetReferenceIdeal : Cert.OddForgetReferenceIdeal.Facts] : Prop :=
  ∀ (m : (ℓ : Loc Cert.OddForgetKernelIdeal.nD Cert.OddForgetKernelIdeal.τ Cert.OddForgetKernelIdeal.sig) → Buf (Elt Ideal) ℓ) (g : Dev Cert.OddForgetKernelIdeal.nD → PrngReg)
    (m' : (ℓ : Loc Cert.OddForgetReferenceIdeal.nD Cert.OddForgetReferenceIdeal.τ Cert.OddForgetReferenceIdeal.sig) → Buf (Elt Ideal) ℓ) (g' : Dev Cert.OddForgetReferenceIdeal.nD → PrngReg), Pre_OddForgetKernelIdeal m →
    (∀ c : Dev Cert.OddForgetKernelIdeal.nD,
      m' ((c.tc : Thread Cert.OddForgetReferenceIdeal.nD Cert.OddForgetReferenceIdeal.τ).loc Cert.OddForgetReferenceIdeal.main_arg0) = m ((c.tc : Thread Cert.OddForgetKernelIdeal.nD Cert.OddForgetKernelIdeal.τ).loc Cert.OddForgetKernelIdeal.main_arg0)
      ∧ m' ((c.tc : Thread Cert.OddForgetReferenceIdeal.nD Cert.OddForgetReferenceIdeal.τ).loc Cert.OddForgetReferenceIdeal.main_arg1) = m ((c.tc : Thread Cert.OddForgetKernelIdeal.nD Cert.OddForgetKernelIdeal.τ).loc Cert.OddForgetKernelIdeal.main_arg1)) →
    ∃ (v0 : (c : Dev Cert.OddForgetKernelIdeal.nD) → Buf (Elt Ideal) ((c.tc : Thread Cert.OddForgetKernelIdeal.nD Cert.OddForgetKernelIdeal.τ).loc Cert.OddForgetKernelIdeal.main_v5)),
      θ_run (Cert.OddForgetKernelIdeal.defs (F := Ideal)) (onTc (τ := Cert.OddForgetKernelIdeal.τ) (Cert.OddForgetKernelIdeal.main (F := Ideal))) ⟨m, fun _ => 0, g⟩ (fun r => ∀ c : Dev Cert.OddForgetKernelIdeal.nD,
          r.2.mem ((c.tc : Thread Cert.OddForgetKernelIdeal.nD Cert.OddForgetKernelIdeal.τ).loc Cert.OddForgetKernelIdeal.main_v5) = v0 c
          ∧ r.2.mem ((c.tc : Thread Cert.OddForgetKernelIdeal.nD Cert.OddForgetKernelIdeal.τ).loc Cert.OddForgetKernelIdeal.main_arg0) = m ((c.tc : Thread Cert.OddForgetKernelIdeal.nD Cert.OddForgetKernelIdeal.τ).loc Cert.OddForgetKernelIdeal.main_arg0)
          ∧ r.2.mem ((c.tc : Thread Cert.OddForgetKernelIdeal.nD Cert.OddForgetKernelIdeal.τ).loc Cert.OddForgetKernelIdeal.main_arg1) = m ((c.tc : Thread Cert.OddForgetKernelIdeal.nD Cert.OddForgetKernelIdeal.τ).loc Cert.OddForgetKernelIdeal.main_arg1))
      ∧ θ_run (Cert.OddForgetReferenceIdeal.defs (F := Ideal)) (onTc (τ := Cert.OddForgetReferenceIdeal.τ) (Cert.OddForgetReferenceIdeal.main (F := Ideal))) ⟨m', fun _ => 0, g'⟩ (fun r => ∀ c : Dev Cert.OddForgetReferenceIdeal.nD,
          r.2.mem ((c.tc : Thread Cert.OddForgetReferenceIdeal.nD Cert.OddForgetReferenceIdeal.τ).loc Cert.OddForgetReferenceIdeal.main_v2) = v0 c
          ∧ r.2.mem ((c.tc : Thread Cert.OddForgetReferenceIdeal.nD Cert.OddForgetReferenceIdeal.τ).loc Cert.OddForgetReferenceIdeal.main_arg0) = m' ((c.tc : Thread Cert.OddForgetReferenceIdeal.nD Cert.OddForgetReferenceIdeal.τ).loc Cert.OddForgetReferenceIdeal.main_arg0)
          ∧ r.2.mem ((c.tc : Thread Cert.OddForgetReferenceIdeal.nD Cert.OddForgetReferenceIdeal.τ).loc Cert.OddForgetReferenceIdeal.main_arg1) = m' ((c.tc : Thread Cert.OddForgetReferenceIdeal.nD Cert.OddForgetReferenceIdeal.τ).loc Cert.OddForgetReferenceIdeal.main_arg1))

def preserves_OddOutKernel_OddOutKernelIdeal : Prop :=
  True

def algebraic_OddOutKernelIdeal_OddOutReferenceIdeal [hOddOutKernelIdeal : Cert.OddOutKernelIdeal.Facts] [hOddOutReferenceIdeal : Cert.OddOutReferenceIdeal.Facts] : Prop :=
  ∀ (m : (ℓ : Loc Cert.OddOutKernelIdeal.nD Cert.OddOutKernelIdeal.τ Cert.OddOutKernelIdeal.sig) → Buf (Elt Ideal) ℓ) (g : Dev Cert.OddOutKernelIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutKernelIdeal m →
    (∀ c : Dev Cert.OddOutKernelIdeal.nD,
      m' ((c.tc : Thread Cert.OddOutReferenceIdeal.nD Cert.OddOutReferenceIdeal.τ).loc Cert.OddOutReferenceIdeal.main_arg0) = m ((c.tc : Thread Cert.OddOutKernelIdeal.nD Cert.OddOutKernelIdeal.τ).loc Cert.OddOutKernelIdeal.main_arg0)
      ∧ m' ((c.tc : Thread Cert.OddOutReferenceIdeal.nD Cert.OddOutReferenceIdeal.τ).loc Cert.OddOutReferenceIdeal.main_arg1) = m ((c.tc : Thread Cert.OddOutKernelIdeal.nD Cert.OddOutKernelIdeal.τ).loc Cert.OddOutKernelIdeal.main_arg1)
      ∧ m' ((c.tc : Thread Cert.OddOutReferenceIdeal.nD Cert.OddOutReferenceIdeal.τ).loc Cert.OddOutReferenceIdeal.main_arg2) = m ((c.tc : Thread Cert.OddOutKernelIdeal.nD Cert.OddOutKernelIdeal.τ).loc Cert.OddOutKernelIdeal.main_arg2)) →
    ∃ (v0 : (c : Dev Cert.OddOutKernelIdeal.nD) → Buf (Elt Ideal) ((c.tc : Thread Cert.OddOutKernelIdeal.nD Cert.OddOutKernelIdeal.τ).loc Cert.OddOutKernelIdeal.main_v2)),
      θ_run (Cert.OddOutKernelIdeal.defs (F := Ideal)) (onTc (τ := Cert.OddOutKernelIdeal.τ) (Cert.OddOutKernelIdeal.main (F := Ideal))) ⟨m, fun _ => 0, g⟩ (fun r => ∀ c : Dev Cert.OddOutKernelIdeal.nD,
          r.2.mem ((c.tc : Thread Cert.OddOutKernelIdeal.nD Cert.OddOutKernelIdeal.τ).loc Cert.OddOutKernelIdeal.main_v2) = v0 c
          ∧ r.2.mem ((c.tc : Thread Cert.OddOutKernelIdeal.nD Cert.OddOutKernelIdeal.τ).loc Cert.OddOutKernelIdeal.main_arg0) = m ((c.tc : Thread Cert.OddOutKernelIdeal.nD Cert.OddOutKernelIdeal.τ).loc Cert.OddOutKernelIdeal.main_arg0)
          ∧ r.2.mem ((c.tc : Thread Cert.OddOutKernelIdeal.nD Cert.OddOutKernelIdeal.τ).loc Cert.OddOutKernelIdeal.main_arg1) = m ((c.tc : Thread Cert.OddOutKernelIdeal.nD Cert.OddOutKernelIdeal.τ).loc Cert.OddOutKernelIdeal.main_arg1)
          ∧ r.2.mem ((c.tc : Thread Cert.OddOutKernelIdeal.nD Cert.OddOutKernelIdeal.τ).loc Cert.OddOutKernelIdeal.main_arg2) = m ((c.tc : Thread Cert.OddOutKernelIdeal.nD Cert.OddOutKernelIdeal.τ).loc Cert.OddOutKernelIdeal.main_arg2))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v3) = v0 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1)
          ∧ r.2.mem ((c.tc : Thread Cert.OddOutReferenceIdeal.nD Cert.OddOutReferenceIdeal.τ).loc Cert.OddOutReferenceIdeal.main_arg2) = m' ((c.tc : Thread Cert.OddOutReferenceIdeal.nD Cert.OddOutReferenceIdeal.τ).loc Cert.OddOutReferenceIdeal.main_arg2))

def preserves_EvenColsKernel_EvenColsKernelIdeal : Prop :=
  True

def algebraic_EvenColsKernelIdeal_EvenColsReferenceIdeal [hEvenColsKernelIdeal : Cert.EvenColsKernelIdeal.Facts] [hEvenColsReferenceIdeal : Cert.EvenColsReferenceIdeal.Facts] : Prop :=
  ∀ (m : (ℓ : Loc Cert.EvenColsKernelIdeal.nD Cert.EvenColsKernelIdeal.τ Cert.EvenColsKernelIdeal.sig) → Buf (Elt Ideal) ℓ) (g : Dev Cert.EvenColsKernelIdeal.nD → PrngReg)
    (m' : (ℓ : Loc Cert.EvenColsReferenceIdeal.nD Cert.EvenColsReferenceIdeal.τ Cert.EvenColsReferenceIdeal.sig) → Buf (Elt Ideal) ℓ) (g' : Dev Cert.EvenColsReferenceIdeal.nD → PrngReg), Pre_EvenColsKernelIdeal m →
    (∀ c : Dev Cert.EvenColsKernelIdeal.nD,
      m' ((c.tc : Thread Cert.EvenColsReferenceIdeal.nD Cert.EvenColsReferenceIdeal.τ).loc Cert.EvenColsReferenceIdeal.main_arg0) = m ((c.tc : Thread Cert.EvenColsKernelIdeal.nD Cert.EvenColsKernelIdeal.τ).loc Cert.EvenColsKernelIdeal.main_arg0)
      ∧ m' ((c.tc : Thread Cert.EvenColsReferenceIdeal.nD Cert.EvenColsReferenceIdeal.τ).loc Cert.EvenColsReferenceIdeal.main_arg1) = m ((c.tc : Thread Cert.EvenColsKernelIdeal.nD Cert.EvenColsKernelIdeal.τ).loc Cert.EvenColsKernelIdeal.main_arg1)) →
    ∃ (v0 : (c : Dev Cert.EvenColsKernelIdeal.nD) → Buf (Elt Ideal) ((c.tc : Thread Cert.EvenColsKernelIdeal.nD Cert.EvenColsKernelIdeal.τ).loc Cert.EvenColsKernelIdeal.main_v1_0)) (v1 : (c : Dev Cert.EvenColsKernelIdeal.nD) → Buf (Elt Ideal) ((c.tc : Thread Cert.EvenColsKernelIdeal.nD Cert.EvenColsKernelIdeal.τ).loc Cert.EvenColsKernelIdeal.main_v1_1)),
      θ_run (Cert.EvenColsKernelIdeal.defs (F := Ideal)) (onTc (τ := Cert.EvenColsKernelIdeal.τ) (Cert.EvenColsKernelIdeal.main (F := Ideal))) ⟨m, fun _ => 0, g⟩ (fun r => ∀ c : Dev Cert.EvenColsKernelIdeal.nD,
          r.2.mem ((c.tc : Thread Cert.EvenColsKernelIdeal.nD Cert.EvenColsKernelIdeal.τ).loc Cert.EvenColsKernelIdeal.main_v1_0) = v0 c
          ∧ r.2.mem ((c.tc : Thread Cert.EvenColsKernelIdeal.nD Cert.EvenColsKernelIdeal.τ).loc Cert.EvenColsKernelIdeal.main_v1_1) = v1 c
          ∧ r.2.mem ((c.tc : Thread Cert.EvenColsKernelIdeal.nD Cert.EvenColsKernelIdeal.τ).loc Cert.EvenColsKernelIdeal.main_arg0) = m ((c.tc : Thread Cert.EvenColsKernelIdeal.nD Cert.EvenColsKernelIdeal.τ).loc Cert.EvenColsKernelIdeal.main_arg0)
          ∧ r.2.mem ((c.tc : Thread Cert.EvenColsKernelIdeal.nD Cert.EvenColsKernelIdeal.τ).loc Cert.EvenColsKernelIdeal.main_arg1) = m ((c.tc : Thread Cert.EvenColsKernelIdeal.nD Cert.EvenColsKernelIdeal.τ).loc Cert.EvenColsKernelIdeal.main_arg1))
      ∧ θ_run (Cert.EvenColsReferenceIdeal.defs (F := Ideal)) (onTc (τ := Cert.EvenColsReferenceIdeal.τ) (Cert.EvenColsReferenceIdeal.main (F := Ideal))) ⟨m', fun _ => 0, g'⟩ (fun r => ∀ c : Dev Cert.EvenColsReferenceIdeal.nD,
          r.2.mem ((c.tc : Thread Cert.EvenColsReferenceIdeal.nD Cert.EvenColsReferenceIdeal.τ).loc Cert.EvenColsReferenceIdeal.main_v1) = v0 c
          ∧ r.2.mem ((c.tc : Thread Cert.EvenColsReferenceIdeal.nD Cert.EvenColsReferenceIdeal.τ).loc Cert.EvenColsReferenceIdeal.main_v3) = v1 c
          ∧ r.2.mem ((c.tc : Thread Cert.EvenColsReferenceIdeal.nD Cert.EvenColsReferenceIdeal.τ).loc Cert.EvenColsReferenceIdeal.main_arg0) = m' ((c.tc : Thread Cert.EvenColsReferenceIdeal.nD Cert.EvenColsReferenceIdeal.τ).loc Cert.EvenColsReferenceIdeal.main_arg0)
          ∧ r.2.mem ((c.tc : Thread Cert.EvenColsReferenceIdeal.nD Cert.EvenColsReferenceIdeal.τ).loc Cert.EvenColsReferenceIdeal.main_arg1) = m' ((c.tc : Thread Cert.EvenColsReferenceIdeal.nD Cert.EvenColsReferenceIdeal.τ).loc Cert.EvenColsReferenceIdeal.main_arg1))

def preserves_EvenColsOutKernel_EvenColsOutKernelIdeal : Prop :=
  True

def algebraic_EvenColsOutKernelIdeal_EvenColsOutReferenceIdeal [hEvenColsOutKernelIdeal : Cert.EvenColsOutKernelIdeal.Facts] [hEvenColsOutReferenceIdeal : Cert.EvenColsOutReferenceIdeal.Facts] : Prop :=
  ∀ (m : (ℓ : Loc Cert.EvenColsOutKernelIdeal.nD Cert.EvenColsOutKernelIdeal.τ Cert.EvenColsOutKernelIdeal.sig) → Buf (Elt Ideal) ℓ) (g : Dev Cert.EvenColsOutKernelIdeal.nD → PrngReg)
    (m' : (ℓ : Loc Cert.EvenColsOutReferenceIdeal.nD Cert.EvenColsOutReferenceIdeal.τ Cert.EvenColsOutReferenceIdeal.sig) → Buf (Elt Ideal) ℓ) (g' : Dev Cert.EvenColsOutReferenceIdeal.nD → PrngReg), Pre_EvenColsOutKernelIdeal m →
    (∀ c : Dev Cert.EvenColsOutKernelIdeal.nD,
      m' ((c.tc : Thread Cert.EvenColsOutReferenceIdeal.nD Cert.EvenColsOutReferenceIdeal.τ).loc Cert.EvenColsOutReferenceIdeal.main_arg0) = m ((c.tc : Thread Cert.EvenColsOutKernelIdeal.nD Cert.EvenColsOutKernelIdeal.τ).loc Cert.EvenColsOutKernelIdeal.main_arg0)
      ∧ m' ((c.tc : Thread Cert.EvenColsOutReferenceIdeal.nD Cert.EvenColsOutReferenceIdeal.τ).loc Cert.EvenColsOutReferenceIdeal.main_arg1) = m ((c.tc : Thread Cert.EvenColsOutKernelIdeal.nD Cert.EvenColsOutKernelIdeal.τ).loc Cert.EvenColsOutKernelIdeal.main_arg1)
      ∧ m' ((c.tc : Thread Cert.EvenColsOutReferenceIdeal.nD Cert.EvenColsOutReferenceIdeal.τ).loc Cert.EvenColsOutReferenceIdeal.main_arg2) = m ((c.tc : Thread Cert.EvenColsOutKernelIdeal.nD Cert.EvenColsOutKernelIdeal.τ).loc Cert.EvenColsOutKernelIdeal.main_arg2)
      ∧ m' ((c.tc : Thread Cert.EvenColsOutReferenceIdeal.nD Cert.EvenColsOutReferenceIdeal.τ).loc Cert.EvenColsOutReferenceIdeal.main_arg3) = m ((c.tc : Thread Cert.EvenColsOutKernelIdeal.nD Cert.EvenColsOutKernelIdeal.τ).loc Cert.EvenColsOutKernelIdeal.main_arg3)) →
    ∃ (v0 : (c : Dev Cert.EvenColsOutKernelIdeal.nD) → Buf (Elt Ideal) ((c.tc : Thread Cert.EvenColsOutKernelIdeal.nD Cert.EvenColsOutKernelIdeal.τ).loc Cert.EvenColsOutKernelIdeal.main_v0_0)) (v1 : (c : Dev Cert.EvenColsOutKernelIdeal.nD) → Buf (Elt Ideal) ((c.tc : Thread Cert.EvenColsOutKernelIdeal.nD Cert.EvenColsOutKernelIdeal.τ).loc Cert.EvenColsOutKernelIdeal.main_v0_1)),
      θ_run (Cert.EvenColsOutKernelIdeal.defs (F := Ideal)) (onTc (τ := Cert.EvenColsOutKernelIdeal.τ) (Cert.EvenColsOutKernelIdeal.main (F := Ideal))) ⟨m, fun _ => 0, g⟩ (fun r => ∀ c : Dev Cert.EvenColsOutKernelIdeal.nD,
          r.2.mem ((c.tc : Thread Cert.EvenColsOutKernelIdeal.nD Cert.EvenColsOutKernelIdeal.τ).loc Cert.EvenColsOutKernelIdeal.main_v0_0) = v0 c
          ∧ r.2.mem ((c.tc : Thread Cert.EvenColsOutKernelIdeal.nD Cert.EvenColsOutKernelIdeal.τ).loc Cert.EvenColsOutKernelIdeal.main_v0_1) = v1 c
          ∧ r.2.mem ((c.tc : Thread Cert.EvenColsOutKernelIdeal.nD Cert.EvenColsOutKernelIdeal.τ).loc Cert.EvenColsOutKernelIdeal.main_arg0) = m ((c.tc : Thread Cert.EvenColsOutKernelIdeal.nD Cert.EvenColsOutKernelIdeal.τ).loc Cert.EvenColsOutKernelIdeal.main_arg0)
          ∧ r.2.mem ((c.tc : Thread Cert.EvenColsOutKernelIdeal.nD Cert.EvenColsOutKernelIdeal.τ).loc Cert.EvenColsOutKernelIdeal.main_arg1) = m ((c.tc : Thread Cert.EvenColsOutKernelIdeal.nD Cert.EvenColsOutKernelIdeal.τ).loc Cert.EvenColsOutKernelIdeal.main_arg1)
          ∧ r.2.mem ((c.tc : Thread Cert.EvenColsOutKernelIdeal.nD Cert.EvenColsOutKernelIdeal.τ).loc Cert.EvenColsOutKernelIdeal.main_arg2) = m ((c.tc : Thread Cert.EvenColsOutKernelIdeal.nD Cert.EvenColsOutKernelIdeal.τ).loc Cert.EvenColsOutKernelIdeal.main_arg2)
          ∧ r.2.mem ((c.tc : Thread Cert.EvenColsOutKernelIdeal.nD Cert.EvenColsOutKernelIdeal.τ).loc Cert.EvenColsOutKernelIdeal.main_arg3) = m ((c.tc : Thread Cert.EvenColsOutKernelIdeal.nD Cert.EvenColsOutKernelIdeal.τ).loc Cert.EvenColsOutKernelIdeal.main_arg3))
      ∧ θ_run (Cert.EvenColsOutReferenceIdeal.defs (F := Ideal)) (onTc (τ := Cert.EvenColsOutReferenceIdeal.τ) (Cert.EvenColsOutReferenceIdeal.main (F := Ideal))) ⟨m', fun _ => 0, g'⟩ (fun r => ∀ c : Dev Cert.EvenColsOutReferenceIdeal.nD,
          r.2.mem ((c.tc : Thread Cert.EvenColsOutReferenceIdeal.nD Cert.EvenColsOutReferenceIdeal.τ).loc Cert.EvenColsOutReferenceIdeal.main_v4) = v0 c
          ∧ r.2.mem ((c.tc : Thread Cert.EvenColsOutReferenceIdeal.nD Cert.EvenColsOutReferenceIdeal.τ).loc Cert.EvenColsOutReferenceIdeal.main_v6) = v1 c
          ∧ r.2.mem ((c.tc : Thread Cert.EvenColsOutReferenceIdeal.nD Cert.EvenColsOutReferenceIdeal.τ).loc Cert.EvenColsOutReferenceIdeal.main_arg0) = m' ((c.tc : Thread Cert.EvenColsOutReferenceIdeal.nD Cert.EvenColsOutReferenceIdeal.τ).loc Cert.EvenColsOutReferenceIdeal.main_arg0)
          ∧ r.2.mem ((c.tc : Thread Cert.EvenColsOutReferenceIdeal.nD Cert.EvenColsOutReferenceIdeal.τ).loc Cert.EvenColsOutReferenceIdeal.main_arg1) = m' ((c.tc : Thread Cert.EvenColsOutReferenceIdeal.nD Cert.EvenColsOutReferenceIdeal.τ).loc Cert.EvenColsOutReferenceIdeal.main_arg1)
          ∧ r.2.mem ((c.tc : Thread Cert.EvenColsOutReferenceIdeal.nD Cert.EvenColsOutReferenceIdeal.τ).loc Cert.EvenColsOutReferenceIdeal.main_arg2) = m' ((c.tc : Thread Cert.EvenColsOutReferenceIdeal.nD Cert.EvenColsOutReferenceIdeal.τ).loc Cert.EvenColsOutReferenceIdeal.main_arg2)
          ∧ r.2.mem ((c.tc : Thread Cert.EvenColsOutReferenceIdeal.nD Cert.EvenColsOutReferenceIdeal.τ).loc Cert.EvenColsOutReferenceIdeal.main_arg3) = m' ((c.tc : Thread Cert.EvenColsOutReferenceIdeal.nD Cert.EvenColsOutReferenceIdeal.τ).loc Cert.EvenColsOutReferenceIdeal.main_arg3))

def preserves_OddColsOutKernel_OddColsOutKernelIdeal : Prop :=
  True

def algebraic_OddColsOutKernelIdeal_OddColsOutReferenceIdeal [hOddColsOutKernelIdeal : Cert.OddColsOutKernelIdeal.Facts] [hOddColsOutReferenceIdeal : Cert.OddColsOutReferenceIdeal.Facts] : Prop :=
  ∀ (m : (ℓ : Loc Cert.OddColsOutKernelIdeal.nD Cert.OddColsOutKernelIdeal.τ Cert.OddColsOutKernelIdeal.sig) → Buf (Elt Ideal) ℓ) (g : Dev Cert.OddColsOutKernelIdeal.nD → PrngReg)
    (m' : (ℓ : Loc Cert.OddColsOutReferenceIdeal.nD Cert.OddColsOutReferenceIdeal.τ Cert.OddColsOutReferenceIdeal.sig) → Buf (Elt Ideal) ℓ) (g' : Dev Cert.OddColsOutReferenceIdeal.nD → PrngReg), Pre_OddColsOutKernelIdeal m →
    (∀ c : Dev Cert.OddColsOutKernelIdeal.nD,
      m' ((c.tc : Thread Cert.OddColsOutReferenceIdeal.nD Cert.OddColsOutReferenceIdeal.τ).loc Cert.OddColsOutReferenceIdeal.main_arg0) = m ((c.tc : Thread Cert.OddColsOutKernelIdeal.nD Cert.OddColsOutKernelIdeal.τ).loc Cert.OddColsOutKernelIdeal.main_arg0)
      ∧ m' ((c.tc : Thread Cert.OddColsOutReferenceIdeal.nD Cert.OddColsOutReferenceIdeal.τ).loc Cert.OddColsOutReferenceIdeal.main_arg1) = m ((c.tc : Thread Cert.OddColsOutKernelIdeal.nD Cert.OddColsOutKernelIdeal.τ).loc Cert.OddColsOutKernelIdeal.main_arg1)
      ∧ m' ((c.tc : Thread Cert.OddColsOutReferenceIdeal.nD Cert.OddColsOutReferenceIdeal.τ).loc Cert.OddColsOutReferenceIdeal.main_arg2) = m ((c.tc : Thread Cert.OddColsOutKernelIdeal.nD Cert.OddColsOutKernelIdeal.τ).loc Cert.OddColsOutKernelIdeal.main_arg2)) →
    ∃ (v0 : (c : Dev Cert.OddColsOutKernelIdeal.nD) → Buf (Elt Ideal) ((c.tc : Thread Cert.OddColsOutKernelIdeal.nD Cert.OddColsOutKernelIdeal.τ).loc Cert.OddColsOutKernelIdeal.main_v0_0)) (v1 : (c : Dev Cert.OddColsOutKernelIdeal.nD) → Buf (Elt Ideal) ((c.tc : Thread Cert.OddColsOutKernelIdeal.nD Cert.OddColsOutKernelIdeal.τ).loc Cert.OddColsOutKernelIdeal.main_v0_1)),
      θ_run (Cert.OddColsOutKernelIdeal.defs (F := Ideal)) (onTc (τ := Cert.OddColsOutKernelIdeal.τ) (Cert.OddColsOutKernelIdeal.main (F := Ideal))) ⟨m, fun _ => 0, g⟩ (fun r => ∀ c : Dev Cert.OddColsOutKernelIdeal.nD,
          r.2.mem ((c.tc : Thread Cert.OddColsOutKernelIdeal.nD Cert.OddColsOutKernelIdeal.τ).loc Cert.OddColsOutKernelIdeal.main_v0_0) = v0 c
          ∧ r.2.mem ((c.tc : Thread Cert.OddColsOutKernelIdeal.nD Cert.OddColsOutKernelIdeal.τ).loc Cert.OddColsOutKernelIdeal.main_v0_1) = v1 c
          ∧ r.2.mem ((c.tc : Thread Cert.OddColsOutKernelIdeal.nD Cert.OddColsOutKernelIdeal.τ).loc Cert.OddColsOutKernelIdeal.main_arg0) = m ((c.tc : Thread Cert.OddColsOutKernelIdeal.nD Cert.OddColsOutKernelIdeal.τ).loc Cert.OddColsOutKernelIdeal.main_arg0)
          ∧ r.2.mem ((c.tc : Thread Cert.OddColsOutKernelIdeal.nD Cert.OddColsOutKernelIdeal.τ).loc Cert.OddColsOutKernelIdeal.main_arg1) = m ((c.tc : Thread Cert.OddColsOutKernelIdeal.nD Cert.OddColsOutKernelIdeal.τ).loc Cert.OddColsOutKernelIdeal.main_arg1)
          ∧ r.2.mem ((c.tc : Thread Cert.OddColsOutKernelIdeal.nD Cert.OddColsOutKernelIdeal.τ).loc Cert.OddColsOutKernelIdeal.main_arg2) = m ((c.tc : Thread Cert.OddColsOutKernelIdeal.nD Cert.OddColsOutKernelIdeal.τ).loc Cert.OddColsOutKernelIdeal.main_arg2))
      ∧ θ_run (Cert.OddColsOutReferenceIdeal.defs (F := Ideal)) (onTc (τ := Cert.OddColsOutReferenceIdeal.τ) (Cert.OddColsOutReferenceIdeal.main (F := Ideal))) ⟨m', fun _ => 0, g'⟩ (fun r => ∀ c : Dev Cert.OddColsOutReferenceIdeal.nD,
          r.2.mem ((c.tc : Thread Cert.OddColsOutReferenceIdeal.nD Cert.OddColsOutReferenceIdeal.τ).loc Cert.OddColsOutReferenceIdeal.main_v3) = v0 c
          ∧ r.2.mem ((c.tc : Thread Cert.OddColsOutReferenceIdeal.nD Cert.OddColsOutReferenceIdeal.τ).loc Cert.OddColsOutReferenceIdeal.main_v5) = v1 c
          ∧ r.2.mem ((c.tc : Thread Cert.OddColsOutReferenceIdeal.nD Cert.OddColsOutReferenceIdeal.τ).loc Cert.OddColsOutReferenceIdeal.main_arg0) = m' ((c.tc : Thread Cert.OddColsOutReferenceIdeal.nD Cert.OddColsOutReferenceIdeal.τ).loc Cert.OddColsOutReferenceIdeal.main_arg0)
          ∧ r.2.mem ((c.tc : Thread Cert.OddColsOutReferenceIdeal.nD Cert.OddColsOutReferenceIdeal.τ).loc Cert.OddColsOutReferenceIdeal.main_arg1) = m' ((c.tc : Thread Cert.OddColsOutReferenceIdeal.nD Cert.OddColsOutReferenceIdeal.τ).loc Cert.OddColsOutReferenceIdeal.main_arg1)
          ∧ r.2.mem ((c.tc : Thread Cert.OddColsOutReferenceIdeal.nD Cert.OddColsOutReferenceIdeal.τ).loc Cert.OddColsOutReferenceIdeal.main_arg2) = m' ((c.tc : Thread Cert.OddColsOutReferenceIdeal.nD Cert.OddColsOutReferenceIdeal.τ).loc Cert.OddColsOutReferenceIdeal.main_arg2))

def preserves_LogfKernel_LogfKernelIdeal : Prop :=
  True

def algebraic_LogfKernelIdeal_LogfReferenceIdeal [hLogfKernelIdeal : Cert.LogfKernelIdeal.Facts] [hLogfReferenceIdeal : Cert.LogfReferenceIdeal.Facts] : Prop :=
  ∀ (m : (ℓ : Loc Cert.LogfKernelIdeal.nD Cert.LogfKernelIdeal.τ Cert.LogfKernelIdeal.sig) → Buf (Elt Ideal) ℓ) (g : Dev Cert.LogfKernelIdeal.nD → PrngReg)
    (m' : (ℓ : Loc Cert.LogfReferenceIdeal.nD Cert.LogfReferenceIdeal.τ Cert.LogfReferenceIdeal.sig) → Buf (Elt Ideal) ℓ) (g' : Dev Cert.LogfReferenceIdeal.nD → PrngReg), Pre_LogfKernelIdeal m →
    (∀ c : Dev Cert.LogfKernelIdeal.nD,
      m' ((c.tc : Thread Cert.LogfReferenceIdeal.nD Cert.LogfReferenceIdeal.τ).loc Cert.LogfReferenceIdeal.main_arg0) = m ((c.tc : Thread Cert.LogfKernelIdeal.nD Cert.LogfKernelIdeal.τ).loc Cert.LogfKernelIdeal.main_arg0)
      ∧ m' ((c.tc : Thread Cert.LogfReferenceIdeal.nD Cert.LogfReferenceIdeal.τ).loc Cert.LogfReferenceIdeal.main_arg1) = m ((c.tc : Thread Cert.LogfKernelIdeal.nD Cert.LogfKernelIdeal.τ).loc Cert.LogfKernelIdeal.main_arg1)) →
    ∃ (v0 : (c : Dev Cert.LogfKernelIdeal.nD) → Buf (Elt Ideal) ((c.tc : Thread Cert.LogfKernelIdeal.nD Cert.LogfKernelIdeal.τ).loc Cert.LogfKernelIdeal.main_v2)),
      θ_run (Cert.LogfKernelIdeal.defs (F := Ideal)) (onTc (τ := Cert.LogfKernelIdeal.τ) (Cert.LogfKernelIdeal.main (F := Ideal))) ⟨m, fun _ => 0, g⟩ (fun r => ∀ c : Dev Cert.LogfKernelIdeal.nD,
          r.2.mem ((c.tc : Thread Cert.LogfKernelIdeal.nD Cert.LogfKernelIdeal.τ).loc Cert.LogfKernelIdeal.main_v2) = v0 c
          ∧ r.2.mem ((c.tc : Thread Cert.LogfKernelIdeal.nD Cert.LogfKernelIdeal.τ).loc Cert.LogfKernelIdeal.main_arg0) = m ((c.tc : Thread Cert.LogfKernelIdeal.nD Cert.LogfKernelIdeal.τ).loc Cert.LogfKernelIdeal.main_arg0)
          ∧ r.2.mem ((c.tc : Thread Cert.LogfKernelIdeal.nD Cert.LogfKernelIdeal.τ).loc Cert.LogfKernelIdeal.main_arg1) = m ((c.tc : Thread Cert.LogfKernelIdeal.nD Cert.LogfKernelIdeal.τ).loc Cert.LogfKernelIdeal.main_arg1))
      ∧ θ_run (Cert.LogfReferenceIdeal.defs (F := Ideal)) (onTc (τ := Cert.LogfReferenceIdeal.τ) (Cert.LogfReferenceIdeal.main (F := Ideal))) ⟨m', fun _ => 0, g'⟩ (fun r => ∀ c : Dev Cert.LogfReferenceIdeal.nD,
          r.2.mem ((c.tc : Thread Cert.LogfReferenceIdeal.nD Cert.LogfReferenceIdeal.τ).loc Cert.LogfReferenceIdeal.main_v4) = v0 c
          ∧ r.2.mem ((c.tc : Thread Cert.LogfReferenceIdeal.nD Cert.LogfReferenceIdeal.τ).loc Cert.LogfReferenceIdeal.main_arg0) = m' ((c.tc : Thread Cert.LogfReferenceIdeal.nD Cert.LogfReferenceIdeal.τ).loc Cert.LogfReferenceIdeal.main_arg0)
          ∧ r.2.mem ((c.tc : Thread Cert.LogfReferenceIdeal.nD Cert.LogfReferenceIdeal.τ).loc Cert.LogfReferenceIdeal.main_arg1) = m' ((c.tc : Thread Cert.LogfReferenceIdeal.nD Cert.LogfReferenceIdeal.τ).loc Cert.LogfReferenceIdeal.main_arg1))

def preserves_LogfCumsumKernel_LogfCumsumKernelIdeal : Prop :=
  True

def algebraic_LogfCumsumKernelIdeal_LogfCumsumReferenceIdeal [hLogfCumsumKernelIdeal : Cert.LogfCumsumKernelIdeal.Facts] [hLogfCumsumReferenceIdeal : Cert.LogfCumsumReferenceIdeal.Facts] : Prop :=
  ∀ (m : (ℓ : Loc Cert.LogfCumsumKernelIdeal.nD Cert.LogfCumsumKernelIdeal.τ Cert.LogfCumsumKernelIdeal.sig) → Buf (Elt Ideal) ℓ) (g : Dev Cert.LogfCumsumKernelIdeal.nD → PrngReg)
    (m' : (ℓ : Loc Cert.LogfCumsumReferenceIdeal.nD Cert.LogfCumsumReferenceIdeal.τ Cert.LogfCumsumReferenceIdeal.sig) → Buf (Elt Ideal) ℓ) (g' : Dev Cert.LogfCumsumReferenceIdeal.nD → PrngReg), Pre_LogfCumsumKernelIdeal m →
    (∀ c : Dev Cert.LogfCumsumKernelIdeal.nD,
      m' ((c.tc : Thread Cert.LogfCumsumReferenceIdeal.nD Cert.LogfCumsumReferenceIdeal.τ).loc Cert.LogfCumsumReferenceIdeal.main_arg0) = m ((c.tc : Thread Cert.LogfCumsumKernelIdeal.nD Cert.LogfCumsumKernelIdeal.τ).loc Cert.LogfCumsumKernelIdeal.main_arg0)
      ∧ m' ((c.tc : Thread Cert.LogfCumsumReferenceIdeal.nD Cert.LogfCumsumReferenceIdeal.τ).loc Cert.LogfCumsumReferenceIdeal.main_arg1) = m ((c.tc : Thread Cert.LogfCumsumKernelIdeal.nD Cert.LogfCumsumKernelIdeal.τ).loc Cert.LogfCumsumKernelIdeal.main_arg1)) →
    ∃ (v0 : (c : Dev Cert.LogfCumsumKernelIdeal.nD) → Buf (Elt Ideal) ((c.tc : Thread Cert.LogfCumsumKernelIdeal.nD Cert.LogfCumsumKernelIdeal.τ).loc Cert.LogfCumsumKernelIdeal.main_v7_0)) (v1 : (c : Dev Cert.LogfCumsumKernelIdeal.nD) → Buf (Elt Ideal) ((c.tc : Thread Cert.LogfCumsumKernelIdeal.nD Cert.LogfCumsumKernelIdeal.τ).loc Cert.LogfCumsumKernelIdeal.main_v7_1)),
      θ_run (Cert.LogfCumsumKernelIdeal.defs (F := Ideal)) (onTc (τ := Cert.LogfCumsumKernelIdeal.τ) (Cert.LogfCumsumKernelIdeal.main (F := Ideal))) ⟨m, fun _ => 0, g⟩ (fun r => ∀ c : Dev Cert.LogfCumsumKernelIdeal.nD,
          r.2.mem ((c.tc : Thread Cert.LogfCumsumKernelIdeal.nD Cert.LogfCumsumKernelIdeal.τ).loc Cert.LogfCumsumKernelIdeal.main_v7_0) = v0 c
          ∧ r.2.mem ((c.tc : Thread Cert.LogfCumsumKernelIdeal.nD Cert.LogfCumsumKernelIdeal.τ).loc Cert.LogfCumsumKernelIdeal.main_v7_1) = v1 c
          ∧ r.2.mem ((c.tc : Thread Cert.LogfCumsumKernelIdeal.nD Cert.LogfCumsumKernelIdeal.τ).loc Cert.LogfCumsumKernelIdeal.main_arg0) = m ((c.tc : Thread Cert.LogfCumsumKernelIdeal.nD Cert.LogfCumsumKernelIdeal.τ).loc Cert.LogfCumsumKernelIdeal.main_arg0)
          ∧ r.2.mem ((c.tc : Thread Cert.LogfCumsumKernelIdeal.nD Cert.LogfCumsumKernelIdeal.τ).loc Cert.LogfCumsumKernelIdeal.main_arg1) = m ((c.tc : Thread Cert.LogfCumsumKernelIdeal.nD Cert.LogfCumsumKernelIdeal.τ).loc Cert.LogfCumsumKernelIdeal.main_arg1))
      ∧ θ_run (Cert.LogfCumsumReferenceIdeal.defs (F := Ideal)) (onTc (τ := Cert.LogfCumsumReferenceIdeal.τ) (Cert.LogfCumsumReferenceIdeal.main (F := Ideal))) ⟨m', fun _ => 0, g'⟩ (fun r => ∀ c : Dev Cert.LogfCumsumReferenceIdeal.nD,
          r.2.mem ((c.tc : Thread Cert.LogfCumsumReferenceIdeal.nD Cert.LogfCumsumReferenceIdeal.τ).loc Cert.LogfCumsumReferenceIdeal.main_v4) = v0 c
          ∧ r.2.mem ((c.tc : Thread Cert.LogfCumsumReferenceIdeal.nD Cert.LogfCumsumReferenceIdeal.τ).loc Cert.LogfCumsumReferenceIdeal.main_v7) = v1 c
          ∧ r.2.mem ((c.tc : Thread Cert.LogfCumsumReferenceIdeal.nD Cert.LogfCumsumReferenceIdeal.τ).loc Cert.LogfCumsumReferenceIdeal.main_arg0) = m' ((c.tc : Thread Cert.LogfCumsumReferenceIdeal.nD Cert.LogfCumsumReferenceIdeal.τ).loc Cert.LogfCumsumReferenceIdeal.main_arg0)
          ∧ r.2.mem ((c.tc : Thread Cert.LogfCumsumReferenceIdeal.nD Cert.LogfCumsumReferenceIdeal.τ).loc Cert.LogfCumsumReferenceIdeal.main_arg1) = m' ((c.tc : Thread Cert.LogfCumsumReferenceIdeal.nD Cert.LogfCumsumReferenceIdeal.τ).loc Cert.LogfCumsumReferenceIdeal.main_arg1))

def preserves_StickKernel_StickKernelIdeal : Prop :=
  True

def algebraic_StickKernelIdeal_StickReferenceIdeal [hStickKernelIdeal : Cert.StickKernelIdeal.Facts] [hStickReferenceIdeal : Cert.StickReferenceIdeal.Facts] : Prop :=
  ∀ (m : (ℓ : Loc Cert.StickKernelIdeal.nD Cert.StickKernelIdeal.τ Cert.StickKernelIdeal.sig) → Buf (Elt Ideal) ℓ) (g : Dev Cert.StickKernelIdeal.nD → PrngReg)
    (m' : (ℓ : Loc Cert.StickReferenceIdeal.nD Cert.StickReferenceIdeal.τ Cert.StickReferenceIdeal.sig) → Buf (Elt Ideal) ℓ) (g' : Dev Cert.StickReferenceIdeal.nD → PrngReg), Pre_StickKernelIdeal m →
    (∀ c : Dev Cert.StickKernelIdeal.nD,
      m' ((c.tc : Thread Cert.StickReferenceIdeal.nD Cert.StickReferenceIdeal.τ).loc Cert.StickReferenceIdeal.main_arg0) = m ((c.tc : Thread Cert.StickKernelIdeal.nD Cert.StickKernelIdeal.τ).loc Cert.StickKernelIdeal.main_arg0)
      ∧ m' ((c.tc : Thread Cert.StickReferenceIdeal.nD Cert.StickReferenceIdeal.τ).loc Cert.StickReferenceIdeal.main_arg1) = m ((c.tc : Thread Cert.StickKernelIdeal.nD Cert.StickKernelIdeal.τ).loc Cert.StickKernelIdeal.main_arg1)
      ∧ m' ((c.tc : Thread Cert.StickReferenceIdeal.nD Cert.StickReferenceIdeal.τ).loc Cert.StickReferenceIdeal.main_arg2) = m ((c.tc : Thread Cert.StickKernelIdeal.nD Cert.StickKernelIdeal.τ).loc Cert.StickKernelIdeal.main_arg2)) →
    ∃ (v0 : (c : Dev Cert.StickKernelIdeal.nD) → Buf (Elt Ideal) ((c.tc : Thread Cert.StickKernelIdeal.nD Cert.StickKernelIdeal.τ).loc Cert.StickKernelIdeal.main_v0)),
      θ_run (Cert.StickKernelIdeal.defs (F := Ideal)) (onTc (τ := Cert.StickKernelIdeal.τ) (Cert.StickKernelIdeal.main (F := Ideal))) ⟨m, fun _ => 0, g⟩ (fun r => ∀ c : Dev Cert.StickKernelIdeal.nD,
          r.2.mem ((c.tc : Thread Cert.StickKernelIdeal.nD Cert.StickKernelIdeal.τ).loc Cert.StickKernelIdeal.main_v0) = v0 c
          ∧ r.2.mem ((c.tc : Thread Cert.StickKernelIdeal.nD Cert.StickKernelIdeal.τ).loc Cert.StickKernelIdeal.main_arg0) = m ((c.tc : Thread Cert.StickKernelIdeal.nD Cert.StickKernelIdeal.τ).loc Cert.StickKernelIdeal.main_arg0)
          ∧ r.2.mem ((c.tc : Thread Cert.StickKernelIdeal.nD Cert.StickKernelIdeal.τ).loc Cert.StickKernelIdeal.main_arg1) = m ((c.tc : Thread Cert.StickKernelIdeal.nD Cert.StickKernelIdeal.τ).loc Cert.StickKernelIdeal.main_arg1)
          ∧ r.2.mem ((c.tc : Thread Cert.StickKernelIdeal.nD Cert.StickKernelIdeal.τ).loc Cert.StickKernelIdeal.main_arg2) = m ((c.tc : Thread Cert.StickKernelIdeal.nD Cert.StickKernelIdeal.τ).loc Cert.StickKernelIdeal.main_arg2))
      ∧ θ_run (Cert.StickReferenceIdeal.defs (F := Ideal)) (onTc (τ := Cert.StickReferenceIdeal.τ) (Cert.StickReferenceIdeal.main (F := Ideal))) ⟨m', fun _ => 0, g'⟩ (fun r => ∀ c : Dev Cert.StickReferenceIdeal.nD,
          r.2.mem ((c.tc : Thread Cert.StickReferenceIdeal.nD Cert.StickReferenceIdeal.τ).loc Cert.StickReferenceIdeal.main_v41) = v0 c
          ∧ r.2.mem ((c.tc : Thread Cert.StickReferenceIdeal.nD Cert.StickReferenceIdeal.τ).loc Cert.StickReferenceIdeal.main_arg0) = m' ((c.tc : Thread Cert.StickReferenceIdeal.nD Cert.StickReferenceIdeal.τ).loc Cert.StickReferenceIdeal.main_arg0)
          ∧ r.2.mem ((c.tc : Thread Cert.StickReferenceIdeal.nD Cert.StickReferenceIdeal.τ).loc Cert.StickReferenceIdeal.main_arg1) = m' ((c.tc : Thread Cert.StickReferenceIdeal.nD Cert.StickReferenceIdeal.τ).loc Cert.StickReferenceIdeal.main_arg1)
          ∧ r.2.mem ((c.tc : Thread Cert.StickReferenceIdeal.nD Cert.StickReferenceIdeal.τ).loc Cert.StickReferenceIdeal.main_arg2) = m' ((c.tc : Thread Cert.StickReferenceIdeal.nD Cert.StickReferenceIdeal.τ).loc Cert.StickReferenceIdeal.main_arg2))

def preserves_FoxKernel_FoxKernelIdeal : Prop :=
  True

def algebraic_FoxKernelIdeal_FoxReferenceIdeal [hFoxKernelIdeal : Cert.FoxKernelIdeal.Facts] [hFoxReferenceIdeal : Cert.FoxReferenceIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)
      ∧ m' ((c.tc : Thread Cert.FoxReferenceIdeal.nD Cert.FoxReferenceIdeal.τ).loc Cert.FoxReferenceIdeal.main_arg3) = m ((c.tc : Thread Cert.FoxKernelIdeal.nD Cert.FoxKernelIdeal.τ).loc Cert.FoxKernelIdeal.main_arg3)
      ∧ m' ((c.tc : Thread Cert.FoxReferenceIdeal.nD Cert.FoxReferenceIdeal.τ).loc Cert.FoxReferenceIdeal.main_arg4) = m ((c.tc : Thread Cert.FoxKernelIdeal.nD Cert.FoxKernelIdeal.τ).loc Cert.FoxKernelIdeal.main_arg4)) →
    ∃ (v0 : (c : Dev Cert.FoxKernelIdeal.nD) → Buf (Elt Ideal) ((c.tc : Thread Cert.FoxKernelIdeal.nD Cert.FoxKernelIdeal.τ).loc Cert.FoxKernelIdeal.main_v0)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v0) = v0 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2)
          ∧ r.2.mem ((c.tc : Thread Cert.FoxKernelIdeal.nD Cert.FoxKernelIdeal.τ).loc Cert.FoxKernelIdeal.main_arg3) = m ((c.tc : Thread Cert.FoxKernelIdeal.nD Cert.FoxKernelIdeal.τ).loc Cert.FoxKernelIdeal.main_arg3)
          ∧ r.2.mem ((c.tc : Thread Cert.FoxKernelIdeal.nD Cert.FoxKernelIdeal.τ).loc Cert.FoxKernelIdeal.main_arg4) = m ((c.tc : Thread Cert.FoxKernelIdeal.nD Cert.FoxKernelIdeal.τ).loc Cert.FoxKernelIdeal.main_arg4))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v54) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3)
          ∧ r.2.mem ((c.tc : Thread Cert.FoxReferenceIdeal.nD Cert.FoxReferenceIdeal.τ).loc Cert.FoxReferenceIdeal.main_arg4) = m' ((c.tc : Thread Cert.FoxReferenceIdeal.nD Cert.FoxReferenceIdeal.τ).loc Cert.FoxReferenceIdeal.main_arg4))

def Claim : Prop :=
  ∃ (hRecKernel : Cert.RecKernel.Facts) (hRecKernelIdeal : Cert.RecKernelIdeal.Facts) (hRecReferenceIdeal : Cert.RecReferenceIdeal.Facts) (hEvenQueryKernel : Cert.EvenQueryKernel.Facts) (hEvenQueryKernelIdeal : Cert.EvenQueryKernelIdeal.Facts) (hEvenQueryReferenceIdeal : Cert.EvenQueryReferenceIdeal.Facts) (hEvenKeyKernel : Cert.EvenKeyKernel.Facts) (hEvenKeyKernelIdeal : Cert.EvenKeyKernelIdeal.Facts) (hEvenKeyReferenceIdeal : Cert.EvenKeyReferenceIdeal.Facts) (hEvenValueKernel : Cert.EvenValueKernel.Facts) (hEvenValueKernelIdeal : Cert.EvenValueKernelIdeal.Facts) (hEvenValueReferenceIdeal : Cert.EvenValueReferenceIdeal.Facts) (hEvenGateKernel : Cert.EvenGateKernel.Facts) (hEvenGateKernelIdeal : Cert.EvenGateKernelIdeal.Facts) (hEvenGateReferenceIdeal : Cert.EvenGateReferenceIdeal.Facts) (hEvenOutKernel : Cert.EvenOutKernel.Facts) (hEvenOutKernelIdeal : Cert.EvenOutKernelIdeal.Facts) (hEvenOutReferenceIdeal : Cert.EvenOutReferenceIdeal.Facts) (hOddQueryKernel : Cert.OddQueryKernel.Facts) (hOddQueryKernelIdeal : Cert.OddQueryKernelIdeal.Facts) (hOddQueryReferenceIdeal : Cert.OddQueryReferenceIdeal.Facts) (hOddKeyKernel : Cert.OddKeyKernel.Facts) (hOddKeyKernelIdeal : Cert.OddKeyKernelIdeal.Facts) (hOddKeyReferenceIdeal : Cert.OddKeyReferenceIdeal.Facts) (hOddValueKernel : Cert.OddValueKernel.Facts) (hOddValueKernelIdeal : Cert.OddValueKernelIdeal.Facts) (hOddValueReferenceIdeal : Cert.OddValueReferenceIdeal.Facts) (hOddGateKernel : Cert.OddGateKernel.Facts) (hOddGateKernelIdeal : Cert.OddGateKernelIdeal.Facts) (hOddGateReferenceIdeal : Cert.OddGateReferenceIdeal.Facts) (hOddForgetKernel : Cert.OddForgetKernel.Facts) (hOddForgetKernelIdeal : Cert.OddForgetKernelIdeal.Facts) (hOddForgetReferenceIdeal : Cert.OddForgetReferenceIdeal.Facts) (hOddOutKernel : Cert.OddOutKernel.Facts) (hOddOutKernelIdeal : Cert.OddOutKernelIdeal.Facts) (hOddOutReferenceIdeal : Cert.OddOutReferenceIdeal.Facts) (hEvenColsKernel : Cert.EvenColsKernel.Facts) (hEvenColsKernelIdeal : Cert.EvenColsKernelIdeal.Facts) (hEvenColsReferenceIdeal : Cert.EvenColsReferenceIdeal.Facts) (hEvenColsOutKernel : Cert.EvenColsOutKernel.Facts) (hEvenColsOutKernelIdeal : Cert.EvenColsOutKernelIdeal.Facts) (hEvenColsOutReferenceIdeal : Cert.EvenColsOutReferenceIdeal.Facts) (hOddColsOutKernel : Cert.OddColsOutKernel.Facts) (hOddColsOutKernelIdeal : Cert.OddColsOutKernelIdeal.Facts) (hOddColsOutReferenceIdeal : Cert.OddColsOutReferenceIdeal.Facts) (hLogfKernel : Cert.LogfKernel.Facts) (hLogfKernelIdeal : Cert.LogfKernelIdeal.Facts) (hLogfReferenceIdeal : Cert.LogfReferenceIdeal.Facts) (hLogfCumsumKernel : Cert.LogfCumsumKernel.Facts) (hLogfCumsumKernelIdeal : Cert.LogfCumsumKernelIdeal.Facts) (hLogfCumsumReferenceIdeal : Cert.LogfCumsumReferenceIdeal.Facts) (hStickKernel : Cert.StickKernel.Facts) (hStickKernelIdeal : Cert.StickKernelIdeal.Facts) (hStickReferenceIdeal : Cert.StickReferenceIdeal.Facts) (hFoxKernel : Cert.FoxKernel.Facts) (hFoxKernelIdeal : Cert.FoxKernelIdeal.Facts) (hFoxReferenceIdeal : Cert.FoxReferenceIdeal.Facts),
    quiescent_RecKernel (hRecKernel := hRecKernel)
    ∧ quiescent_RecKernelIdeal (hRecKernelIdeal := hRecKernelIdeal)
    ∧ quiescent_RecReferenceIdeal (hRecReferenceIdeal := hRecReferenceIdeal)
    ∧ quiescent_EvenQueryKernel (hEvenQueryKernel := hEvenQueryKernel)
    ∧ quiescent_EvenQueryKernelIdeal (hEvenQueryKernelIdeal := hEvenQueryKernelIdeal)
    ∧ quiescent_EvenQueryReferenceIdeal (hEvenQueryReferenceIdeal := hEvenQueryReferenceIdeal)
    ∧ quiescent_EvenKeyKernel (hEvenKeyKernel := hEvenKeyKernel)
    ∧ quiescent_EvenKeyKernelIdeal (hEvenKeyKernelIdeal := hEvenKeyKernelIdeal)
    ∧ quiescent_EvenKeyReferenceIdeal (hEvenKeyReferenceIdeal := hEvenKeyReferenceIdeal)
    ∧ quiescent_EvenValueKernel (hEvenValueKernel := hEvenValueKernel)
    ∧ quiescent_EvenValueKernelIdeal (hEvenValueKernelIdeal := hEvenValueKernelIdeal)
    ∧ quiescent_EvenValueReferenceIdeal (hEvenValueReferenceIdeal := hEvenValueReferenceIdeal)
    ∧ quiescent_EvenGateKernel (hEvenGateKernel := hEvenGateKernel)
    ∧ quiescent_EvenGateKernelIdeal (hEvenGateKernelIdeal := hEvenGateKernelIdeal)
    ∧ quiescent_EvenGateReferenceIdeal (hEvenGateReferenceIdeal := hEvenGateReferenceIdeal)
    ∧ quiescent_EvenOutKernel (hEvenOutKernel := hEvenOutKernel)
    ∧ quiescent_EvenOutKernelIdeal (hEvenOutKernelIdeal := hEvenOutKernelIdeal)
    ∧ quiescent_EvenOutReferenceIdeal (hEvenOutReferenceIdeal := hEvenOutReferenceIdeal)
    ∧ quiescent_OddQueryKernel (hOddQueryKernel := hOddQueryKernel)
    ∧ quiescent_OddQueryKernelIdeal (hOddQueryKernelIdeal := hOddQueryKernelIdeal)
    ∧ quiescent_OddQueryReferenceIdeal (hOddQueryReferenceIdeal := hOddQueryReferenceIdeal)
    ∧ quiescent_OddKeyKernel (hOddKeyKernel := hOddKeyKernel)
    ∧ quiescent_OddKeyKernelIdeal (hOddKeyKernelIdeal := hOddKeyKernelIdeal)
    ∧ quiescent_OddKeyReferenceIdeal (hOddKeyReferenceIdeal := hOddKeyReferenceIdeal)
    ∧ quiescent_OddValueKernel (hOddValueKernel := hOddValueKernel)
    ∧ quiescent_OddValueKernelIdeal (hOddValueKernelIdeal := hOddValueKernelIdeal)
    ∧ quiescent_OddValueReferenceIdeal (hOddValueReferenceIdeal := hOddValueReferenceIdeal)
    ∧ quiescent_OddGateKernel (hOddGateKernel := hOddGateKernel)
    ∧ quiescent_OddGateKernelIdeal (hOddGateKernelIdeal := hOddGateKernelIdeal)
    ∧ quiescent_OddGateReferenceIdeal (hOddGateReferenceIdeal := hOddGateReferenceIdeal)
    ∧ quiescent_OddForgetKernel (hOddForgetKernel := hOddForgetKernel)
    ∧ quiescent_OddForgetKernelIdeal (hOddForgetKernelIdeal := hOddForgetKernelIdeal)
    ∧ quiescent_OddForgetReferenceIdeal (hOddForgetReferenceIdeal := hOddForgetReferenceIdeal)
    ∧ quiescent_OddOutKernel (hOddOutKernel := hOddOutKernel)
    ∧ quiescent_OddOutKernelIdeal (hOddOutKernelIdeal := hOddOutKernelIdeal)
    ∧ quiescent_OddOutReferenceIdeal (hOddOutReferenceIdeal := hOddOutReferenceIdeal)
    ∧ quiescent_EvenColsKernel (hEvenColsKernel := hEvenColsKernel)
    ∧ quiescent_EvenColsKernelIdeal (hEvenColsKernelIdeal := hEvenColsKernelIdeal)
    ∧ quiescent_EvenColsReferenceIdeal (hEvenColsReferenceIdeal := hEvenColsReferenceIdeal)
    ∧ quiescent_EvenColsOutKernel (hEvenColsOutKernel := hEvenColsOutKernel)
    ∧ quiescent_EvenColsOutKernelIdeal (hEvenColsOutKernelIdeal := hEvenColsOutKernelIdeal)
    ∧ quiescent_EvenColsOutReferenceIdeal (hEvenColsOutReferenceIdeal := hEvenColsOutReferenceIdeal)
    ∧ quiescent_OddColsOutKernel (hOddColsOutKernel := hOddColsOutKernel)
    ∧ quiescent_OddColsOutKernelIdeal (hOddColsOutKernelIdeal := hOddColsOutKernelIdeal)
    ∧ quiescent_OddColsOutReferenceIdeal (hOddColsOutReferenceIdeal := hOddColsOutReferenceIdeal)
    ∧ quiescent_LogfKernel (hLogfKernel := hLogfKernel)
    ∧ quiescent_LogfKernelIdeal (hLogfKernelIdeal := hLogfKernelIdeal)
    ∧ quiescent_LogfReferenceIdeal (hLogfReferenceIdeal := hLogfReferenceIdeal)
    ∧ quiescent_LogfCumsumKernel (hLogfCumsumKernel := hLogfCumsumKernel)
    ∧ quiescent_LogfCumsumKernelIdeal (hLogfCumsumKernelIdeal := hLogfCumsumKernelIdeal)
    ∧ quiescent_LogfCumsumReferenceIdeal (hLogfCumsumReferenceIdeal := hLogfCumsumReferenceIdeal)
    ∧ quiescent_StickKernel (hStickKernel := hStickKernel)
    ∧ quiescent_StickKernelIdeal (hStickKernelIdeal := hStickKernelIdeal)
    ∧ quiescent_StickReferenceIdeal (hStickReferenceIdeal := hStickReferenceIdeal)
    ∧ quiescent_FoxKernel (hFoxKernel := hFoxKernel)
    ∧ quiescent_FoxKernelIdeal (hFoxKernelIdeal := hFoxKernelIdeal)
    ∧ quiescent_FoxReferenceIdeal (hFoxReferenceIdeal := hFoxReferenceIdeal)
    ∧ preserves_RecKernel_RecKernelIdeal
    ∧ algebraic_RecKernelIdeal_RecReferenceIdeal (hRecKernelIdeal := hRecKernelIdeal) (hRecReferenceIdeal := hRecReferenceIdeal)
    ∧ preserves_EvenQueryKernel_EvenQueryKernelIdeal
    ∧ algebraic_EvenQueryKernelIdeal_EvenQueryReferenceIdeal (hEvenQueryKernelIdeal := hEvenQueryKernelIdeal) (hEvenQueryReferenceIdeal := hEvenQueryReferenceIdeal)
    ∧ preserves_EvenKeyKernel_EvenKeyKernelIdeal
    ∧ algebraic_EvenKeyKernelIdeal_EvenKeyReferenceIdeal (hEvenKeyKernelIdeal := hEvenKeyKernelIdeal) (hEvenKeyReferenceIdeal := hEvenKeyReferenceIdeal)
    ∧ preserves_EvenValueKernel_EvenValueKernelIdeal
    ∧ algebraic_EvenValueKernelIdeal_EvenValueReferenceIdeal (hEvenValueKernelIdeal := hEvenValueKernelIdeal) (hEvenValueReferenceIdeal := hEvenValueReferenceIdeal)
    ∧ preserves_EvenGateKernel_EvenGateKernelIdeal
    ∧ algebraic_EvenGateKernelIdeal_EvenGateReferenceIdeal (hEvenGateKernelIdeal := hEvenGateKernelIdeal) (hEvenGateReferenceIdeal := hEvenGateReferenceIdeal)
    ∧ preserves_EvenOutKernel_EvenOutKernelIdeal
    ∧ algebraic_EvenOutKernelIdeal_EvenOutReferenceIdeal (hEvenOutKernelIdeal := hEvenOutKernelIdeal) (hEvenOutReferenceIdeal := hEvenOutReferenceIdeal)
    ∧ preserves_OddQueryKernel_OddQueryKernelIdeal
    ∧ algebraic_OddQueryKernelIdeal_OddQueryReferenceIdeal (hOddQueryKernelIdeal := hOddQueryKernelIdeal) (hOddQueryReferenceIdeal := hOddQueryReferenceIdeal)
    ∧ preserves_OddKeyKernel_OddKeyKernelIdeal
    ∧ algebraic_OddKeyKernelIdeal_OddKeyReferenceIdeal (hOddKeyKernelIdeal := hOddKeyKernelIdeal) (hOddKeyReferenceIdeal := hOddKeyReferenceIdeal)
    ∧ preserves_OddValueKernel_OddValueKernelIdeal
    ∧ algebraic_OddValueKernelIdeal_OddValueReferenceIdeal (hOddValueKernelIdeal := hOddValueKernelIdeal) (hOddValueReferenceIdeal := hOddValueReferenceIdeal)
    ∧ preserves_OddGateKernel_OddGateKernelIdeal
    ∧ algebraic_OddGateKernelIdeal_OddGateReferenceIdeal (hOddGateKernelIdeal := hOddGateKernelIdeal) (hOddGateReferenceIdeal := hOddGateReferenceIdeal)
    ∧ preserves_OddForgetKernel_OddForgetKernelIdeal
    ∧ algebraic_OddForgetKernelIdeal_OddForgetReferenceIdeal (hOddForgetKernelIdeal := hOddForgetKernelIdeal) (hOddForgetReferenceIdeal := hOddForgetReferenceIdeal)
    ∧ preserves_OddOutKernel_OddOutKernelIdeal
    ∧ algebraic_OddOutKernelIdeal_OddOutReferenceIdeal (hOddOutKernelIdeal := hOddOutKernelIdeal) (hOddOutReferenceIdeal := hOddOutReferenceIdeal)
    ∧ preserves_EvenColsKernel_EvenColsKernelIdeal
    ∧ algebraic_EvenColsKernelIdeal_EvenColsReferenceIdeal (hEvenColsKernelIdeal := hEvenColsKernelIdeal) (hEvenColsReferenceIdeal := hEvenColsReferenceIdeal)
    ∧ preserves_EvenColsOutKernel_EvenColsOutKernelIdeal
    ∧ algebraic_EvenColsOutKernelIdeal_EvenColsOutReferenceIdeal (hEvenColsOutKernelIdeal := hEvenColsOutKernelIdeal) (hEvenColsOutReferenceIdeal := hEvenColsOutReferenceIdeal)
    ∧ preserves_OddColsOutKernel_OddColsOutKernelIdeal
    ∧ algebraic_OddColsOutKernelIdeal_OddColsOutReferenceIdeal (hOddColsOutKernelIdeal := hOddColsOutKernelIdeal) (hOddColsOutReferenceIdeal := hOddColsOutReferenceIdeal)
    ∧ preserves_LogfKernel_LogfKernelIdeal
    ∧ algebraic_LogfKernelIdeal_LogfReferenceIdeal (hLogfKernelIdeal := hLogfKernelIdeal) (hLogfReferenceIdeal := hLogfReferenceIdeal)
    ∧ preserves_LogfCumsumKernel_LogfCumsumKernelIdeal
    ∧ algebraic_LogfCumsumKernelIdeal_LogfCumsumReferenceIdeal (hLogfCumsumKernelIdeal := hLogfCumsumKernelIdeal) (hLogfCumsumReferenceIdeal := hLogfCumsumReferenceIdeal)
    ∧ preserves_StickKernel_StickKernelIdeal
    ∧ algebraic_StickKernelIdeal_StickReferenceIdeal (hStickKernelIdeal := hStickKernelIdeal) (hStickReferenceIdeal := hStickReferenceIdeal)
    ∧ preserves_FoxKernel_FoxKernelIdeal
    ∧ algebraic_FoxKernelIdeal_FoxReferenceIdeal (hFoxKernelIdeal := hFoxKernelIdeal) (hFoxReferenceIdeal := hFoxReferenceIdeal)
-- ==== RecKernel.lean ====
abbrev S8192x4096 : Shape := ⟨2, ![8192, 4096]⟩
abbrev S1x4096x16384 : Shape := ⟨3, ![1, 4096, 16384]⟩
abbrev S4096x16384 : Shape := ⟨2, ![4096, 16384]⟩
abbrev S8192x8192 : Shape := ⟨2, ![8192, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S8192x4096, .bf16⟩
  | .hbm, ⟨3, _⟩ => ⟨S4096x16384, .f32⟩
  | .hbm, ⟨4, _⟩ => ⟨S4096x16384, .bf16⟩
  | .hbm, ⟨5, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RecKernelIdeal.lean ====
abbrev S8192x4096 : Shape := ⟨2, ![8192, 4096]⟩
abbrev S1x4096x16384 : Shape := ⟨3, ![1, 4096, 16384]⟩
abbrev S4096x16384 : Shape := ⟨2, ![4096, 16384]⟩
abbrev S8192x8192 : Shape := ⟨2, ![8192, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S8192x4096, .bf16⟩
  | .hbm, ⟨3, _⟩ => ⟨S4096x16384, .f32⟩
  | .hbm, ⟨4, _⟩ => ⟨S4096x16384, .bf16⟩
  | .hbm, ⟨5, _⟩ => ⟨S8192x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RecReferenceIdeal.lean ====
abbrev S8192x4096 : Shape := ⟨2, ![8192, 4096]⟩
abbrev S1x4096x16384 : Shape := ⟨3, ![1, 4096, 16384]⟩
abbrev S4096x16384 : Shape := ⟨2, ![4096, 16384]⟩
abbrev S8192x16384 : Shape := ⟨2, ![8192, 16384]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S4096x16384, .f32⟩
  | .hbm, ⟨3, _⟩ => ⟨S8192x16384, .f32⟩
  | .hbm, ⟨4, _⟩ => ⟨S8192x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenQueryKernel.lean ====
abbrev S8192x4096 : Shape := ⟨2, ![8192, 4096]⟩
abbrev S1x4096x16384 : Shape := ⟨3, ![1, 4096, 16384]⟩
abbrev S4096x16384 : Shape := ⟨2, ![4096, 16384]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S8192x4096, .bf16⟩
  | .hbm, ⟨3, _⟩ => ⟨S4096x16384, .f32⟩
  | .hbm, ⟨4, _⟩ => ⟨S4096x16384, .bf16⟩
  | .hbm, ⟨5, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenQueryKernelIdeal.lean ====
abbrev S8192x4096 : Shape := ⟨2, ![8192, 4096]⟩
abbrev S1x4096x16384 : Shape := ⟨3, ![1, 4096, 16384]⟩
abbrev S4096x16384 : Shape := ⟨2, ![4096, 16384]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S8192x4096, .bf16⟩
  | .hbm, ⟨3, _⟩ => ⟨S4096x16384, .f32⟩
  | .hbm, ⟨4, _⟩ => ⟨S4096x16384, .bf16⟩
  | .hbm, ⟨5, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenQueryReferenceIdeal.lean ====
abbrev S8192x4096 : Shape := ⟨2, ![8192, 4096]⟩
abbrev S1x4096x16384 : Shape := ⟨3, ![1, 4096, 16384]⟩
abbrev S4096x16384 : Shape := ⟨2, ![4096, 16384]⟩
abbrev S8192x16384 : Shape := ⟨2, ![8192, 16384]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S4096x16384, .f32⟩
  | .hbm, ⟨3, _⟩ => ⟨S8192x16384, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvenKeyKernel.lean ====
abbrev S8192x4096 : Shape := ⟨2, ![8192, 4096]⟩
abbrev S1x4096x16384 : Shape := ⟨3, ![1, 4096, 16384]⟩
abbrev S4096x16384 : Shape := ⟨2, ![4096, 16384]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S8192x4096, .bf16⟩
  | .hbm, ⟨3, _⟩ => ⟨S4096x16384, .f32⟩
  | .hbm, ⟨4, _⟩ => ⟨S4096x16384, .bf16⟩
  | .hbm, ⟨5, _⟩ => ⟨S8192x2048, .f32⟩
  | .hbm, ⟨6, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenKeyKernelIdeal.lean ====
abbrev S8192x4096 : Shape := ⟨2, ![8192, 4096]⟩
abbrev S1x4096x16384 : Shape := ⟨3, ![1, 4096, 16384]⟩
abbrev S4096x16384 : Shape := ⟨2, ![4096, 16384]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S8192x4096, .bf16⟩
  | .hbm, ⟨3, _⟩ => ⟨S4096x16384, .f32⟩
  | .hbm, ⟨4, _⟩ => ⟨S4096x16384, .bf16⟩
  | .hbm, ⟨5, _⟩ => ⟨S8192x2048, .f32⟩
  | .hbm, ⟨6, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenKeyReferenceIdeal.lean ====
abbrev S8192x4096 : Shape := ⟨2, ![8192, 4096]⟩
abbrev S1x4096x16384 : Shape := ⟨3, ![1, 4096, 16384]⟩
abbrev S4096x16384 : Shape := ⟨2, ![4096, 16384]⟩
abbrev S8192x16384 : Shape := ⟨2, ![8192, 16384]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S4096x16384, .f32⟩
  | .hbm, ⟨3, _⟩ => ⟨S8192x16384, .f32⟩
  | .hbm, ⟨4, _⟩ => ⟨S8192x2048, .f32⟩
  | .hbm, ⟨5, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenValueKernel.lean ====
abbrev S8192x4096 : Shape := ⟨2, ![8192, 4096]⟩
abbrev S1x4096x16384 : Shape := ⟨3, ![1, 4096, 16384]⟩
abbrev S4096x16384 : Shape := ⟨2, ![4096, 16384]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S8192x4096, .bf16⟩
  | .hbm, ⟨3, _⟩ => ⟨S4096x16384, .f32⟩
  | .hbm, ⟨4, _⟩ => ⟨S4096x16384, .bf16⟩
  | .hbm, ⟨5, _⟩ => ⟨S8192x2048, .f32⟩
  | .hbm, ⟨6, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenValueKernelIdeal.lean ====
abbrev S8192x4096 : Shape := ⟨2, ![8192, 4096]⟩
abbrev S1x4096x16384 : Shape := ⟨3, ![1, 4096, 16384]⟩
abbrev S4096x16384 : Shape := ⟨2, ![4096, 16384]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S8192x4096, .bf16⟩
  | .hbm, ⟨3, _⟩ => ⟨S4096x16384, .f32⟩
  | .hbm, ⟨4, _⟩ => ⟨S4096x16384, .bf16⟩
  | .hbm, ⟨5, _⟩ => ⟨S8192x2048, .f32⟩
  | .hbm, ⟨6, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== EvenValueReferenceIdeal.lean ====
abbrev S8192x4096 : Shape := ⟨2, ![8192, 4096]⟩
abbrev S1x4096x16384 : Shape := ⟨3, ![1, 4096, 16384]⟩
abbrev S4096x16384 : Shape := ⟨2, ![4096, 16384]⟩
abbrev S8192x16384 : Shape := ⟨2, ![8192, 16384]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S4096x16384, .f32⟩
  | .hbm, ⟨3, _⟩ => ⟨S8192x16384, .f32⟩
  | .hbm, ⟨4, _⟩ => ⟨S8192x2048, .f32⟩
  | .hbm, ⟨5, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenGateKernel.lean ====
abbrev S8192x4096 : Shape := ⟨2, ![8192, 4096]⟩
abbrev S1x4096x16384 : Shape := ⟨3, ![1, 4096, 16384]⟩
abbrev S4096x16384 : Shape := ⟨2, ![4096, 16384]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S8192x4096, .bf16⟩
  | .hbm, ⟨3, _⟩ => ⟨S4096x16384, .f32⟩
  | .hbm, ⟨4, _⟩ => ⟨S4096x16384, .bf16⟩
  | .hbm, ⟨5, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenGateKernelIdeal.lean ====
abbrev S8192x4096 : Shape := ⟨2, ![8192, 4096]⟩
abbrev S1x4096x16384 : Shape := ⟨3, ![1, 4096, 16384]⟩
abbrev S4096x16384 : Shape := ⟨2, ![4096, 16384]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S8192x4096, .bf16⟩
  | .hbm, ⟨3, _⟩ => ⟨S4096x16384, .f32⟩
  | .hbm, ⟨4, _⟩ => ⟨S4096x16384, .bf16⟩
  | .hbm, ⟨5, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenGateReferenceIdeal.lean ====
abbrev S8192x4096 : Shape := ⟨2, ![8192, 4096]⟩
abbrev S1x4096x16384 : Shape := ⟨3, ![1, 4096, 16384]⟩
abbrev S4096x16384 : Shape := ⟨2, ![4096, 16384]⟩
abbrev S8192x16384 : Shape := ⟨2, ![8192, 16384]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x16384, .f32⟩
  | .hbm, ⟨2, _⟩ => ⟨S4096x16384, .f32⟩
  | .hbm, ⟨3, _⟩ => ⟨S8192x16384, .f32⟩
  | .hbm, ⟨4, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvenOutKernel.lean ====
abbrev S8192x2048 : Shape := ⟨2, ![8192, 2048]⟩
abbrev S1x4096x4096 : Shape := ⟨3, ![1, 4096, 4096]⟩
abbrev S8192x4096 : Shape := ⟨2, ![8192, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S4096x4096, .f32⟩
  | .hbm, ⟨5, _⟩ => ⟨S4096x4096, .bf16⟩
  | .hbm, ⟨6, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  ![c1_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EvenOutReferenceIdeal.lean ====
abbrev S8192x2048 : Shape := ⟨2, ![8192, 2048]⟩
abbrev S1x4096x4096 : Shape := ⟨3, ![1, 4096, 4096]⟩
abbrev S8192x4096 : Shape := ⟨2, ![8192, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S8192x4096, .bf16⟩
  | .hbm, ⟨5, _⟩ => ⟨S8192x4096, .f32⟩
  | .hbm, ⟨6, _⟩ => ⟨S4096x4096, .f32⟩
  | .hbm, ⟨7, _⟩ => ⟨S8192x4096, .f32⟩
  | .hbm, ⟨8, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== OddQueryKernel.lean ====
abbrev S8192x4096 : Shape := ⟨2, ![8192, 4096]⟩
abbrev S1x4096x16416 : Shape := ⟨3, ![1, 4096, 16416]⟩
abbrev S1x16416x4096 : Shape := ⟨3, ![1, 16416, 4096]⟩
abbrev S16416x4096 : Shape := ⟨2, ![16416, 4096]⟩
abbrev S1024x4096 : Shape := ⟨2, ![1024, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x16416, .f32⟩
  | .hbm, ⟨2, _⟩ => ⟨S1x16416x4096, .f32⟩
  | .hbm, ⟨3, _⟩ => ⟨S16416x4096, .f32⟩
  | .hbm, ⟨4, _⟩ => ⟨S16416x4096, .bf16⟩
  | .hbm, ⟨5, _⟩ => ⟨S8192x4096, .bf16⟩
  | .hbm, ⟨6, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddQueryKernelIdeal.lean ====
abbrev S8192x4096 : Shape := ⟨2, ![8192, 4096]⟩
abbrev S1x4096x16416 : Shape := ⟨3, ![1, 4096, 16416]⟩
abbrev S1x16416x4096 : Shape := ⟨3, ![1, 16416, 4096]⟩
abbrev S16416x4096 : Shape := ⟨2, ![16416, 4096]⟩
abbrev S1024x4096 : Shape := ⟨2, ![1024, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x16416, .f32⟩
  | .hbm, ⟨2, _⟩ => ⟨S1x16416x4096, .f32⟩
  | .hbm, ⟨3, _⟩ => ⟨S16416x4096, .f32⟩
  | .hbm, ⟨4, _⟩ => ⟨S16416x4096, .bf16⟩
  | .hbm, ⟨5, _⟩ => ⟨S8192x4096, .bf16⟩
  | .hbm, ⟨6, _⟩ => ⟨S8192x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddQueryReferenceIdeal.lean ====
abbrev S8192x4096 : Shape := ⟨2, ![8192, 4096]⟩
abbrev S1x4096x16416 : Shape := ⟨3, ![1, 4096, 16416]⟩
abbrev S4096x16416 : Shape := ⟨2, ![4096, 16416]⟩
abbrev S8192x16416 : Shape := ⟨2, ![8192, 16416]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x16416, .f32⟩
  | .hbm, ⟨2, _⟩ => ⟨S4096x16416, .f32⟩
  | .hbm, ⟨3, _⟩ => ⟨S8192x16416, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OddKeyKernel.lean ====
abbrev S8192x4096 : Shape := ⟨2, ![8192, 4096]⟩
abbrev S1x4096x16416 : Shape := ⟨3, ![1, 4096, 16416]⟩
abbrev S1x16416x4096 : Shape := ⟨3, ![1, 16416, 4096]⟩
abbrev S16416x4096 : Shape := ⟨2, ![16416, 4096]⟩
abbrev S1024x4096 : Shape := ⟨2, ![1024, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x16416, .f32⟩
  | .hbm, ⟨2, _⟩ => ⟨S1x16416x4096, .f32⟩
  | .hbm, ⟨3, _⟩ => ⟨S16416x4096, .f32⟩
  | .hbm, ⟨4, _⟩ => ⟨S16416x4096, .bf16⟩
  | .hbm, ⟨5, _⟩ => ⟨S8192x4096, .bf16⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddKeyKernelIdeal.lean ====
  let c4_i32 : BitVec 32 := 4#32
  let v0 : BitVec 32 := Scalar.addi c4_i32 arg1
-- ==== OddKeyReferenceIdeal.lean ====
abbrev S8192x4096 : Shape := ⟨2, ![8192, 4096]⟩
abbrev S1x4096x16416 : Shape := ⟨3, ![1, 4096, 16416]⟩
abbrev S4096x16416 : Shape := ⟨2, ![4096, 16416]⟩
abbrev S8192x16416 : Shape := ⟨2, ![8192, 16416]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x16416, .f32⟩
  | .hbm, ⟨2, _⟩ => ⟨S4096x16416, .f32⟩
  | .hbm, ⟨3, _⟩ => ⟨S8192x16416, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddValueKernel.lean ====
abbrev S8192x4096 : Shape := ⟨2, ![8192, 4096]⟩
abbrev S1x4096x16416 : Shape := ⟨3, ![1, 4096, 16416]⟩
abbrev S1x16416x4096 : Shape := ⟨3, ![1, 16416, 4096]⟩
abbrev S16416x4096 : Shape := ⟨2, ![16416, 4096]⟩
abbrev S1024x4096 : Shape := ⟨2, ![1024, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x16416, .f32⟩
  | .hbm, ⟨2, _⟩ => ⟨S1x16416x4096, .f32⟩
  | .hbm, ⟨3, _⟩ => ⟨S16416x4096, .f32⟩
  | .hbm, ⟨4, _⟩ => ⟨S16416x4096, .bf16⟩
  | .hbm, ⟨5, _⟩ => ⟨S8192x4096, .bf16⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddValueKernelIdeal.lean ====
  let c8_i32 : BitVec 32 := 8#32
  let v0 : BitVec 32 := Scalar.addi c8_i32 arg1
-- ==== OddValueReferenceIdeal.lean ====
abbrev S8192x4096 : Shape := ⟨2, ![8192, 4096]⟩
abbrev S1x4096x16416 : Shape := ⟨3, ![1, 4096, 16416]⟩
abbrev S4096x16416 : Shape := ⟨2, ![4096, 16416]⟩
abbrev S8192x16416 : Shape := ⟨2, ![8192, 16416]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x16416, .f32⟩
  | .hbm, ⟨2, _⟩ => ⟨S4096x16416, .f32⟩
  | .hbm, ⟨3, _⟩ => ⟨S8192x16416, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddGateKernel.lean ====
abbrev S8192x4096 : Shape := ⟨2, ![8192, 4096]⟩
abbrev S1x4096x16416 : Shape := ⟨3, ![1, 4096, 16416]⟩
abbrev S1x16416x4096 : Shape := ⟨3, ![1, 16416, 4096]⟩
abbrev S16416x4096 : Shape := ⟨2, ![16416, 4096]⟩
abbrev S1024x4096 : Shape := ⟨2, ![1024, 4096]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096x16416, .f32⟩
  | .hbm, ⟨2, _⟩ => ⟨S1x16416x4096, .f32⟩
  | .hbm, ⟨3, _⟩ => ⟨S16416x4096, .f32⟩
  | .hbm, ⟨4, _⟩ => ⟨S16416x4096, .bf16⟩
  | .hbm, ⟨5, _⟩ => ⟨S8192x4096, .bf16⟩
  | .hbm, ⟨6, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddGateReferenceIdeal.lean ====
abbrev S8192x4096 : Shape := ⟨2, ![8192, 4096]⟩
abbrev S1x4096x16416 : Shape := ⟨3, ![1, 4096, 16416]⟩
abbrev S4096x16416 : Shape := ⟨2, ![4096, 16416]⟩
abbrev S8192x16416 : Shape := ⟨2, ![8192, 16416]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x16416, .f32⟩
  | .hbm, ⟨2, _⟩ => ⟨S4096x16416, .f32⟩
  | .hbm, ⟨3, _⟩ => ⟨S8192x16416, .f32⟩
  | .hbm, ⟨4, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddForgetKernel.lean ====
abbrev S8192x4096 : Shape := ⟨2, ![8192, 4096]⟩
abbrev S1x4096x16416 : Shape := ⟨3, ![1, 4096, 16416]⟩
abbrev S1x16416x4096 : Shape := ⟨3, ![1, 16416, 4096]⟩
abbrev S16416x4096 : Shape := ⟨2, ![16416, 4096]⟩
abbrev S32x4096 : Shape := ⟨2, ![32, 4096]⟩
abbrev S8192x32 : Shape := ⟨2, ![8192, 32]⟩
abbrev S1024x4096 : Shape := ⟨2, ![1024, 4096]⟩
abbrev S1024x32 : Shape := ⟨2, ![1024, 32]⟩

abbrev nBuf : Space → Nat
  | .hbm => 8
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S1x4096x16416, .f32⟩
  | .hbm, ⟨2, _⟩ => ⟨S1x16416x4096, .f32⟩
  | .hbm, ⟨3, _⟩ => ⟨S16416x4096, .f32⟩
  | .hbm, ⟨4, _⟩ => ⟨S16416x4096, .bf16⟩
  | .hbm, ⟨5, _⟩ => ⟨S32x4096, .bf16⟩
  | .hbm, ⟨6, _⟩ => ⟨S8192x4096, .bf16⟩
  | .hbm, ⟨7, _⟩ => ⟨S8192x32, .f32⟩
  | .local _ .vmem, ⟨0, _⟩ => ⟨S1024x4096, .bf16⟩
  | .local _ .vmem, ⟨1, _⟩ => ⟨S1024x4096, .bf16⟩
  | .local _ .vmem, ⟨2, _⟩ => ⟨S32x4096, .bf16⟩
  | .local _ .vmem, ⟨3, _⟩ => ⟨S1024x32, .f32⟩
  | .local _ .vmem, ⟨4, _⟩ => ⟨S1024x32, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S32x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddForgetReferenceIdeal.lean ====
abbrev S8192x4096 : Shape := ⟨2, ![8192, 4096]⟩
abbrev S1x4096x16416 : Shape := ⟨3, ![1, 4096, 16416]⟩
abbrev S4096x16416 : Shape := ⟨2, ![4096, 16416]⟩
abbrev S8192x16416 : Shape := ⟨2, ![8192, 16416]⟩
abbrev S8192x32 : Shape := ⟨2, ![8192, 32]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x16416, .f32⟩
  | .hbm, ⟨2, _⟩ => ⟨S4096x16416, .f32⟩
  | .hbm, ⟨3, _⟩ => ⟨S8192x16416, .f32⟩
  | .hbm, ⟨4, _⟩ => ⟨S8192x32, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OddOutKernel.lean ====
abbrev S8192x4096 : Shape := ⟨2, ![8192, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S4096x4096, .f32⟩
  | .hbm, ⟨4, _⟩ => ⟨S4096x4096, .bf16⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OddOutReferenceIdeal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S8192x4096, .f32⟩
  | .hbm, ⟨4, _⟩ => ⟨S4096x4096, .f32⟩
  | .hbm, ⟨5, _⟩ => ⟨S8192x4096, .f32⟩
  | .hbm, ⟨6, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== EvenColsKernel.lean ====
abbrev S256x4096 : Shape := ⟨2, ![256, 4096]⟩
abbrev S1x4096x16384 : Shape := ⟨3, ![1, 4096, 16384]⟩
abbrev S256x16384 : Shape := ⟨2, ![256, 16384]⟩
abbrev S4096x16384 : Shape := ⟨2, ![4096, 16384]⟩
abbrev S1x4096x512 : Shape := ⟨3, ![1, 4096, 512]⟩
abbrev S256x512 : Shape := ⟨2, ![256, 512]⟩
abbrev S4096x512 : Shape := ⟨2, ![4096, 512]⟩

abbrev nBuf : Space → Nat
  | .hbm => 5
  | .vmem => 7
  | .smem => 0
  | _ => 0

abbrev bufTy : (tb : Table) → Fin (tcTables nBuf tb) → BufTy
  | .hbm, ⟨0, _⟩ => ⟨S256x4096, .f32⟩
  | .hbm, ⟨1, _⟩ => ⟨S1x4096x16384, .f32⟩
  | .hbm, ⟨2, _⟩ => ⟨S256x4096, .bf16⟩
  | .hbm, ⟨3, _⟩ => ⟨S256x16384, .f32⟩
  | .hbm, ⟨4, _⟩ => ⟨S4096x16384, .bf16⟩
  | .local _ .vmem, ⟨0, _⟩ => ⟨S256x4096, .bf16⟩
  | .local _ .vmem, ⟨1, _⟩ => ⟨S1x4096x512, .f32⟩
  | .local _ .vmem, ⟨2, _⟩ => ⟨S1x4096x512, .f32⟩
  | .local _ .vmem, ⟨3, _⟩ => ⟨S256x512, .f32⟩
  | .local _ .vmem, ⟨4, _⟩ => ⟨S256x512, .f32⟩
  | .local _ .vmem, ⟨5, _⟩ => ⟨S4096x512, .bf16⟩
  | .local _ .vmem, ⟨6, _⟩ => ⟨S4096x512, .bf16⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EvenColsReferenceIdeal.lean ====
abbrev S256x4096 : Shape := ⟨2, ![256, 4096]⟩
abbrev S1x4096x16384 : Shape := ⟨3, ![1, 4096, 16384]⟩
abbrev S4096x16384 : Shape := ⟨2, ![4096, 16384]⟩
abbrev S256x16384 : Shape := ⟨2, ![256, 16384]⟩

abbrev nBuf : Space → Nat
  | .hbm => 6
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S1x4096x16384, .f32⟩
  | .hbm, ⟨2, _⟩ => ⟨S4096x16384, .f32⟩
  | .hbm, ⟨3, _⟩ => ⟨S256x16384, .f32⟩
  | .hbm, ⟨4, _⟩ => ⟨S4096x16384, .f32⟩
  | .hbm, ⟨5, _⟩ => ⟨S4096x16384, .bf16⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvenColsOutKernel.lean ====
abbrev S256x2048 : Shape := ⟨2, ![256, 2048]⟩
abbrev S1x4096x4096 : Shape := ⟨3, ![1, 4096, 4096]⟩
abbrev S256x4096 : Shape := ⟨2, ![256, 4096]⟩
abbrev S4096x4096 : Shape := ⟨2, ![4096, 4096]⟩
abbrev S1x2048x512 : Shape := ⟨3, ![1, 2048, 512]⟩
abbrev S256x512 : Shape := ⟨2, ![256, 512]⟩
abbrev S4096x512 : Shape := ⟨2, ![4096, 512]⟩
abbrev S2048x512 : Shape := ⟨2, ![2048, 512]⟩

abbrev nBuf : Space → Nat
  | .hbm => 6
  | .vmem => 12
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S1x4096x4096, .f32⟩
  | .hbm, ⟨3, _⟩ => ⟨S256x4096, .f32⟩
  | .hbm, ⟨4, _⟩ => ⟨S256x4096, .f32⟩
  | .hbm, ⟨5, _⟩ => ⟨S4096x4096, .bf16⟩
  | .local _ .vmem, ⟨0, _⟩ => ⟨S256x2048, .bf16⟩
  | .local _ .vmem, ⟨1, _⟩ => ⟨S256x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S4096x512, .bf16⟩
  | .local _ .vmem, ⟨11, _⟩ => ⟨S4096x512, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EvenColsOutReferenceIdeal.lean ====
abbrev S256x2048 : Shape := ⟨2, ![256, 2048]⟩
abbrev S1x4096x4096 : Shape := ⟨3, ![1, 4096, 4096]⟩
abbrev S256x4096 : Shape := ⟨2, ![256, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S1x4096x4096, .f32⟩
  | .hbm, ⟨3, _⟩ => ⟨S256x4096, .f32⟩
  | .hbm, ⟨4, _⟩ => ⟨S256x4096, .bf16⟩
  | .hbm, ⟨5, _⟩ => ⟨S256x4096, .f32⟩
  | .hbm, ⟨6, _⟩ => ⟨S4096x4096, .f32⟩
  | .hbm, ⟨7, _⟩ => ⟨S256x4096, .f32⟩
  | .hbm, ⟨8, _⟩ => ⟨S256x4096, .f32⟩
  | .hbm, ⟨9, _⟩ => ⟨S4096x4096, .f32⟩
  | .hbm, ⟨10, _⟩ => ⟨S4096x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OddColsOutKernel.lean ====
abbrev S256x4096 : Shape := ⟨2, ![256, 4096]⟩
abbrev S1x4096x4096 : Shape := ⟨3, ![1, 4096, 4096]⟩
abbrev S4096x4096 : Shape := ⟨2, ![4096, 4096]⟩
abbrev S1x4096x512 : Shape := ⟨3, ![1, 4096, 512]⟩
abbrev S256x512 : Shape := ⟨2, ![256, 512]⟩
abbrev S4096x512 : Shape := ⟨2, ![4096, 512]⟩

abbrev nBuf : Space → Nat
  | .hbm => 5
  | .vmem => 9
  | .smem => 0
  | _ => 0

abbrev bufTy : (tb : Table) → Fin (tcTables nBuf tb) → BufTy
  | .hbm, ⟨0, _⟩ => ⟨S256x4096, .bf16⟩
  | .hbm, ⟨1, _⟩ => ⟨S1x4096x4096, .f32⟩
  | .hbm, ⟨2, _⟩ => ⟨S256x4096, .f32⟩
  | .hbm, ⟨3, _⟩ => ⟨S256x4096, .f32⟩
  | .hbm, ⟨4, _⟩ => ⟨S4096x4096, .bf16⟩
  | .local _ .vmem, ⟨0, _⟩ => ⟨S256x4096, .bf16⟩
  | .local _ .vmem, ⟨1, _⟩ => ⟨S1x4096x512, .f32⟩
  | .local _ .vmem, ⟨2, _⟩ => ⟨S1x4096x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S4096x512, .bf16⟩
  | .local _ .vmem, ⟨8, _⟩ => ⟨S4096x512, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OddColsOutReferenceIdeal.lean ====
abbrev S256x4096 : Shape := ⟨2, ![256, 4096]⟩
abbrev S1x4096x4096 : Shape := ⟨3, ![1, 4096, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S1x4096x4096, .f32⟩
  | .hbm, ⟨2, _⟩ => ⟨S256x4096, .f32⟩
  | .hbm, ⟨3, _⟩ => ⟨S256x4096, .f32⟩
  | .hbm, ⟨4, _⟩ => ⟨S4096x4096, .f32⟩
  | .hbm, ⟨5, _⟩ => ⟨S256x4096, .f32⟩
  | .hbm, ⟨6, _⟩ => ⟨S256x4096, .f32⟩
  | .hbm, ⟨7, _⟩ => ⟨S4096x4096, .f32⟩
  | .hbm, ⟨8, _⟩ => ⟨S4096x4096, .bf16⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== LogfKernel.lean ====
abbrev S256x32 : Shape := ⟨2, ![256, 32]⟩
abbrev S1x32 : Shape := ⟨2, ![1, 32]⟩
abbrev S32 : Shape := ⟨1, ![32]⟩

abbrev nBuf : Space → Nat
  | .hbm => 5
  | .vmem => 3
  | .smem => 0
  | _ => 0

abbrev bufTy : (tb : Table) → Fin (tcTables nBuf tb) → BufTy
  | .hbm, ⟨0, _⟩ => ⟨S256x32, .f32⟩
  | .hbm, ⟨1, _⟩ => ⟨S1x32, .f32⟩
  | .hbm, ⟨2, _⟩ => ⟨S32, .f32⟩
  | .hbm, ⟨3, _⟩ => ⟨S1x32, .f32⟩
  | .hbm, ⟨4, _⟩ => ⟨S256x32, .f32⟩
  | .local _ .vmem, ⟨0, _⟩ => ⟨S256x32, .f32⟩
  | .local _ .vmem, ⟨1, _⟩ => ⟨S1x32, .f32⟩
  | .local _ .vmem, ⟨2, _⟩ => ⟨S256x32, .f32⟩
  | _, _ => ⟨S256x32, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== LogfReferenceIdeal.lean ====
abbrev S256x32 : Shape := ⟨2, ![256, 32]⟩
abbrev S1x32 : Shape := ⟨2, ![1, 32]⟩
abbrev S32 : Shape := ⟨1, ![32]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x32, .f32⟩
  | .hbm, ⟨1, _⟩ => ⟨S1x32, .f32⟩
  | .hbm, ⟨2, _⟩ => ⟨S32, .f32⟩
  | .hbm, ⟨3, _⟩ => ⟨S1x32, .f32⟩
  | .hbm, ⟨4, _⟩ => ⟨S256x32, .f32⟩
  | .hbm, ⟨5, _⟩ => ⟨S256x32, .f32⟩
  | .hbm, ⟨6, _⟩ => ⟨S256x32, .f32⟩
  | .hbm, ⟨7, _⟩ => ⟨S_, .f32⟩
  | .hbm, ⟨8, _⟩ => ⟨S256x32, .f32⟩
  | .hbm, ⟨9, _⟩ => ⟨S256x32, .f32⟩
  | .hbm, ⟨10, _⟩ => ⟨S256x32, .f32⟩
  | .hbm, ⟨11, _⟩ => ⟨S256x32, .f32⟩
  | .hbm, ⟨12, _⟩ => ⟨S256x32, .i1⟩
  | .hbm, ⟨13, _⟩ => ⟨S256x32, .f32⟩
  | .hbm, ⟨14, _⟩ => ⟨S256x32, .f32⟩
  | .hbm, ⟨15, _⟩ => ⟨S256x32, .f32⟩
  | .hbm, ⟨16, _⟩ => ⟨S256x32, .f32⟩
  | .hbm, ⟨17, _⟩ => ⟨S256x32, .f32⟩
  | .hbm, ⟨18, _⟩ => ⟨S256x32, .f32⟩
  | .hbm, ⟨19, _⟩ => ⟨S256x32, .f32⟩
  | .hbm, ⟨20, _⟩ => ⟨S256x32, .f32⟩
  | .hbm, ⟨21, _⟩ => ⟨S256x32, .f32⟩
  | _, _ => ⟨S256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩

abbrev nD : Nat := 1
abbrev τ : Topo := Topo.v7x

variable {F : FTy → Type} [FloatOps F]
-- ==== LogfCumsumKernel.lean ====
abbrev S8192x32 : Shape := ⟨2, ![8192, 32]⟩
abbrev S1x32 : Shape := ⟨2, ![1, 32]⟩
abbrev S32 : Shape := ⟨1, ![32]⟩
abbrev S512x512 : Shape := ⟨2, ![512, 512]⟩
abbrev S_ : Shape := ⟨0, ![]⟩
abbrev S512x32 : Shape := ⟨2, ![512, 32]⟩

abbrev nBuf : Space → Nat
  | .hbm => 15
  | .vmem => 9
  | .smem => 0
  | _ => 0

abbrev bufTy : (tb : Table) → Fin (tcTables nBuf tb) → BufTy
  | .hbm, ⟨0, _⟩ => ⟨S8192x32, .f32⟩
  | .hbm, ⟨1, _⟩ => ⟨S1x32, .f32⟩
  | .hbm, ⟨2, _⟩ => ⟨S32, .f32⟩
  | .hbm, ⟨3, _⟩ => ⟨S512x512, .i32⟩
  | .hbm, ⟨4, _⟩ => ⟨S512x512, .i32⟩
  | .hbm, ⟨5, _⟩ => ⟨S512x512, .i1⟩
  | .hbm, ⟨6, _⟩ => ⟨S_, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .bf16⟩
  | .hbm, ⟨12, _⟩ => ⟨S1x32, .f32⟩
  | .hbm, ⟨13, _⟩ => ⟨S8192x32, .f32⟩
  | .hbm, ⟨14, _⟩ => ⟨S8192x32, .f32⟩
  | .local _ .vmem, ⟨0, _⟩ => ⟨S512x32, .f32⟩
  | .local _ .vmem, ⟨1, _⟩ => ⟨S512x32, .f32⟩
  | .local _ .vmem, ⟨2, _⟩ => ⟨S1x32, .f32⟩
  | .local _ .vmem, ⟨3, _⟩ => ⟨S512x512, .bf16⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S512x32, .f32⟩
  | .local _ .vmem, ⟨8, _⟩ => ⟨S1x32, .f32⟩
  | _, _ => ⟨S8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LogfCumsumReferenceIdeal.lean ====
abbrev S8192x32 : Shape := ⟨2, ![8192, 32]⟩
abbrev S1x32 : Shape := ⟨2, ![1, 32]⟩
abbrev S32 : Shape := ⟨1, ![32]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x32, .f32⟩
  | .hbm, ⟨1, _⟩ => ⟨S1x32, .f32⟩
  | .hbm, ⟨2, _⟩ => ⟨S32, .f32⟩
  | .hbm, ⟨3, _⟩ => ⟨S1x32, .f32⟩
  | .hbm, ⟨4, _⟩ => ⟨S8192x32, .f32⟩
  | .hbm, ⟨5, _⟩ => ⟨S8192x32, .f32⟩
  | .hbm, ⟨6, _⟩ => ⟨S8192x32, .f32⟩
  | .hbm, ⟨7, _⟩ => ⟨S_, .f32⟩
  | .hbm, ⟨8, _⟩ => ⟨S8192x32, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S8192x32, .i1⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S_, .f32⟩
  | .hbm, ⟨23, _⟩ => ⟨S_, .f32⟩
  | .hbm, ⟨24, _⟩ => ⟨S8192x32, .f32⟩
  | .hbm, ⟨25, _⟩ => ⟨S_, .f32⟩
  | .hbm, ⟨26, _⟩ => ⟨S8192x32, .f32⟩
  | .hbm, ⟨27, _⟩ => ⟨S8192x32, .f32⟩
  | _, _ => ⟨S8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1 : Ref sig .tc := ⟨.hbm, 20, rfl⟩
abbrev main_v4 : Ref sig .tc := ⟨.hbm, 21, rfl⟩
abbrev main_call1_call0_cst : Ref sig .tc := ⟨.hbm, 22, rfl⟩
abbrev main_call1_call0_v0 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩

abbrev nD : Nat := 1
abbrev τ : Topo := Topo.v7x

variable {F : FTy → Type} [FloatOps F]
-- ==== StickKernel.lean ====
abbrev S256x16384 : Shape := ⟨2, ![256, 16384]⟩
abbrev S1x16x1024x16x128 : Shape := ⟨5, ![1, 16, 1024, 16, 128]⟩
abbrev S128x128 : Shape := ⟨2, ![128, 128]⟩
abbrev S256x2048 : Shape := ⟨2, ![256, 2048]⟩
abbrev S16x1024 : Shape := ⟨2, ![16, 1024]⟩
abbrev S1x1x1024x8x128 : Shape := ⟨5, ![1, 1, 1024, 8, 128]⟩
abbrev S1040x1024 : Shape := ⟨2, ![1040, 1024]⟩
abbrev S1024x8x128 : Shape := ⟨3, ![1024, 8, 128]⟩
abbrev S128x8x8x128 : Shape := ⟨4, ![128, 8, 8, 128]⟩
abbrev S128x1x8x128 : Shape := ⟨4, ![128, 1, 8, 128]⟩
abbrev S128x8x128 : Shape := ⟨3, ![128, 8, 128]⟩
abbrev S1024x128 : Shape := ⟨2, ![1024, 128]⟩
abbrev S128x1024 : Shape := ⟨2, ![128, 1024]⟩
abbrev S1040x128 : Shape := ⟨2, ![1040, 128]⟩
abbrev S16x16 : Shape := ⟨2, ![16, 16]⟩
abbrev S16x128 : Shape := ⟨2, ![16, 128]⟩
abbrev S1x128 : Shape := ⟨2, ![1, 128]⟩

abbrev nBuf : Space → Nat
  | .hbm => 5
  | .vmem => 17
  | .smem => 0
  | _ => 0

abbrev bufTy : (tb : Table) → Fin (tcTables nBuf tb) → BufTy
  | .hbm, ⟨0, _⟩ => ⟨S256x16384, .f32⟩
  | .hbm, ⟨1, _⟩ => ⟨S1x16x1024x16x128, .f32⟩
  | .hbm, ⟨2, _⟩ => ⟨S1x16x1024x16x128, .f32⟩
  | .hbm, ⟨3, _⟩ => ⟨S128x128, .bf16⟩
  | .hbm, ⟨4, _⟩ => ⟨S256x2048, .bf16⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1x1024x8x128, .f32⟩
  | .local _ .vmem, ⟨7, _⟩ => ⟨S1x1x1024x8x128, .f32⟩
  | .local _ .vmem, ⟨8, _⟩ => ⟨S1x1x1024x8x128, .f32⟩
  | .local _ .vmem, ⟨9, _⟩ => ⟨S1x1x1024x8x128, .f32⟩
  | .local _ .vmem, ⟨10, _⟩ => ⟨S16x1024, .f32⟩
  | .local _ .vmem, ⟨11, _⟩ => ⟨S16x1024, .f32⟩
  | .local _ .vmem, ⟨12, _⟩ => ⟨S128x128, .bf16⟩
  | .local _ .vmem, ⟨13, _⟩ => ⟨S16x1024, .bf16⟩
  | .local _ .vmem, ⟨14, _⟩ => ⟨S16x1024, .bf16⟩
  | .local _ .vmem, ⟨15, _⟩ => ⟨S1040x1024, .bf16⟩
  | .local _ .vmem, ⟨16, _⟩ => ⟨S1040x1024, .bf16⟩
  | _, _ => ⟨S256x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== StickReferenceIdeal.lean ====
abbrev S256x16384 : Shape := ⟨2, ![256, 16384]⟩
abbrev S1x16x1024x16x128 : Shape := ⟨5, ![1, 16, 1024, 16, 128]⟩
abbrev S256x2048 : Shape := ⟨2, ![256, 2048]⟩
abbrev S16x16x16x128 : Shape := ⟨4, ![16, 16, 16, 128]⟩
abbrev S16x1024x16x128 : Shape := ⟨4, ![16, 1024, 16, 128]⟩
abbrev S16x1040x16x128 : Shape := ⟨4, ![16, 1040, 16, 128]⟩
abbrev S16x16x16x1040 : Shape := ⟨4, ![16, 16, 16, 1040]⟩
abbrev S_ : Shape := ⟨0, ![]⟩
abbrev S16 : Shape := ⟨1, ![16]⟩
abbrev S1040 : Shape := ⟨1, ![1040]⟩
abbrev S1x1040 : Shape := ⟨2, ![1, 1040]⟩
abbrev S16x1 : Shape := ⟨2, ![16, 1]⟩
abbrev S16x1040 : Shape := ⟨2, ![16, 1040]⟩
abbrev S16x16x128x16 : Shape := ⟨4, ![16, 16, 128, 16]⟩

abbrev nBuf : Space → Nat
  | .hbm => 95
  | .vmem => 0
  | .smem => 0
  | _ => 0

abbrev bufTy : (tb : Table) → Fin (tcTables nBuf tb) → BufTy
  | .hbm, ⟨0, _⟩ => ⟨S256x16384, .f32⟩
  | .hbm, ⟨1, _⟩ => ⟨S1x16x1024x16x128, .f32⟩
  | .hbm, ⟨2, _⟩ => ⟨S1x16x1024x16x128, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S16x16x16x128, .f32⟩
  | .hbm, ⟨12, _⟩ => ⟨S16x1024x16x128, .f32⟩
  | .hbm, ⟨13, _⟩ => ⟨S16x16x16x128, .f32⟩
  | .hbm, ⟨14, _⟩ => ⟨S16x1040x16x128, .f32⟩
  | .hbm, ⟨15, _⟩ => ⟨S16x1024x16x128, .f32⟩
  | .hbm, ⟨16, _⟩ => ⟨S16x16x16x128, .f32⟩
  | .hbm, ⟨17, _⟩ => ⟨S16x1040x16x128, .f32⟩
  | .hbm, ⟨18, _⟩ => ⟨S16x16x16x1040, .f32⟩
  | .hbm, ⟨19, _⟩ => ⟨S_, .f32⟩
  | .hbm, ⟨20, _⟩ => ⟨S16x16x16x1040, .f32⟩
  | .hbm, ⟨21, _⟩ => ⟨S16x16x16x1040, .f32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S1040, .i32⟩
  | .hbm, ⟨27, _⟩ => ⟨S1x1040, .i32⟩
  | .hbm, ⟨28, _⟩ => ⟨S16x1, .i32⟩
  | .hbm, ⟨29, _⟩ => ⟨S16x1040, .i32⟩
  | .hbm, ⟨30, _⟩ => ⟨S16x1040, .i32⟩
  | .hbm, ⟨31, _⟩ => ⟨S16x1040, .i1⟩
  | .hbm, ⟨32, _⟩ => ⟨S16x16x16x1040, .f32⟩
  | .hbm, ⟨33, _⟩ => ⟨S16x16x16x1040, .f32⟩
  | .hbm, ⟨34, _⟩ => ⟨S_, .f32⟩
  | .hbm, ⟨35, _⟩ => ⟨S16x16x16x1040, .f32⟩
  | .hbm, ⟨36, _⟩ => ⟨S16x16x16x1040, .f32⟩
  | .hbm, ⟨37, _⟩ => ⟨S16x16x16x1040, .f32⟩
  | .hbm, ⟨38, _⟩ => ⟨S16x16x16x1040, .f32⟩
  | .hbm, ⟨39, _⟩ => ⟨S16x16x16x1040, .i1⟩
  | .hbm, ⟨40, _⟩ => ⟨S16x16x16x1040, .f32⟩
  | .hbm, ⟨41, _⟩ => ⟨S16x16x16x1040, .f32⟩
  | .hbm, ⟨42, _⟩ => ⟨S16x16x16x1040, .f32⟩
  | .hbm, ⟨43, _⟩ => ⟨S16x16x16x1040, .f32⟩
  | .hbm, ⟨44, _⟩ => ⟨S16x16x16x1040, .f32⟩
  | .hbm, ⟨45, _⟩ => ⟨S16x16x16x1040, .f32⟩
  | .hbm, ⟨46, _⟩ => ⟨S16x16x16x1040, .f32⟩
  | .hbm, ⟨47, _⟩ => ⟨S16x16x16x1040, .f32⟩
  | .hbm, ⟨48, _⟩ => ⟨S16x16x16x1040, .f32⟩
  | .hbm, ⟨49, _⟩ => ⟨S_, .f32⟩
  | .hbm, ⟨50, _⟩ => ⟨S_, .f32⟩
  | .hbm, ⟨51, _⟩ => ⟨S16x16x16x1040, .i1⟩
  | .hbm, ⟨52, _⟩ => ⟨S16x16x16x1040, .f32⟩
  | .hbm, ⟨53, _⟩ => ⟨S16x16x16x1040, .f32⟩
  | .hbm, ⟨54, _⟩ => ⟨S_, .f32⟩
  | .hbm, ⟨55, _⟩ => ⟨S_, .f32⟩
  | .hbm, ⟨56, _⟩ => ⟨S16x16x16x1040, .f32⟩
  | .hbm, ⟨57, _⟩ => ⟨S16x16x16x1040, .f32⟩
  | .hbm, ⟨58, _⟩ => ⟨S16x16x16x1040, .f32⟩
  | .hbm, ⟨59, _⟩ => ⟨S_, .f32⟩
  | .hbm, ⟨60, _⟩ => ⟨S16x16x16x1040, .f32⟩
  | .hbm, ⟨61, _⟩ => ⟨S16x16x16x1040, .f32⟩
  | .hbm, ⟨62, _⟩ => ⟨S16x16x16x1040, .f32⟩
  | .hbm, ⟨63, _⟩ => ⟨S16x16x16x1040, .f32⟩
  | .hbm, ⟨64, _⟩ => ⟨S16x16x16x1040, .i1⟩
  | .hbm, ⟨65, _⟩ => ⟨S16x16x16x1040, .f32⟩
  | .hbm, ⟨66, _⟩ => ⟨S16x16x16x1040, .f32⟩
  | .hbm, ⟨67, _⟩ => ⟨S16x16x16x1040, .f32⟩
  | .hbm, ⟨68, _⟩ => ⟨S16x16x16x1040, .f32⟩
  | .hbm, ⟨69, _⟩ => ⟨S16x16x16x1040, .f32⟩
  | .hbm, ⟨70, _⟩ => ⟨S16x16x16x1040, .f32⟩
  | .hbm, ⟨71, _⟩ => ⟨S16x16x16x1040, .f32⟩
  | .hbm, ⟨72, _⟩ => ⟨S16x16x16x1040, .f32⟩
  | .hbm, ⟨73, _⟩ => ⟨S16x16x16x1040, .f32⟩
  | .hbm, ⟨74, _⟩ => ⟨S16x16x16x1040, .f32⟩
  | .hbm, ⟨75, _⟩ => ⟨S16x16x16x1040, .f32⟩
  | .hbm, ⟨76, _⟩ => ⟨S_, .f32⟩
  | .hbm, ⟨77, _⟩ => ⟨S_, .f32⟩
  | .hbm, ⟨78, _⟩ => ⟨S16x16x16x1040, .i1⟩
  | .hbm, ⟨79, _⟩ => ⟨S16x16x16x1040, .f32⟩
  | .hbm, ⟨80, _⟩ => ⟨S16x16x16x1040, .f32⟩
  | .hbm, ⟨81, _⟩ => ⟨S16x16x128x16, .f32⟩
  | .hbm, ⟨82, _⟩ => ⟨S16x16x16x128, .f32⟩
  | .hbm, ⟨83, _⟩ => ⟨S256x2048, .f32⟩
  | .hbm, ⟨84, _⟩ => ⟨S256x2048, .f32⟩
  | .hbm, ⟨85, _⟩ => ⟨S256x2048, .f32⟩
  | .hbm, ⟨86, _⟩ => ⟨S_, .f32⟩
  | .hbm, ⟨87, _⟩ => ⟨S256x2048, .f32⟩
  | .hbm, ⟨88, _⟩ => ⟨S256x2048, .f32⟩
  | .hbm, ⟨89, _⟩ => ⟨S_, .f32⟩
  | .hbm, ⟨90, _⟩ => ⟨S256x2048, .f32⟩
  | .hbm, ⟨91, _⟩ => ⟨S256x2048, .f32⟩
  | .hbm, ⟨92, _⟩ => ⟨S256x2048, .f32⟩
  | .hbm, ⟨93, _⟩ => ⟨S256x2048, .f32⟩
  | .hbm, ⟨94, _⟩ => ⟨S256x2048, .bf16⟩
  | _, _ => ⟨S256x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_call0_v0 : Ref sig .tc := ⟨.hbm, 33, rfl⟩
abbrev main_call0_call0_cst : Ref sig .tc := ⟨.hbm, 34, rfl⟩
abbrev main_call0_call0_v0 : Ref sig .tc := ⟨.hbm, 35, rfl⟩
abbrev main_call0_call0_v1 : Ref sig .tc := ⟨.hbm, 36, rfl⟩
abbrev main_call0_call0_v2 : Ref sig .tc := ⟨.hbm, 37, rfl⟩
abbrev main_call0_call0_v3 : Ref sig .tc := ⟨.hbm, 38, rfl⟩
abbrev main_call0_call0_v4 : Ref sig .tc := ⟨.hbm, 39, rfl⟩
abbrev main_call0_call0_v5 : Ref sig .tc := ⟨.hbm, 40, rfl⟩
abbrev main_call0_call0_v6 : Ref sig .tc := ⟨.hbm, 41, rfl⟩
abbrev main_call0_call0_v7 : Ref sig .tc := ⟨.hbm, 42, rfl⟩
abbrev main_call0_call0_v8 : Ref sig .tc := ⟨.hbm, 43, rfl⟩
abbrev main_call0_call0_v9 : Ref sig .tc := ⟨.hbm, 44, rfl⟩
abbrev main_call0_call0_v10 : Ref sig .tc := ⟨.hbm, 45, rfl⟩
abbrev main_call0_call0_v11 : Ref sig .tc := ⟨.hbm, 46, rfl⟩
abbrev main_call0_v1 : Ref sig .tc := ⟨.hbm, 47, rfl⟩
abbrev main_v28 : Ref sig .tc := ⟨.hbm, 48, rfl⟩
abbrev main_cst_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_call2_cst : Ref sig .tc := ⟨.hbm, 54, rfl⟩
abbrev main_call2_v0 : Ref sig .tc := ⟨.hbm, 55, rfl⟩
abbrev main_v30 : Ref sig .tc := ⟨.hbm, 56, rfl⟩
abbrev main_v31 : Ref sig .tc := ⟨.hbm, 57, rfl⟩
abbrev main_call3_v0 : Ref sig .tc := ⟨.hbm, 58, rfl⟩
abbrev main_call3_call0_cst : Ref sig .tc := ⟨.hbm, 59, rfl⟩
abbrev main_call3_call0_v0 : Ref sig .tc := ⟨.hbm, 60, rfl⟩
abbrev main_call3_call0_v1 : Ref sig .tc := ⟨.hbm, 61, rfl⟩
abbrev main_call3_call0_v2 : Ref sig .tc := ⟨.hbm, 62, rfl⟩
abbrev main_call3_call0_v3 : Ref sig .tc := ⟨.hbm, 63, rfl⟩
abbrev main_call3_call0_v4 : Ref sig .tc := ⟨.hbm, 64, rfl⟩
abbrev main_call3_call0_v5 : Ref sig .tc := ⟨.hbm, 65, rfl⟩
abbrev main_call3_call0_v6 : Ref sig .tc := ⟨.hbm, 66, rfl⟩
abbrev main_call3_call0_v7 : Ref sig .tc := ⟨.hbm, 67, rfl⟩
abbrev main_call3_call0_v8 : Ref sig .tc := ⟨.hbm, 68, rfl⟩
abbrev main_call3_call0_v9 : Ref sig .tc := ⟨.hbm, 69, rfl⟩
abbrev main_call3_call0_v10 : Ref sig .tc := ⟨.hbm, 70, rfl⟩
abbrev main_call3_call0_v11 : Ref sig .tc := ⟨.hbm, 71, rfl⟩
abbrev main_call3_v1 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_1 : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_call5_v0 : Ref sig .tc := ⟨.hbm, 84, rfl⟩
abbrev main_call5_v1 : Ref sig .tc := ⟨.hbm, 85, rfl⟩
abbrev main_call5_cst : Ref sig .tc := ⟨.hbm, 86, rfl⟩
abbrev main_call5_v2 : Ref sig .tc := ⟨.hbm, 87, rfl⟩
abbrev main_call5_v3 : Ref sig .tc := ⟨.hbm, 88, rfl⟩
abbrev main_call5_cst_0 : Ref sig .tc := ⟨.hbm, 89, rfl⟩
abbrev main_call5_v4 : Ref sig .tc := ⟨.hbm, 90, rfl⟩
abbrev main_call5_v5 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩

abbrev nD : Nat := 1
abbrev τ : Topo := Topo.v7x

variable {F : FTy → Type} [FloatOps F]
-- ==== FoxKernel.lean ====
abbrev S256x16416 : Shape := ⟨2, ![256, 16416]⟩
abbrev S256x32 : Shape := ⟨2, ![256, 32]⟩
abbrev S1x16x1024x32x128 : Shape := ⟨5, ![1, 16, 1024, 32, 128]⟩
abbrev S1x16x1024x32 : Shape := ⟨4, ![1, 16, 1024, 32]⟩
abbrev S128x128 : Shape := ⟨2, ![128, 128]⟩
abbrev S4x32x128 : Shape := ⟨3, ![4, 32, 128]⟩
abbrev S256x4096 : Shape := ⟨2, ![256, 4096]⟩
abbrev S16x1024 : Shape := ⟨2, ![16, 1024]⟩
abbrev S1x1x1024x8x128 : Shape := ⟨5, ![1, 1, 1024, 8, 128]⟩
abbrev S16x32 : Shape := ⟨2, ![16, 32]⟩
abbrev S1x1x1024x32 : Shape := ⟨4, ![1, 1, 1024, 32]⟩
abbrev S1x32x128 : Shape := ⟨3, ![1, 32, 128]⟩
abbrev S1040x1024 : Shape := ⟨2, ![1040, 1024]⟩
abbrev S1040x32 : Shape := ⟨2, ![1040, 32]⟩
abbrev S1024x8x128 : Shape := ⟨3, ![1024, 8, 128]⟩
abbrev S128x8x8x128 : Shape := ⟨4, ![128, 8, 8, 128]⟩
abbrev S128x1x8x128 : Shape := ⟨4, ![128, 1, 8, 128]⟩
abbrev S128x8x128 : Shape := ⟨3, ![128, 8, 128]⟩
abbrev S1024x128 : Shape := ⟨2, ![1024, 128]⟩
abbrev S1024x32 : Shape := ⟨2, ![1024, 32]⟩
abbrev S32x128 : Shape := ⟨2, ![32, 128]⟩
abbrev S1040x128 : Shape := ⟨2, ![1040, 128]⟩
abbrev S1x128 : Shape := ⟨2, ![1, 128]⟩
abbrev S16x16 : Shape := ⟨2, ![16, 16]⟩
abbrev S16x128 : Shape := ⟨2, ![16, 128]⟩
abbrev S128 : Shape := ⟨1, ![128]⟩
abbrev S128x1024 : Shape := ⟨2, ![128, 1024]⟩

abbrev nBuf : Space → Nat
  | .hbm => 8
  | .vmem => 24
  | .smem => 0
  | _ => 0

abbrev bufTy : (tb : Table) → Fin (tcTables nBuf tb) → BufTy
  | .hbm, ⟨0, _⟩ => ⟨S256x16416, .f32⟩
  | .hbm, ⟨1, _⟩ => ⟨S256x32, .f32⟩
  | .hbm, ⟨2, _⟩ => ⟨S1x16x1024x32x128, .f32⟩
  | .hbm, ⟨3, _⟩ => ⟨S1x16x1024x32x128, .f32⟩
  | .hbm, ⟨4, _⟩ => ⟨S1x16x1024x32, .f32⟩
  | .hbm, ⟨5, _⟩ => ⟨S128x128, .bf16⟩
  | .hbm, ⟨6, _⟩ => ⟨S4x32x128, .bf16⟩
  | .hbm, ⟨7, _⟩ => ⟨S256x4096, .bf16⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1x1024x8x128, .f32⟩
  | .local _ .vmem, ⟨7, _⟩ => ⟨S1x1x1024x8x128, .f32⟩
  | .local _ .vmem, ⟨8, _⟩ => ⟨S1x1x1024x8x128, .f32⟩
  | .local _ .vmem, ⟨9, _⟩ => ⟨S1x1x1024x8x128, .f32⟩
  | .local _ .vmem, ⟨10, _⟩ => ⟨S16x1024, .f32⟩
  | .local _ .vmem, ⟨11, _⟩ => ⟨S16x1024, .f32⟩
  | .local _ .vmem, ⟨12, _⟩ => ⟨S16x32, .f32⟩
  | .local _ .vmem, ⟨13, _⟩ => ⟨S16x32, .f32⟩
  | .local _ .vmem, ⟨14, _⟩ => ⟨S1x1x1024x32, .f32⟩
  | .local _ .vmem, ⟨15, _⟩ => ⟨S1x1x1024x32, .f32⟩
  | .local _ .vmem, ⟨16, _⟩ => ⟨S1x32x128, .bf16⟩
  | .local _ .vmem, ⟨17, _⟩ => ⟨S1x32x128, .bf16⟩
  | .local _ .vmem, ⟨18, _⟩ => ⟨S128x128, .bf16⟩
  | .local _ .vmem, ⟨19, _⟩ => ⟨S16x1024, .bf16⟩
  | .local _ .vmem, ⟨20, _⟩ => ⟨S16x1024, .bf16⟩
  | .local _ .vmem, ⟨21, _⟩ => ⟨S1040x1024, .bf16⟩
  | .local _ .vmem, ⟨22, _⟩ => ⟨S1040x1024, .bf16⟩
  | .local _ .vmem, ⟨23, _⟩ => ⟨S1040x32, .f32⟩
  | _, _ => ⟨S256x16416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, arg1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FoxReferenceIdeal.lean ====
abbrev S256x16416 : Shape := ⟨2, ![256, 16416]⟩
abbrev S256x32 : Shape := ⟨2, ![256, 32]⟩
abbrev S1x16x1024x32x128 : Shape := ⟨5, ![1, 16, 1024, 32, 128]⟩
abbrev S1x16x1024x32 : Shape := ⟨4, ![1, 16, 1024, 32]⟩
abbrev S256x4096 : Shape := ⟨2, ![256, 4096]⟩
abbrev S16x16x32x128 : Shape := ⟨4, ![16, 16, 32, 128]⟩
abbrev S16x1024x32x128 : Shape := ⟨4, ![16, 1024, 32, 128]⟩
abbrev S16x1040x32x128 : Shape := ⟨4, ![16, 1040, 32, 128]⟩
abbrev S16x1024x32 : Shape := ⟨3, ![16, 1024, 32]⟩
abbrev S16x16x32 : Shape := ⟨3, ![16, 16, 32]⟩
abbrev S16x1040x32 : Shape := ⟨3, ![16, 1040, 32]⟩
abbrev S_ : Shape := ⟨0, ![]⟩
abbrev S16x32x1040 : Shape := ⟨3, ![16, 32, 1040]⟩
abbrev S16x32x16 : Shape := ⟨3, ![16, 32, 16]⟩
abbrev S16x32x16x1040 : Shape := ⟨4, ![16, 32, 16, 1040]⟩
abbrev S16x32x16x1 : Shape := ⟨4, ![16, 32, 16, 1]⟩
abbrev S16x32x1x1040 : Shape := ⟨4, ![16, 32, 1, 1040]⟩
abbrev S16 : Shape := ⟨1, ![16]⟩
abbrev S1040 : Shape := ⟨1, ![1040]⟩
abbrev S1x1040 : Shape := ⟨2, ![1, 1040]⟩
abbrev S16x1 : Shape := ⟨2, ![16, 1]⟩
abbrev S16x1040 : Shape := ⟨2, ![16, 1040]⟩
abbrev S16x32x128x16 : Shape := ⟨4, ![16, 32, 128, 16]⟩

abbrev nBuf : Space → Nat
  | .hbm => 79
  | .vmem => 0
  | .smem => 0
  | _ => 0

abbrev bufTy : (tb : Table) → Fin (tcTables nBuf tb) → BufTy
  | .hbm, ⟨0, _⟩ => ⟨S256x16416, .f32⟩
  | .hbm, ⟨1, _⟩ => ⟨S256x32, .f32⟩
  | .hbm, ⟨2, _⟩ => ⟨S1x16x1024x32x128, .f32⟩
  | .hbm, ⟨3, _⟩ => ⟨S1x16x1024x32x128, .f32⟩
  | .hbm, ⟨4, _⟩ => ⟨S1x16x1024x32, .f32⟩
  | .hbm, ⟨5, _⟩ => ⟨S256x4096, .f32⟩
  | .hbm, ⟨6, _⟩ => ⟨S256x4096, .f32⟩
  | .hbm, ⟨7, _⟩ => ⟨S256x4096, .f32⟩
  | .hbm, ⟨8, _⟩ => ⟨S256x4096, .f32⟩
  | .hbm, ⟨9, _⟩ => ⟨S256x32, .f32⟩
  | .hbm, ⟨10, _⟩ => ⟨S16x16x32x128, .f32⟩
  | .hbm, ⟨11, _⟩ => ⟨S16x1024x32x128, .f32⟩
  | .hbm, ⟨12, _⟩ => ⟨S16x16x32x128, .f32⟩
  | .hbm, ⟨13, _⟩ => ⟨S16x1040x32x128, .f32⟩
  | .hbm, ⟨14, _⟩ => ⟨S16x1024x32x128, .f32⟩
  | .hbm, ⟨15, _⟩ => ⟨S16x16x32x128, .f32⟩
  | .hbm, ⟨16, _⟩ => ⟨S16x1040x32x128, .f32⟩
  | .hbm, ⟨17, _⟩ => ⟨S16x1024x32, .f32⟩
  | .hbm, ⟨18, _⟩ => ⟨S16x16x32, .f32⟩
  | .hbm, ⟨19, _⟩ => ⟨S16x1040x32, .f32⟩
  | .hbm, ⟨20, _⟩ => ⟨S_, .f32⟩
  | .hbm, ⟨21, _⟩ => ⟨S_, .f32⟩
  | .hbm, ⟨22, _⟩ => ⟨S16x1040x32, .f32⟩
  | .hbm, ⟨23, _⟩ => ⟨S16x32x1040, .f32⟩
  | .hbm, ⟨24, _⟩ => ⟨S16x16x32, .f32⟩
  | .hbm, ⟨25, _⟩ => ⟨S16x32x16, .f32⟩
  | .hbm, ⟨26, _⟩ => ⟨S16x32x16x1040, .f32⟩
  | .hbm, ⟨27, _⟩ => ⟨S_, .f32⟩
  | .hbm, ⟨28, _⟩ => ⟨S16x32x16x1040, .f32⟩
  | .hbm, ⟨29, _⟩ => ⟨S16x32x16x1040, .f32⟩
  | .hbm, ⟨30, _⟩ => ⟨S16x32x16x1, .f32⟩
  | .hbm, ⟨31, _⟩ => ⟨S16x32x16x1040, .f32⟩
  | .hbm, ⟨32, _⟩ => ⟨S16x32x16x1040, .f32⟩
  | .hbm, ⟨33, _⟩ => ⟨S16x32x1x1040, .f32⟩
  | .hbm, ⟨34, _⟩ => ⟨S16x32x16x1040, .f32⟩
  | .hbm, ⟨35, _⟩ => ⟨S16x32x16x1040, .f32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S1040, .i32⟩
  | .hbm, ⟨41, _⟩ => ⟨S1x1040, .i32⟩
  | .hbm, ⟨42, _⟩ => ⟨S16x1, .i32⟩
  | .hbm, ⟨43, _⟩ => ⟨S16x1040, .i32⟩
  | .hbm, ⟨44, _⟩ => ⟨S16x1040, .i32⟩
  | .hbm, ⟨45, _⟩ => ⟨S16x1040, .i1⟩
  | .hbm, ⟨46, _⟩ => ⟨S_, .f32⟩
  | .hbm, ⟨47, _⟩ => ⟨S_, .f32⟩
  | .hbm, ⟨48, _⟩ => ⟨S16x32x16x1040, .i1⟩
  | .hbm, ⟨49, _⟩ => ⟨S16x32x16x1040, .f32⟩
  | .hbm, ⟨50, _⟩ => ⟨S16x32x16x1040, .f32⟩
  | .hbm, ⟨51, _⟩ => ⟨S_, .f32⟩
  | .hbm, ⟨52, _⟩ => ⟨S16x32x16, .f32⟩
  | .hbm, ⟨53, _⟩ => ⟨S_, .f32⟩
  | .hbm, ⟨54, _⟩ => ⟨S16x32x16, .f32⟩
  | .hbm, ⟨55, _⟩ => ⟨S16x32x16, .f32⟩
  | .hbm, ⟨56, _⟩ => ⟨S16x32x16x1, .f32⟩
  | .hbm, ⟨57, _⟩ => ⟨S16x32x16x1040, .f32⟩
  | .hbm, ⟨58, _⟩ => ⟨S16x32x16x1040, .f32⟩
  | .hbm, ⟨59, _⟩ => ⟨S16x32x16x1040, .f32⟩
  | .hbm, ⟨60, _⟩ => ⟨S_, .f32⟩
  | .hbm, ⟨61, _⟩ => ⟨S16x32x16, .f32⟩
  | .hbm, ⟨62, _⟩ => ⟨S16x32x16x1, .f32⟩
  | .hbm, ⟨63, _⟩ => ⟨S16x32x16x1040, .f32⟩
  | .hbm, ⟨64, _⟩ => ⟨S16x32x16x1040, .f32⟩
  | .hbm, ⟨65, _⟩ => ⟨S16x32x128x16, .f32⟩
  | .hbm, ⟨66, _⟩ => ⟨S16x16x32x128, .f32⟩
  | .hbm, ⟨67, _⟩ => ⟨S256x4096, .f32⟩
  | .hbm, ⟨68, _⟩ => ⟨S256x4096, .f32⟩
  | .hbm, ⟨69, _⟩ => ⟨S256x4096, .f32⟩
  | .hbm, ⟨70, _⟩ => ⟨S_, .f32⟩
  | .hbm, ⟨71, _⟩ => ⟨S256x4096, .f32⟩
  | .hbm, ⟨72, _⟩ => ⟨S256x4096, .f32⟩
  | .hbm, ⟨73, _⟩ => ⟨S_, .f32⟩
  | .hbm, ⟨74, _⟩ => ⟨S256x4096, .f32⟩
  | .hbm, ⟨75, _⟩ => ⟨S256x4096, .f32⟩
  | .hbm, ⟨76, _⟩ => ⟨S256x4096, .f32⟩
  | .hbm, ⟨77, _⟩ => ⟨S256x4096, .f32⟩
  | .hbm, ⟨78, _⟩ => ⟨S256x4096, .bf16⟩
  | _, _ => ⟨S256x16416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_call0_cst : Ref sig .tc := ⟨.hbm, 20, rfl⟩
abbrev main_call0_call0_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v37 : Ref sig .tc := ⟨.hbm, 50, rfl⟩
abbrev main_cst_1 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_3 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]
-- ==== Proof.RecValue.lean ====
/- The value of this projection: every block of the result is a block of rows times a block of weight columns, so
   the array is the plain matrix product of the reference. -/
module

public import proofs.«01_k».proof.Proof.Gen.RecKernelIdeal.Value
public import proofs.«01_k».proof.Proof.Gen.RecReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RecKernelIdeal.Own

open Cert.RecKernelIdeal Cert.RecKernelIdeal.Gen

variable (m : (ℓ : Loc nD τ sig) → Buf (Elt Ideal) ℓ)

/-- The block indices of the windows at every grid point. -/
theorem idx : ∀ t : Fin cfg0.N, win0_0.index t = ![t.val / 8, 0]
    ∧ win0_1.index t = ![0, t.val % 8]
    ∧ win0_2.index t = ![t.val / 8, t.val % 8] :=
  (by decide +kernel : ∀ t : Fin grid0.N, _)

/-- One block of result 0: what the body stores at a block index is the reference at the array index it lands on. -/
theorem point (c : Dev nD) (t : Fin cfg0.N) (y) : k0_pay1 (iblk m c 0 t) (iblk m c 1 t) y
    = Cert.RecReferenceIdeal.Read.val_main_v2 (F := Ideal) (m ((c : Thread nD τ).loc main_arg0)) (m ((c : Thread nD τ).loc main_arg1))
      (((cfg0.win 2).blk t).view.emb y) := by
  rw [Cert.RecReferenceIdeal.Read.val_main_v2_apply]
  simp only [Cert.RecReferenceIdeal.Read.val_main_v0_apply, Cert.RecReferenceIdeal.Read.val_main_v1_apply]
  pointwise [k0_pay1]
  blk_point [iblk, V, idx t]

/-- The whole of result 0 after the run: the blocks cover the array, so it is the reference. -/
theorem final (c : Dev nD) : (dats m 0 c).arrAt 2 (cfgs 0).N
    = Cert.RecReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.RecKernelIdeal.Own

end
-- ==== Proof.EvenQueryValue.lean ====
/- The value of this projection: every block of the result is a block of rows times a block of weight columns, so
   the array is the plain matrix product of the reference. -/
module

public import proofs.«01_k».proof.Proof.Gen.EvenQueryKernelIdeal.Value
public import proofs.«01_k».proof.Proof.Gen.EvenQueryReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenQueryKernelIdeal.Own

open Cert.EvenQueryKernelIdeal Cert.EvenQueryKernelIdeal.Gen

variable (m : (ℓ : Loc nD τ sig) → Buf (Elt Ideal) ℓ)

/-- The block indices of the windows at every grid point. -/
theorem idx : ∀ t : Fin cfg0.N, win0_0.index t = ![t.val / 2, 0]
    ∧ win0_1.index t = ![0, 8 + t.val % 2]
    ∧ win0_2.index t = ![t.val / 2, t.val % 2] :=
  (by decide +kernel : ∀ t : Fin grid0.N, _)

/-- One block of result 0: what the body stores at a block index is the reference at the array index it lands on. -/
theorem point (c : Dev nD) (t : Fin cfg0.N) (y) : k0_pay1 (iblk m c 0 t) (iblk m c 1 t) y
    = Cert.EvenQueryReferenceIdeal.Read.val_main_v5 (F := Ideal) (m ((c : Thread nD τ).loc main_arg0)) (m ((c : Thread nD τ).loc main_arg1))
      (((cfg0.win 2).blk t).view.emb y) := by
  rw [Cert.EvenQueryReferenceIdeal.Read.val_main_v5_apply]
  simp only [Cert.EvenQueryReferenceIdeal.Read.val_main_v4_apply, Cert.EvenQueryReferenceIdeal.Read.val_main_v3_apply, Cert.EvenQueryReferenceIdeal.Read.val_main_v2_apply, Cert.EvenQueryReferenceIdeal.Read.val_main_cst_apply, Cert.EvenQueryReferenceIdeal.Read.val_main_v0_apply, Cert.EvenQueryReferenceIdeal.Read.val_main_v1_apply]
  pointwise [k0_pay1]
  blk_point [iblk, V, idx t]

/-- The whole of result 0 after the run: the blocks cover the array, so it is the reference. -/
theorem final (c : Dev nD) : (dats m 0 c).arrAt 2 (cfgs 0).N
    = Cert.EvenQueryReferenceIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.EvenQueryKernelIdeal.Own

end
-- ==== Proof.EvenKeyValue.lean ====
/- The value of this projection: every block of the result is a block of rows times a block of weight columns, so
   the array is the plain matrix product of the reference. -/
module

public import proofs.«01_k».proof.Proof.Gen.EvenKeyKernelIdeal.Value
public import proofs.«01_k».proof.Proof.Gen.EvenKeyReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenKeyKernelIdeal.Own

open Cert.EvenKeyKernelIdeal Cert.EvenKeyKernelIdeal.Gen

variable (m : (ℓ : Loc nD τ sig) → Buf (Elt Ideal) ℓ)

/-- The block indices of the windows at every grid point. -/
theorem idx : ∀ t : Fin cfg0.N, win0_0.index t = ![t.val / 2, 0]
    ∧ win0_1.index t = ![0, 10 + t.val % 2]
    ∧ win0_2.index t = ![t.val / 2, t.val % 2]
    ∧ win0_3.index t = ![t.val / 2, t.val % 2] :=
  (by decide +kernel : ∀ t : Fin grid0.N, _)

/-- One block of result 0: what the body stores at a block index is the reference at the array index it lands on. -/
theorem point0 (c : Dev nD) (t : Fin cfg0.N) (y) : k0_pay1 (iblk m c 0 t) (iblk m c 1 t) y
    = Cert.EvenKeyReferenceIdeal.Read.val_main_v2 (F := Ideal) (m ((c : Thread nD τ).loc main_arg0)) (m ((c : Thread nD τ).loc main_arg1))
      (((cfg0.win 2).blk t).view.emb y) := by
  rw [Cert.EvenKeyReferenceIdeal.Read.val_main_v2_apply]
  simp only [Cert.EvenKeyReferenceIdeal.Read.val_main_v0_apply, Cert.EvenKeyReferenceIdeal.Read.val_main_v1_apply]
  pointwise [k0_pay1]
  blk_point [iblk, V, idx t]

/-- The whole of result 0 after the run: the blocks cover the array, so it is the reference. -/
theorem final0 (c : Dev nD) : (dats m 0 c).arrAt 2 (cfgs 0).N
    = Cert.EvenKeyReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

/-- One block of result 1: what the body stores at a block index is the reference at the array index it lands on. -/
theorem point1 (c : Dev nD) (t : Fin cfg0.N) (y) : k0_pay2 (iblk m c 0 t) (iblk m c 1 t) y
    = Cert.EvenKeyReferenceIdeal.Read.val_main_v3 (F := Ideal) (m ((c : Thread nD τ).loc main_arg0)) (m ((c : Thread nD τ).loc main_arg1))
      (((cfg0.win 3).blk t).view.emb y) := by
  rw [Cert.EvenKeyReferenceIdeal.Read.val_main_v3_apply]
  simp only [Cert.EvenKeyReferenceIdeal.Read.val_main_v2_apply, Cert.EvenKeyReferenceIdeal.Read.val_main_v0_apply, Cert.EvenKeyReferenceIdeal.Read.val_main_v1_apply]
  pointwise [k0_pay2, k0_pay1]
  blk_point [iblk, V, idx t]

/-- The whole of result 1 after the run: the blocks cover the array, so it is the reference. -/
theorem final1 (c : Dev nD) : (dats m 0 c).arrAt 3 (cfgs 0).N
    = Cert.EvenKeyReferenceIdeal.Read.val_main_v3 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point1 m c t y

end Cert.EvenKeyKernelIdeal.Own

end
-- ==== Proof.EvenValueValue.lean ====
/- The value of this projection: every block of the result is a block of rows times a block of weight columns, so
   the array is the plain matrix product of the reference. -/
module

public import proofs.«01_k».proof.Proof.Gen.EvenValueKernelIdeal.Value
public import proofs.«01_k».proof.Proof.Gen.EvenValueReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenValueKernelIdeal.Own

open Cert.EvenValueKernelIdeal Cert.EvenValueKernelIdeal.Gen

variable (m : (ℓ : Loc nD τ sig) → Buf (Elt Ideal) ℓ)

/-- The block indices of the windows at every grid point. -/
theorem idx : ∀ t : Fin cfg0.N, win0_0.index t = ![t.val / 2, 0]
    ∧ win0_1.index t = ![0, 12 + t.val % 2]
    ∧ win0_2.index t = ![t.val / 2, t.val % 2]
    ∧ win0_3.index t = ![t.val / 2, t.val % 2] :=
  (by decide +kernel : ∀ t : Fin grid0.N, _)

/-- One block of result 0: what the body stores at a block index is the reference at the array index it lands on. -/
theorem point0 (c : Dev nD) (t : Fin cfg0.N) (y) : k0_pay1 (iblk m c 0 t) (iblk m c 1 t) y
    = Cert.EvenValueReferenceIdeal.Read.val_main_v2 (F := Ideal) (m ((c : Thread nD τ).loc main_arg0)) (m ((c : Thread nD τ).loc main_arg1))
      (((cfg0.win 2).blk t).view.emb y) := by
  rw [Cert.EvenValueReferenceIdeal.Read.val_main_v2_apply]
  simp only [Cert.EvenValueReferenceIdeal.Read.val_main_v0_apply, Cert.EvenValueReferenceIdeal.Read.val_main_v1_apply]
  pointwise [k0_pay1]
  blk_point [iblk, V, idx t]

/-- The whole of result 0 after the run: the blocks cover the array, so it is the reference. -/
theorem final0 (c : Dev nD) : (dats m 0 c).arrAt 2 (cfgs 0).N
    = Cert.EvenValueReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

/-- One block of result 1: what the body stores at a block index is the reference at the array index it lands on. -/
theorem point1 (c : Dev nD) (t : Fin cfg0.N) (y) : k0_pay2 (iblk m c 0 t) (iblk m c 1 t) y
    = Cert.EvenValueReferenceIdeal.Read.val_main_v3 (F := Ideal) (m ((c : Thread nD τ).loc main_arg0)) (m ((c : Thread nD τ).loc main_arg1))
      (((cfg0.win 3).blk t).view.emb y) := by
  rw [Cert.EvenValueReferenceIdeal.Read.val_main_v3_apply]
  simp only [Cert.EvenValueReferenceIdeal.Read.val_main_v2_apply, Cert.EvenValueReferenceIdeal.Read.val_main_v0_apply, Cert.EvenValueReferenceIdeal.Read.val_main_v1_apply]
  pointwise [k0_pay2, k0_pay1]
  blk_point [iblk, V, idx t]

/-- The whole of result 1 after the run: the blocks cover the array, so it is the reference. -/
theorem final1 (c : Dev nD) : (dats m 0 c).arrAt 3 (cfgs 0).N
    = Cert.EvenValueReferenceIdeal.Read.val_main_v3 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point1 m c t y

end Cert.EvenValueKernelIdeal.Own

end
-- ==== Proof.EvenGateValue.lean ====
/- The value of this projection: every block of the result is a block of rows times a block of weight columns, so
   the array is the plain matrix product of the reference. -/
module

public import proofs.«01_k».proof.Proof.Gen.EvenGateKernelIdeal.Value
public import proofs.«01_k».proof.Proof.Gen.EvenGateReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenGateKernelIdeal.Own

open Cert.EvenGateKernelIdeal Cert.EvenGateKernelIdeal.Gen

variable (m : (ℓ : Loc nD τ sig) → Buf (Elt Ideal) ℓ)

/-- The block indices of the windows at every grid point. -/
theorem idx : ∀ t : Fin cfg0.N, win0_0.index t = ![t.val / 2, 0]
    ∧ win0_1.index t = ![0, 14 + t.val % 2]
    ∧ win0_2.index t = ![t.val / 2, t.val % 2] :=
  (by decide +kernel : ∀ t : Fin grid0.N, _)

/-- One block of result 0: what the body stores at a block index is the reference at the array index it lands on. -/
theorem point (c : Dev nD) (t : Fin cfg0.N) (y) : k0_pay1 (iblk m c 0 t) (iblk m c 1 t) y
    = Cert.EvenGateReferenceIdeal.Read.val_main_v2 (F := Ideal) (m ((c : Thread nD τ).loc main_arg0)) (m ((c : Thread nD τ).loc main_arg1))
      (((cfg0.win 2).blk t).view.emb y) := by
  rw [Cert.EvenGateReferenceIdeal.Read.val_main_v2_apply]
  simp only [Cert.EvenGateReferenceIdeal.Read.val_main_v0_apply, Cert.EvenGateReferenceIdeal.Read.val_main_v1_apply]
  pointwise [k0_pay1]
  blk_point [iblk, V, idx t]

/-- The whole of result 0 after the run: the blocks cover the array, so it is the reference. -/
theorem final (c : Dev nD) : (dats m 0 c).arrAt 2 (cfgs 0).N
    = Cert.EvenGateReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.EvenGateKernelIdeal.Own

end
-- ==== Proof.EvenOutValue.lean ====
/- The value of this projection: every block of the result is a block of rows times a block of weight columns, so
   the array is the plain matrix product of the reference. -/
module

public import proofs.«01_k».proof.Proof.Gen.EvenOutKernelIdeal.Value
public import proofs.«01_k».proof.Proof.Gen.EvenOutReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenOutKernelIdeal.Own

open Cert.EvenOutKernelIdeal Cert.EvenOutKernelIdeal.Gen

variable (m : (ℓ : Loc nD τ sig) → Buf (Elt Ideal) ℓ)

/-- The block indices of the windows at every grid point. -/
theorem idx : ∀ t : Fin cfg0.N, win0_0.index t = ![t.val / 4, 0]
    ∧ win0_1.index t = ![t.val / 4, 0]
    ∧ win0_2.index t = ![0, t.val % 4]
    ∧ win0_3.index t = ![1, t.val % 4]
    ∧ win0_4.index t = ![t.val / 4, t.val % 4]
    ∧ win0_5.index t = ![t.val / 4, t.val % 4] :=
  (by decide +kernel : ∀ t : Fin grid0.N, _)

/-- One block of result 0: what the body stores at a block index is the reference at the array index it lands on. -/
theorem point (c : Dev nD) (t : Fin cfg0.N) (y) : k0_pay1 (iblk m c 0 t) (iblk m c 2 t) (iblk m c 1 t) (iblk m c 3 t) (iblk m c 4 t) y
    = Cert.EvenOutReferenceIdeal.Read.val_main_v4 (F := Ideal) (m ((c : Thread nD τ).loc main_arg0)) (m ((c : Thread nD τ).loc main_arg1)) (m ((c : Thread nD τ).loc main_arg2)) (m ((c : Thread nD τ).loc main_arg3))
      (((cfg0.win 5).blk t).view.emb y) := by
  rw [Cert.EvenOutReferenceIdeal.Read.val_main_v4_apply]
  simp only [Cert.EvenOutReferenceIdeal.Read.val_main_v3_apply, Cert.EvenOutReferenceIdeal.Read.val_main_v1_apply, Cert.EvenOutReferenceIdeal.Read.val_main_v2_apply, Cert.EvenOutReferenceIdeal.Read.val_main_v0]
  pointwise [k0_pay1]
  blk_point [iblk, V, idx t]

/-- The whole of result 0 after the run: the blocks cover the array, so it is the reference. -/
theorem final (c : Dev nD) : (dats m 0 c).arrAt 5 (cfgs 0).N
    = Cert.EvenOutReferenceIdeal.Read.val_main_v4 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point m c t y

end Cert.EvenOutKernelIdeal.Own

end
-- ==== Proof.OddQueryValue.lean ====
/- The value of this projection: every block of the result is a block of rows times a block of weight columns, so
   the array is the plain matrix product of the reference. -/
module

public import proofs.«01_k».proof.Proof.Gen.OddQueryKernelIdeal.Value
public import proofs.«01_k».proof.Proof.Gen.OddQueryReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OddQueryKernelIdeal.Own

open Cert.OddQueryKernelIdeal Cert.OddQueryKernelIdeal.Gen

variable (m : (ℓ : Loc nD τ sig) → Buf (Elt Ideal) ℓ)

/-- The block indices of the windows at every grid point. -/
theorem idx : ∀ t : Fin cfg0.N, win0_0.index t = ![t.val / 4, 0] ∧ win0_1.index t = ![0 + t.val % 4, 0]
    ∧ win0_2.index t = ![t.val / 4, t.val % 4] :=
  (by decide +kernel : ∀ t : Fin grid0.N, _)

/-- No block of the weights is cut, so its staging buffer holds exactly the block. -/
theorem weights (c : Dev nD) (t : Fin cfg0.N) (j : (cfg0.win 1).block.Idx) :
    X0_1 m c t j = iblk m c 1 t (fun a => ⟨(j a).val, ((cfg0.win 1).moved_iff _ j).mp (moved0_1 t j) a⟩) := by
  unfold X0_1 Pipeline.Window.fill
  rw [dif_pos (moved0_1 t j)]

/-- The weights the region reads: the argument with its last two axes swapped, its unit axis dropped, rounded. -/
abbrev wts (X : FVec Ideal S1x4096x16416 .f32) : FVec Ideal S16416x4096 .bf16 :=
  truncf .bf16 (shapeCast S16416x4096 (transpose S1x16416x4096 [0, 2, 1] X transposes_S1x4096x16416_S1x16416x4096_0_2_1)
    shapeCasts_S1x16416x4096_S16416x4096) bitsLt_bf16_f32

/-- The weights the region reads, at an index. -/
theorem wts_apply (X : FVec Ideal S1x4096x16416 .f32) (i : S16416x4096.Idx) : wts X i = X (ix3 0 (i 1) (i 0)) := by
  pointwise [wts]

/-- Row `x` of a flat index over rows of 16416. -/
theorem split_row (x r : ℕ) (hx : x < 4096) (hr : r < 16416) : x = (x * 16416 + r) / 16416 % 4096 := by
  rw [Nat.mul_comm, Nat.mul_add_div (by omega), Nat.div_eq_of_lt hr, Nat.add_zero, Nat.mod_eq_of_lt hx]

/-- The weights' array holds them when the region starts. -/
theorem entry (c : Dev nD) : V m c main_v2 = wts (m ((c : Thread nD τ).loc main_arg1)) := by
  entry_read
  rfl

/-- One block of the product: what the body stores at a block index is the reference at the array index it lands on. -/
theorem point (c : Dev nD) (t : Fin cfg0.N) (y) : k0_pay1 (iblk m c 0 t) (X0_1 m c t) y
    = Cert.OddQueryReferenceIdeal.Read.val_main_v5 (F := Ideal) (m ((c : Thread nD τ).loc main_arg0)) (m ((c : Thread nD τ).loc main_arg1))
      (((cfg0.win 2).blk t).view.emb y) := by
  rw [Cert.OddQueryReferenceIdeal.Read.val_main_v5_apply]
  simp only [Cert.OddQueryReferenceIdeal.Read.val_main_v4_apply, Cert.OddQueryReferenceIdeal.Read.val_main_v3_apply, Cert.OddQueryReferenceIdeal.Read.val_main_v2_apply, Cert.OddQueryReferenceIdeal.Read.val_main_cst_apply, Cert.OddQueryReferenceIdeal.Read.val_main_v0_apply, Cert.OddQueryReferenceIdeal.Read.val_main_v1_apply]
  pointwise [k0_pay1]
  simp only [weights]
  refine congrArg (· * _) (Finset.sum_congr rfl fun x _ => ?_)
  unfold iblk
  have hw : ∀ z, View.read (Elt Ideal) ((cfg0.win 1).blk t).view (V m c (Pipeline.arrRef spec0 1)) z
      = V m c main_v2 (((cfg0.win 1).blk t).view.emb z) := fun _ => rfl
  rw [hw, entry]
  refine congrArg₂ (· * ·) ?_ ((wts_apply _ _).trans ?_)
  · blk_point [iblk, V, idx t]
  · blk_point [iblk, V, idx t]
    have hy : (y 1).val < 1024 := (y 1).isLt
    exact split_row _ _ (by omega) (by omega)

/-- The whole result after the run: the blocks cover the array, so it is the reference. -/
theorem final (c : Dev nD) : (dats m 0 c).arrAt 2 (cfgs 0).N
    = Cert.OddQueryReferenceIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.OddQueryKernelIdeal.Own

end
-- ==== Proof.OddKeyValue.lean ====
/- The value of this projection: every block of the result is a block of rows times a block of weight columns, so
   the array is the plain matrix product of the reference. -/
module

public import proofs.«01_k».proof.Proof.Gen.OddKeyKernelIdeal.Value
public import proofs.«01_k».proof.Proof.Gen.OddKeyReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OddKeyKernelIdeal.Own

open Cert.OddKeyKernelIdeal Cert.OddKeyKernelIdeal.Gen

variable (m : (ℓ : Loc nD τ sig) → Buf (Elt Ideal) ℓ)

/-- The block indices of the windows at every grid point. -/
theorem idx : ∀ t : Fin cfg0.N, win0_0.index t = ![t.val / 4, 0] ∧ win0_1.index t = ![4 + t.val % 4, 0]
    ∧ win0_2.index t = ![t.val / 4, t.val % 4] :=
  (by decide +kernel : ∀ t : Fin grid0.N, _)

/-- No block of the weights is cut, so its staging buffer holds exactly the block. -/
theorem weights (c : Dev nD) (t : Fin cfg0.N) (j : (cfg0.win 1).block.Idx) :
    X0_1 m c t j = iblk m c 1 t (fun a => ⟨(j a).val, ((cfg0.win 1).moved_iff _ j).mp (moved0_1 t j) a⟩) := by
  unfold X0_1 Pipeline.Window.fill
  rw [dif_pos (moved0_1 t j)]

/-- The weights the region reads: the argument with its last two axes swapped, its unit axis dropped, rounded. -/
abbrev wts (X : FVec Ideal S1x4096x16416 .f32) : FVec Ideal S16416x4096 .bf16 :=
  truncf .bf16 (shapeCast S16416x4096 (transpose S1x16416x4096 [0, 2, 1] X transposes_S1x4096x16416_S1x16416x4096_0_2_1)
    shapeCasts_S1x16416x4096_S16416x4096) bitsLt_bf16_f32

/-- The weights the region reads, at an index. -/
theorem wts_apply (X : FVec Ideal S1x4096x16416 .f32) (i : S16416x4096.Idx) : wts X i = X (ix3 0 (i 1) (i 0)) := by
  pointwise [wts]

/-- Row `x` of a flat index over rows of 16416. -/
theorem split_row (x r : ℕ) (hx : x < 4096) (hr : r < 16416) : x = (x * 16416 + r) / 16416 % 4096 := by
  rw [Nat.mul_comm, Nat.mul_add_div (by omega), Nat.div_eq_of_lt hr, Nat.add_zero, Nat.mod_eq_of_lt hx]

/-- The weights' array holds them when the region starts. -/
theorem entry (c : Dev nD) : V m c main_v2 = wts (m ((c : Thread nD τ).loc main_arg1)) := by
  entry_read
  rfl

/-- One block of the product: what the body stores at a block index is the reference at the array index it lands on. -/
theorem point (c : Dev nD) (t : Fin cfg0.N) (y) : k0_pay1 (iblk m c 0 t) (X0_1 m c t) y
    = Cert.OddKeyReferenceIdeal.Read.val_main_v2 (F := Ideal) (m ((c : Thread nD τ).loc main_arg0)) (m ((c : Thread nD τ).loc main_arg1))
      (((cfg0.win 2).blk t).view.emb y) := by
  rw [Cert.OddKeyReferenceIdeal.Read.val_main_v2_apply]
  simp only [Cert.OddKeyReferenceIdeal.Read.val_main_v0_apply, Cert.OddKeyReferenceIdeal.Read.val_main_v1_apply]
  pointwise [k0_pay1]
  simp only [weights]
  refine Finset.sum_congr rfl fun x _ => ?_
  unfold iblk
  have hw : ∀ z, View.read (Elt Ideal) ((cfg0.win 1).blk t).view (V m c (Pipeline.arrRef spec0 1)) z
      = V m c main_v2 (((cfg0.win 1).blk t).view.emb z) := fun _ => rfl
  rw [hw, entry]
  refine congrArg₂ (· * ·) ?_ ((wts_apply _ _).trans ?_)
  · blk_point [iblk, V, idx t]
  · blk_point [iblk, V, idx t]
    have hy : (y 1).val < 1024 := (y 1).isLt
    exact split_row _ _ (by omega) (by omega)

/-- The whole result after the run: the blocks cover the array, so it is the reference. -/
theorem final (c : Dev nD) : (dats m 0 c).arrAt 2 (cfgs 0).N
    = Cert.OddKeyReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.OddKeyKernelIdeal.Own

end
-- ==== Proof.OddValueValue.lean ====
/- The value of this projection: every block of the result is a block of rows times a block of weight columns, so
   the array is the plain matrix product of the reference. -/
module

public import proofs.«01_k».proof.Proof.Gen.OddValueKernelIdeal.Value
public import proofs.«01_k».proof.Proof.Gen.OddValueReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OddValueKernelIdeal.Own

open Cert.OddValueKernelIdeal Cert.OddValueKernelIdeal.Gen

variable (m : (ℓ : Loc nD τ sig) → Buf (Elt Ideal) ℓ)

/-- The block indices of the windows at every grid point. -/
theorem idx : ∀ t : Fin cfg0.N, win0_0.index t = ![t.val / 4, 0] ∧ win0_1.index t = ![8 + t.val % 4, 0]
    ∧ win0_2.index t = ![t.val / 4, t.val % 4] :=
  (by decide +kernel : ∀ t : Fin grid0.N, _)

/-- No block of the weights is cut, so its staging buffer holds exactly the block. -/
theorem weights (c : Dev nD) (t : Fin cfg0.N) (j : (cfg0.win 1).block.Idx) :
    X0_1 m c t j = iblk m c 1 t (fun a => ⟨(j a).val, ((cfg0.win 1).moved_iff _ j).mp (moved0_1 t j) a⟩) := by
  unfold X0_1 Pipeline.Window.fill
  rw [dif_pos (moved0_1 t j)]

/-- The weights the region reads: the argument with its last two axes swapped, its unit axis dropped, rounded. -/
abbrev wts (X : FVec Ideal S1x4096x16416 .f32) : FVec Ideal S16416x4096 .bf16 :=
  truncf .bf16 (shapeCast S16416x4096 (transpose S1x16416x4096 [0, 2, 1] X transposes_S1x4096x16416_S1x16416x4096_0_2_1)
    shapeCasts_S1x16416x4096_S16416x4096) bitsLt_bf16_f32

/-- The weights the region reads, at an index. -/
theorem wts_apply (X : FVec Ideal S1x4096x16416 .f32) (i : S16416x4096.Idx) : wts X i = X (ix3 0 (i 1) (i 0)) := by
  pointwise [wts]

/-- Row `x` of a flat index over rows of 16416. -/
theorem split_row (x r : ℕ) (hx : x < 4096) (hr : r < 16416) : x = (x * 16416 + r) / 16416 % 4096 := by
  rw [Nat.mul_comm, Nat.mul_add_div (by omega), Nat.div_eq_of_lt hr, Nat.add_zero, Nat.mod_eq_of_lt hx]

/-- The weights' array holds them when the region starts. -/
theorem entry (c : Dev nD) : V m c main_v2 = wts (m ((c : Thread nD τ).loc main_arg1)) := by
  entry_read
  rfl

/-- One block of the product: what the body stores at a block index is the reference at the array index it lands on. -/
theorem point (c : Dev nD) (t : Fin cfg0.N) (y) : k0_pay1 (iblk m c 0 t) (X0_1 m c t) y
    = Cert.OddValueReferenceIdeal.Read.val_main_v2 (F := Ideal) (m ((c : Thread nD τ).loc main_arg0)) (m ((c : Thread nD τ).loc main_arg1))
      (((cfg0.win 2).blk t).view.emb y) := by
  rw [Cert.OddValueReferenceIdeal.Read.val_main_v2_apply]
  simp only [Cert.OddValueReferenceIdeal.Read.val_main_v0_apply, Cert.OddValueReferenceIdeal.Read.val_main_v1_apply]
  pointwise [k0_pay1]
  simp only [weights]
  refine Finset.sum_congr rfl fun x _ => ?_
  unfold iblk
  have hw : ∀ z, View.read (Elt Ideal) ((cfg0.win 1).blk t).view (V m c (Pipeline.arrRef spec0 1)) z
      = V m c main_v2 (((cfg0.win 1).blk t).view.emb z) := fun _ => rfl
  rw [hw, entry]
  refine congrArg₂ (· * ·) ?_ ((wts_apply _ _).trans ?_)
  · blk_point [iblk, V, idx t]
  · blk_point [iblk, V, idx t]
    have hy : (y 1).val < 1024 := (y 1).isLt
    exact split_row _ _ (by omega) (by omega)

/-- The whole result after the run: the blocks cover the array, so it is the reference. -/
theorem final (c : Dev nD) : (dats m 0 c).arrAt 2 (cfgs 0).N
    = Cert.OddValueReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.OddValueKernelIdeal.Own

end
-- ==== Proof.OddGateValue.lean ====
/- The value of this projection: every block of the result is a block of rows times a block of weight columns, so
   the array is the plain matrix product of the reference. -/
module

public import proofs.«01_k».proof.Proof.Gen.OddGateKernelIdeal.Value
public import proofs.«01_k».proof.Proof.Gen.OddGateReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OddGateKernelIdeal.Own

open Cert.OddGateKernelIdeal Cert.OddGateKernelIdeal.Gen

variable (m : (ℓ : Loc nD τ sig) → Buf (Elt Ideal) ℓ)

/-- The block indices of the windows at every grid point. -/
theorem idx : ∀ t : Fin cfg0.N, win0_0.index t = ![t.val / 4, 0] ∧ win0_1.index t = ![12 + t.val % 4, 0]
    ∧ win0_2.index t = ![t.val / 4, t.val % 4] :=
  (by decide +kernel : ∀ t : Fin grid0.N, _)

/-- No block of the weights is cut, so its staging buffer holds exactly the block. -/
theorem weights (c : Dev nD) (t : Fin cfg0.N) (j : (cfg0.win 1).block.Idx) :
    X0_1 m c t j = iblk m c 1 t (fun a => ⟨(j a).val, ((cfg0.win 1).moved_iff _ j).mp (moved0_1 t j) a⟩) := by
  unfold X0_1 Pipeline.Window.fill
  rw [dif_pos (moved0_1 t j)]

/-- The weights the region reads: the argument with its last two axes swapped, its unit axis dropped, rounded. -/
abbrev wts (X : FVec Ideal S1x4096x16416 .f32) : FVec Ideal S16416x4096 .bf16 :=
  truncf .bf16 (shapeCast S16416x4096 (transpose S1x16416x4096 [0, 2, 1] X transposes_S1x4096x16416_S1x16416x4096_0_2_1)
    shapeCasts_S1x16416x4096_S16416x4096) bitsLt_bf16_f32

/-- The weights the region reads, at an index. -/
theorem wts_apply (X : FVec Ideal S1x4096x16416 .f32) (i : S16416x4096.Idx) : wts X i = X (ix3 0 (i 1) (i 0)) := by
  pointwise [wts]

/-- Row `x` of a flat index over rows of 16416. -/
theorem split_row (x r : ℕ) (hx : x < 4096) (hr : r < 16416) : x = (x * 16416 + r) / 16416 % 4096 := by
  rw [Nat.mul_comm, Nat.mul_add_div (by omega), Nat.div_eq_of_lt hr, Nat.add_zero, Nat.mod_eq_of_lt hx]

/-- The weights' array holds them when the region starts. -/
theorem entry (c : Dev nD) : V m c main_v2 = wts (m ((c : Thread nD τ).loc main_arg1)) := by
  entry_read
  rfl

/-- One block of the product: what the body stores at a block index is the reference at the array index it lands on. -/
theorem point (c : Dev nD) (t : Fin cfg0.N) (y) : k0_pay1 (iblk m c 0 t) (X0_1 m c t) y
    = Cert.OddGateReferenceIdeal.Read.val_main_v2 (F := Ideal) (m ((c : Thread nD τ).loc main_arg0)) (m ((c : Thread nD τ).loc main_arg1))
      (((cfg0.win 2).blk t).view.emb y) := by
  rw [Cert.OddGateReferenceIdeal.Read.val_main_v2_apply]
  simp only [Cert.OddGateReferenceIdeal.Read.val_main_v0_apply, Cert.OddGateReferenceIdeal.Read.val_main_v1_apply]
  pointwise [k0_pay1]
  simp only [weights]
  refine Finset.sum_congr rfl fun x _ => ?_
  unfold iblk
  have hw : ∀ z, View.read (Elt Ideal) ((cfg0.win 1).blk t).view (V m c (Pipeline.arrRef spec0 1)) z
      = V m c main_v2 (((cfg0.win 1).blk t).view.emb z) := fun _ => rfl
  rw [hw, entry]
  refine congrArg₂ (· * ·) ?_ ((wts_apply _ _).trans ?_)
  · blk_point [iblk, V, idx t]
  · blk_point [iblk, V, idx t]
    have hy : (y 1).val < 1024 := (y 1).isLt
    exact split_row _ _ (by omega) (by omega)

/-- The whole result after the run: the blocks cover the array, so it is the reference. -/
theorem final (c : Dev nD) : (dats m 0 c).arrAt 2 (cfgs 0).N
    = Cert.OddGateReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.OddGateKernelIdeal.Own

end
-- ==== Proof.OddForgetValue.lean ====
/- The value of this projection: every block of the result is a block of rows times a block of weight columns, so
   the array is the plain matrix product of the reference. -/
module

public import proofs.«01_k».proof.Proof.Gen.OddForgetKernelIdeal.Value
public import proofs.«01_k».proof.Proof.Gen.OddForgetReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OddForgetKernelIdeal.Own

open Cert.OddForgetKernelIdeal Cert.OddForgetKernelIdeal.Gen

variable (m : (ℓ : Loc nD τ sig) → Buf (Elt Ideal) ℓ)

/-- The block indices of the windows at every grid point. -/
theorem idx : ∀ t : Fin cfg0.N, win0_0.index t = ![t.val, 0]
    ∧ win0_1.index t = ![0, 0]
    ∧ win0_2.index t = ![t.val, 0] :=
  (by decide +kernel : ∀ t : Fin grid0.N, _)

/-- One block of result 0: what the body stores at a block index is the reference at the array index it lands on. -/
theorem point (c : Dev nD) (t : Fin cfg0.N) (y) : k0_pay1 (iblk m c 0 t) (iblk m c 1 t) y
    = Cert.OddForgetReferenceIdeal.Read.val_main_v2 (F := Ideal) (m ((c : Thread nD τ).loc main_arg0)) (m ((c : Thread nD τ).loc main_arg1))
      (((cfg0.win 2).blk t).view.emb y) := by
  rw [Cert.OddForgetReferenceIdeal.Read.val_main_v2_apply]
  simp only [Cert.OddForgetReferenceIdeal.Read.val_main_v0_apply, Cert.OddForgetReferenceIdeal.Read.val_main_v1_apply]
  pointwise [k0_pay1]
  blk_point [iblk, V, idx t]

/-- The whole of result 0 after the run: the blocks cover the array, so it is the reference. -/
theorem final (c : Dev nD) : (dats m 0 c).arrAt 2 (cfgs 0).N
    = Cert.OddForgetReferenceIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OddForgetKernelIdeal.Own

end
-- ==== Proof.OddOutValue.lean ====
/- The value of this projection: every block of the result is a block of rows times a block of weight columns, so
   the array is the plain matrix product of the reference. -/
module

public import proofs.«01_k».proof.Proof.Gen.OddOutKernelIdeal.Value
public import proofs.«01_k».proof.Proof.Gen.OddOutReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OddOutKernelIdeal.Own

open Cert.OddOutKernelIdeal Cert.OddOutKernelIdeal.Gen

variable (m : (ℓ : Loc nD τ sig) → Buf (Elt Ideal) ℓ)

/-- The block indices of the windows at every grid point. -/
theorem idx : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

/-- One block of result 0: what the body stores at a block index is the reference at the array index it lands on. -/
theorem point (c : Dev nD) (t : Fin cfg0.N) (y) : k0_pay1 (iblk m c 0 t) (iblk m c 1 t) (iblk m c 2 t) y
    = Cert.OddOutReferenceIdeal.Read.val_main_v3 (F := Ideal) (m ((c : Thread nD τ).loc main_arg0)) (m ((c : Thread nD τ).loc main_arg1)) (m ((c : Thread nD τ).loc main_arg2))
      (((cfg0.win 3).blk t).view.emb y) := by
  rw [Cert.OddOutReferenceIdeal.Read.val_main_v3_apply]
  simp only [Cert.OddOutReferenceIdeal.Read.val_main_v0_apply, Cert.OddOutReferenceIdeal.Read.val_main_v1_apply, Cert.OddOutReferenceIdeal.Read.val_main_v2_apply]
  pointwise [k0_pay1]
  blk_point [iblk, V, idx t]

/-- The whole of result 0 after the run: the blocks cover the array, so it is the reference. -/
theorem final (c : Dev nD) : (dats m 0 c).arrAt 3 (cfgs 0).N
    = Cert.OddOutReferenceIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.OddOutKernelIdeal.Own

end
-- ==== Proof.EvenColsValue.lean ====
/- The value of this projection: every block of the result is a block of rows times a block of weight columns, so
   the array is the plain matrix product of the reference. -/
module

public import proofs.«01_k».proof.Proof.Gen.EvenColsKernelIdeal.Value
public import proofs.«01_k».proof.Proof.Gen.EvenColsReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenColsKernelIdeal.Own

open Cert.EvenColsKernelIdeal Cert.EvenColsKernelIdeal.Gen

variable (m : (ℓ : Loc nD τ sig) → Buf (Elt Ideal) ℓ)

/-- The block indices of the windows at every grid point. -/
theorem idx : ∀ t : Fin cfg0.N, win0_0.index t = ![0, 0]
    ∧ win0_1.index t = ![0, 0, t.val]
    ∧ win0_2.index t = ![0, t.val]
    ∧ win0_3.index t = ![0, t.val] :=
  (by decide +kernel : ∀ t : Fin grid0.N, _)

/-- One block of result 0: what the body stores at a block index is the reference at the array index it lands on. -/
theorem point0 (c : Dev nD) (t : Fin cfg0.N) (y) : k0_pay2 (iblk m c 1 t) (iblk m c 0 t) y
    = Cert.EvenColsReferenceIdeal.Read.val_main_v1 (F := Ideal) (m ((c : Thread nD τ).loc main_arg0)) (m ((c : Thread nD τ).loc main_arg1))
      (((cfg0.win 2).blk t).view.emb y) := by
  rw [Cert.EvenColsReferenceIdeal.Read.val_main_v1_apply]
  simp only [Cert.EvenColsReferenceIdeal.Read.val_main_v0_apply]
  pointwise [k0_pay2, k0_pay1]
  blk_point [iblk, V, idx t]

/-- The whole of result 0 after the run: the blocks cover the array, so it is the reference. -/
theorem final0 (c : Dev nD) : (dats m 0 c).arrAt 2 (cfgs 0).N
    = Cert.EvenColsReferenceIdeal.Read.val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point0 m c t y

/-- One block of result 1: what the body stores at a block index is the reference at the array index it lands on. -/
theorem point1 (c : Dev nD) (t : Fin cfg0.N) (y) : k0_pay1 (iblk m c 1 t) y
    = Cert.EvenColsReferenceIdeal.Read.val_main_v3 (F := Ideal) (m ((c : Thread nD τ).loc main_arg1))
      (((cfg0.win 3).blk t).view.emb y) := by
  rw [Cert.EvenColsReferenceIdeal.Read.val_main_v3_apply]
  simp only [Cert.EvenColsReferenceIdeal.Read.val_main_v2_apply]
  pointwise [k0_pay1]
  blk_point [iblk, V, idx t]

/-- The whole of result 1 after the run: the blocks cover the array, so it is the reference. -/
theorem final1 (c : Dev nD) : (dats m 0 c).arrAt 3 (cfgs 0).N
    = Cert.EvenColsReferenceIdeal.Read.val_main_v3 (F := Ideal) (m ((c : Thread nD τ).loc main_arg1)) := by
  refine (dats m 0 c).arrAt_eq_of_covers 3 _ (by decide +kernel) fun t _ y => ?_
  blk_simp
  rw [after0_3]; frame_out
  exact point1 m c t y

end Cert.EvenColsKernelIdeal.Own

end
-- ==== Proof.EvenColsOutValue.lean ====
/- The value of this projection: every block of the result is a block of rows times a block of weight columns, so
   the array is the plain matrix product of the reference. -/
module

public import proofs.«01_k».proof.Proof.Gen.EvenColsOutKernelIdeal.Value
public import proofs.«01_k».proof.Proof.Gen.EvenColsOutReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.EvenColsOutKernelIdeal.Own

open Cert.EvenColsOutKernelIdeal Cert.EvenColsOutKernelIdeal.Gen

variable (m : (ℓ : Loc nD τ sig) → Buf (Elt Ideal) ℓ)

/-- The block indices of the windows at every grid point. -/
theorem idx : ∀ t : Fin cfg0.N, win0_0.index t = ![0, 0]
    ∧ win0_1.index t = ![0, 0]
    ∧ win0_2.index t = ![0, 0, t.val]
    ∧ win0_3.index t = ![0, 1, t.val]
    ∧ win0_4.index t = ![0, t.val]
    ∧ win0_5.index t = ![0, t.val]
    ∧ win0_6.index t = ![0, t.val] :=
  (by decide +kernel : ∀ t : Fin grid0.N, _)

/-- One block of result 0: what the body stores at a block index is the reference at the array index it lands on. -/
theorem point0 (c : Dev nD) (t : Fin cfg0.N) (y) : k0_pay3 (iblk m c 4 t) (iblk m c 2 t) (iblk m c 0 t) (iblk m c 3 t) (iblk m c 1 t) y
    = Cert.EvenColsOutReferenceIdeal.Read.val_main_v4 (F := Ideal) (m ((c : Thread nD τ).loc main_arg0)) (m ((c : Thread nD τ).loc main_arg1)) (m ((c : Thread nD τ).loc main_arg2)) (m ((c : Thread nD τ).loc main_arg3))
      (((cfg0.win 5).blk t).view.emb y) := by
  rw [Cert.EvenColsOutReferenceIdeal.Read.val_main_v4_apply]
  simp only [Cert.EvenColsOutReferenceIdeal.Read.val_main_v3_apply, Cert.EvenColsOutReferenceIdeal.Read.val_main_v1_apply, Cert.EvenColsOutReferenceIdeal.Read.val_main_v2_apply, Cert.EvenColsOutReferenceIdeal.Read.val_main_v0]
  pointwise [k0_pay3, k0_pay2, k0_pay1]
  rw [add_assoc]
  blk_point [iblk, V, idx t]

/-- The whole of result 0 after the run: the blocks cover the array, so it is the reference. -/
theorem final0 (c : Dev nD) : (dats m 0 c).arrAt 5 (cfgs 0).N
    = Cert.EvenColsOutReferenceIdeal.Read.val_main_v4 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point0 m c t y

/-- One block of result 1: what the body stores at a block index is the reference at the array index it lands on. -/
theorem point1 (c : Dev nD) (t : Fin cfg0.N) (y) : out0_6 (iblk m c 0 t) (iblk m c 1 t) (iblk m c 2 t) (iblk m c 3 t) (iblk m c 4 t) y
    = Cert.EvenColsOutReferenceIdeal.Read.val_main_v6 (F := Ideal) (m ((c : Thread nD τ).loc main_arg2))
      (((cfg0.win 6).blk t).view.emb y) := by
  rw [Cert.EvenColsOutReferenceIdeal.Read.val_main_v6_apply]
  simp only [Cert.EvenColsOutReferenceIdeal.Read.val_main_v5_apply]
  unfold out0_6
  canon_tiles y h
  all_goals (pointwise [k0_pay1, k0_pay2])
  all_goals (blk_point [iblk, V, idx t])

/-- The whole of result 1 after the run: the blocks cover the array, so it is the reference. -/
theorem final1 (c : Dev nD) : (dats m 0 c).arrAt 6 (cfgs 0).N
    = Cert.EvenColsOutReferenceIdeal.Read.val_main_v6 (F := Ideal) (m ((c : Thread nD τ).loc main_arg2)) := by
  refine (dats m 0 c).arrAt_eq_of_covers 6 _ (by decide +kernel) fun t _ y => ?_
  blk_simp
  rw [after0_6]
  exact point1 m c t y

end Cert.EvenColsOutKernelIdeal.Own

end
-- ==== Proof.OddColsOutValue.lean ====
/- The value of this projection: every block of the result is a block of rows times a block of weight columns, so
   the array is the plain matrix product of the reference. -/
module

public import proofs.«01_k».proof.Proof.Gen.OddColsOutKernelIdeal.Value
public import proofs.«01_k».proof.Proof.Gen.OddColsOutReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OddColsOutKernelIdeal.Own

open Cert.OddColsOutKernelIdeal Cert.OddColsOutKernelIdeal.Gen

variable (m : (ℓ : Loc nD τ sig) → Buf (Elt Ideal) ℓ)

/-- The block indices of the windows at every grid point. -/
theorem idx : ∀ t : Fin cfg0.N, win0_0.index t = ![0, 0]
    ∧ win0_1.index t = ![0, 0, t.val]
    ∧ win0_2.index t = ![0, t.val]
    ∧ win0_3.index t = ![0, t.val]
    ∧ win0_4.index t = ![0, t.val] :=
  (by decide +kernel : ∀ t : Fin grid0.N, _)

/-- One block of result 0: what the body stores at a block index is the reference at the array index it lands on. -/
theorem point0 (c : Dev nD) (t : Fin cfg0.N) (y) : k0_pay2 (iblk m c 2 t) (iblk m c 1 t) (iblk m c 0 t) y
    = Cert.OddColsOutReferenceIdeal.Read.val_main_v3 (F := Ideal) (m ((c : Thread nD τ).loc main_arg0)) (m ((c : Thread nD τ).loc main_arg1)) (m ((c : Thread nD τ).loc main_arg2))
      (((cfg0.win 3).blk t).view.emb y) := by
  rw [Cert.OddColsOutReferenceIdeal.Read.val_main_v3_apply]
  simp only [Cert.OddColsOutReferenceIdeal.Read.val_main_v0_apply, Cert.OddColsOutReferenceIdeal.Read.val_main_v1_apply, Cert.OddColsOutReferenceIdeal.Read.val_main_v2_apply]
  pointwise [k0_pay2, k0_pay1]
  blk_point [iblk, V, idx t]

/-- The whole of result 0 after the run: the blocks cover the array, so it is the reference. -/
theorem final0 (c : Dev nD) : (dats m 0 c).arrAt 3 (cfgs 0).N
    = Cert.OddColsOutReferenceIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point0 m c t y

/-- One block of result 1: what the body stores at a block index is the reference at the array index it lands on. -/
theorem point1 (c : Dev nD) (t : Fin cfg0.N) (y) : k0_pay1 (iblk m c 1 t) y
    = Cert.OddColsOutReferenceIdeal.Read.val_main_v5 (F := Ideal) (m ((c : Thread nD τ).loc main_arg1))
      (((cfg0.win 4).blk t).view.emb y) := by
  rw [Cert.OddColsOutReferenceIdeal.Read.val_main_v5_apply]
  simp only [Cert.OddColsOutReferenceIdeal.Read.val_main_v4_apply]
  pointwise [k0_pay1]
  blk_point [iblk, V, idx t]

/-- The whole of result 1 after the run: the blocks cover the array, so it is the reference. -/
theorem final1 (c : Dev nD) : (dats m 0 c).arrAt 4 (cfgs 0).N
    = Cert.OddColsOutReferenceIdeal.Read.val_main_v5 (F := Ideal) (m ((c : Thread nD τ).loc main_arg1)) := by
  refine (dats m 0 c).arrAt_eq_of_covers 4 _ (by decide +kernel) fun t _ y => ?_
  blk_simp
  rw [after0_4]; frame_out
  exact point1 m c t y

end Cert.OddColsOutKernelIdeal.Own

end
-- ==== Proof.EMath.lean ====
/- Sums and differences of extended reals: the facts the three attention forms share. -/
module

public import Idealize.ShloMosaic.PureOps.Ideal
public import Mathlib.Data.EReal.Operations
public import Mathlib.Algebra.BigOperators.Intervals

@[expose] public section

noncomputable section

namespace Cert.EMath

open Idealize.ShloMosaic

/-- A number that is not `⊤` is its own value plus the (zero or junk) difference with itself. -/
theorem add_sub_self_of_ne_top {f : EReal} (h : f ≠ ⊤) : f + (f - f) = f := by
  induction f with
  | bot => simp
  | coe r => rw [← EReal.coe_sub]; simp
  | top => exact absurd rfl h

/-- Taking a term out of a sum and putting it back, for terms that are not `⊤`. -/
theorem sub_add_self_of_ne_top {a f : EReal} (ha : f = ⊥ → a = ⊥) (h : f ≠ ⊤) : a - f + f = a := by
  induction f with
  | bot => rw [ha rfl]; simp
  | coe r => exact EReal.sub_add_cancel
  | top => exact absurd rfl h

/-- A sum of extended reals containing `⊥` is `⊥`. -/
theorem sum_eq_bot {ι : Type} [DecidableEq ι] (s : Finset ι) (f : ι → EReal) {i : ι} (hi : i ∈ s) (h : f i = ⊥) : ∑ k ∈ s, f k = ⊥ := by
  rw [← Finset.add_sum_erase s f hi, h, EReal.bot_add]

/-- A sum of terms none of which is `⊤` is not `⊤`. -/
theorem sum_ne_top {ι : Type} (s : Finset ι) (f : ι → EReal) (h : ∀ i ∈ s, f i ≠ ⊤) : ∑ k ∈ s, f k ≠ ⊤ := by
  classical
  induction s using Finset.induction_on with
  | empty => simp
  | insert a s ha ih =>
    rw [Finset.sum_insert ha]
    exact EReal.add_ne_top (h a (Finset.mem_insert_self a s)) (ih fun i hi => h i (Finset.mem_insert_of_mem hi))

/-- Multiplication by a finite number that is not negative passes into a sum. -/
theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A sum over `Fin n` against the zero-one lower triangle is the sum over the rows from the column on. -/
theorem tri_sum (n : ℕ) (f : ℕ → EReal) (T : Fin n → EReal) (i : ℕ) (hT : ∀ k : Fin n, T k = if i ≤ k.val then 1 else 0) :
    ∑ k : Fin n, T k * f k.val = ∑ k ∈ Finset.Ico i n, f k := by
  rw [Finset.sum_congr rfl (fun k _ => by rw [hT k, ite_mul, one_mul, zero_mul] :
    ∀ k ∈ Finset.univ, T k * f k.val = if i ≤ k.val then f k.val else 0)]
  rw [Fin.sum_univ_eq_sum_range (fun k => if i ≤ k then f k else 0) n, ← Finset.sum_filter]
  refine Finset.sum_congr ?_ fun _ _ => rfl
  ext k; simp only [Finset.mem_filter, Finset.mem_range, Finset.mem_Ico]; omega

/-- One block of the tail sum. `f` is the row of logarithms, split in two parts `f` and `f - f`; the block of `n` rows
    from `r` on contributes its rows from `i` on, less row `i` itself, and `C` carries the rows behind the block. -/
theorem tail_block (N n r i : ℕ) (hi : i < n) (hN : r + n ≤ N) (f : ℕ → EReal) (hf : ∀ k, f k ≠ ⊤) (C : EReal)
    (hC : C = ∑ k ∈ Finset.Ico (r + n) N, f k) (T : Fin n → EReal) (hT : ∀ k : Fin n, T k = if i ≤ k.val then 1 else 0) :
    (∑ k : Fin n, T k * f (r + k.val)) + (∑ k : Fin n, T k * (f (r + k.val) - f (r + k.val)))
        - (f (r + i) + (f (r + i) - f (r + i))) + C
      = (∑ k ∈ Finset.Ico (r + i) N, f k) - f (r + i) := by
  rw [← Finset.sum_add_distrib, add_sub_self_of_ne_top (hf _)]
  rw [Finset.sum_congr rfl (fun k _ => by
    rw [hT k]; split
    · rw [one_mul, one_mul, add_sub_self_of_ne_top (hf _)]
    · rw [zero_mul, zero_mul, add_zero] :
    ∀ k ∈ Finset.univ, T k * f (r + k.val) + T k * (f (r + k.val) - f (r + k.val))
      = (if i ≤ k.val then (1 : EReal) else 0) * f (r + k.val))]
  rw [tri_sum n (fun k => f (r + k)) _ i (fun _ => rfl)]
  rw [Finset.sum_Ico_add' (fun k => f k) i n r |> fun h => (by simpa [add_comm] using h :
    ∑ k ∈ Finset.Ico i n, f (r + k) = ∑ k ∈ Finset.Ico (r + i) (r + n), f k)]
  rw [sub_eq_add_neg, add_right_comm, hC, Finset.sum_Ico_consecutive _ (by omega) hN, ← sub_eq_add_neg]

/-- What a block hands to the one before it: its first row's tail with the row put back. -/
theorem tail_carry (N r : ℕ) (hr : r < N) (f : ℕ → EReal) (hf : ∀ k, f k ≠ ⊤) :
    (∑ k ∈ Finset.Ico r N, f k) - f r + (f r + (f r - f r)) = ∑ k ∈ Finset.Ico r N, f k := by
  rw [add_sub_self_of_ne_top (hf _)]
  exact sub_add_self_of_ne_top (fun h => sum_eq_bot _ _ (Finset.mem_Ico.2 ⟨le_refl r, hr⟩) h) (hf _)

/-- The correction term of a log-sigmoid is a finite number that is not negative. -/
theorem corr_real (x : EReal) : ∃ r : ℝ, 0 ≤ r ∧ Ideal.log (1 + Ideal.exp (0 - max x (-x))) = (r : EReal) := by
  have key : ∀ e : ℝ, 0 ≤ e → ∃ r : ℝ, 0 ≤ r ∧ Ideal.log (1 + (e : EReal)) = (r : EReal) := by
    intro e he
    refine ⟨Real.log (1 + e), Real.log_nonneg (by linarith), ?_⟩
    have h1 : (1 : EReal) + (e : EReal) = ((1 + e : ℝ) : EReal) := by rw [EReal.coe_add]; rfl
    rw [h1]
    show (if 1 + e ≤ 0 then (⊥ : EReal) else (Real.log (1 + e) : EReal)) = _
    rw [if_neg (by linarith)]
  have h0 : Ideal.exp ⊥ = ((0 : ℝ) : EReal) := rfl
  induction x with
  | bot =>
    have : (0 : EReal) - max ⊥ (-⊥) = ⊥ := by simp
    rw [this, h0]; exact key 0 le_rfl
  | top =>
    have : (0 : EReal) - max ⊤ (-⊤) = ⊥ := by simp
    rw [this, h0]; exact key 0 le_rfl
  | coe a =>
    have : (0 : EReal) - max (a : EReal) (-(a : EReal)) = ((0 - max a (-a) : ℝ) : EReal) := by
      rw [EReal.coe_sub, EReal.coe_strictMono.monotone.map_max, EReal.coe_neg]; rfl
    rw [this]
    exact key (Real.exp (0 - max a (-a))) (Real.exp_pos _).le

/-- The two ways of writing a log-sigmoid: the smaller of the number and zero less the correction, and minus the
    softplus of the negated number. -/
theorem logsig (x : EReal) : min x 0 - Ideal.log (1 + Ideal.exp (0 - max x (-x)))
    = -(max (-x) 0 + Ideal.log (1 + Ideal.exp (-(max (-x) (-(-x)))))) := by
  have e : (0 : EReal) - max x (-x) = -(max (-x) (-(-x))) := by rw [neg_neg, max_comm, zero_sub]
  obtain ⟨r, hr, h⟩ := corr_real x
  rw [← e, h, EReal.neg_add (Or.inr (EReal.coe_ne_top r)) (Or.inr (EReal.coe_ne_bot r))]
  congr 1
  rcases le_total x 0 with hx | hx
  · rw [min_eq_left hx, max_eq_left (by simpa using EReal.neg_le_neg_iff.mpr hx), neg_neg]
  · rw [min_eq_right hx, max_eq_right (by simpa using EReal.neg_le_neg_iff.mpr hx), neg_zero]

/-- The same, in the words of the operations themselves. -/
theorem logsig_ops (x : Ideal .f32) : min x 0 - Ideal.log (1 + Ideal.exp (0 - FloatOps.absf x))
    = -(max (-x) 0 + Ideal.log1p (Ideal.exp (-FloatOps.absf (F := Ideal) (φ := .f32) (-x)))) :=
  logsig x

end Cert.EMath

end
-- ==== Proof.LogfValue.lean ====
/- The value of the log forget gates: the log of the sigmoid, written two ways. -/
module

public import proofs.«01_k».proof.Proof.Gen.LogfKernelIdeal.Value
public import proofs.«01_k».proof.Proof.Gen.LogfReferenceIdeal.Read
public import proofs.«01_k».proof.Proof.EMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LogfKernelIdeal.Own

open Cert.LogfKernelIdeal Cert.LogfKernelIdeal.Gen

variable (m : (ℓ : Loc nD τ sig) → Buf (Elt Ideal) ℓ)

/-- The block indices of the windows at every grid point. -/
theorem idx : ∀ t : Fin cfg0.N, win0_0.index t = ![0, 0]
    ∧ win0_1.index t = ![0, 0]
    ∧ win0_2.index t = ![0, 0] :=
  (by decide +kernel : ∀ t : Fin grid0.N, _)

/-- One block of result 0: what the body stores at a block index is the reference at the array index it lands on. -/
theorem point (c : Dev nD) (t : Fin cfg0.N) (y) : k0_pay1 (iblk m c 0 t) (iblk m c 1 t) y
    = Cert.LogfReferenceIdeal.Read.val_main_v4 (F := Ideal) (m ((c : Thread nD τ).loc main_arg0)) (m ((c : Thread nD τ).loc main_arg1))
      (((cfg0.win 2).blk t).view.emb y) := by
  rw [Cert.LogfReferenceIdeal.Read.val_main_v4_apply]
  simp only [Cert.LogfReferenceIdeal.Read.val_main_v0_apply, Cert.LogfReferenceIdeal.Read.val_main_v1_apply, Cert.LogfReferenceIdeal.Read.val_main_v2_apply, Cert.LogfReferenceIdeal.Read.val_main_v3_apply, Cert.LogfReferenceIdeal.Read.val_main_call0_v0_apply, Cert.LogfReferenceIdeal.Read.val_main_call0_call0_cst_apply, Cert.LogfReferenceIdeal.Read.val_main_call0_call0_v0_apply, Cert.LogfReferenceIdeal.Read.val_main_call0_call0_v1_apply, Cert.LogfReferenceIdeal.Read.val_main_call0_call0_v2_apply, Cert.LogfReferenceIdeal.Read.val_main_call0_call0_v3_apply, Cert.LogfReferenceIdeal.Read.val_main_call0_call0_v4_apply, Cert.LogfReferenceIdeal.Read.val_main_call0_call0_v5_apply, Cert.LogfReferenceIdeal.Read.val_main_call0_call0_v6_apply, Cert.LogfReferenceIdeal.Read.val_main_call0_call0_v7_apply, Cert.LogfReferenceIdeal.Read.val_main_call0_call0_v8_apply, Cert.LogfReferenceIdeal.Read.val_main_call0_call0_v9_apply, Cert.LogfReferenceIdeal.Read.val_main_call0_call0_v10_apply, Cert.LogfReferenceIdeal.Read.val_main_call0_call0_v11_apply, Cert.LogfReferenceIdeal.Read.val_main_call0_v1_apply]
  pointwise [k0_pay1]
  rw [if_neg (fun h => h rfl)]
  refine (Cert.EMath.logsig_ops _).trans ?_
  blk_point [iblk, V, idx t]

/-- The whole of result 0 after the run: the blocks cover the array, so it is the reference. -/
theorem final (c : Dev nD) : (dats m 0 c).arrAt 2 (cfgs 0).N
    = Cert.LogfReferenceIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.LogfKernelIdeal.Own

end
-- ==== Proof.StickMath.lean ====
module
public import proofs.«01_k».proof.Proof.EMath
public import Idealize.ShloMosaic.Lib.Pointwise
@[expose] public section
noncomputable section
open Idealize.ShloMosaic Cert.EMath
namespace Cert.StickMath

/-- The logarithm of one minus the sigmoid of a score, `-softplus x`. -/
def lneg (x : EReal) : EReal := 0 - (max x 0 + Ideal.log (1 + Ideal.exp (0 - max x (-x))))

/-- The logarithm of what the stick loses at key `k`, for a query that sees the first `n` keys. -/
def loss (z : ℕ → EReal) (n k : ℕ) : EReal := if k < n then lneg (z k) else 0

/-- The logarithm of what is left of the stick at key `s`: the losses of the later keys. -/
def tail (z : ℕ → EReal) (n s : ℕ) : EReal := (∑ k ∈ Finset.Ico s 1040, loss z n k) - loss z n s

/-- The stick-breaking weight of key `s`. -/
def wt (z : ℕ → EReal) (n s : ℕ) : EReal := if s < n then Ideal.exp (z s + lneg (z s) + tail z n s) else 0

/-- A score's loss is at most zero, so it is not `⊤`. -/
theorem lneg_ne_top (x : EReal) : lneg x ≠ ⊤ := by
  obtain ⟨r, hr, h⟩ := corr_real x
  unfold lneg
  rw [h]
  intro h2
  have h3 : (0 : EReal) ≤ max x 0 + (r : EReal) := add_nonneg (le_max_right _ _) (by exact_mod_cast hr)
  have h4 : 0 - (max x 0 + (r : EReal)) ≤ 0 := by
    rw [zero_sub]; exact EReal.neg_le_zero.mpr h3
  rw [h2] at h4
  exact absurd h4 (by simp)

/-- No loss is `⊤`. -/
theorem loss_ne_top (z : ℕ → EReal) (n k : ℕ) : loss z n k ≠ ⊤ := by
  unfold loss; split
  · exact lneg_ne_top _
  · simp

/-- A score of `⊤` loses the whole stick. -/
theorem lneg_top : lneg ⊤ = ⊥ := by
  obtain ⟨r, hr, h⟩ := corr_real ⊤
  unfold lneg
  rw [h]
  simp

/-- `x - softplus x = -softplus (-x)` under the remaining stick's logarithm: when the score is `⊤` the losses from there on are `⊥`. -/
theorem exp_eq (x T : EReal) (hT : x = ⊤ → T = ⊥) :
    x + lneg x + T = -(max (-x) 0 + Ideal.log (1 + Ideal.exp (-(max (-x) (-(-x)))))) + T := by
  rcases eq_or_ne x ⊤ with h | h
  · rw [hT h]; simp
  · congr 1
    have e : (0 : EReal) - max x (-x) = -(max (-x) (-(-x))) := by rw [neg_neg, max_comm, zero_sub]
    obtain ⟨r, hr, h2⟩ := corr_real x
    unfold lneg
    rw [← e, h2, EReal.neg_add (Or.inr (EReal.coe_ne_top r)) (Or.inr (EReal.coe_ne_bot r)), zero_sub,
      EReal.neg_add (Or.inr (EReal.coe_ne_top r)) (Or.inr (EReal.coe_ne_bot r))]
    rw [sub_eq_add_neg, sub_eq_add_neg, ← add_assoc]
    congr 1
    induction x with
    | bot => simp
    | top => exact absurd rfl h
    | coe y =>
      rcases le_total y 0 with hy | hy
      · rw [max_eq_right (by exact_mod_cast hy), max_eq_left (by rw [← EReal.coe_neg]; exact_mod_cast (by linarith : (0:ℝ) ≤ -y))]
        simp
      · rw [max_eq_left (by exact_mod_cast hy), max_eq_right (by rw [← EReal.coe_neg]; exact_mod_cast (by linarith : -y ≤ (0:ℝ)))]
        rw [← EReal.coe_neg, ← EReal.coe_add]; simp

/-- When a visible score is `⊤`, what is left of the stick there is `⊥`. -/
theorem tail_top (z : ℕ → EReal) (n s : ℕ) (hs : s < n) (h1 : s < 1040) (hz : z s = ⊤) : tail z n s = ⊥ := by
  have h : loss z n s = ⊥ := by unfold loss; rw [if_pos hs, hz, lneg_top]
  unfold tail
  rw [sum_eq_bot _ _ (Finset.mem_Ico.2 ⟨le_refl s, h1⟩) h, h]
  simp

/-- The weight as the reference writes it, by the log-sigmoid of the score. -/
theorem wt_eq (z : ℕ → EReal) (n s : ℕ) (h1 : s < 1040) :
    wt z n s = if s < n then Ideal.exp (-(max (-(z s)) 0 + Ideal.log (1 + Ideal.exp (-(max (-(z s)) (-(-(z s))))))) + tail z n s) else 0 := by
  unfold wt
  split
  · next hs => rw [exp_eq _ _ fun hz => tail_top z n s hs h1 hz]
  · rfl

/-- The softmax scale is a number that is not negative. -/
theorem scale_real : ∃ r : ℝ, 0 ≤ r ∧ Ideal.ofBits .f32 1035273459#32 = (r : EReal) := by
  refine ⟨11863283 / 2 ^ 27, by positivity, ?_⟩
  simp [Ideal.ofBits, Ideal.ieee, -EReal.coe_mul]; norm_num

/-- The gate: `x σ(x)`, as the reference writes it and as the kernel does with the exponential of `-|x|`. -/
theorem silu_eq (g : EReal) : g * (if 0 ≤ g then Ideal.div 1 (1 + Ideal.exp (0 - max g (-g))) else Ideal.exp (0 - max g (-g)) * Ideal.div 1 (1 + Ideal.exp (0 - max g (-g))))
    = g * Ideal.div 1 (1 + Ideal.exp (-g)) := by
  split
  · next h => rw [max_eq_left (le_trans (by simpa using EReal.neg_le_neg_iff.mpr h) h), zero_sub]
  · next h =>
    have h' := le_of_lt (not_le.mp h)
    rw [max_eq_right (le_trans h' (by simpa using EReal.neg_le_neg_iff.mpr h')), zero_sub, neg_neg]
    induction g with
    | bot =>
      have e : (1 : EReal) + ⊤ = ⊤ := EReal.add_top_of_ne_bot (by rw [← EReal.coe_one]; exact EReal.coe_ne_bot 1)
      show (⊥ : EReal) * (0 * _) = ⊥ * Ideal.div 1 (1 + ⊤)
      unfold Ideal.div
      rw [e, zero_mul, if_neg (show ¬ (⊤ : EReal) = 0 by simp), EReal.inv_top, mul_zero, mul_zero, mul_zero]
    | top => simp at h
    | coe y =>
      congr 1
      rw [← EReal.coe_neg]
      show (Real.exp y : EReal) * Ideal.div 1 (1 + (Real.exp y : EReal)) = Ideal.div 1 (1 + (Real.exp (-y) : EReal))
      have p := Real.exp_pos y
      have q := Real.exp_pos (-y)
      have e1 : (1 : EReal) + (Real.exp y : EReal) = ((1 + Real.exp y : ℝ) : EReal) := by rw [EReal.coe_add]; rfl
      have e2 : (1 : EReal) + (Real.exp (-y) : EReal) = ((1 + Real.exp (-y) : ℝ) : EReal) := by rw [EReal.coe_add]; rfl
      unfold Ideal.div
      rw [e1, e2, if_neg (by exact_mod_cast (by positivity : (1 + Real.exp y : ℝ) ≠ 0)), if_neg (by exact_mod_cast (by positivity : (1 + Real.exp (-y) : ℝ) ≠ 0)),
        one_mul, one_mul, ← EReal.coe_inv, ← EReal.coe_inv, ← EReal.coe_mul]
      congr 1
      rw [Real.exp_neg]
      field_simp
      try ring

end Cert.StickMath

end
-- ==== Proof.FoxMath.lean ====
module
public import proofs.«01_k».proof.Proof.StickMath
public import Idealize.ShloMosaic.Lib.Pointwise
@[expose] public section
noncomputable section
open Idealize.ShloMosaic Cert.EMath
namespace Cert.FoxMath

/-- A number put together from three roundings: itself, what the first left over, what the second left over. -/
def sp (x : EReal) : EReal := x + (x - x) + ((x - x) - (x - x))

/-- A real number is put together again. -/
theorem sp_coe (r : ℝ) : sp (r : EReal) = (r : EReal) := by
  unfold sp
  rw [← EReal.coe_sub, ← EReal.coe_sub, ← EReal.coe_add, ← EReal.coe_add]
  congr 1; ring

/-- Minus infinity is put together again. -/
theorem sp_bot : sp ⊥ = ⊥ := by unfold sp; simp

/-- Plus infinity comes out as minus infinity. -/
theorem sp_top : sp ⊤ = ⊥ := by unfold sp; simp

/-- What is put together is never plus infinity. -/
theorem sp_ne_top (x : EReal) : sp x ≠ ⊤ := by
  induction x with
  | bot => rw [sp_bot]; simp
  | top => rw [sp_top]; simp
  | coe r => rw [sp_coe]; exact EReal.coe_ne_top r

/-- Putting together twice is putting together once. -/
theorem sp_of_ne_top {x : EReal} (h : x ≠ ⊤) : sp x = x := by
  induction x with
  | bot => exact sp_bot
  | top => exact absurd rfl h
  | coe r => exact sp_coe r

/-- The sum of the first `n` terms. -/
def up (g : ℕ → EReal) (n : ℕ) : EReal := ∑ j ∈ Finset.range n, g j

/-- One block of the running sum: the three parts of the block's rows against the triangle, and the sum of the rows before. -/
theorem up_block (n r i : ℕ) (hi : i < n) (g : ℕ → EReal) (hg : ∀ k, g k ≠ ⊤) (C : EReal) (hC : C = up g r)
    (T : Fin n → EReal) (hT : ∀ k : Fin n, T k = if k.val ≤ i then 1 else 0) :
    (∑ k : Fin n, T k * g (r + k.val)) + (∑ k : Fin n, T k * (g (r + k.val) - g (r + k.val)))
        + (∑ k : Fin n, T k * ((g (r + k.val) - g (r + k.val)) - (g (r + k.val) - g (r + k.val)))) + C
      = up g (r + i + 1) := by
  rw [← Finset.sum_add_distrib, ← Finset.sum_add_distrib]
  rw [Finset.sum_congr rfl (fun k _ => by
    rw [hT k]
    beta_reduce
    by_cases hk : k.val ≤ i
    · rw [if_pos hk, if_pos hk, one_mul, one_mul, one_mul]; exact sp_of_ne_top (hg _)
    · rw [if_neg hk, if_neg hk, zero_mul, zero_mul, zero_mul, add_zero, add_zero] :
    ∀ k ∈ Finset.univ, T k * g (r + k.val) + T k * (g (r + k.val) - g (r + k.val))
      + T k * ((g (r + k.val) - g (r + k.val)) - (g (r + k.val) - g (r + k.val)))
      = (fun k => if k ≤ i then g (r + k) else 0) k.val)]
  rw [Fin.sum_univ_eq_sum_range (fun k => if k ≤ i then g (r + k) else 0) n, ← Finset.sum_filter]
  rw [(by ext k; simp only [Finset.mem_filter, Finset.mem_range]; omega : (Finset.range n).filter (fun k => k ≤ i) = Finset.range (i + 1))]
  rw [hC, add_comm]
  unfold up
  rw [add_assoc r i 1]
  exact (Finset.sum_range_add g r (i + 1)).symm

/-- The kernel's score of key `k` for the query at `q`: what the gates forget between, by the sums put together. -/
def scK (z f : ℕ → EReal) (q k : ℕ) : EReal :=
  if k ≤ q then z k + (up (fun j => sp (f j)) (q + 1) - up (fun j => sp (f j)) (k + 1)) else ⊥

/-- The reference's score of key `k` for the query at `q`. -/
def scR (z f : ℕ → EReal) (q k : ℕ) : EReal :=
  if k ≤ q then z k + up f (q + 1) - up f (k + 1) else ⊥

/-- The largest of the scores. -/
def peak (r : ℕ → EReal) : EReal := Finset.univ.fold max ⊥ fun j : Fin 1040 => r j.val

/-- No score is above the largest. -/
theorem le_peak (r : ℕ → EReal) (j : Fin 1040) : r j.val ≤ peak r :=
  (Finset.le_fold_max _).mpr (Or.inr ⟨j, Finset.mem_univ j, le_rfl⟩)

/-- A softmax over the keys. -/
def smx (r : ℕ → EReal) (k : ℕ) : EReal :=
  Ideal.div (Ideal.exp (r k - peak r)) (∑ j : Fin 1040, Ideal.exp (r j.val - peak r))

/-- A sum of real numbers is a real number. -/
theorem up_real (f : ℕ → EReal) (n : ℕ) (h : ∀ j < n, ∃ r : ℝ, f j = r) : ∃ r : ℝ, up f n = r := by
  induction n with
  | zero => exact ⟨0, by simp [up]⟩
  | succ n ih =>
    obtain ⟨a, ha⟩ := ih fun j hj => h j (by omega)
    obtain ⟨b, hb⟩ := h n (by omega)
    refine ⟨a + b, ?_⟩
    unfold up at ha ⊢
    rw [Finset.sum_range_succ, ha, hb, EReal.coe_add]

/-- A sum with an infinite term is infinite. -/
theorem up_inf (f : ℕ → EReal) (n j : ℕ) (hj : j < n) (h : f j = ⊤ ∨ f j = ⊥) : up f n = ⊤ ∨ up f n = ⊥ := by
  induction n with
  | zero => omega
  | succ n ih =>
    unfold up at ih ⊢
    rw [Finset.sum_range_succ]
    rcases Nat.lt_succ_iff_lt_or_eq.mp hj with h1 | h1
    · rcases ih h1 with e | e
      · rw [e]; rcases eq_or_ne (f n) ⊥ with e2 | e2
        · right; rw [e2]; simp
        · left; exact EReal.top_add_of_ne_bot e2
      · right; rw [e]; simp
    · subst h1
      rcases h with e | e
      · rw [e]; rcases eq_or_ne (∑ x ∈ Finset.range j, f x) ⊥ with e2 | e2
        · right; rw [e2]; simp
        · left; exact EReal.add_top_of_ne_bot e2
      · right; rw [e]; simp

/-- Where every score is infinite the softmax is the quotient of zero by zero. -/
theorem smx_inf (r : ℕ → EReal) (k : Fin 1040) (h : ∀ j : Fin 1040, r j.val = ⊤ ∨ r j.val = ⊥) : smx r k.val = Ideal.div 0 0 := by
  have key : ∀ j : Fin 1040, Ideal.exp (r j.val - peak r) = 0 := by
    intro j
    have e : r j.val - peak r = ⊥ := by
      rcases h j with e | e
      · have e2 : peak r = ⊤ := top_le_iff.mp (e ▸ le_peak r j)
        rw [e, e2]; simp
      · rw [e]; simp
    rw [e]; rfl
  unfold smx
  rw [key k, Finset.sum_congr rfl fun j _ => key j, Finset.sum_const_zero]

/-- The two softmaxes agree: on real log gates the scores do, and an infinite one leaves nothing of either. -/
theorem smx_eq (z f : ℕ → EReal) (q : ℕ) (hq : q < 1040) (k : Fin 1040) : smx (scK z f q) k.val = smx (scR z f q) k.val := by
  by_cases h : ∀ j < q + 1, ∃ r : ℝ, f j = r
  · have e : scK z f q = scR z f q := by
      funext k
      unfold scK scR
      split
      · next hk =>
        have e2 : ∀ n ≤ q + 1, up (fun j => sp (f j)) n = up f n := by
          intro n hn
          refine Finset.sum_congr rfl fun j hj => ?_
          obtain ⟨r, hr⟩ := h j (by have := Finset.mem_range.mp hj; omega)
          show sp (f j) = f j
          rw [hr, sp_coe]
        rw [e2 _ le_rfl, e2 _ (by omega)]
        rw [sub_eq_add_neg, sub_eq_add_neg, add_assoc]
      · rfl
    rw [e]
  · simp only [not_forall] at h
    obtain ⟨j, hj, hn⟩ := h
    have hinf : f j = ⊤ ∨ f j = ⊥ := by
      generalize f j = x at hn ⊢
      induction x with
      | bot => right; rfl
      | top => left; rfl
      | coe r => exact absurd ⟨r, rfl⟩ hn
    rw [smx_inf, smx_inf]
    · intro k
      unfold scR
      split
      · rcases up_inf f (q + 1) j hj hinf with e | e
        · rw [e]
          rcases eq_or_ne (z k.val) ⊥ with e2 | e2
          · right; rw [e2]; simp
          · rw [EReal.add_top_of_ne_bot e2]
            rcases eq_or_ne (up f (k.val + 1)) ⊤ with e3 | e3
            · right; rw [e3]; simp
            · left; rw [sub_eq_add_neg]; exact EReal.top_add_of_ne_bot (by simpa using e3)
        · right; rw [e]; simp
      · right; rfl
    · intro k
      unfold scK
      split
      · right
        have e : up (fun j => sp (f j)) (q + 1) = ⊥ := by
          refine sum_eq_bot _ _ (Finset.mem_range.mpr hj) ?_
          show sp (f j) = ⊥
          rcases hinf with e | e <;> rw [e]
          · exact sp_top
          · exact sp_bot
        rw [e]; simp
      · right; rfl

/-- The bits the masked scores are filled with stand for minus infinity. -/
theorem neg_inf : Ideal.ofBits .f32 0xFF800000#32 = ⊥ := by
  simp [Ideal.ofBits, Ideal.ieee]

end Cert.FoxMath
end
-- ==== Proof.CumCases.lean ====
/- What one block of the running sums leaves: the log forget gates, the sums, and the carry. -/
module
public import proofs.«01_k».proof.Proof.FoxMath
public import proofs.«01_k».proof.Proof.Gen.LogfCumsumKernelIdeal.Value
public import Idealize.ShloMosaic.Lib.WordCmp
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.StickMath Cert.FoxMath
open Idealize.ShloMosaic.Pipeline (Dat)
namespace Cert.LogfCumsumKernelIdeal.Own
open Cert.LogfCumsumKernelIdeal Cert.LogfCumsumKernelIdeal.Gen
variable (m : (ℓ : Loc nD τ sig) → Buf (Elt Ideal) ℓ)

/-- The offsets of a whole buffer are zero. -/
theorem hz : (![0, 0] : Fin 2 → Nat) = fun _ => 0 := funext fun a => by fin_cases a <;> rfl

/-- What the first block leaves: the log forget gates, the running sums and the carry, from a carry of zero. -/
theorem first (c : Dev nD) (t : Fin cfg0.N) (h0 : t.val % 16 = 0) :
    outsAt0 m c t.val t.isLt = (k0_pay3 (iblk m c 0 t) (iblk m c 1 t),
      k0_pay5 (iblk m c 0 t) (iblk m c 1 t) (k0_pay2 (F := Ideal)) (iblk m c 2 t),
      k0_pay1 (k0_pay4 (iblk m c 0 t) (iblk m c 1 t) (k0_pay2 (F := Ideal)) (iblk m c 2 t))) := by
  rw [outsAt0_A m c t h0]
  refine Prod.ext ?_ (Prod.ext ?_ ?_)
  · dsimp only; frame_out
  · dsimp only; frame_out
  · dsimp only; frame_out

/-- What a later block leaves, from the carry of the block before. -/
theorem later (c : Dev nD) (t : Fin cfg0.N) (h0 : ¬ t.val % 16 = 0) (C : Vec Ideal S1x32 .f32)
    (hC : (outsAt0 m c (t.val - 1) (Nat.lt_of_le_of_lt (Nat.sub_le _ _) t.isLt)).2.2 = C) :
    outsAt0 m c t.val t.isLt = (k0_pay3 (iblk m c 0 t) (iblk m c 1 t),
      k0_pay5 (iblk m c 0 t) (iblk m c 1 t) C (iblk m c 2 t),
      k0_pay1 (k0_pay4 (iblk m c 0 t) (iblk m c 1 t) C (iblk m c 2 t))) := by
  rw [outsAt0_B m c t h0, hC]
  refine Prod.ext ?_ (Prod.ext ?_ ?_)
  · dsimp only; frame_out
  · dsimp only; frame_out
    exact congrArg (fun C => k0_pay5 (F := Ideal) (iblk m c 0 t) (iblk m c 1 t) C (iblk m c 2 t)) ((Memref.isWhole_whole cc0_scratch0).read_unread C)
  · dsimp only; frame_out
    exact congrArg (fun C => k0_pay1 (k0_pay4 (F := Ideal) (iblk m c 0 t) (iblk m c 1 t) C (iblk m c 2 t))) ((Memref.isWhole_whole cc0_scratch0).read_unread C)

/-- The block indices of the windows at every grid point. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- The triangle block. -/
theorem tri (c : Dev nD) (t : Fin cfg0.N) (a b : Fin 512) : (iblk m c 2 t : Vec Ideal S512x512 .bf16) (ix2 a b) = (if b.val ≤ a.val then (1 : EReal) else 0) := by
  blk_simp [iblk, V]
  entry_read
  have e : ((View.whole main_v5).slice (win0_2.rect t)).emb (ix2 a b) = ix2 a b := by
    blk_point [idx t]
  rw [e]
  simp only [hostOps0, hostOps0_1, hostOps0_2, List.flatten_cons, List.flatten_nil, List.append_nil, List.cons_append, List.nil_append]
  entry_read
  show (select (cmpi .sge (iotaInDim S512x512 32 0) (iotaInDim S512x512 32 1))
    (broadcastInDim S512x512 ![] bcast_S_S512x512 (constant (F := Ideal) S_ .f32 0x3F800000#32))
    (broadcastInDim S512x512 ![] bcast_S_S512x512 (constant (F := Ideal) S_ .f32 0x00000000#32)) : FVec Ideal S512x512 .f32) (ix2 a b) = _
  pointwise []
  simp (disch := word_cmp_side) only [hlo_ix]

/-- One log forget gate of the block. -/
theorem gateK (v3 : Vec Ideal S512x32 .f32) (v4 : Vec Ideal S1x32 .f32) (i : Fin 512) (h : Fin 32) (y : EReal) (hy : y = v3 (ix2 i h) + v4 (ix2 0 h)) :
    k0_pay3 v3 v4 (ix2 i h) = min y 0 - Ideal.log (1 + Ideal.exp (0 - FloatOps.absf (F := Ideal) (φ := .f32) y)) := by
  subst hy
  pointwise [k0_pay3]

/-- One running sum of the block: the rows of the block so far, and the carry. -/
theorem sumK (v3 : Vec Ideal S512x32 .f32) (v4 : Vec Ideal S1x32 .f32) (C : Vec Ideal S1x32 .f32) (T : Vec Ideal S512x512 .bf16)
    (hT : ∀ a b : Fin 512, T (ix2 a b) = if b.val ≤ a.val then (1 : EReal) else 0) (i : Fin 512) (h : Fin 32) (g : ℕ → EReal) (hg : ∀ k, g k ≠ ⊤) (r : ℕ)
    (hG : ∀ k : Fin 512, k0_pay3 v3 v4 (ix2 k h) = g (r + k.val)) (hC : C (ix2 0 h) = up g r) :
    k0_pay4 v3 v4 C T (ix2 i h) = up g (r + i.val + 1) := by
  generalize hA : k0_pay3 v3 v4 = A at *
  pointwise [k0_pay4]
  simp only [hA, hG]
  rw [← up_block 512 r i.val i.isLt g hg _ hC (fun k => T (ix2 i k)) (fun k => hT i k)]
  exact add_comm _ _

/-- The carry is the last running sum. -/
theorem carryK (v : Vec Ideal S512x32 .f32) (h : Fin 32) : k0_pay1 (F := Ideal) v (ix2 0 h) = v (ix2 ⟨511, by omega⟩ h) := by
  pointwise [k0_pay1]

/-- The stored sums, in units of the logarithm of two. -/
theorem outK (v3 : Vec Ideal S512x32 .f32) (v4 : Vec Ideal S1x32 .f32) (C : Vec Ideal S1x32 .f32) (T : Vec Ideal S512x512 .bf16) (i : Fin 512) (h : Fin 32) :
    k0_pay5 v3 v4 C T (ix2 i h) = k0_pay4 v3 v4 C T (ix2 i h) * Ideal.ofBits .f32 0x3FB8AA3B#32 := by
  generalize hA : k0_pay4 v3 v4 C T = A at *
  pointwise [k0_pay5]
  rw [hA]

/-- The first carry is zero. -/
theorem zeroK (h : Fin 32) : k0_pay2 (F := Ideal) (ix2 0 h) = 0 := by
  pointwise [k0_pay2]

end Cert.LogfCumsumKernelIdeal.Own
end
-- ==== Proof.CumRef.lean ====
/- The running sums of the log forget gates, as the reference writes them. -/
module
public import proofs.«01_k».proof.Proof.FoxMath
public import proofs.«01_k».proof.Proof.EMath
public import proofs.«01_k».proof.Proof.Gen.LogfCumsumReferenceIdeal.Read
@[expose] public section
set_option maxRecDepth 16384
noncomputable section
open Idealize.ShloMosaic Idealize.ShloMosaic.TcCoe Idealize.SL.Sem Cert.StickMath Cert.FoxMath
namespace Cert.LogfCumsumReferenceIdeal.Own
open Cert.LogfCumsumReferenceIdeal Cert.LogfCumsumReferenceIdeal.Read Cert.LogfCumsumReferenceIdeal.Gen

variable (x0 : FVec Ideal S8192x32 .f32) (x1 : FVec Ideal S1x32 .f32)

/-- A left fold of sums is the start plus the sum. -/
theorem foldl_sum {ι : Type} (l : List ι) (f : ι → EReal) (a : EReal) :
    l.foldl (fun z x => z + f x) a = a + (l.map f).sum := by
  induction l generalizing a with
  | nil => simp
  | cons x l ih => rw [List.foldl_cons, ih, List.map_cons, List.sum_cons, add_assoc]

/-- The running sum, as the reference writes it: a window that looks back to the first row. -/
theorem window (x : FVec Ideal S8192x32 .f32) (ini : FVec Ideal S_ .f32) (h0 : ∀ i, ini i = 0)
    (s : Fin 8192) (h : Fin 32) (f : ℕ → EReal) (hf : ∀ k : Fin 8192, x (ix2 k h) = f k.val) :
    Host.reduceWindowAdd (F := Ideal) ![8192, 1] ![1, 1] ![8191, 0] ![0, 0] x ini
      reduceWindows_S8192x32_S8192x32_w8192s1p8191_0_w1s1p0_0 h_S_ (ix2 s h)
      = up f (s.val + 1) := by
  unfold Host.reduceWindowAdd
  rw [Ideal.hostReduceWindowAdd_def]
  unfold Ideal.hostReduceWindowAdd Host.reduceWindow
  rw [h0]
  refine (foldl_sum _ _ _).trans ?_
  rw [zero_add, ← Fin.sum_univ_def]
  rw [← Equiv.sum_comp (Shape.rowMajor _)]
  simp only [Equiv.symm_apply_apply]
  refine (sum_idx2 (n0 := 8192) (n1 := 1) _).trans ?_
  have hd : ∀ (d : Fin 8192) (i : EReal), i = (if 8191 ≤ s.val + d.val then f (s.val + d.val - 8191) else 0) → i = (fun k => if 8191 ≤ s.val + k then f (s.val + k - 8191) else 0) d.val := fun d i h => h
  refine (Finset.sum_congr rfl fun d _ => (Fin.sum_univ_one _).trans (hd d _ ?_)).trans ?_
  · split
    · next hh =>
      have h3 := (hh 0).1
      change 8191 ≤ s.val * 1 + d.val at h3
      rw [if_pos (by omega)]
      refine Eq.trans (congrArg x ?_) (hf ⟨s.val + d.val - 8191, by omega⟩)
      funext a
      apply Fin.ext
      fin_cases a
      · show s.val * 1 + d.val - 8191 = s.val + d.val - 8191; omega
      · show h.val * 1 + 0 - 0 = h.val; omega
    · next hh =>
      rw [if_neg]
      intro h3
      apply hh
      intro a
      fin_cases a
      · exact ⟨by show 8191 ≤ s.val * 1 + d.val; omega, by show s.val * 1 + d.val - 8191 < 8192; omega⟩
      · exact ⟨Nat.zero_le _, by show h.val * 1 + 0 - 0 < 32; omega⟩
  · rw [Fin.sum_univ_eq_sum_range (fun k => if 8191 ≤ s.val + k then f (s.val + k - 8191) else 0) 8192, ← Finset.sum_filter]
    unfold up
    refine Finset.sum_nbij' (fun d => s.val + d - 8191) (fun j => j + 8191 - s.val) ?_ ?_ ?_ ?_ ?_
    · intro a ha; simp only [Finset.mem_filter, Finset.mem_range] at ha ⊢; omega
    · intro a ha; simp only [Finset.mem_filter, Finset.mem_range] at ha ⊢; omega
    · intro a ha; simp only [Finset.mem_filter, Finset.mem_range] at ha ⊢; omega
    · intro a ha; simp only [Finset.mem_filter, Finset.mem_range] at ha ⊢; omega
    · intro a ha; rfl

/-- A log forget gate. -/
theorem gate (k : Fin 8192) (h : Fin 32) (y : EReal) (hy : y = x0 (ix2 k h) + x1 (ix2 0 h)) :
    min y 0 - Ideal.log (1 + Ideal.exp (0 - FloatOps.absf (F := Ideal) (φ := .f32) y)) = val_main_v4 (F := Ideal) x0 x1 (ix2 k h) := by
  subst hy
  pointwise [val_main_v4, val_main_call0_v1, val_main_call0_call0_v4, val_main_call0_call0_v6, val_main_call0_call0_v11, val_main_call0_call0_v1, val_main_call0_call0_v10, val_main_call0_call0_v9, val_main_call0_call0_v8, val_main_call0_call0_v7, val_main_call0_call0_v3, val_main_call0_call0_v2, val_main_call0_call0_v5, val_main_call0_call0_v0, val_main_call0_call0_cst, val_main_call0_v0, val_main_v3, val_main_v2, val_main_v1, val_main_v0]
  rw [if_neg (fun h => h rfl)]
  exact Cert.EMath.logsig_ops _

/-- A log forget gate is not plus infinity. -/
theorem gate_ne_top (k : Fin 8192) (h : Fin 32) : val_main_v4 (F := Ideal) x0 x1 (ix2 k h) ≠ ⊤ := by
  rw [← gate x0 x1 k h _ rfl]
  generalize x0 (ix2 k h) + x1 (ix2 0 h) = y
  obtain ⟨r, hr, e⟩ := Cert.EMath.corr_real y
  have e2 : Ideal.log (1 + Ideal.exp (0 - FloatOps.absf (F := Ideal) (φ := .f32) y)) = (r : EReal) := e
  rw [e2]
  intro h
  have h1 : min y 0 - (r : EReal) ≤ 0 := (EReal.sub_le_sub (min_le_right y 0) (EReal.coe_nonneg.mpr hr)).trans (by simp)
  rw [h] at h1
  exact absurd h1 (by simp)

/-- The log forget gates of one head, row by row. -/
def gates (h : Fin 32) (k : ℕ) : EReal := if u : k < 8192 then val_main_v4 (F := Ideal) x0 x1 (ix2 ⟨k, u⟩ h) else 0

/-- None is plus infinity. -/
theorem gates_ne_top (h : Fin 32) (k : ℕ) : gates x0 x1 h k ≠ ⊤ := by
  unfold gates
  split
  · exact gate_ne_top x0 x1 _ h
  · exact EReal.zero_ne_top

/-- The running sums, in units of the logarithm of two. -/
theorem sums (s : Fin 8192) (h : Fin 32) : val_main_v7 (F := Ideal) x0 x1 (ix2 s h) = up (gates x0 x1 h) (s.val + 1) * Ideal.ofBits .f32 0x3FB8AA3B#32 := by
  rw [val_main_v7_apply]
  have e : val_main_v5 (F := Ideal) x0 x1 (ix2 s h) = up (gates x0 x1 h) (s.val + 1) := by
    unfold val_main_v5
    refine window _ _ (fun i => ?_) s h _ fun k => ?_
    · pointwise [val_main_call1_call0_v0, val_main_call1_call0_cst]
    · unfold gates
      rw [dif_pos k.isLt]
  rw [e]
  pointwise [val_main_v6, val_main_cst]

end Cert.LogfCumsumReferenceIdeal.Own
end
-- ==== Proof.CumValue.lean ====
/- The log forget gates and their running sums: block after block, each from the carry of the one before. -/
module
public import proofs.«01_k».proof.Proof.CumCases
public import proofs.«01_k».proof.Proof.CumRef
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.StickMath Cert.FoxMath
open Idealize.ShloMosaic.Pipeline (Dat)
namespace Cert.LogfCumsumKernelIdeal.Own
open Cert.LogfCumsumKernelIdeal Cert.LogfCumsumKernelIdeal.Gen
variable (m : (ℓ : Loc nD τ sig) → Buf (Elt Ideal) ℓ)

/-- The array of gate columns. -/
abbrev A0 (c : Dev nD) : FVec Ideal S8192x32 .f32 := m ((c : Thread nD τ).loc main_arg0)
/-- The array of gate biases. -/
abbrev A1 (c : Dev nD) : FVec Ideal S1x32 .f32 := m ((c : Thread nD τ).loc main_arg1)

/-- There are sixteen grid points. -/
theorem points (t : Fin cfg0.N) : t.val < 16 := lt_of_lt_of_eq t.isLt (show cfg0.N = 16 from N_0)

/-- The block of gate columns. -/
theorem r0 (c : Dev nD) (t : Fin cfg0.N) (i : Fin 512) (h : Fin 32) :
    (iblk m c 0 t : Vec Ideal S512x32 .f32) (ix2 i h) = A0 m c (ix2 ⟨t.val * 512 + i.val, by have := points t; omega⟩ h) := by
  blk_point [iblk, V, idx t]

/-- The block of gate biases. -/
theorem r1 (c : Dev nD) (t : Fin cfg0.N) (h : Fin 32) :
    (iblk m c 1 t : Vec Ideal S1x32 .f32) (ix2 0 h) = A1 m c (ix2 0 h) := by
  blk_simp [iblk, V]
  simp only [hostOps0, hostOps0_1, hostOps0_2, List.flatten_cons, List.flatten_nil, List.append_nil, List.cons_append, List.nil_append]
  have e : ((View.whole main_v6).slice (win0_1.rect t)).emb (ix2 0 h) = ix2 0 h := by
    blk_point [idx t]
  rw [e]
  entry_read
  pointwise []

/-- A log forget gate of the block is the reference's. -/
theorem gateB (c : Dev nD) (t : Fin cfg0.N) (i : Fin 512) (h : Fin 32) :
    k0_pay3 (iblk m c 0 t) (iblk m c 1 t) (ix2 i h)
      = Cert.LogfCumsumReferenceIdeal.Read.val_main_v4 (F := Ideal) (A0 m c) (A1 m c) (ix2 ⟨t.val * 512 + i.val, by have := points t; omega⟩ h) := by
  refine (gateK _ _ i h _ rfl).trans (Cert.LogfCumsumReferenceIdeal.Own.gate _ _ _ h _ ?_)
  rw [r0, r1]

/-- The log forget gates of one head, row by row. -/
abbrev G (c : Dev nD) (h : Fin 32) : ℕ → EReal := Cert.LogfCumsumReferenceIdeal.Own.gates (A0 m c) (A1 m c) h

/-- A log forget gate of the block, by its row in the whole array. -/
theorem gateG (c : Dev nD) (t : Fin cfg0.N) (h : Fin 32) (k : Fin 512) :
    k0_pay3 (iblk m c 0 t) (iblk m c 1 t) (ix2 k h) = G m c h (t.val * 512 + k.val) := by
  rw [gateB]
  unfold G Cert.LogfCumsumReferenceIdeal.Own.gates
  rw [dif_pos (by have := points t; omega)]

/-- One running sum of the block, from a carry that is the sum of the rows before. -/
theorem sumB (c : Dev nD) (t : Fin cfg0.N) (C : Vec Ideal S1x32 .f32) (i : Fin 512) (h : Fin 32) (hC : C (ix2 0 h) = up (G m c h) (t.val * 512)) :
    k0_pay4 (iblk m c 0 t) (iblk m c 1 t) C (iblk m c 2 t) (ix2 i h) = up (G m c h) (t.val * 512 + i.val + 1) :=
  sumK _ _ C _ (tri m c t) i h (G m c h) (Cert.LogfCumsumReferenceIdeal.Own.gates_ne_top _ _ h) (t.val * 512) (gateG m c t h) hC

/-- What the block leaves for the sums, in terms of the carry it starts from. -/
theorem both (c : Dev nD) (t : Fin cfg0.N) : ∃ C : Vec Ideal S1x32 .f32,
    ((∀ u : t.val % 16 ≠ 0, C = (outsAt0 m c (t.val - 1) (Nat.lt_of_le_of_lt (Nat.sub_le _ _) t.isLt)).2.2) ∧ (t.val % 16 = 0 → C = k0_pay2 (F := Ideal))) ∧
    outsAt0 m c t.val t.isLt = (k0_pay3 (iblk m c 0 t) (iblk m c 1 t),
      k0_pay5 (iblk m c 0 t) (iblk m c 1 t) C (iblk m c 2 t),
      k0_pay1 (k0_pay4 (iblk m c 0 t) (iblk m c 1 t) C (iblk m c 2 t))) := by
  by_cases h0 : t.val % 16 = 0
  · exact ⟨_, ⟨fun u => absurd h0 u, fun _ => rfl⟩, first m c t h0⟩
  · exact ⟨_, ⟨fun _ => rfl, fun u => absurd u h0⟩, later m c t h0 _ rfl⟩

/-- The carry after a block is the sum of the rows up to its end. -/
theorem carry (c : Dev nD) (h : Fin 32) : ∀ (n : ℕ) (hn : n < cfg0.N), (outsAt0 m c n hn).2.2 (ix2 0 h) = up (G m c h) ((n + 1) * 512) := by
  intro n
  induction n with
  | zero =>
    intro hn
    have e := first m c ⟨0, hn⟩ rfl
    dsimp only at e
    rw [e]
    dsimp only
    refine (carryK _ h).trans ((sumB m c ⟨0, hn⟩ _ _ h (by rw [zeroK]; simp [up])).trans (congrArg (up _) ?_))
    show 0 * 512 + 511 + 1 = (0 + 1) * 512
    omega
  | succ n ih =>
    intro hn
    have hN := points ⟨n + 1, hn⟩
    dsimp only at hN
    have e := later m c ⟨n + 1, hn⟩ (by dsimp only; omega) _ rfl
    dsimp only at e
    rw [e]
    dsimp only
    refine (carryK _ h).trans ((sumB m c ⟨n + 1, hn⟩ _ _ h (ih _)).trans (congrArg (up _) ?_))
    show (n + 1) * 512 + 511 + 1 = (n + 1 + 1) * 512
    omega

/-- The carry that a block starts from is the sum of the rows before it. -/
theorem start (c : Dev nD) (t : Fin cfg0.N) : ∃ C : Vec Ideal S1x32 .f32, (∀ h : Fin 32, C (ix2 0 h) = up (G m c h) (t.val * 512)) ∧
    outsAt0 m c t.val t.isLt = (k0_pay3 (iblk m c 0 t) (iblk m c 1 t),
      k0_pay5 (iblk m c 0 t) (iblk m c 1 t) C (iblk m c 2 t),
      k0_pay1 (k0_pay4 (iblk m c 0 t) (iblk m c 1 t) C (iblk m c 2 t))) := by
  obtain ⟨C, ⟨h1, h2⟩, e⟩ := both m c t
  refine ⟨C, fun h => ?_, e⟩
  have hN := points t
  by_cases h0 : t.val % 16 = 0
  · rw [h2 h0, zeroK]
    have : t.val = 0 := by omega
    rw [this]
    simp [up]
  · rw [h1 h0]
    refine (carry m c h _ _).trans (congrArg (up _) ?_)
    omega

/-- One block of result 0. -/
theorem point0 (c : Dev nD) (t : Fin cfg0.N) (y) : (outsAt0 m c t.val t.isLt).1 y
    = Cert.LogfCumsumReferenceIdeal.Read.val_main_v4 (F := Ideal) (A0 m c) (A1 m c) (((cfg0.win 3).blk t).view.emb y) := by
  obtain ⟨C, -, e⟩ := start m c t
  rw [e]
  obtain ⟨i, h, rfl⟩ : ∃ (i : Fin 512) (h : Fin 32), y = ix2 i h := ⟨y 0, y 1, funext fun a => by fin_cases a <;> rfl⟩
  refine (gateB m c t i h).trans (congrArg _ ?_)
  have hN := points t
  funext a
  apply Fin.ext
  fin_cases a
  · show t.val * 512 + i.val = win0_3.index t 0 * 512 + 1 * i.val
    rw [(idx t).2.2.2.1]; show _ = t.val * 512 + 1 * i.val; omega
  · show h.val = win0_3.index t 1 * 32 + 1 * h.val
    rw [(idx t).2.2.2.1]; show _ = 0 * 32 + 1 * h.val; omega

/-- One block of result 1. -/
theorem point1 (c : Dev nD) (t : Fin cfg0.N) (y) : (outsAt0 m c t.val t.isLt).2.1 y
    = Cert.LogfCumsumReferenceIdeal.Read.val_main_v7 (F := Ideal) (A0 m c) (A1 m c) (((cfg0.win 4).blk t).view.emb y) := by
  obtain ⟨C, hC, e⟩ := start m c t
  rw [e]
  obtain ⟨i, h, rfl⟩ : ∃ (i : Fin 512) (h : Fin 32), y = ix2 i h := ⟨y 0, y 1, funext fun a => by fin_cases a <;> rfl⟩
  have hN := points t
  refine (outK _ _ C _ i h).trans ?_
  rw [sumB m c t C i h (hC h)]
  refine (Cert.LogfCumsumReferenceIdeal.Own.sums (A0 m c) (A1 m c) ⟨t.val * 512 + i.val, by omega⟩ h).symm.trans (congrArg _ ?_)
  funext a
  apply Fin.ext
  fin_cases a
  · show t.val * 512 + i.val = win0_4.index t 0 * 512 + 1 * i.val
    rw [(idx t).2.2.2.2]; show _ = t.val * 512 + 1 * i.val; omega
  · show h.val = win0_4.index t 1 * 32 + 1 * h.val
    rw [(idx t).2.2.2.2]; show _ = 0 * 32 + 1 * h.val; omega

/-- The whole of result 0 after the run: the reference's log forget gates. -/
theorem final0 (c : Dev nD) : (dats m 0 c).arrAt 3 (cfgs 0).N
    = Cert.LogfCumsumReferenceIdeal.Read.val_main_v4 (F := Ideal) (A0 m c) (A1 m c) := by
  refine (dats m 0 c).arrAt_eq_of_covers 3 _ (by decide +kernel) fun t _ y => ?_
  blk_simp
  rw [after0_3]
  exact point0 m c t y

/-- The whole of result 1 after the run: the reference's running sums. -/
theorem final1 (c : Dev nD) : (dats m 0 c).arrAt 4 (cfgs 0).N
    = Cert.LogfCumsumReferenceIdeal.Read.val_main_v7 (F := Ideal) (A0 m c) (A1 m c) := by
  refine (dats m 0 c).arrAt_eq_of_covers 4 _ (by decide +kernel) fun t _ y => ?_
  blk_simp
  rw [after0_4]
  exact point1 m c t y

end Cert.LogfCumsumKernelIdeal.Own
end
-- ==== Proof.StickTails.lean ====
module
public import proofs.«01_k».proof.Proof.StickMath
public import proofs.«01_k».proof.Proof.Gen.StickKernelIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.StickMath Cert.EMath
namespace Cert.StickKernelIdeal.Own
open Cert.StickKernelIdeal Cert.StickKernelIdeal.Gen

/-- What is left at row `s` of the losses `f`: the sum of the later rows. -/
def left (f : ℕ → EReal) (s : ℕ) : EReal := (∑ k ∈ Finset.Ico s 1040, f k) - f s

section
variable (v189 : FVec Ideal S1040x128 .f32) (v190 : IVec S1040x128 32) (v193 : BitVec 32) (v195 : IVec S1040x128 32) (v197 v199 v202 : IVec S1040x128 1)
  (f : ℕ → EReal) (l : Fin 128) (hf : ∀ k, f k ≠ ⊤)
  (hH : ∀ s : Fin 1040, k0_pay32 v189 v190 v193 v195 v197 v199 v202 (ix2 s l) = f s.val)
  (hD : ∀ s : Fin 1040, k0_pay33 v189 v190 v193 v195 v197 v199 v202 (ix2 s l) = f s.val - f s.val)
include hf hH hD

/-- The sums within the new keys' block. -/
theorem b1024 (T : Vec Ideal S16x16 .bf16) (hT : ∀ k i : Fin 16, T (ix2 k i) = if i.val ≤ k.val then 1 else 0) (i : Fin 16) :
    k0_pay37 v189 v190 v193 v195 v197 v199 v202 T (ix2 i l) = left f (1024 + i.val) := by
  pointwise [k0_pay37, k0_pay36, k0_pay35, k0_pay34]
  simp only [hH, hD]
  exact (add_zero _).symm.trans (tail_block 1040 16 1024 i.val i.isLt (by norm_num) f hf 0 (by simp) (fun k => T (ix2 k i)) fun k => hT k i)

/-- The new keys' sum, carried to the cached blocks. -/
theorem c1024 (T : Vec Ideal S16x16 .bf16) (hT : ∀ k i : Fin 16, T (ix2 k i) = if i.val ≤ k.val then 1 else 0) :
    k0_pay38 v189 v190 v193 v195 v197 v199 v202 T (ix2 0 l) = ∑ k ∈ Finset.Ico 1024 1040, f k := by
  pointwise [k0_pay38, k0_pay36, k0_pay35, k0_pay34]
  rw [b1024 v189 v190 v193 v195 v197 v199 v202 f l hf hH hD T hT]
  simp only [hH, hD]
  exact tail_carry 1040 1024 (by norm_num) f hf

variable (T : Vec Ideal S128x128 .bf16) (hT : ∀ k i : Fin 128, T (ix2 k i) = if i.val ≤ k.val then 1 else 0)
  (c : FVec Ideal S1x128 .f32) (hc : c (ix2 0 l) = ∑ k ∈ Finset.Ico 1024 1040, f k)
include hT hc

/-- The last cached block. -/
theorem b896 (i : Fin 128) :
    k0_pay44 c (k0_pay40 v189 v190 v193 v195 v197 v199 v202) (k0_pay41 v189 v190 v193 v195 v197 v199 v202) (k0_pay42 v189 v190 v193 v195 v197 v199 v202 T) (ix2 i l)
      = left f (896 + i.val) := by
  pointwise [k0_pay44, k0_pay43, k0_pay42, k0_pay41, k0_pay40, k0_pay39]
  simp only [hH, hD]
  exact tail_block 1040 128 896 i.val i.isLt (by norm_num) f hf _ hc (fun k => T (ix2 k i)) fun k => hT k i

end

section
variable (H D : FVec Ideal S1040x128 .bf16) (f : ℕ → EReal) (l : Fin 128) (hf : ∀ k, f k ≠ ⊤)
  (hH : ∀ s : Fin 1040, H (ix2 s l) = f s.val) (hD : ∀ s : Fin 1040, D (ix2 s l) = f s.val - f s.val)
  (T : Vec Ideal S128x128 .bf16) (hT : ∀ k i : Fin 128, T (ix2 k i) = if i.val ≤ k.val then 1 else 0)
include hf hH hD hT

section
variable (c : FVec Ideal S1x128 .f32) (e : FVec Ideal S128x128 .f32) (g : FVec Ideal S128x128 .bf16) (w : FVec Ideal S128x128 .f32)
  (he : e (ix2 0 l) = f 896) (hg : g (ix2 0 l) = f 896 - f 896) (hw : k0_pay44 c e g w (ix2 0 l) = left f 896)
include he hg hw

/-- The block of keys 768 to 895. -/
theorem b768 (i : Fin 128) : k0_pay48 H D c e g w T (ix2 i l) = left f (768 + i.val) := by
  pointwise [k0_pay48, k0_pay47, k0_pay46, k0_pay45, k0_pay43]
  simp only [hH, hD]
  exact tail_block 1040 128 768 i.val i.isLt (by norm_num) f hf _ (by rw [hw, he, hg]; exact tail_carry 1040 896 (by norm_num) f hf) (fun k => T (ix2 k i)) fun k => hT k i

/-- The block of keys 640 to 767. -/
theorem b640 (i : Fin 128) : k0_pay52 H D c e g w T T (ix2 i l) = left f (640 + i.val) := by
  have h := b768 H D f l hf hH hD T hT c e g w he hg hw 0
  pointwise [k0_pay52, k0_pay51, k0_pay50, k0_pay49, k0_pay47, k0_pay46, k0_pay45]
  simp only [hH, hD]
  exact tail_block 1040 128 640 i.val i.isLt (by norm_num) f hf _ (by rw [h]; exact tail_carry 1040 768 (by norm_num) f hf) (fun k => T (ix2 k i)) fun k => hT k i

/-- The sum of the rows from 640 on. -/
theorem c640 : k0_pay53 H D c e g w T T (ix2 0 l) = ∑ k ∈ Finset.Ico 640 1040, f k := by
  have h := b640 H D f l hf hH hD T hT c e g w he hg hw 0
  pointwise [k0_pay53, k0_pay51, k0_pay50, k0_pay49]
  rw [h]
  simp only [hH, hD]
  exact tail_carry 1040 640 (by norm_num) f hf
end

section
variable (c : FVec Ideal S1x128 .f32) (hc : c (ix2 0 l) = ∑ k ∈ Finset.Ico 640 1040, f k)
include hc

/-- The block of keys 512 to 639. -/
theorem b512 (i : Fin 128) : k0_pay58 c (k0_pay57 H D T) (ix2 i l) = left f (512 + i.val) := by
  pointwise [k0_pay58, k0_pay57, k0_pay56, k0_pay55, k0_pay54]
  simp only [hH, hD]
  exact tail_block 1040 128 512 i.val i.isLt (by norm_num) f hf _ hc (fun k => T (ix2 k i)) fun k => hT k i

/-- The block of keys 384 to 511. -/
theorem b384 (i : Fin 128) : k0_pay62 H D c (k0_pay56 H D) (k0_pay57 H D T) T (ix2 i l) = left f (384 + i.val) := by
  have h := b512 H D f l hf hH hD T hT c hc 0
  pointwise [k0_pay62, k0_pay61, k0_pay60, k0_pay59, k0_pay56, k0_pay55, k0_pay54]
  simp only [hH, hD]
  exact tail_block 1040 128 384 i.val i.isLt (by norm_num) f hf _ (by rw [h]; exact tail_carry 1040 512 (by norm_num) f hf) (fun k => T (ix2 k i)) fun k => hT k i

/-- The block of keys 256 to 383. -/
theorem b256 (i : Fin 128) : k0_pay66 H D c (k0_pay56 H D) (k0_pay57 H D T) T T (ix2 i l) = left f (256 + i.val) := by
  have h := b384 H D f l hf hH hD T hT c hc 0
  generalize k0_pay56 H D = p56 at h ⊢
  pointwise [k0_pay66, k0_pay65, k0_pay64, k0_pay63, k0_pay61, k0_pay60, k0_pay59]
  simp only [hH, hD]
  exact tail_block 1040 128 256 i.val i.isLt (by norm_num) f hf _ (by rw [h]; exact tail_carry 1040 384 (by norm_num) f hf) (fun k => T (ix2 k i)) fun k => hT k i

/-- The block of keys 128 to 255. -/
theorem b128 (i : Fin 128) : k0_pay70 H D c (k0_pay56 H D) (k0_pay57 H D T) T T T (ix2 i l) = left f (128 + i.val) := by
  have h := b256 H D f l hf hH hD T hT c hc 0
  generalize k0_pay56 H D = p56 at h ⊢
  pointwise [k0_pay70, k0_pay69, k0_pay68, k0_pay67, k0_pay65, k0_pay64, k0_pay63]
  simp only [hH, hD]
  exact tail_block 1040 128 128 i.val i.isLt (by norm_num) f hf _ (by rw [h]; exact tail_carry 1040 256 (by norm_num) f hf) (fun k => T (ix2 k i)) fun k => hT k i
end
end

/-- The totals of the block of keys 128 to 255. -/
theorem p69 (H D : FVec Ideal S1040x128 .bf16) (l i : Fin 128) : k0_pay69 H D (ix2 i l) = H (ix2 ⟨128 + i.val, by omega⟩ l) + D (ix2 ⟨128 + i.val, by omega⟩ l) := by
  pointwise [k0_pay69, k0_pay68, k0_pay67]

end Cert.StickKernelIdeal.Own
end
-- ==== Proof.StickBlocks.lean ====
module
public import proofs.«01_k».proof.Proof.StickTails
public import Idealize.ShloMosaic.Lib.WordCmp
public import proofs.«01_k».proof.Proof.Gen.StickKernelIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.StickMath Cert.EMath
namespace Cert.StickKernelIdeal.Own
open Cert.StickKernelIdeal Cert.StickKernelIdeal.Gen

/-- The first block's sums. -/
def firstBlock (H D : FVec Ideal S1040x128 .bf16) (q : FVec Ideal S128x128 .f32) (c : FVec Ideal S1x128 .f32) (T : Vec Ideal S128x128 .bf16) : FVec Ideal S128x128 .f32 :=
  addf (subf (addf (matmul (φ₁ := .bf16) (φ₂ := .bf16) dot_S128x128_S128x128_S128x128_0_0_1_1_n_n none T (extractStridedSlice S128x128 ![0, 0] H slices_S1040x128_o0_0_S128x128) (constant S128x128 .f32 0x00000000#32))
      (matmul (φ₁ := .bf16) (φ₂ := .bf16) dot_S128x128_S128x128_S128x128_0_0_1_1_n_n none T (extractStridedSlice S128x128 ![0, 0] D slices_S1040x128_o0_0_S128x128) (constant S128x128 .f32 0x00000000#32)))
    (addf (extf .f32 (extractStridedSlice S128x128 ![0, 0] H slices_S1040x128_o0_0_S128x128) bitsLt_bf16_f32) (extf .f32 (extractStridedSlice S128x128 ![0, 0] D slices_S1040x128_o0_0_S128x128) bitsLt_bf16_f32)))
    (broadcastTo S128x128 (addf c (extractStridedSlice S1x128 ![0, 0] q slices_S128x128_o0_0_S1x128)) broadcasts_S1x128_S128x128)

/-- The nine blocks' sums as one array. -/
def allTails (p0 p128 p256 p384 p512 p640 p768 p896 : FVec Ideal S128x128 .f32) (p1024 : FVec Ideal S16x128 .f32) : FVec Ideal S1040x128 .f32 :=
  concatenate S1040x128 0 [⟨S128x128, p0⟩, ⟨S128x128, p128⟩, ⟨S128x128, p256⟩, ⟨S128x128, p384⟩, ⟨S128x128, p512⟩, ⟨S128x128, p640⟩, ⟨S128x128, p768⟩, ⟨S128x128, p896⟩, ⟨S16x128, p1024⟩] concatenates_S128x128_S128x128_S128x128_S128x128_S128x128_S128x128_S128x128_S128x128_S16x128_S1040x128_d0

/-- The weights from the scores and the sums. -/
def weightsOf (z u : FVec Ideal S1040x128 .f32) (ok : IVec S1040x128 1) (tl : FVec Ideal S1040x128 .f32) : FVec Ideal S1040x128 .bf16 :=
  truncf .bf16 (select ok (exp (addf (addf z u) tl)) (broadcast S1040x128 (Scalar.ofBits .f32 0x00000000#32 : Ideal .f32))) bitsLt_bf16_f32

/-- Each head's own columns of the product. -/
def heads (M : FVec Ideal S128x1024 .f32) : FVec Ideal S16x1024 .f32 :=
  concatenate S16x1024 1 [⟨S16x128, extractStridedSlice S16x128 ![0, 0] M slices_S128x1024_o0_0_S16x128⟩, ⟨S16x128, extractStridedSlice S16x128 ![16, 128] M slices_S128x1024_o16_128_S16x128⟩, ⟨S16x128, extractStridedSlice S16x128 ![32, 256] M slices_S128x1024_o32_256_S16x128⟩, ⟨S16x128, extractStridedSlice S16x128 ![48, 384] M slices_S128x1024_o48_384_S16x128⟩, ⟨S16x128, extractStridedSlice S16x128 ![64, 512] M slices_S128x1024_o64_512_S16x128⟩, ⟨S16x128, extractStridedSlice S16x128 ![80, 640] M slices_S128x1024_o80_640_S16x128⟩, ⟨S16x128, extractStridedSlice S16x128 ![96, 768] M slices_S128x1024_o96_768_S16x128⟩, ⟨S16x128, extractStridedSlice S16x128 ![112, 896] M slices_S128x1024_o112_896_S16x128⟩] concatenates_S16x128_S16x128_S16x128_S16x128_S16x128_S16x128_S16x128_S16x128_S16x1024_d1

/-- The kernel's attention in these parts. -/
theorem parts (z : FVec Ideal S1040x128 .f32) (ok : IVec S1040x128 1) (u : FVec Ideal S1040x128 .f32) (H D : FVec Ideal S1040x128 .bf16)
    (p1024 : FVec Ideal S16x128 .f32) (p896 p768 p640 p512 p384 p256 q p128 : FVec Ideal S128x128 .f32) (c : FVec Ideal S1x128 .f32)
    (T : Vec Ideal S128x128 .bf16) (V : Vec Ideal S1040x1024 .bf16) :
    k0_pay72 z ok u H D p1024 p896 p768 p640 p512 p384 p256 q p128 c T V
      = heads (matmul (φ₁ := .bf16) (φ₂ := .bf16) dot_S1040x128_S1040x1024_S128x1024_0_0_1_1_n_n none (weightsOf z u ok (allTails (firstBlock H D q c T) p128 p256 p384 p512 p640 p768 p896 p1024)) V (constant S128x1024 .f32 0x00000000#32)) := rfl

/-- The first block: keys 0 to 127. -/
theorem b0 (H D : FVec Ideal S1040x128 .bf16) (f : ℕ → EReal) (l : Fin 128) (hf : ∀ k, f k ≠ ⊤)
    (hH : ∀ s : Fin 1040, H (ix2 s l) = f s.val) (hD : ∀ s : Fin 1040, D (ix2 s l) = f s.val - f s.val)
    (T : Vec Ideal S128x128 .bf16) (hT : ∀ k i : Fin 128, T (ix2 k i) = if i.val ≤ k.val then 1 else 0)
    (q : FVec Ideal S128x128 .f32) (c : FVec Ideal S1x128 .f32) (hq : q (ix2 0 l) = f 128 + (f 128 - f 128)) (hc : c (ix2 0 l) = left f 128) (i : Fin 128) :
    firstBlock H D q c T (ix2 i l) = left f i.val := by
  pointwise [firstBlock]
  simp only [hH, hD]
  have h := tail_block 1040 128 0 i.val i.isLt (by norm_num) f hf (c (ix2 0 l) + q (ix2 0 l)) (by rw [hc, hq]; exact tail_carry 1040 128 (by norm_num) f hf) (fun k => T (ix2 k i)) fun k => hT k i
  simp only [Nat.zero_add] at h
  exact h

/-- The sums of all the keys, block by block. -/
theorem allTails_val (p0 p128 p256 p384 p512 p640 p768 p896 : FVec Ideal S128x128 .f32) (p1024 : FVec Ideal S16x128 .f32) (g : ℕ → EReal) (l : Fin 128)
    (h0 : ∀ i : Fin 128, p0 (ix2 i l) = g i.val) (h1 : ∀ i : Fin 128, p128 (ix2 i l) = g (128 + i.val)) (h2 : ∀ i : Fin 128, p256 (ix2 i l) = g (256 + i.val))
    (h3 : ∀ i : Fin 128, p384 (ix2 i l) = g (384 + i.val)) (h4 : ∀ i : Fin 128, p512 (ix2 i l) = g (512 + i.val)) (h5 : ∀ i : Fin 128, p640 (ix2 i l) = g (640 + i.val))
    (h6 : ∀ i : Fin 128, p768 (ix2 i l) = g (768 + i.val)) (h7 : ∀ i : Fin 128, p896 (ix2 i l) = g (896 + i.val)) (h8 : ∀ i : Fin 16, p1024 (ix2 i l) = g (1024 + i.val))
    (s : Fin 1040) : allTails p0 p128 p256 p384 p512 p640 p768 p896 p1024 (ix2 s l) = g s.val := by
  pointwise [allTails]
  simp only [h0, h1, h2, h3, h4, h5, h6, h7, h8]
  repeat' split
  all_goals (congr 1; try omega)

/-- One weight. -/
theorem weightsOf_val (z u : FVec Ideal S1040x128 .f32) (ok : IVec S1040x128 1) (tl : FVec Ideal S1040x128 .f32) (s : Fin 1040) (l : Fin 128) :
    weightsOf z u ok tl (ix2 s l) = Scalar.select (ok (ix2 s l)) (Ideal.exp (z (ix2 s l) + u (ix2 s l) + tl (ix2 s l))) 0 := by
  pointwise [weightsOf]

/-- Head `h` at query `t` is row `16h + t` of the product, at the head's columns. -/
theorem heads_val (M : FVec Ideal S128x1024 .f32) (h : Fin 8) (t : Fin 16) (d : Fin 128) :
    heads M (ix2 t ⟨h.val * 128 + d.val, by omega⟩) = M (ix2 ⟨h.val * 16 + t.val, by omega⟩ ⟨h.val * 128 + d.val, by omega⟩) := by
  pointwise [heads]
  have key : ∀ (n k : ℕ) (hn : n < 128) (hk : k < 1024), n = h.val * 16 + t.val → k = h.val * 128 + d.val → M (ix2 ⟨n, hn⟩ ⟨k, hk⟩) = M (ix2 ⟨h.val * 16 + t.val, by omega⟩ ⟨h.val * 128 + d.val, by omega⟩) := by
    intro n k hn hk e1 e2; subst e1; subst e2; rfl
  have := h.isLt
  have := t.isLt
  have := d.isLt
  repeat' split
  all_goals exact key _ _ _ _ (by omega) (by omega)

/-- The product of the weights with the values. -/
theorem product (w : FVec Ideal S1040x128 .bf16) (V : Vec Ideal S1040x1024 .bf16) (l : Fin 128) (j : Fin 1024) :
    (matmul (φ₁ := .bf16) (φ₂ := .bf16) dot_S1040x128_S1040x1024_S128x1024_0_0_1_1_n_n none w V (constant S128x1024 .f32 0x00000000#32) : FVec Ideal S128x1024 .f32) (ix2 l j) = ∑ s : Fin 1040, w (ix2 s l) * V (ix2 s j) := by
  pointwise []

end Cert.StickKernelIdeal.Own
end
-- ==== Proof.StickScores.lean ====
module
public import proofs.«01_k».proof.Proof.StickTails
public import Idealize.ShloMosaic.Lib.WordCmp
public import proofs.«01_k».proof.Proof.Gen.StickKernelIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.StickMath Cert.EMath
namespace Cert.StickKernelIdeal.Own
open Cert.StickKernelIdeal Cert.StickKernelIdeal.Gen

/-- Head `16h + t` belongs to head `h`. -/
theorem rowHead (l : Fin 128) (j : Fin 1024) : k0_pay23 (ix2 l j) = BitVec.ofNat 32 (l.val / 16) := by
  pointwise [k0_pay23]
  clear j
  revert l
  decide +kernel

/-- The queries, scaled, once for each head of the group. -/
theorem rep (x0 : Vec Ideal S16x1024 .f32) (h : Fin 8) (t : Fin 16) (j : Fin 1024) :
    k0_pay22 x0 (ix2 ⟨h.val * 16 + t.val, by omega⟩ j) = x0 (ix2 t j) * Ideal.ofBits .f32 1035273459#32 := by
  pointwise [k0_pay22]
  have key : ∀ (n : ℕ) (hn : n < 16), n = t.val → x0 (ix2 ⟨n, hn⟩ j) * Ideal.ofBits .f32 1035273459#32 = x0 (ix2 t j) * Ideal.ofBits .f32 1035273459#32 := by
    intro n hn e; subst e; rfl
  have := h.isLt
  have := t.isLt
  repeat' split
  all_goals exact key _ _ (by omega)

/-- A sum over the group's columns that keeps one head's. -/
theorem sum_head (F : Fin 1024 → EReal) (h : Fin 8) :
    (∑ x : Fin 1024, if x.val / 128 = h.val then F x else 0) = ∑ d : Fin 128, F ⟨h.val * 128 + d.val, by omega⟩ := by
  rw [← Finset.sum_filter]
  symm
  refine Finset.sum_bij (fun d _ => (⟨h.val * 128 + d.val, by omega⟩ : Fin 1024)) ?_ ?_ ?_ ?_
  · intro d _
    simp only [Finset.mem_filter, Finset.mem_univ, true_and]
    have := d.isLt; omega
  · intro a _ b _ e
    have e2 := congrArg Fin.val e
    dsimp only at e2
    exact Fin.ext (by omega)
  · intro x hx
    simp only [Finset.mem_filter, Finset.mem_univ, true_and] at hx
    exact ⟨⟨x.val - h.val * 128, by have := x.isLt; omega⟩, Finset.mem_univ _, Fin.ext (by dsimp only; omega)⟩
  · intro d _; rfl

/-- The head a column of the group belongs to, as the kernel computes it. -/
theorem colHead (x : Fin 1024) : Scalar.select
            (IntOp.andi
              (IntOp.cmpi CmpIPredicate.ne
                (IntOp.subi (BitVec.setWidth 32 (IntOp.cmpi CmpIPredicate.sgt (BitVec.ofNat 32 x.val) 0#32))
                  (BitVec.setWidth 32 (IntOp.cmpi CmpIPredicate.slt (BitVec.ofNat 32 x.val) 0#32)))
                (Scalar.subi (Scalar.extui (Scalar.cmpi CmpIPredicate.sgt 128#32 0#32))
                  (Scalar.extui (Scalar.cmpi CmpIPredicate.slt 128#32 0#32))))
              (IntOp.cmpi CmpIPredicate.ne (IntOp.remsi ArithUnit.vector (BitVec.ofNat 32 x.val) 128#32) 0#32))
            (IntOp.subi (IntOp.divsi ArithUnit.vector (BitVec.ofNat 32 x.val) 128#32) 1#32)
            (IntOp.divsi ArithUnit.vector (BitVec.ofNat 32 x.val) 128#32) = BitVec.ofNat 32 (x.val / 128) := by
  revert x
  decide +kernel

/-- Keeping the columns of one head. -/
theorem sel_head (h : Fin 8) (x : Fin 1024) (y : EReal) :
    Scalar.select (IntOp.cmpi CmpIPredicate.eq (BitVec.ofNat 32 h.val) (BitVec.ofNat 32 (x.val / 128))) y 0 = if x.val / 128 = h.val then y else 0 := by
  have e : IntOp.cmpi CmpIPredicate.eq (BitVec.ofNat 32 h.val) (BitVec.ofNat 32 (x.val / 128)) = if x.val / 128 = h.val then 1#1 else 0#1 := by
    clear y; revert h x; decide +kernel
  rw [e]
  split <;> rfl

/-- The scores of the group's heads, each query row against its own head's columns. -/
theorem scores (x0 : Vec Ideal S16x1024 .f32) (K : Vec Ideal S1040x1024 .bf16) (h : Fin 8) (t : Fin 16) (s : Fin 1040) :
    k0_pay24 (k0_pay22 x0) k0_pay23 (iota Kind.tc S128x1024 32 [1] iota_S128x1024_d1_w32) K (ix2 s ⟨h.val * 16 + t.val, by omega⟩)
      = ∑ d : Fin 128, K (ix2 s ⟨h.val * 128 + d.val, by omega⟩) * (x0 (ix2 t ⟨h.val * 128 + d.val, by omega⟩) * Ideal.ofBits .f32 1035273459#32) := by
  pointwise [k0_pay24]
  refine Eq.trans ?_ (sum_head (fun x => K (ix2 s x) * (x0 (ix2 t x) * Ideal.ofBits .f32 1035273459#32)) h)
  refine Finset.sum_congr rfl fun x _ => ?_
  rw [rep, rowHead]
  rw [colHead]
  have e : (h.val * 16 + t.val) / 16 = h.val := by have := t.isLt; omega
  show Scalar.select (IntOp.cmpi CmpIPredicate.eq (BitVec.ofNat 32 ((h.val * 16 + t.val) / 16)) _) _ 0 = _
  rw [e]
  exact sel_head h x _

/-- The kernel's mask: query `t` sees the cached keys and the new ones before it. -/
theorem valid (h : Fin 8) (t : Fin 16) (s : Fin 1040) :
    k0_pay29 (iota Kind.tc S1040x128 32 [0] iota_S1040x128_d0_w32) (16#32) k0_pay25 k0_pay26 k0_pay27 k0_pay28 (ix2 s ⟨h.val * 16 + t.val, by omega⟩)
      = if s.val < 1024 + t.val then 1#1 else 0#1 := by
  pointwise [k0_pay29, k0_pay28, k0_pay27, k0_pay26, k0_pay25]
  have e : ∀ v w : BitVec 32, v = w → IntOp.cmpi CmpIPredicate.slt (BitVec.ofNat 32 s.val) (IntOp.addi (1024#32) v) = IntOp.cmpi CmpIPredicate.slt (BitVec.ofNat 32 s.val) (IntOp.addi (1024#32) w) := by
    intro v w e; rw [e]
  refine (e _ (BitVec.ofNat 32 t.val) ?_).trans ?_
  · clear e s
    revert h t
    decide +kernel
  · have e : IntOp.addi (1024#32) (BitVec.ofNat 32 t.val) = BitVec.ofNat 32 (1024 + t.val) := (BitVec.ofNat_add 1024 t.val).symm
    rw [e]
    simp (disch := word_cmp_side) only [hlo_ix]
    by_cases h : s.val < 1024 + t.val <;> simp [h]

/-- The losses, in the kernel's way. -/
theorem lnegs (z : FVec Ideal S1040x128 .f32) (s : Fin 1040) (l : Fin 128) : k0_pay30 z (ix2 s l) = lneg (z (ix2 s l)) := by
  pointwise [k0_pay30]
  rfl

/-- The losses the sums take: those of the keys the query sees. -/
theorem hi_loss (z : FVec Ideal S1040x128 .f32) (h : Fin 8) (t : Fin 16) (s : Fin 1040) (f : ℕ → EReal) (hz : z (ix2 s ⟨h.val * 16 + t.val, by omega⟩) = f s.val) :
    k0_pay32 z (iota Kind.tc S1040x128 32 [0] iota_S1040x128_d0_w32) (16#32) k0_pay25 k0_pay26 k0_pay27 k0_pay28 (ix2 s ⟨h.val * 16 + t.val, by omega⟩)
      = loss f (1024 + t.val) s.val := by
  pointwise [k0_pay32, k0_pay31]
  rw [valid, lnegs, hz, loss]
  split <;> rfl

/-- The part the first rounding left over: the losses less themselves. -/
theorem lo_loss (z : FVec Ideal S1040x128 .f32) (h : Fin 8) (t : Fin 16) (s : Fin 1040) (f : ℕ → EReal) (hz : z (ix2 s ⟨h.val * 16 + t.val, by omega⟩) = f s.val) :
    k0_pay33 z (iota Kind.tc S1040x128 32 [0] iota_S1040x128_d0_w32) (16#32) k0_pay25 k0_pay26 k0_pay27 k0_pay28 (ix2 s ⟨h.val * 16 + t.val, by omega⟩)
      = loss f (1024 + t.val) s.val - loss f (1024 + t.val) s.val := by
  have e := hi_loss z h t s f hz
  pointwise [k0_pay32] at e
  pointwise [k0_pay33, k0_pay32]
  rw [e]

/-- The gate, in the kernel's way. -/
theorem gate (g : Vec Ideal S16x1024 .f32) (t : Fin 16) (j : Fin 1024) :
    k0_pay73 g (ix2 t j) = g (ix2 t j) * Ideal.div 1 (1 + Ideal.exp (-(g (ix2 t j)))) := by
  pointwise [k0_pay73]
  exact silu_eq _
end Cert.StickKernelIdeal.Own
end
-- ==== Proof.StickOut.lean ====
module
public import proofs.«01_k».proof.Proof.StickBlocks
public import proofs.«01_k».proof.Proof.StickScores
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.StickMath Cert.EMath
open Idealize.ShloMosaic.Pipeline (Dat)
namespace Cert.StickKernelIdeal.Own
open Cert.StickKernelIdeal Cert.StickKernelIdeal.Gen

/-- The weighted values of one block, from the scores on: the kernel's chain of blocks. -/
def ATT (z : FVec Ideal S1040x128 .f32) (T16 : Vec Ideal S16x16 .bf16) (T : Vec Ideal S128x128 .bf16) (V : Vec Ideal S1040x1024 .bf16) : FVec Ideal S16x1024 .f32 :=
  k0_pay72 z (k0_pay29 (iota Kind.tc S1040x128 32 [0] iota_S1040x128_d0_w32) (16#32) k0_pay25 k0_pay26 k0_pay27 k0_pay28) (k0_pay30 z) (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay37 z (iota Kind.tc S1040x128 32 [0] iota_S1040x128_d0_w32) (16#32) k0_pay25 k0_pay26 k0_pay27 k0_pay28 T16) (k0_pay44 (k0_pay38 z (iota Kind.tc S1040x128 32 [0] iota_S1040x128_d0_w32) (16#32) k0_pay25 k0_pay26 k0_pay27 k0_pay28 T16) (k0_pay40 z (iota Kind.tc S1040x128 32 [0] iota_S1040x128_d0_w32) (16#32) k0_pay25 k0_pay26 k0_pay27 k0_pay28) (k0_pay41 z (iota Kind.tc S1040x128 32 [0] iota_S1040x128_d0_w32) (16#32) k0_pay25 k0_pay26 k0_pay27 k0_pay28) (k0_pay42 z (iota Kind.tc S1040x128 32 [0] iota_S1040x128_d0_w32) (16#32) k0_pay25 k0_pay26 k0_pay27 k0_pay28 T)) (k0_pay48 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay38 z (iota Kind.tc S1040x128 32 [0] iota_S1040x128_d0_w32) (16#32) k0_pay25 k0_pay26 k0_pay27 k0_pay28 T16) (k0_pay40 z (iota Kind.tc S1040x128 32 [0] iota_S1040x128_d0_w32) (16#32) k0_pay25 k0_pay26 k0_pay27 k0_pay28) (k0_pay41 z (iota Kind.tc S1040x128 32 [0] iota_S1040x128_d0_w32) (16#32) k0_pay25 k0_pay26 k0_pay27 k0_pay28) (k0_pay42 z (iota Kind.tc S1040x128 32 [0] iota_S1040x128_d0_w32) (16#32) k0_pay25 k0_pay26 k0_pay27 k0_pay28 T) T) (k0_pay52 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay38 z (iota Kind.tc S1040x128 32 [0] iota_S1040x128_d0_w32) (16#32) k0_pay25 k0_pay26 k0_pay27 k0_pay28 T16) (k0_pay40 z (iota Kind.tc S1040x128 32 [0] iota_S1040x128_d0_w32) (16#32) k0_pay25 k0_pay26 k0_pay27 k0_pay28) (k0_pay41 z (iota Kind.tc S1040x128 32 [0] iota_S1040x128_d0_w32) (16#32) k0_pay25 k0_pay26 k0_pay27 k0_pay28) (k0_pay42 z (iota Kind.tc S1040x128 32 [0] iota_S1040x128_d0_w32) (16#32) k0_pay25 k0_pay26 k0_pay27 k0_pay28 T) T T) (k0_pay58 (k0_pay53 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay38 z (iota Kind.tc S1040x128 32 [0] iota_S1040x128_d0_w32) (16#32) k0_pay25 k0_pay26 k0_pay27 k0_pay28 T16) (k0_pay40 z (iota Kind.tc S1040x128 32 [0] iota_S1040x128_d0_w32) (16#32) k0_pay25 k0_pay26 k0_pay27 k0_pay28) (k0_pay41 z (iota Kind.tc S1040x128 32 [0] iota_S1040x128_d0_w32) (16#32) k0_pay25 k0_pay26 k0_pay27 k0_pay28) (k0_pay42 z (iota Kind.tc S1040x128 32 [0] iota_S1040x128_d0_w32) (16#32) k0_pay25 k0_pay26 k0_pay27 k0_pay28 T) T T) (k0_pay57 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) T)) (k0_pay62 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay53 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay38 z (iota Kind.tc S1040x128 32 [0] iota_S1040x128_d0_w32) (16#32) k0_pay25 k0_pay26 k0_pay27 k0_pay28 T16) (k0_pay40 z (iota Kind.tc S1040x128 32 [0] iota_S1040x128_d0_w32) (16#32) k0_pay25 k0_pay26 k0_pay27 k0_pay28) (k0_pay41 z (iota Kind.tc S1040x128 32 [0] iota_S1040x128_d0_w32) (16#32) k0_pay25 k0_pay26 k0_pay27 k0_pay28) (k0_pay42 z (iota Kind.tc S1040x128 32 [0] iota_S1040x128_d0_w32) (16#32) k0_pay25 k0_pay26 k0_pay27 k0_pay28 T) T T) (k0_pay56 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28)) (k0_pay57 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) T) T) (k0_pay66 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay53 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay38 z (iota Kind.tc S1040x128 32 [0] iota_S1040x128_d0_w32) (16#32) k0_pay25 k0_pay26 k0_pay27 k0_pay28 T16) (k0_pay40 z (iota Kind.tc S1040x128 32 [0] iota_S1040x128_d0_w32) (16#32) k0_pay25 k0_pay26 k0_pay27 k0_pay28) (k0_pay41 z (iota Kind.tc S1040x128 32 [0] iota_S1040x128_d0_w32) (16#32) k0_pay25 k0_pay26 k0_pay27 k0_pay28) (k0_pay42 z (iota Kind.tc S1040x128 32 [0] iota_S1040x128_d0_w32) (16#32) k0_pay25 k0_pay26 k0_pay27 k0_pay28 T) T T) (k0_pay56 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28)) (k0_pay57 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) T) T T) (k0_pay69 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28)) (k0_pay70 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay53 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay38 z (iota Kind.tc S1040x128 32 [0] iota_S1040x128_d0_w32) (16#32) k0_pay25 k0_pay26 k0_pay27 k0_pay28 T16) (k0_pay40 z (iota Kind.tc S1040x128 32 [0] iota_S1040x128_d0_w32) (16#32) k0_pay25 k0_pay26 k0_pay27 k0_pay28) (k0_pay41 z (iota Kind.tc S1040x128 32 [0] iota_S1040x128_d0_w32) (16#32) k0_pay25 k0_pay26 k0_pay27 k0_pay28) (k0_pay42 z (iota Kind.tc S1040x128 32 [0] iota_S1040x128_d0_w32) (16#32) k0_pay25 k0_pay26 k0_pay27 k0_pay28 T) T T) (k0_pay56 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28)) (k0_pay57 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) T) T T T) (k0_pay71 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay53 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay38 z (iota Kind.tc S1040x128 32 [0] iota_S1040x128_d0_w32) (16#32) k0_pay25 k0_pay26 k0_pay27 k0_pay28 T16) (k0_pay40 z (iota Kind.tc S1040x128 32 [0] iota_S1040x128_d0_w32) (16#32) k0_pay25 k0_pay26 k0_pay27 k0_pay28) (k0_pay41 z (iota Kind.tc S1040x128 32 [0] iota_S1040x128_d0_w32) (16#32) k0_pay25 k0_pay26 k0_pay27 k0_pay28) (k0_pay42 z (iota Kind.tc S1040x128 32 [0] iota_S1040x128_d0_w32) (16#32) k0_pay25 k0_pay26 k0_pay27 k0_pay28 T) T T) (k0_pay56 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28)) (k0_pay57 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) T) T T T) T V

/-- One block of the result from the loaded blocks. -/
def OUT (x0 g : Vec Ideal S16x1024 .f32) (K V : Vec Ideal S1040x1024 .bf16) (T16 : Vec Ideal S16x16 .bf16) (T : Vec Ideal S128x128 .bf16) : FVec Ideal S16x1024 .bf16 :=
  k0_pay1 (ATT (k0_pay24 (k0_pay22 x0) k0_pay23 (iota Kind.tc S128x1024 32 [1] iota_S128x1024_d1_w32) K) T16 T V) (k0_pay73 g)

/-- The weighted values: stick-breaking weights from the scores. -/
theorem att_val (z : FVec Ideal S1040x128 .f32) (T16 : Vec Ideal S16x16 .bf16) (T : Vec Ideal S128x128 .bf16) (V : Vec Ideal S1040x1024 .bf16)
    (hT16 : ∀ k i : Fin 16, T16 (ix2 k i) = if i.val ≤ k.val then 1 else 0)
    (hT : ∀ k i : Fin 128, T (ix2 k i) = if i.val ≤ k.val then 1 else 0)
    (h : Fin 8) (t : Fin 16) (d : Fin 128) (f : ℕ → EReal) (hz : ∀ s : Fin 1040, z (ix2 s ⟨h.val * 16 + t.val, by omega⟩) = f s.val) :
    ATT z T16 T V (ix2 t ⟨h.val * 128 + d.val, by omega⟩) = ∑ s : Fin 1040, wt f (1024 + t.val) s.val * V (ix2 s ⟨h.val * 128 + d.val, by omega⟩) := by
  have hf := loss_ne_top f (1024 + t.val)
  have hH := fun s => hi_loss z h t s f (hz s)
  have hD := fun s => lo_loss z h t s f (hz s)
  have hc := c1024 z (iota Kind.tc S1040x128 32 [0] iota_S1040x128_d0_w32) (16#32) k0_pay25 k0_pay26 k0_pay27 k0_pay28 _ _ hf hH hD T16 hT16
  have e1024 := b1024 z (iota Kind.tc S1040x128 32 [0] iota_S1040x128_d0_w32) (16#32) k0_pay25 k0_pay26 k0_pay27 k0_pay28 _ _ hf hH hD T16 hT16
  have e896 := b896 z (iota Kind.tc S1040x128 32 [0] iota_S1040x128_d0_w32) (16#32) k0_pay25 k0_pay26 k0_pay27 k0_pay28 _ _ hf hH hD T hT _ hc
  have he : (k0_pay40 z (iota Kind.tc S1040x128 32 [0] iota_S1040x128_d0_w32) (16#32) k0_pay25 k0_pay26 k0_pay27 k0_pay28) (ix2 0 ⟨h.val * 16 + t.val, by omega⟩) = loss f (1024 + t.val) 896 := by
    pointwise [k0_pay40, k0_pay39]
    exact hH ⟨896, by norm_num⟩
  have hg : (k0_pay41 z (iota Kind.tc S1040x128 32 [0] iota_S1040x128_d0_w32) (16#32) k0_pay25 k0_pay26 k0_pay27 k0_pay28) (ix2 0 ⟨h.val * 16 + t.val, by omega⟩) = loss f (1024 + t.val) 896 - loss f (1024 + t.val) 896 := by
    pointwise [k0_pay41]
    exact hD ⟨896, by norm_num⟩
  have e768 := b768 _ _ _ _ hf hH hD T hT _ _ _ _ he hg (e896 0)
  have e640 := b640 _ _ _ _ hf hH hD T hT _ _ _ _ he hg (e896 0)
  have hc2 := c640 _ _ _ _ hf hH hD T hT _ _ _ _ he hg (e896 0)
  have e512 := b512 _ _ _ _ hf hH hD T hT _ hc2
  have e384 := b384 _ _ _ _ hf hH hD T hT _ hc2
  have e256 := b256 _ _ _ _ hf hH hD T hT _ hc2
  have e128 := b128 _ _ _ _ hf hH hD T hT _ hc2
  have hq : (k0_pay69 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28)) (ix2 0 ⟨h.val * 16 + t.val, by omega⟩) = loss f (1024 + t.val) 128 + (loss f (1024 + t.val) 128 - loss f (1024 + t.val) 128) := by
    rw [p69]
    rw [hH, hD]
    rfl
  have e0 := b0 _ _ _ _ hf hH hD T hT _ (k0_pay71 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay53 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) (k0_pay38 z (iota Kind.tc S1040x128 32 [0] iota_S1040x128_d0_w32) (16#32) k0_pay25 k0_pay26 k0_pay27 k0_pay28 T16) (k0_pay40 z (iota Kind.tc S1040x128 32 [0] iota_S1040x128_d0_w32) (16#32) k0_pay25 k0_pay26 k0_pay27 k0_pay28) (k0_pay41 z (iota Kind.tc S1040x128 32 [0] iota_S1040x128_d0_w32) (16#32) k0_pay25 k0_pay26 k0_pay27 k0_pay28) (k0_pay42 z (iota Kind.tc S1040x128 32 [0] iota_S1040x128_d0_w32) (16#32) k0_pay25 k0_pay26 k0_pay27 k0_pay28 T) T T) (k0_pay56 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28)) (k0_pay57 (k0_pay32 z (iota Kind.tc S1040x128 32 [0] iota_S1040x128_d0_w32) (16#32) k0_pay25 k0_pay26 k0_pay27 k0_pay28) (k0_pay33 z (iota Kind.tc S1040x128 32 [0] iota_S1040x128_d0_w32) (16#32) k0_pay25 k0_pay26 k0_pay27 k0_pay28) T) T T T) hq (by
    have e := e128 0
    pointwise [k0_pay71]
    exact e)
  have all := allTails_val _ _ _ _ _ _ _ _ _ (left (loss f (1024 + t.val))) _ e0 e128 e256 e384 e512 e640 e768 e896 e1024
  unfold ATT
  rw [parts, heads_val, product]
  refine Finset.sum_congr rfl fun s _ => ?_
  rw [weightsOf_val, valid, all, lnegs, hz]
  congr 1
  unfold wt
  split <;> rfl

/-- One element of the result: the weighted values, gated. -/
theorem out_val (x0 g : Vec Ideal S16x1024 .f32) (K V : Vec Ideal S1040x1024 .bf16) (T16 : Vec Ideal S16x16 .bf16) (T : Vec Ideal S128x128 .bf16)
    (hT16 : ∀ k i : Fin 16, T16 (ix2 k i) = if i.val ≤ k.val then 1 else 0)
    (hT : ∀ k i : Fin 128, T (ix2 k i) = if i.val ≤ k.val then 1 else 0)
    (h : Fin 8) (t : Fin 16) (d : Fin 128) (f : ℕ → EReal)
    (hf : ∀ s : Fin 1040, (∑ d : Fin 128, K (ix2 s ⟨h.val * 128 + d.val, by omega⟩) * (x0 (ix2 t ⟨h.val * 128 + d.val, by omega⟩) * Ideal.ofBits .f32 1035273459#32)) = f s.val) :
    OUT x0 g K V T16 T (ix2 t ⟨h.val * 128 + d.val, by omega⟩)
      = (∑ s : Fin 1040, wt f (1024 + t.val) s.val * V (ix2 s ⟨h.val * 128 + d.val, by omega⟩))
        * (g (ix2 t ⟨h.val * 128 + d.val, by omega⟩) * Ideal.div 1 (1 + Ideal.exp (-(g (ix2 t ⟨h.val * 128 + d.val, by omega⟩))))) := by
  pointwise [OUT, k0_pay1]
  rw [gate, att_val _ T16 T V hT16 hT h t d f fun s => (scores x0 K h t s).trans (hf s)]

/-- Head 0 of a cached block. -/
theorem cache3 (x : Vec Ideal S1x1x1024x8x128 .f32) (s : Fin 1024) (d : Fin 128) : k0_pay3 x (ix2 s d) = x (ix5 0 0 s 0 d) := by
  pointwise [k0_pay3, k0_pay2]
  try (have e : s.val / 8 * 8 + s.val % 8 = s.val := by omega
       simp only [e])

/-- Head 0 of a cached block. -/
theorem cache13 (x : Vec Ideal S1x1x1024x8x128 .f32) (s : Fin 1024) (d : Fin 128) : k0_pay13 x (ix2 s d) = x (ix5 0 0 s 0 d) := by
  pointwise [k0_pay13, k0_pay12]
  try (have e : s.val / 8 * 8 + s.val % 8 = s.val := by omega
       simp only [e])

/-- Head 1 of a cached block. -/
theorem cache4 (x : Vec Ideal S1x1x1024x8x128 .f32) (s : Fin 1024) (d : Fin 128) : k0_pay4 x (ix2 s d) = x (ix5 0 0 s 1 d) := by
  pointwise [k0_pay4, k0_pay2]
  try (have e : s.val / 8 * 8 + s.val % 8 = s.val := by omega
       simp only [e])

/-- Head 1 of a cached block. -/
theorem cache14 (x : Vec Ideal S1x1x1024x8x128 .f32) (s : Fin 1024) (d : Fin 128) : k0_pay14 (k0_pay12 x) (ix2 s d) = x (ix5 0 0 s 1 d) := by
  pointwise [k0_pay14, k0_pay12]
  try (have e : s.val / 8 * 8 + s.val % 8 = s.val := by omega
       simp only [e])

/-- Head 2 of a cached block. -/
theorem cache5 (x : Vec Ideal S1x1x1024x8x128 .f32) (s : Fin 1024) (d : Fin 128) : k0_pay5 x (ix2 s d) = x (ix5 0 0 s 2 d) := by
  pointwise [k0_pay5, k0_pay2]
  try (have e : s.val / 8 * 8 + s.val % 8 = s.val := by omega
       simp only [e])

/-- Head 2 of a cached block. -/
theorem cache15 (x : Vec Ideal S1x1x1024x8x128 .f32) (s : Fin 1024) (d : Fin 128) : k0_pay15 (k0_pay12 x) (ix2 s d) = x (ix5 0 0 s 2 d) := by
  pointwise [k0_pay15, k0_pay12]
  try (have e : s.val / 8 * 8 + s.val % 8 = s.val := by omega
       simp only [e])

/-- Head 3 of a cached block. -/
theorem cache6 (x : Vec Ideal S1x1x1024x8x128 .f32) (s : Fin 1024) (d : Fin 128) : k0_pay6 x (ix2 s d) = x (ix5 0 0 s 3 d) := by
  pointwise [k0_pay6, k0_pay2]
  try (have e : s.val / 8 * 8 + s.val % 8 = s.val := by omega
       simp only [e])

/-- Head 3 of a cached block. -/
theorem cache16 (x : Vec Ideal S1x1x1024x8x128 .f32) (s : Fin 1024) (d : Fin 128) : k0_pay16 (k0_pay12 x) (ix2 s d) = x (ix5 0 0 s 3 d) := by
  pointwise [k0_pay16, k0_pay12]
  try (have e : s.val / 8 * 8 + s.val % 8 = s.val := by omega
       simp only [e])

/-- Head 4 of a cached block. -/
theorem cache7 (x : Vec Ideal S1x1x1024x8x128 .f32) (s : Fin 1024) (d : Fin 128) : k0_pay7 x (ix2 s d) = x (ix5 0 0 s 4 d) := by
  pointwise [k0_pay7, k0_pay2]
  try (have e : s.val / 8 * 8 + s.val % 8 = s.val := by omega
       simp only [e])

/-- Head 4 of a cached block. -/
theorem cache17 (x : Vec Ideal S1x1x1024x8x128 .f32) (s : Fin 1024) (d : Fin 128) : k0_pay17 (k0_pay12 x) (ix2 s d) = x (ix5 0 0 s 4 d) := by
  pointwise [k0_pay17, k0_pay12]
  try (have e : s.val / 8 * 8 + s.val % 8 = s.val := by omega
       simp only [e])

/-- Head 5 of a cached block. -/
theorem cache8 (x : Vec Ideal S1x1x1024x8x128 .f32) (s : Fin 1024) (d : Fin 128) : k0_pay8 (k0_pay2 x) (ix2 s d) = x (ix5 0 0 s 5 d) := by
  pointwise [k0_pay8, k0_pay2]
  try (have e : s.val / 8 * 8 + s.val % 8 = s.val := by omega
       simp only [e])

/-- Head 5 of a cached block. -/
theorem cache18 (x : Vec Ideal S1x1x1024x8x128 .f32) (s : Fin 1024) (d : Fin 128) : k0_pay18 (k0_pay12 x) (ix2 s d) = x (ix5 0 0 s 5 d) := by
  pointwise [k0_pay18, k0_pay12]
  try (have e : s.val / 8 * 8 + s.val % 8 = s.val := by omega
       simp only [e])

/-- Head 6 of a cached block. -/
theorem cache9 (x : Vec Ideal S1x1x1024x8x128 .f32) (s : Fin 1024) (d : Fin 128) : k0_pay9 (k0_pay2 x) (ix2 s d) = x (ix5 0 0 s 6 d) := by
  pointwise [k0_pay9, k0_pay2]
  try (have e : s.val / 8 * 8 + s.val % 8 = s.val := by omega
       simp only [e])

/-- Head 6 of a cached block. -/
theorem cache19 (x : Vec Ideal S1x1x1024x8x128 .f32) (s : Fin 1024) (d : Fin 128) : k0_pay19 (k0_pay12 x) (ix2 s d) = x (ix5 0 0 s 6 d) := by
  pointwise [k0_pay19, k0_pay12]
  try (have e : s.val / 8 * 8 + s.val % 8 = s.val := by omega
       simp only [e])

/-- Head 7 of a cached block. -/
theorem cache10 (x : Vec Ideal S1x1x1024x8x128 .f32) (s : Fin 1024) (d : Fin 128) : k0_pay10 (k0_pay2 x) (ix2 s d) = x (ix5 0 0 s 7 d) := by
  pointwise [k0_pay10, k0_pay2]
  try (have e : s.val / 8 * 8 + s.val % 8 = s.val := by omega
       simp only [e])

/-- Head 7 of a cached block. -/
theorem cache20 (x : Vec Ideal S1x1x1024x8x128 .f32) (s : Fin 1024) (d : Fin 128) : k0_pay20 (k0_pay12 x) (ix2 s d) = x (ix5 0 0 s 7 d) := by
  pointwise [k0_pay20, k0_pay12]
  try (have e : s.val / 8 * 8 + s.val % 8 = s.val := by omega
       simp only [e])

/-- The new keys, as stored. -/
theorem new11 (x : Vec Ideal S16x1024 .f32) (s : Fin 16) (j : Fin 1024) : k0_pay11 x (ix2 s j) = x (ix2 s j) := by
  pointwise [k0_pay11]

/-- The new values, as stored. -/
theorem new21 (x : Vec Ideal S16x1024 .f32) (s : Fin 16) (j : Fin 1024) : k0_pay21 x (ix2 s j) = x (ix2 s j) := by
  pointwise [k0_pay21]

/-- The lower triangle of ones the kernel is given. -/
theorem tri_bits : ∀ a b : Fin 128, lit0t (a.val * 128 + b.val) = if b.val ≤ a.val then 0x3F80#16 else 0#16 := by
  decide +kernel
end Cert.StickKernelIdeal.Own
end
-- ==== Proof.StickRef.lean ====
module
public import proofs.«01_k».proof.Proof.StickMath
public import Idealize.ShloMosaic.Lib.WordCmp
public import proofs.«01_k».proof.Proof.Gen.StickReferenceIdeal.Read
@[expose] public section
set_option maxRecDepth 16384
noncomputable section
open Idealize.ShloMosaic Idealize.ShloMosaic.TcCoe Idealize.SL.Sem Cert.StickMath
namespace Cert.StickReferenceIdeal.Own
open Cert.StickReferenceIdeal Cert.StickReferenceIdeal.Read Cert.StickReferenceIdeal.Gen

variable (x0 : FVec Ideal S256x16384 .f32) (x1 x2 : FVec Ideal S1x16x1024x16x128 .f32)

/-- A left fold of sums is the start plus the sum. -/
theorem foldl_sum {α : Type} (l : List α) (g : α → EReal) (a : EReal) :
    l.foldl (fun r n => r + g n) a = a + (l.map g).sum := by
  induction l generalizing a with
  | nil => simp
  | cons x l ih => rw [List.foldl_cons, ih, List.map_cons, List.sum_cons, add_assoc]

/-- The running sum from the right, as the reference writes it: a window that looks to the end of the row. -/
theorem window (x : FVec Ideal S16x16x16x1040 .f32) (ini : FVec Ideal S_ .f32) (h0 : ∀ i, ini i = 0)
    (b h t : Fin 16) (s : Fin 1040) (f : ℕ → EReal) (hf : ∀ k : Fin 1040, x (ix4 b h t k) = f k.val) :
    Host.reduceWindowAdd (F := Ideal) ![1, 1, 1, 1040] ![1, 1, 1, 1] ![0, 0, 0, 0] ![0, 0, 0, 1039] x ini
      reduceWindows_S16x16x16x1040_S16x16x16x1040_w1s1p0_0_w1s1p0_0_w1s1p0_0_w1040s1p0_1039 h_S_ (ix4 b h t s)
      = ∑ k ∈ Finset.Ico s.val 1040, f k := by
  unfold Host.reduceWindowAdd
  rw [Ideal.hostReduceWindowAdd_def]
  unfold Ideal.hostReduceWindowAdd Host.reduceWindow
  rw [h0]
  refine (foldl_sum _ _ _).trans ?_
  rw [zero_add, ← Fin.sum_univ_def]
  rw [← Equiv.sum_comp (Shape.rowMajor _)]
  simp only [Equiv.symm_apply_apply]
  refine (sum_idx4 (n0 := 1) (n1 := 1) (n2 := 1) (n3 := 1040) _).trans ?_
  rw [Fin.sum_univ_one, Fin.sum_univ_one, Fin.sum_univ_one]
  have hd : ∀ (d : Fin 1040) (i : EReal), i = (if s.val + d.val < 1040 then f (s.val + d.val) else 0) → i = (fun k => if s.val + k < 1040 then f (s.val + k) else 0) d.val := fun d i h => h
  refine (Finset.sum_congr rfl fun d _ => hd d _ ?_).trans ?_
  · split
    · next hh =>
      have h3 := (hh 3).2
      change s.val * 1 + d.val - 0 < 1040 at h3
      rw [if_pos (by omega)]
      refine Eq.trans (congrArg x ?_) (hf ⟨s.val + d.val, by omega⟩)
      funext a
      apply Fin.ext
      fin_cases a
      · show b.val * 1 + 0 - 0 = b.val; omega
      · show h.val * 1 + 0 - 0 = h.val; omega
      · show t.val * 1 + 0 - 0 = t.val; omega
      · show s.val * 1 + d.val - 0 = s.val + d.val; omega
    · next hh =>
      rw [if_neg]
      intro h2
      refine hh fun a => ?_
      fin_cases a
      · exact ⟨Nat.zero_le _, by show b.val * 1 + 0 - 0 < 16; omega⟩
      · exact ⟨Nat.zero_le _, by show h.val * 1 + 0 - 0 < 16; omega⟩
      · exact ⟨Nat.zero_le _, by show t.val * 1 + 0 - 0 < 16; omega⟩
      · exact ⟨Nat.zero_le _, by show s.val * 1 + d.val - 0 < 1040; omega⟩
  · rw [Fin.sum_univ_eq_sum_range (fun k => if s.val + k < 1040 then f (s.val + k) else 0) 1040, ← Finset.sum_filter,
      Finset.sum_Ico_eq_sum_range]
    refine Finset.sum_congr ?_ fun _ _ => rfl
    ext k; simp only [Finset.mem_filter, Finset.mem_range]; omega

/-- The reference's keys: the cached ones, then the new ones. -/
theorem keys (b h : Fin 16) (s : Fin 1040) (d : Fin 128) : val_main_v11 (F := Ideal) x0 x1 (ix4 b s h d)
    = if hs : s.val < 1024 then x1 (ix5 0 b ⟨s.val, hs⟩ h d) else x0 (ix2 ⟨b.val * 16 + (s.val - 1024), by omega⟩ ⟨10240 + (h.val * 128 + d.val), by omega⟩) := by
  pointwise [val_main_v11, val_main_v9, val_main_v10, val_main_v5]

/-- The reference's values: the cached ones, then the new ones. -/
theorem vals (b h : Fin 16) (s : Fin 1040) (d : Fin 128) : val_main_v14 (F := Ideal) x0 x2 (ix4 b s h d)
    = if hs : s.val < 1024 then x2 (ix5 0 b ⟨s.val, hs⟩ h d) else x0 (ix2 ⟨b.val * 16 + (s.val - 1024), by omega⟩ ⟨12288 + (h.val * 128 + d.val), by omega⟩) := by
  pointwise [val_main_v14, val_main_v12, val_main_v13, val_main_v6]

/-- The reference's scores, with the scale on the query. -/
theorem score (b h t : Fin 16) (s : Fin 1040) : val_main_v17 (F := Ideal) x0 x1 (ix4 b h t s)
    = ∑ x : Fin 128, val_main_v11 (F := Ideal) x0 x1 (ix4 b s h x) * (x0 (ix2 ⟨b.val * 16 + t.val, by omega⟩ ⟨8192 + (h.val * 128 + x.val), by omega⟩) * Ideal.ofBits .f32 1035273459#32) := by
  pointwise [val_main_v17, val_main_v16, val_main_cst, val_main_v15, val_main_v8, val_main_v4]
  obtain ⟨r, hr, h⟩ := scale_real
  rw [h]
  refine (Cert.EMath.sum_mul_coe _ _ r hr).trans (Finset.sum_congr rfl fun x _ => ?_)
  rw [mul_comm (x0 _), mul_assoc]

/-- The reference's mask: query `t` sees the cached keys and the new ones before it. -/
theorem mask (t : Fin 16) (s : Fin 1040) : val_main_v26 (F := Ideal) (ix2 t s) = if s.val < 1024 + t.val then 1#1 else 0#1 := by
  pointwise [val_main_v26, val_main_v24, val_main_v25,val_main_v22, val_main_v23, val_main_v20, val_main_v21,val_main_v18, val_main_v19, val_main_c]
  have e : IntOp.addi (1024#32) (BitVec.ofNat 32 t.val) = BitVec.ofNat 32 (1024 + t.val) := (BitVec.ofNat_add 1024 t.val).symm
  rw [e]
  simp (disch := word_cmp_side) only [hlo_ix]
  by_cases h : s.val < 1024 + t.val <;> simp [h]

section
variable (b h t : Fin 16) (z : ℕ → EReal) (hz : ∀ k : Fin 1040, val_main_v17 (F := Ideal) x0 x1 (ix4 b h t k) = z k.val)
include hz

/-- The logarithm of one minus the sigmoid of the score. -/
theorem losses (s : Fin 1040) : val_main_v28 (F := Ideal) x0 x1 (ix4 b h t s) = lneg (z s.val) := by
  pointwise [val_main_v28, val_main_call0_v1, val_main_call0_v0, val_main_v27, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_call0_cst]
  rw [hz, if_neg (fun h => h rfl), neg_neg, lneg, zero_sub]
  congr 2
  show Ideal.log (1 + Ideal.exp (-(max (z s.val) (-(z s.val))))) = _
  rw [zero_sub]

/-- The losses of the keys a query sees. -/
theorem v29 (s : Fin 1040) : val_main_v29 (F := Ideal) x0 x1 (ix4 b h t s) = loss z (1024 + t.val) s.val := by
  rw [val_main_v29_apply]
  pointwise [val_main_call1_v1, val_main_call1_v2,val_main_call1_v0, val_main_cst_0]
  rw [mask, losses x0 x1 b h t z hz]
  show Scalar.select _ _ (Ideal.ofBits .f32 0#32) = _
  rw [Ideal.ofBits_zero, loss]
  split <;> rfl

/-- What is left of the stick at a key. -/
theorem rest (s : Fin 1040) : val_main_v31 (F := Ideal) x0 x1 (ix4 b h t s) = tail z (1024 + t.val) s.val := by
  rw [val_main_v31_apply, v29 x0 x1 b h t z hz, tail]
  congr 1
  unfold val_main_v30
  refine window _ _ (fun i => ?_) b h t s _ fun k => v29 x0 x1 b h t z hz k
  pointwise [val_main_call2_v0, val_main_call2_cst]

/-- The log-sigmoid of the score. -/
theorem logsigmoid (s : Fin 1040) : val_main_v32 (F := Ideal) x0 x1 (ix4 b h t s)
    = -(max (-(z s.val)) 0 + Ideal.log (1 + Ideal.exp (-(max (-(z s.val)) (-(-(z s.val))))))) := by
  pointwise [val_main_v32, val_main_call3_v1, val_main_call3_v0, val_main_call3_call0_v0, val_main_call3_call0_v1, val_main_call3_call0_v2, val_main_call3_call0_v3, val_main_call3_call0_v4, val_main_call3_call0_v5, val_main_call3_call0_v6, val_main_call3_call0_v7, val_main_call3_call0_v8, val_main_call3_call0_v9, val_main_call3_call0_v10, val_main_call3_call0_v11, val_main_call3_call0_cst]
  rw [hz, if_neg (fun h => h rfl)]
  rfl

/-- The reference's weights. -/
theorem weights (s : Fin 1040) : val_main_v35 (F := Ideal) x0 x1 (ix4 b h t s) = wt z (1024 + t.val) s.val := by
  rw [val_main_v35_apply]
  pointwise [val_main_call4_v1, val_main_call4_v2,val_main_call4_v0, val_main_cst_1, val_main_v34, val_main_v33]
  rw [mask, logsigmoid x0 x1 b h t z hz, rest x0 x1 b h t z hz, wt_eq _ _ _ s.isLt]
  show Scalar.select _ _ (Ideal.ofBits .f32 0#32) = _
  rw [Ideal.ofBits_zero]
  split <;> rfl
end

/-- The reference's result: the weighted values, gated. -/
theorem result (b h t : Fin 16) (d : Fin 128) (z : ℕ → EReal) (hz : ∀ k : Fin 1040, val_main_v17 (F := Ideal) x0 x1 (ix4 b h t k) = z k.val) :
    val_main_v41 (F := Ideal) x0 x1 x2 (ix2 ⟨b.val * 16 + t.val, by omega⟩ ⟨h.val * 128 + d.val, by omega⟩)
      = (∑ s : Fin 1040, wt z (1024 + t.val) s.val * val_main_v14 (F := Ideal) x0 x2 (ix4 b s h d))
        * (x0 (ix2 ⟨b.val * 16 + t.val, by omega⟩ ⟨14336 + (h.val * 128 + d.val), by omega⟩)
          * Ideal.div 1 (1 + Ideal.exp (-(x0 (ix2 ⟨b.val * 16 + t.val, by omega⟩ ⟨14336 + (h.val * 128 + d.val), by omega⟩))))) := by
  pointwise [val_main_v41, val_main_v40, val_main_v38, val_main_v37, val_main_v36, val_main_v39, val_main_call5_v0, val_main_call5_v1, val_main_call5_v2, val_main_call5_v3, val_main_call5_v4, val_main_call5_v5, val_main_call5_cst, val_main_call5_cst_0, val_main_v7]
  refine congrArg (fun e : EReal => e * _) (Finset.sum_congr rfl fun s _ => ?_)
  rw [weights x0 x1 b h t z hz, mul_comm]
end Cert.StickReferenceIdeal.Own
end
-- ==== Proof.StickBlk.lean ====
module
public import proofs.«01_k».proof.Proof.StickOut
public import proofs.«01_k».proof.Proof.StickRef
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.StickMath
open Idealize.ShloMosaic.Pipeline (Dat)
namespace Cert.StickKernelIdeal.Own
open Cert.StickKernelIdeal Cert.StickKernelIdeal.Gen
variable (m : (ℓ : Loc nD τ sig) → Buf (Elt Ideal) ℓ)

/-- A key or a value of the block: cached, or new. -/
def both (kc : Vec Ideal S1x1x1024x8x128 .f32) (kn : Vec Ideal S16x1024 .f32) (s : Fin 1040) (h : Fin 8) (d : Fin 128) : EReal :=
  if hs : s.val < 1024 then kc (ix5 0 0 ⟨s.val, hs⟩ h d) else kn (ix2 ⟨s.val - 1024, by omega⟩ ⟨h.val * 128 + d.val, by omega⟩)

/-- The block indices of the windows at every grid point: the batch and the group of heads. -/
theorem idx : ∀ t : Fin cfg0.N, win0_0.index t = ![t.val / 2, 8 + t.val % 2]
    ∧ win0_1.index t = ![t.val / 2, 10 + t.val % 2]
    ∧ win0_2.index t = ![t.val / 2, 12 + t.val % 2]
    ∧ win0_3.index t = ![0, t.val / 2, 0, t.val % 2, 0]
    ∧ win0_4.index t = ![0, t.val / 2, 0, t.val % 2, 0]
    ∧ win0_5.index t = ![t.val / 2, 14 + t.val % 2]
    ∧ win0_6.index t = ![0, 0]
    ∧ win0_7.index t = ![t.val / 2, t.val % 2] :=
  (by decide +kernel : ∀ t : Fin grid0.N, _)

/-- The triangle block. -/
theorem tri (c : Dev nD) (t : Fin cfg0.N) (a b : Fin 128) : (iblk m c 6 t : Vec Ideal S128x128 .bf16) (ix2 a b) = (if b.val ≤ a.val then (1 : EReal) else 0) := by
  blk_simp [iblk, V]
  entry_read
  have e : ((View.whole main_cst).slice (win0_6.rect t)).emb (ix2 a b) = ix2 a b := by
    blk_point [idx t]
  rw [e]
  have e2 : (S128x128.rowMajor (ix2 a b)).val = a.val * 128 + b.val := by
    exact Shape.rowMajor_val_two _
  show FloatOps.ofBits FTy.bf16 (lit0t (S128x128.rowMajor (ix2 a b)).val) = _
  rw [e2, tri_bits]
  split
  · exact Ideal.ofBits_one_bf16
  · exact Ideal.ofBits_zero_bf16

/-- The pieces stored in the scratch of keys (or of values) cover it. -/
theorem cov (p : Vec Ideal S16x1024 .bf16) (q0 q1 q2 q3 q4 q5 q6 q7 : Vec Ideal S1024x128 .bf16) (y : S1040x1024.Idx) :
    ∃ r ∈ ([⟨Rect.unit ![1024, 0] ![16, 1024] inb_S1040x1024_S16x1024_1024_0, p⟩, ⟨Rect.unit ![0, 896] ![1024, 128] inb_S1040x1024_S1024x128_0_896, q7⟩, ⟨Rect.unit ![0, 768] ![1024, 128] inb_S1040x1024_S1024x128_0_768, q6⟩, ⟨Rect.unit ![0, 640] ![1024, 128] inb_S1040x1024_S1024x128_0_640, q5⟩, ⟨Rect.unit ![0, 512] ![1024, 128] inb_S1040x1024_S1024x128_0_512, q4⟩, ⟨Rect.unit ![0, 384] ![1024, 128] inb_S1040x1024_S1024x128_0_384, q3⟩, ⟨Rect.unit ![0, 256] ![1024, 128] inb_S1040x1024_S1024x128_0_256, q2⟩, ⟨Rect.unit ![0, 128] ![1024, 128] inb_S1040x1024_S1024x128_0_128, q1⟩, ⟨Rect.unit ![0, 0] ![1024, 128] inb_S1040x1024_S1024x128_0_0, q0⟩] : List (View.Piece (Elt Ideal) S1040x1024 .bf16)), y ∈ r.1.set := by
  have a : (y 0).val < 1040 := (y 0).isLt
  have b : (y 1).val < 1024 := (y 1).isLt
  simp only [List.mem_cons, exists_eq_or_imp, exists_eq_left, List.not_mem_nil, false_and, exists_false, or_false, Rect.mem_set_unit]
  by_cases u : 1024 ≤ (y 0).val
  · refine Or.inl fun i => ?_
    fin_cases i
    · show 1024 ≤ (y 0).val ∧ (y 0).val < 1024 + 16; omega
    · show 0 ≤ (y 1).val ∧ (y 1).val < 0 + 1024; omega
  · have key : ∀ o : ℕ, o ≤ (y 1).val → (y 1).val < o + 128 → ∀ i : Fin 2, (![0, o] : Fin 2 → ℕ) i ≤ (y i).val ∧ (y i).val < (![0, o] : Fin 2 → ℕ) i + (![1024, 128] : Fin 2 → ℕ) i := by
      intro o v w i
      fin_cases i
      · show 0 ≤ (y 0).val ∧ (y 0).val < 0 + 1024; omega
      · exact ⟨v, w⟩
    refine Or.inr ?_
    rcases (by omega : ((896 ≤ (y 1).val ∧ (y 1).val < 896 + 128) ∨ (768 ≤ (y 1).val ∧ (y 1).val < 768 + 128) ∨ (640 ≤ (y 1).val ∧ (y 1).val < 640 + 128) ∨ (512 ≤ (y 1).val ∧ (y 1).val < 512 + 128) ∨ (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128))) with z | z | z | z | z | z | z | z
    · exact Or.inl (key _ z.1 z.2)
    · exact Or.inr (Or.inl (key _ z.1 z.2))
    · exact Or.inr (Or.inr (Or.inl (key _ z.1 z.2)))
    · exact Or.inr (Or.inr (Or.inr (Or.inl (key _ z.1 z.2))))
    · exact Or.inr (Or.inr (Or.inr (Or.inr (Or.inl (key _ z.1 z.2)))))
    · exact Or.inr (Or.inr (Or.inr (Or.inr (Or.inr (Or.inl (key _ z.1 z.2))))))
    · exact Or.inr (Or.inr (Or.inr (Or.inr (Or.inr (Or.inr (Or.inl (key _ z.1 z.2)))))))
    · exact Or.inr (Or.inr (Or.inr (Or.inr (Or.inr (Or.inr (Or.inr (key _ z.1 z.2)))))))

/-- A stored piece of cached rows holds the cached rows of its head. -/
theorem pieceC (kc : Vec Ideal S1x1x1024x8x128 .f32) (kn : Vec Ideal S16x1024 .f32) (P : Vec Ideal S1024x128 .bf16) (n0 : Fin 8)
    (w : ∀ (s : Fin 1024) (d : Fin 128), P (ix2 s d) = kc (ix5 0 0 s n0 d)) (s : Fin 1040) (n : Fin 8) (e : Fin 128) (x : S1024x128.Idx)
    (u : s.val = (x 0).val) (v : n.val * 128 + e.val = n0.val * 128 + (x 1).val) : P x = both kc kn s n e := by
  have b1 : (x 1).val < 128 := (x 1).isLt
  have b0 : (x 0).val < 1024 := (x 0).isLt
  have en : n = n0 := Fin.ext (by omega)
  have ex : x = ix2 ⟨s.val, by omega⟩ e := by
    funext a
    apply Fin.ext
    fin_cases a
    · exact u.symm
    · show (x 1).val = e.val
      subst en; omega
  have l : s.val < 1024 := by omega
  rw [ex, w, en]
  simp only [both, l, dite_true]

/-- The stored piece of new rows holds the new rows. -/
theorem pieceN (kc : Vec Ideal S1x1x1024x8x128 .f32) (kn : Vec Ideal S16x1024 .f32) (P : Vec Ideal S16x1024 .bf16)
    (w : ∀ (s : Fin 16) (d : Fin 1024), P (ix2 s d) = kn (ix2 s d)) (s : Fin 1040) (n : Fin 8) (e : Fin 128) (x : S16x1024.Idx)
    (u : s.val = 1024 + (x 0).val) (v : n.val * 128 + e.val = (x 1).val) : P x = both kc kn s n e := by
  have ex : x = ix2 ⟨s.val - 1024, by omega⟩ ⟨n.val * 128 + e.val, by omega⟩ := by
    funext a
    apply Fin.ext
    fin_cases a
    · show (x 0).val = s.val - 1024; omega
    · exact v.symm
  have l : ¬ s.val < 1024 := by omega
  rw [ex, w]
  simp only [both, l, dite_false]

/-- One block of the result, at one element. -/
theorem blk (c : Dev nD) (t : Fin cfg0.N) (x0 x1 x2 x5 : Vec Ideal S16x1024 .f32) (x3 x4 : Vec Ideal S1x1x1024x8x128 .f32)
    (e0 : iblk m c 0 t = x0) (e1 : iblk m c 1 t = x1) (e2 : iblk m c 2 t = x2) (e3 : iblk m c 3 t = x3) (e4 : iblk m c 4 t = x4) (e5 : iblk m c 5 t = x5)
    (h : Fin 8) (q : Fin 16) (d : Fin 128) (f : ℕ → EReal)
    (hf : ∀ s : Fin 1040, (∑ d : Fin 128, both x3 x1 s h d * (x0 (ix2 q ⟨h.val * 128 + d.val, by omega⟩) * Ideal.ofBits .f32 1035273459#32)) = f s.val) :
    outsAt0 m c t (ix2 q ⟨h.val * 128 + d.val, by omega⟩)
      = (∑ s : Fin 1040, wt f (1024 + q.val) s.val * both x4 x2 s h d)
        * (x5 (ix2 q ⟨h.val * 128 + d.val, by omega⟩) * Ideal.div 1 (1 + Ideal.exp (-(x5 (ix2 q ⟨h.val * 128 + d.val, by omega⟩))))) := by
  have tr := tri m c t
  unfold outsAt0; frame_out
  rw [e0, e1, e2, e3, e4, e5]
  have ⟨T, hTT⟩ : ∃ T : Vec Ideal S128x128 .bf16, iblk m c 6 t = T := ⟨_, rfl⟩
  rw [hTT] at tr ⊢
  generalize hK : View.readCov (Val := Elt Ideal) (View.whole cc0_scratch0) _ _ = K
  generalize hV : View.readCov (Val := Elt Ideal) (View.whole cc0_scratch1) _ _ = V
  generalize hT : View.ld (Val := Elt Ideal) T _ = T16
  show OUT x0 x5 K V T16 T _ = _
  have kK : ∀ (s : Fin 1040) (h : Fin 8) (d : Fin 128), K (ix2 s ⟨h.val * 128 + d.val, by omega⟩) = both x3 x1 s h d := by
    intro s n e
    rw [← hK, View.readCov_eq_canon']
    clear * -
    canon_tiles x h using cov _ _ _ _ _ _ _ _ _ _
    case piece0 =>
      have u : 0 + 1 * s.val = 1024 + (x 0).val := h0
      have v : 0 + 1 * (n.val * 128 + e.val) = (x 1).val := h1
      exact pieceN x3 x1 _ (new11 x1) s n e x (by omega) (by omega)
    case piece1 =>
      have u : 0 + 1 * s.val = (x 0).val := h0
      have v : 0 + 1 * (n.val * 128 + e.val) = 896 + (x 1).val := h1
      exact pieceC x3 x1 _ 7 (cache10 x3) s n e x (by omega) (by show _ = 7 * 128 + _; omega)
    case piece2 =>
      have u : 0 + 1 * s.val = (x 0).val := h0
      have v : 0 + 1 * (n.val * 128 + e.val) = 768 + (x 1).val := h1
      exact pieceC x3 x1 _ 6 (cache9 x3) s n e x (by omega) (by show _ = 6 * 128 + _; omega)
    case piece3 =>
      have u : 0 + 1 * s.val = (x 0).val := h0
      have v : 0 + 1 * (n.val * 128 + e.val) = 640 + (x 1).val := h1
      exact pieceC x3 x1 _ 5 (cache8 x3) s n e x (by omega) (by show _ = 5 * 128 + _; omega)
    case piece4 =>
      have u : 0 + 1 * s.val = (x 0).val := h0
      have v : 0 + 1 * (n.val * 128 + e.val) = 512 + (x 1).val := h1
      exact pieceC x3 x1 _ 4 (cache7 x3) s n e x (by omega) (by show _ = 4 * 128 + _; omega)
    case piece5 =>
      have u : 0 + 1 * s.val = (x 0).val := h0
      have v : 0 + 1 * (n.val * 128 + e.val) = 384 + (x 1).val := h1
      exact pieceC x3 x1 _ 3 (cache6 x3) s n e x (by omega) (by show _ = 3 * 128 + _; omega)
    case piece6 =>
      have u : 0 + 1 * s.val = (x 0).val := h0
      have v : 0 + 1 * (n.val * 128 + e.val) = 256 + (x 1).val := h1
      exact pieceC x3 x1 _ 2 (cache5 x3) s n e x (by omega) (by show _ = 2 * 128 + _; omega)
    case piece7 =>
      have u : 0 + 1 * s.val = (x 0).val := h0
      have v : 0 + 1 * (n.val * 128 + e.val) = 128 + (x 1).val := h1
      exact pieceC x3 x1 _ 1 (cache4 x3) s n e x (by omega) (by show _ = 1 * 128 + _; omega)
    case piece8 =>
      have u : 0 + 1 * s.val = (x 0).val := h0
      have v : 0 + 1 * (n.val * 128 + e.val) = (x 1).val := h1
      exact pieceC x3 x1 _ 0 (cache3 x3) s n e x (by omega) (by show _ = 0 * 128 + _; omega)
  have kV : ∀ (s : Fin 1040) (h : Fin 8) (d : Fin 128), V (ix2 s ⟨h.val * 128 + d.val, by omega⟩) = both x4 x2 s h d := by
    intro s n e
    rw [← hV, View.readCov_eq_canon']
    clear * -
    canon_tiles x h using cov _ _ _ _ _ _ _ _ _ _
    case piece0 =>
      have u : 0 + 1 * s.val = 1024 + (x 0).val := h0
      have v : 0 + 1 * (n.val * 128 + e.val) = (x 1).val := h1
      exact pieceN x4 x2 _ (new21 x2) s n e x (by omega) (by omega)
    case piece1 =>
      have u : 0 + 1 * s.val = (x 0).val := h0
      have v : 0 + 1 * (n.val * 128 + e.val) = 896 + (x 1).val := h1
      exact pieceC x4 x2 _ 7 (cache20 x4) s n e x (by omega) (by show _ = 7 * 128 + _; omega)
    case piece2 =>
      have u : 0 + 1 * s.val = (x 0).val := h0
      have v : 0 + 1 * (n.val * 128 + e.val) = 768 + (x 1).val := h1
      exact pieceC x4 x2 _ 6 (cache19 x4) s n e x (by omega) (by show _ = 6 * 128 + _; omega)
    case piece3 =>
      have u : 0 + 1 * s.val = (x 0).val := h0
      have v : 0 + 1 * (n.val * 128 + e.val) = 640 + (x 1).val := h1
      exact pieceC x4 x2 _ 5 (cache18 x4) s n e x (by omega) (by show _ = 5 * 128 + _; omega)
    case piece4 =>
      have u : 0 + 1 * s.val = (x 0).val := h0
      have v : 0 + 1 * (n.val * 128 + e.val) = 512 + (x 1).val := h1
      exact pieceC x4 x2 _ 4 (cache17 x4) s n e x (by omega) (by show _ = 4 * 128 + _; omega)
    case piece5 =>
      have u : 0 + 1 * s.val = (x 0).val := h0
      have v : 0 + 1 * (n.val * 128 + e.val) = 384 + (x 1).val := h1
      exact pieceC x4 x2 _ 3 (cache16 x4) s n e x (by omega) (by show _ = 3 * 128 + _; omega)
    case piece6 =>
      have u : 0 + 1 * s.val = (x 0).val := h0
      have v : 0 + 1 * (n.val * 128 + e.val) = 256 + (x 1).val := h1
      exact pieceC x4 x2 _ 2 (cache15 x4) s n e x (by omega) (by show _ = 2 * 128 + _; omega)
    case piece7 =>
      have u : 0 + 1 * s.val = (x 0).val := h0
      have v : 0 + 1 * (n.val * 128 + e.val) = 128 + (x 1).val := h1
      exact pieceC x4 x2 _ 1 (cache14 x4) s n e x (by omega) (by show _ = 1 * 128 + _; omega)
    case piece8 =>
      have u : 0 + 1 * s.val = (x 0).val := h0
      have v : 0 + 1 * (n.val * 128 + e.val) = (x 1).val := h1
      exact pieceC x4 x2 _ 0 (cache13 x4) s n e x (by omega) (by show _ = 0 * 128 + _; omega)
  have hT16 : ∀ k i : Fin 16, T16 (ix2 k i) = (if i.val ≤ k.val then (1 : EReal) else 0) := by
    intro k i
    rw [← hT]
    refine Eq.trans (congrArg T ?_) (tr ⟨k.val, by omega⟩ ⟨i.val, by omega⟩)
    funext a
    apply Fin.ext
    fin_cases a
    · show 0 + 1 * k.val = k.val; omega
    · show 0 + 1 * i.val = i.val; omega
  rw [out_val x0 x5 K V T16 T hT16 tr h q d f (fun s => by simp only [kK]; exact hf s)]
  simp only [kV]
end Cert.StickKernelIdeal.Own
end
-- ==== Proof.StickValue.lean ====
module
public import proofs.«01_k».proof.Proof.StickBlk
@[expose] public section
set_option maxRecDepth 16384
noncomputable section
open Idealize.ShloMosaic Idealize.ShloMosaic.TcCoe Idealize.SL.Sem Cert.StickMath
open Idealize.ShloMosaic.Pipeline (Dat)
namespace Cert.StickKernelIdeal.Own
open Cert.StickKernelIdeal Cert.StickKernelIdeal.Gen
variable (m : (ℓ : Loc nD τ sig) → Buf (Elt Ideal) ℓ)

/-- The grid has a point for every batch and group of heads. -/
theorem points (t : Fin cfg0.N) : t.val < 32 := by
  have h := t.isLt
  have e : cfg0.N = 32 := by decide +kernel
  omega

/-- The array the projections come from. -/
abbrev A0 (c : Dev nD) : FVec Ideal S256x16384 .f32 := m ((c : Thread nD τ).loc main_arg0)
/-- The array of cached keys. -/
abbrev A1 (c : Dev nD) : FVec Ideal S1x16x1024x16x128 .f32 := m ((c : Thread nD τ).loc main_arg1)
/-- The array of cached values. -/
abbrev A2 (c : Dev nD) : FVec Ideal S1x16x1024x16x128 .f32 := m ((c : Thread nD τ).loc main_arg2)

/-- The batch of a grid point. -/
def bat (t : Fin cfg0.N) : Fin 16 := ⟨t.val / 2, by have := points t; omega⟩
/-- The head of the whole array that is head `h` of a grid point's group. -/
def hd (t : Fin cfg0.N) (h : Fin 8) : Fin 16 := ⟨t.val % 2 * 8 + h.val, by omega⟩

/-- The block of queries. -/
theorem r0 (c : Dev nD) (t : Fin cfg0.N) (i : Fin 16) (h : Fin 8) (d : Fin 128) :
    (iblk m c 0 t : Vec Ideal S16x1024 .f32) (ix2 i ⟨h.val * 128 + d.val, by omega⟩)
      = A0 m c (ix2 ⟨(bat t).val * 16 + i.val, by omega⟩ ⟨8192 + ((hd t h).val * 128 + d.val), by omega⟩) := by
  unfold bat hd
  blk_point [iblk, V, idx t]

/-- The block of new keys. -/
theorem r1 (c : Dev nD) (t : Fin cfg0.N) (i : Fin 16) (h : Fin 8) (d : Fin 128) :
    (iblk m c 1 t : Vec Ideal S16x1024 .f32) (ix2 i ⟨h.val * 128 + d.val, by omega⟩)
      = A0 m c (ix2 ⟨(bat t).val * 16 + i.val, by omega⟩ ⟨10240 + ((hd t h).val * 128 + d.val), by omega⟩) := by
  unfold bat hd
  blk_point [iblk, V, idx t]

/-- The block of new values. -/
theorem r2 (c : Dev nD) (t : Fin cfg0.N) (i : Fin 16) (h : Fin 8) (d : Fin 128) :
    (iblk m c 2 t : Vec Ideal S16x1024 .f32) (ix2 i ⟨h.val * 128 + d.val, by omega⟩)
      = A0 m c (ix2 ⟨(bat t).val * 16 + i.val, by omega⟩ ⟨12288 + ((hd t h).val * 128 + d.val), by omega⟩) := by
  unfold bat hd
  blk_point [iblk, V, idx t]

/-- The block of gates. -/
theorem r5 (c : Dev nD) (t : Fin cfg0.N) (i : Fin 16) (h : Fin 8) (d : Fin 128) :
    (iblk m c 5 t : Vec Ideal S16x1024 .f32) (ix2 i ⟨h.val * 128 + d.val, by omega⟩)
      = A0 m c (ix2 ⟨(bat t).val * 16 + i.val, by omega⟩ ⟨14336 + ((hd t h).val * 128 + d.val), by omega⟩) := by
  unfold bat hd
  blk_point [iblk, V, idx t]

/-- The block of cached keys. -/
theorem r3 (c : Dev nD) (t : Fin cfg0.N) (s : Fin 1024) (h : Fin 8) (d : Fin 128) :
    (iblk m c 3 t : Vec Ideal S1x1x1024x8x128 .f32) (ix5 0 0 s h d) = A1 m c (ix5 0 (bat t) s (hd t h) d) := by
  unfold bat hd
  blk_point [iblk, V, idx t]

/-- The block of cached values. -/
theorem r4 (c : Dev nD) (t : Fin cfg0.N) (s : Fin 1024) (h : Fin 8) (d : Fin 128) :
    (iblk m c 4 t : Vec Ideal S1x1x1024x8x128 .f32) (ix5 0 0 s h d) = A2 m c (ix5 0 (bat t) s (hd t h) d) := by
  unfold bat hd
  blk_point [iblk, V, idx t]

/-- A key of the block is the reference's. -/
theorem bothK (c : Dev nD) (t : Fin cfg0.N) (s : Fin 1040) (h : Fin 8) (d : Fin 128) :
    both (iblk m c 3 t) (iblk m c 1 t) s h d = Cert.StickReferenceIdeal.Read.val_main_v11 (F := Ideal) (A0 m c) (A1 m c) (ix4 (bat t) s (hd t h) d) := by
  rw [Cert.StickReferenceIdeal.Own.keys, both]
  split
  · exact r3 m c t _ h d
  · exact r1 m c t _ h d

/-- A value of the block is the reference's. -/
theorem bothV (c : Dev nD) (t : Fin cfg0.N) (s : Fin 1040) (h : Fin 8) (d : Fin 128) :
    both (iblk m c 4 t) (iblk m c 2 t) s h d = Cert.StickReferenceIdeal.Read.val_main_v14 (F := Ideal) (A0 m c) (A2 m c) (ix4 (bat t) s (hd t h) d) := by
  rw [Cert.StickReferenceIdeal.Own.vals, both]
  split
  · exact r4 m c t _ h d
  · exact r2 m c t _ h d

/-- One block of the result at one element: the reference at the element it lands on. -/
theorem elem (c : Dev nD) (t : Fin cfg0.N) (q : Fin 16) (h : Fin 8) (d : Fin 128) :
    outsAt0 m c t (ix2 q ⟨h.val * 128 + d.val, by omega⟩)
      = Cert.StickReferenceIdeal.Read.val_main_v41 (F := Ideal) (A0 m c) (A1 m c) (A2 m c)
        (ix2 ⟨(bat t).val * 16 + q.val, by omega⟩ ⟨(hd t h).val * 128 + d.val, by omega⟩) := by
  have ⟨z, hz⟩ : ∃ z : ℕ → EReal, ∀ k : Fin 1040, Cert.StickReferenceIdeal.Read.val_main_v17 (F := Ideal) (A0 m c) (A1 m c) (ix4 (bat t) (hd t h) q k) = z k.val :=
    ⟨fun k => if u : k < 1040 then Cert.StickReferenceIdeal.Read.val_main_v17 (F := Ideal) (A0 m c) (A1 m c) (ix4 (bat t) (hd t h) q ⟨k, u⟩) else 0,
      fun k => by simp only [k.isLt, dite_true]⟩
  rw [Cert.StickReferenceIdeal.Own.result _ _ _ (bat t) (hd t h) q d z hz]
  rw [blk m c t _ _ _ _ _ _ rfl rfl rfl rfl rfl rfl h q d z (fun s => by
    rw [← hz, Cert.StickReferenceIdeal.Own.score]
    refine Finset.sum_congr rfl fun x _ => ?_
    rw [bothK, r0])]
  rw [r5]
  refine congrArg (· * _) (Finset.sum_congr rfl fun s _ => ?_)
  rw [bothV]

/-- One block of the result at any index. -/
theorem point (c : Dev nD) (t : Fin cfg0.N) (y) : outsAt0 m c t y
    = Cert.StickReferenceIdeal.Read.val_main_v41 (F := Ideal) (A0 m c) (A1 m c) (A2 m c) (((cfg0.win 7).blk t).view.emb y) := by
  have b0 : (y 0).val < 16 := (y 0).isLt
  have b1 : (y 1).val < 1024 := (y 1).isLt
  have ey : y = ix2 ⟨(y 0).val, b0⟩ ⟨(⟨(y 1).val / 128, by omega⟩ : Fin 8).val * 128 + (⟨(y 1).val % 128, by omega⟩ : Fin 128).val, by simp only; omega⟩ := by
    funext a
    apply Fin.ext
    fin_cases a
    · rfl
    · show (y 1).val = (y 1).val / 128 * 128 + (y 1).val % 128; omega
  refine (congrArg (outsAt0 m c t) ey).trans ((elem m c t _ _ _).trans (congrArg _ ?_))
  unfold bat hd
  blk_point [idx t]

/-- The whole result after the run is the reference. -/
theorem final (c : Dev nD) : (dats m 0 c).arrAt 7 (cfgs 0).N
    = Cert.StickReferenceIdeal.Read.val_main_v41 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact point m c t y
end Cert.StickKernelIdeal.Own
end
-- ==== Proof.FoxScores.lean ====
module
public import proofs.«01_k».proof.Proof.FoxMath
public import Idealize.ShloMosaic.Lib.WordCmp
public import proofs.«01_k».proof.Proof.Gen.FoxKernelIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.StickMath Cert.EMath Cert.FoxMath
namespace Cert.FoxKernelIdeal.Own
open Cert.FoxKernelIdeal Cert.FoxKernelIdeal.Gen

/-- Head `16h + t` belongs to head `h`. -/
theorem rowHead (l : Fin 128) (j : Fin 1024) : k0_pay54 (ix2 l j) = BitVec.ofNat 32 (l.val / 16) := by
  pointwise [k0_pay54]
  clear j
  revert l
  decide +kernel

/-- The queries, scaled, once for each head of the group. -/
theorem rep (x0 : Vec Ideal S16x1024 .f32) (h : Fin 8) (t : Fin 16) (j : Fin 1024) :
    k0_pay53 x0 (ix2 ⟨h.val * 16 + t.val, by omega⟩ j) = x0 (ix2 t j) * Ideal.ofBits .f32 1035273459#32 := by
  pointwise [k0_pay53]
  have key : ∀ (n : ℕ) (hn : n < 16), n = t.val → x0 (ix2 ⟨n, hn⟩ j) * Ideal.ofBits .f32 1035273459#32 = x0 (ix2 t j) * Ideal.ofBits .f32 1035273459#32 := by
    intro n hn e; subst e; rfl
  have := h.isLt
  have := t.isLt
  repeat' split
  all_goals exact key _ _ (by omega)

/-- A sum over the group's columns that keeps one head's. -/
theorem sum_head (F : Fin 1024 → EReal) (h : Fin 8) :
    (∑ x : Fin 1024, if x.val / 128 = h.val then F x else 0) = ∑ d : Fin 128, F ⟨h.val * 128 + d.val, by omega⟩ := by
  rw [← Finset.sum_filter]
  symm
  refine Finset.sum_bij (fun d _ => (⟨h.val * 128 + d.val, by omega⟩ : Fin 1024)) ?_ ?_ ?_ ?_
  · intro d _
    simp only [Finset.mem_filter, Finset.mem_univ, true_and]
    have := d.isLt; omega
  · intro a _ b _ e
    have e2 := congrArg Fin.val e
    dsimp only at e2
    exact Fin.ext (by omega)
  · intro x hx
    simp only [Finset.mem_filter, Finset.mem_univ, true_and] at hx
    exact ⟨⟨x.val - h.val * 128, by have := x.isLt; omega⟩, Finset.mem_univ _, Fin.ext (by dsimp only; omega)⟩
  · intro d _; rfl

/-- The head a column of the group belongs to, as the kernel computes it. -/
theorem colHead (x : Fin 1024) : Scalar.select
            (IntOp.andi
              (IntOp.cmpi CmpIPredicate.ne
                (IntOp.subi (BitVec.setWidth 32 (IntOp.cmpi CmpIPredicate.sgt (BitVec.ofNat 32 x.val) 0#32))
                  (BitVec.setWidth 32 (IntOp.cmpi CmpIPredicate.slt (BitVec.ofNat 32 x.val) 0#32)))
                (Scalar.subi (Scalar.extui (Scalar.cmpi CmpIPredicate.sgt 128#32 0#32))
                  (Scalar.extui (Scalar.cmpi CmpIPredicate.slt 128#32 0#32))))
              (IntOp.cmpi CmpIPredicate.ne (IntOp.remsi ArithUnit.vector (BitVec.ofNat 32 x.val) 128#32) 0#32))
            (IntOp.subi (IntOp.divsi ArithUnit.vector (BitVec.ofNat 32 x.val) 128#32) 1#32)
            (IntOp.divsi ArithUnit.vector (BitVec.ofNat 32 x.val) 128#32) = BitVec.ofNat 32 (x.val / 128) := by
  revert x
  decide +kernel

/-- Keeping the columns of one head. -/
theorem sel_head (h : Fin 8) (x : Fin 1024) (y : EReal) :
    Scalar.select (IntOp.cmpi CmpIPredicate.eq (BitVec.ofNat 32 h.val) (BitVec.ofNat 32 (x.val / 128))) y 0 = if x.val / 128 = h.val then y else 0 := by
  have e : IntOp.cmpi CmpIPredicate.eq (BitVec.ofNat 32 h.val) (BitVec.ofNat 32 (x.val / 128)) = if x.val / 128 = h.val then 1#1 else 0#1 := by
    clear y; revert h x; decide +kernel
  rw [e]
  split <;> rfl

/-- The lane's query stands at key `1024 + t`. -/
theorem qpos (h : Fin 8) (t : Fin 16) (s : Fin 1040) :
    k0_pay51 (16#32) k0_pay47 k0_pay48 k0_pay49 k0_pay50 (ix2 s ⟨h.val * 16 + t.val, by omega⟩) = BitVec.ofNat 32 (1024 + t.val) := by
  pointwise [k0_pay51, k0_pay50, k0_pay49, k0_pay48, k0_pay47]
  have e : ∀ v w : BitVec 32, v = w → IntOp.addi (1024#32) v = IntOp.addi (1024#32) w := by
    intro v w e; rw [e]
  refine (e _ (BitVec.ofNat 32 t.val) ?_).trans (BitVec.ofNat_add 1024 t.val).symm
  clear e s
  revert h t
  decide +kernel

/-- A sum that keeps one row. -/
theorem sum_row (g : ℕ → EReal) (n : Fin 1040) :
    (∑ s : Fin 1040, Scalar.select (IntOp.cmpi CmpIPredicate.eq (BitVec.ofNat 32 s.val) (BitVec.ofNat 32 n.val)) (g s.val) 0) = g n.val := by
  rw [Finset.sum_eq_single n]
  · have e : IntOp.cmpi CmpIPredicate.eq (BitVec.ofNat 32 n.val) (BitVec.ofNat 32 n.val) = 1#1 := by
      unfold IntOp.cmpi; simp
    rw [e]; rfl
  · intro s _ hs
    have e : IntOp.cmpi CmpIPredicate.eq (BitVec.ofNat 32 s.val) (BitVec.ofNat 32 n.val) = 0#1 := by
      have hne : s.val ≠ n.val := fun h => hs (Fin.ext h)
      simp (disch := word_cmp_side) only [hlo_ix]
      simp [hne]
    rw [e]; rfl
  · intro h; exact absurd (Finset.mem_univ n) h

/-- The sum at the query's own key, picked out of the sums at all keys. -/
theorem fquery (G : FVec Ideal S1040x128 .f32) (h : Fin 8) (t : Fin 16) (g : ℕ → EReal) (hG : ∀ s : Fin 1040, G (ix2 s ⟨h.val * 16 + t.val, by omega⟩) = g s.val) :
    k0_pay52 G (iota Kind.tc S1040x128 32 [0] iota_S1040x128_d0_w32) (16#32) k0_pay47 k0_pay48 k0_pay49 k0_pay50 (ix2 0 ⟨h.val * 16 + t.val, by omega⟩) = g (1024 + t.val) := by
  pointwise [k0_pay52]
  simp only [qpos, hG]
  exact sum_row g ⟨1024 + t.val, by omega⟩

/-- The weights: a softmax of the scores less what the gates forget. -/
theorem soft (G : FVec Ideal S1040x128 .f32) (Q : FVec Ideal S1x128 .f32) (x0 : Vec Ideal S16x1024 .f32) (K : Vec Ideal S1040x1024 .bf16) (h : Fin 8) (t : Fin 16)
    (z f : ℕ → EReal) (hz : ∀ s : Fin 1040, (∑ d : Fin 128, K (ix2 s ⟨h.val * 128 + d.val, by omega⟩) * (x0 (ix2 t ⟨h.val * 128 + d.val, by omega⟩) * Ideal.ofBits .f32 1035273459#32)) = z s.val)
    (hG : ∀ s : Fin 1040, G (ix2 s ⟨h.val * 16 + t.val, by omega⟩) = up (fun j => sp (f j)) (s.val + 1))
    (hQ : Q (ix2 0 ⟨h.val * 16 + t.val, by omega⟩) = up (fun j => sp (f j)) (1024 + t.val + 1)) (s : Fin 1040) :
    k0_pay56 G (iota Kind.tc S1040x128 32 [0] iota_S1040x128_d0_w32) (k0_pay51 (16#32) k0_pay47 k0_pay48 k0_pay49 k0_pay50) Q (k0_pay53 x0) k0_pay54 (iota Kind.tc S128x1024 32 [1] iota_S128x1024_d1_w32) (128#32) k0_pay55 (0#32) K (ix2 s ⟨h.val * 16 + t.val, by omega⟩)
      = smx (scK z f (1024 + t.val)) s.val := by
  pointwise [k0_pay56, k0_pay55]
  simp only [qpos, rep, rowHead, colHead, hG, hQ]
  have e : (h.val * 16 + t.val) / 16 = h.val := by have := t.isLt; omega
  have key : ∀ x : Fin 1040, Scalar.select (IntOp.cmpi CmpIPredicate.sle (BitVec.ofNat 32 x.val) (BitVec.ofNat 32 (1024 + t.val)))
      ((∑ j : Fin 1024, Scalar.select (IntOp.cmpi CmpIPredicate.eq (BitVec.ofNat 32 ((h.val * 16 + t.val) / 16)) (BitVec.ofNat 32 (j.val / 128)))
        (K (ix2 x j) * (x0 (ix2 t j) * Ideal.ofBits .f32 1035273459#32)) 0)
        + (up (fun j => sp (f j)) (1024 + t.val + 1) - up (fun j => sp (f j)) (x.val + 1))) (Ideal.ofBits .f32 0xFF800000#32)
      = scK z f (1024 + t.val) x.val := by
    intro x
    rw [e, neg_inf]
    simp only [sel_head]
    rw [scK]
    have m : IntOp.cmpi CmpIPredicate.sle (BitVec.ofNat 32 x.val) (BitVec.ofNat 32 (1024 + t.val)) = if x.val ≤ 1024 + t.val then 1#1 else 0#1 := by
      simp (disch := word_cmp_side) only [hlo_ix]
      by_cases h : x.val ≤ 1024 + t.val <;> simp [h]
    rw [m]
    split
    · rw [← hz x, ← sum_head (fun j => K (ix2 x j) * (x0 (ix2 t j) * Ideal.ofBits .f32 1035273459#32)) h]; rfl
    · rfl
  simp only [key]
  rw [neg_inf]
  rfl
end Cert.FoxKernelIdeal.Own
end
-- ==== Proof.FoxBlocks.lean ====
module
public import proofs.«01_k».proof.Proof.FoxScores
public import Idealize.ShloMosaic.Lib.WordCmp
public import proofs.«01_k».proof.Proof.Gen.FoxKernelIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.StickMath Cert.EMath Cert.FoxMath
namespace Cert.FoxKernelIdeal.Own
open Cert.FoxKernelIdeal Cert.FoxKernelIdeal.Gen

/-- One more block of the sums, with the sum of the rows before carried in. -/
def nextBlock (o : ℕ) (ho : (S1040x128 : Shape).Slices ![o, 0] S128x128) (H M L : FVec Ideal S1040x128 .bf16) (C : FVec Ideal S1x128 .f32) (T : Vec Ideal S128x128 .bf16) : FVec Ideal S128x128 .f32 :=
  addf (addf (addf (matmul (φ₁ := .bf16) (φ₂ := .bf16) dot_S128x128_S128x128_S128x128_1_0_0_1_n_n none T (extractStridedSlice S128x128 ![o, 0] H ho) (constant S128x128 .f32 0x00000000#32))
    (matmul (φ₁ := .bf16) (φ₂ := .bf16) dot_S128x128_S128x128_S128x128_1_0_0_1_n_n none T (extractStridedSlice S128x128 ![o, 0] M ho) (constant S128x128 .f32 0x00000000#32)))
    (matmul (φ₁ := .bf16) (φ₂ := .bf16) dot_S128x128_S128x128_S128x128_1_0_0_1_n_n none T (extractStridedSlice S128x128 ![o, 0] L ho) (constant S128x128 .f32 0x00000000#32)))
    (broadcastTo S128x128 C broadcasts_S1x128_S128x128)

/-- The new keys' block of the sums. -/
def newBlock (H M L : FVec Ideal S1040x128 .bf16) (C : FVec Ideal S1x128 .f32) (T : Vec Ideal S16x16 .bf16) : FVec Ideal S16x128 .f32 :=
  addf (addf (addf (matmul (φ₁ := .bf16) (φ₂ := .bf16) dot_S16x16_S16x128_S16x128_1_0_0_1_n_n none T (extractStridedSlice S16x128 ![1024, 0] H slices_S1040x128_o1024_0_S16x128) (constant S16x128 .f32 0x00000000#32))
    (matmul (φ₁ := .bf16) (φ₂ := .bf16) dot_S16x16_S16x128_S16x128_1_0_0_1_n_n none T (extractStridedSlice S16x128 ![1024, 0] M slices_S1040x128_o1024_0_S16x128) (constant S16x128 .f32 0x00000000#32)))
    (matmul (φ₁ := .bf16) (φ₂ := .bf16) dot_S16x16_S16x128_S16x128_1_0_0_1_n_n none T (extractStridedSlice S16x128 ![1024, 0] L slices_S1040x128_o1024_0_S16x128) (constant S16x128 .f32 0x00000000#32)))
    (broadcastTo S16x128 C broadcasts_S1x128_S16x128)

/-- A sum that keeps one head's column. -/
theorem sum_expand (X : Fin 32 → EReal) (E : Fin 32 → EReal) (n : Fin 32) (hE : ∀ k : Fin 32, E k = if k = n then 1 else 0) :
    (∑ k : Fin 32, X k * E k) = X n := by
  rw [Finset.sum_eq_single n]
  · rw [hE, if_pos rfl, mul_one]
  · intro k _ hk; rw [hE, if_neg hk, mul_zero]
  · intro h; exact absurd (Finset.mem_univ n) h

/-- The lane's log forget gate, put together from its three roundings. -/
theorem lane (X : Vec Ideal S1040x32 .f32) (E : Vec Ideal S1x32x128 .bf16) (l : Fin 128) (n : Fin 32)
    (hE : ∀ k : Fin 32, E (ix3 0 k l) = if k = n then 1 else 0) (s : Fin 1040) :
    k0_pay31 (k0_pay27 X) (k0_pay28 E) (k0_pay29 X E) (k0_pay30 X E) (ix2 s l) = sp (X (ix2 s n)) := by
  pointwise [k0_pay31, k0_pay30, k0_pay29, k0_pay28, k0_pay27, k0_pay26, k0_pay25, k0_pay24]
  exact congrArg₂ (· + ·) (congrArg₂ (· + ·) (sum_expand (fun k => X (ix2 s k)) _ n hE) (sum_expand (fun k => X (ix2 s k) - X (ix2 s k)) _ n hE))
    (sum_expand (fun k => (X (ix2 s k) - X (ix2 s k)) - (X (ix2 s k) - X (ix2 s k))) _ n hE)

section
variable (a : FVec Ideal S1040x32 .bf16) (b : FVec Ideal S32x128 .bf16) (c d : FVec Ideal S1040x128 .f32) (g : ℕ → EReal) (l : Fin 128)
  (h : ∀ s : Fin 1040, k0_pay31 a b c d (ix2 s l) = g s.val) (s : Fin 1040)
include h

/-- The first rounding of the lane's gate. -/
theorem lane0 : k0_pay32 a b c d (ix2 s l) = g s.val := by
  have e := h s
  generalize hA : k0_pay31 a b c d = A at *
  pointwise [k0_pay32]
  rw [hA]; exact e

/-- What the first rounding leaves over. -/
theorem lane1 : k0_pay34 a b c d (ix2 s l) = g s.val - g s.val := by
  have e := h s
  generalize hA : k0_pay31 a b c d = A at *
  pointwise [k0_pay34, k0_pay33, k0_pay32]
  rw [hA, e]

/-- What the second rounding leaves over. -/
theorem lane2 : k0_pay35 a b c d (ix2 s l) = (g s.val - g s.val) - (g s.val - g s.val) := by
  have e := h s
  generalize hA : k0_pay31 a b c d = A at *
  pointwise [k0_pay35, k0_pay34, k0_pay33, k0_pay32]
  rw [hA, e]
end

section
variable (a : FVec Ideal S1040x32 .bf16) (b : FVec Ideal S32x128 .bf16) (c d : FVec Ideal S1040x128 .f32) (g : ℕ → EReal) (l : Fin 128)
  (hg : ∀ k, g k ≠ ⊤)
  (h0 : ∀ s : Fin 1040, k0_pay32 a b c d (ix2 s l) = g s.val) (h1 : ∀ s : Fin 1040, k0_pay34 a b c d (ix2 s l) = g s.val - g s.val)
  (h2 : ∀ s : Fin 1040, k0_pay35 a b c d (ix2 s l) = (g s.val - g s.val) - (g s.val - g s.val))
  (T : Vec Ideal S128x128 .bf16) (hT : ∀ i k : Fin 128, T (ix2 i k) = if k.val ≤ i.val then 1 else 0)
include hg h0 h1 h2 hT

/-- The block of keys 0 to 127. -/
theorem s0 (i : Fin 128) : k0_pay36 a b c d T (ix2 i l) = up g (i.val + 1) := by
  pointwise [k0_pay36]
  simp only [h0, h1, h2]
  have e := up_block 128 0 i.val i.isLt g hg 0 (by simp [up]) (fun k => T (ix2 i k)) fun k => hT i k
  simp only [Nat.zero_add, add_zero] at e
  exact e

/-- The block of keys 128 to 255. -/
theorem s128 (i : Fin 128) : k0_pay37 a b c d T T (ix2 i l) = up g (128 + i.val + 1) := by
  have h := s0 a b c d g l hg h0 h1 h2 T hT 127
  generalize hA : k0_pay36 a b c d T = A at *
  pointwise [k0_pay37]
  rw [hA]
  simp only [h0, h1, h2]
  exact up_block 128 128 i.val i.isLt g hg _ h (fun k => T (ix2 i k)) fun k => hT i k

/-- The block of keys 256 to 383. -/
theorem s256 (i : Fin 128) : k0_pay38 a b c d T T T (ix2 i l) = up g (256 + i.val + 1) := by
  have h := s128 a b c d g l hg h0 h1 h2 T hT 127
  generalize hA : k0_pay37 a b c d T T = A at *
  pointwise [k0_pay38]
  rw [hA]
  simp only [h0, h1, h2]
  exact up_block 128 256 i.val i.isLt g hg _ h (fun k => T (ix2 i k)) fun k => hT i k

/-- The sum of the first 384 keys. -/
theorem c384 : k0_pay39 a b c d T T T (ix2 0 l) = up g 384 := by
  have h := s256 a b c d g l hg h0 h1 h2 T hT 127
  generalize hA : k0_pay38 a b c d T T T = A at *
  pointwise [k0_pay39]
  rw [hA]; exact h
end

section
variable (H M L : FVec Ideal S1040x128 .bf16) (g : ℕ → EReal) (l : Fin 128) (hg : ∀ k, g k ≠ ⊤)
  (h0 : ∀ s : Fin 1040, H (ix2 s l) = g s.val) (h1 : ∀ s : Fin 1040, M (ix2 s l) = g s.val - g s.val)
  (h2 : ∀ s : Fin 1040, L (ix2 s l) = (g s.val - g s.val) - (g s.val - g s.val))
  (T : Vec Ideal S128x128 .bf16) (hT : ∀ i k : Fin 128, T (ix2 i k) = if k.val ≤ i.val then 1 else 0)
  (C : FVec Ideal S1x128 .f32)
include hg h0 h1 h2 hT

section
variable (hC : C (ix2 0 l) = up g 384)
include hC

/-- The block of keys 384 to 511. -/
theorem s384 (i : Fin 128) : k0_pay40 H M L C T (ix2 i l) = up g (384 + i.val + 1) := by
  pointwise [k0_pay40]
  simp only [h0, h1, h2]
  exact up_block 128 384 i.val i.isLt g hg _ hC (fun k => T (ix2 i k)) fun k => hT i k

/-- The block of keys 512 to 639. -/
theorem s512 (i : Fin 128) : k0_pay41 H M L C T T (ix2 i l) = up g (512 + i.val + 1) := by
  have h := s384 H M L g l hg h0 h1 h2 T hT C hC 127
  generalize hA : k0_pay40 H M L C T = A at *
  pointwise [k0_pay41]
  rw [hA]
  simp only [h0, h1, h2]
  exact up_block 128 512 i.val i.isLt g hg _ h (fun k => T (ix2 i k)) fun k => hT i k

/-- The block of keys 640 to 767. -/
theorem s640 (i : Fin 128) : k0_pay42 H M L C T T T (ix2 i l) = up g (640 + i.val + 1) := by
  have h := s512 H M L g l hg h0 h1 h2 T hT C hC 127
  generalize hA : k0_pay41 H M L C T T = A at *
  pointwise [k0_pay42]
  rw [hA]
  simp only [h0, h1, h2]
  exact up_block 128 640 i.val i.isLt g hg _ h (fun k => T (ix2 i k)) fun k => hT i k

/-- The sum of the first 768 keys. -/
theorem c768 : k0_pay43 H M L C T T T (ix2 0 l) = up g 768 := by
  have h := s640 H M L g l hg h0 h1 h2 T hT C hC 127
  generalize hA : k0_pay42 H M L C T T T = A at *
  pointwise [k0_pay43]
  rw [hA]; exact h
end

/-- The block of keys 768 to 895. -/
theorem s768 (hC : C (ix2 0 l) = up g 768) (i : Fin 128) :
    nextBlock 768 slices_S1040x128_o768_0_S128x128 H M L C T (ix2 i l) = up g (768 + i.val + 1) := by
  pointwise [nextBlock]
  simp only [h0, h1, h2]
  exact up_block 128 768 i.val i.isLt g hg _ hC (fun k => T (ix2 i k)) fun k => hT i k

/-- The block of keys 896 to 1023. -/
theorem s896 (hC : C (ix2 0 l) = up g 896) (i : Fin 128) :
    nextBlock 896 slices_S1040x128_o896_0_S128x128 H M L C T (ix2 i l) = up g (896 + i.val + 1) := by
  pointwise [nextBlock]
  simp only [h0, h1, h2]
  exact up_block 128 896 i.val i.isLt g hg _ hC (fun k => T (ix2 i k)) fun k => hT i k

omit hT in
/-- The block of the new keys. -/
theorem s1024 (T : Vec Ideal S16x16 .bf16) (hT : ∀ i k : Fin 16, T (ix2 i k) = if k.val ≤ i.val then 1 else 0) (hC : C (ix2 0 l) = up g 1024) (i : Fin 16) :
    newBlock H M L C T (ix2 i l) = up g (1024 + i.val + 1) := by
  pointwise [newBlock]
  simp only [h0, h1, h2]
  exact up_block 16 1024 i.val i.isLt g hg _ hC (fun k => T (ix2 i k)) fun k => hT i k
end

/-- The last row of a block, carried to the next. -/
def lastRow (A : FVec Ideal S128x128 .f32) : FVec Ideal S1x128 .f32 := extractStridedSlice S1x128 ![127, 0] A slices_S128x128_o127_0_S1x128

/-- The last row of a block. -/
theorem lastRow_val (A : FVec Ideal S128x128 .f32) (l : Fin 128) : lastRow A (ix2 0 l) = A (ix2 127 l) := by
  pointwise [lastRow]

/-- The nine blocks' sums as one array. -/
def allTails (p0 p128 p256 p384 p512 p640 p768 p896 : FVec Ideal S128x128 .f32) (p1024 : FVec Ideal S16x128 .f32) : FVec Ideal S1040x128 .f32 :=
  concatenate S1040x128 0 [⟨S128x128, p0⟩, ⟨S128x128, p128⟩, ⟨S128x128, p256⟩, ⟨S128x128, p384⟩, ⟨S128x128, p512⟩, ⟨S128x128, p640⟩, ⟨S128x128, p768⟩, ⟨S128x128, p896⟩, ⟨S16x128, p1024⟩] concatenates_S128x128_S128x128_S128x128_S128x128_S128x128_S128x128_S128x128_S128x128_S16x128_S1040x128_d0

/-- Each head's own columns of the product. -/
def heads (M : FVec Ideal S128x1024 .f32) : FVec Ideal S16x1024 .f32 :=
  concatenate S16x1024 1 [⟨S16x128, extractStridedSlice S16x128 ![0, 0] M slices_S128x1024_o0_0_S16x128⟩, ⟨S16x128, extractStridedSlice S16x128 ![16, 128] M slices_S128x1024_o16_128_S16x128⟩, ⟨S16x128, extractStridedSlice S16x128 ![32, 256] M slices_S128x1024_o32_256_S16x128⟩, ⟨S16x128, extractStridedSlice S16x128 ![48, 384] M slices_S128x1024_o48_384_S16x128⟩, ⟨S16x128, extractStridedSlice S16x128 ![64, 512] M slices_S128x1024_o64_512_S16x128⟩, ⟨S16x128, extractStridedSlice S16x128 ![80, 640] M slices_S128x1024_o80_640_S16x128⟩, ⟨S16x128, extractStridedSlice S16x128 ![96, 768] M slices_S128x1024_o96_768_S16x128⟩, ⟨S16x128, extractStridedSlice S16x128 ![112, 896] M slices_S128x1024_o112_896_S16x128⟩] concatenates_S16x128_S16x128_S16x128_S16x128_S16x128_S16x128_S16x128_S16x128_S16x1024_d1

/-- All the sums, in these parts. -/
theorem sumsParts (H M L : FVec Ideal S1040x128 .bf16) (p0 p128 p256 p384 p512 p640 : FVec Ideal S128x128 .f32) (C : FVec Ideal S1x128 .f32) (T T2 : Vec Ideal S128x128 .bf16) (T16 : Vec Ideal S16x16 .bf16) :
    k0_pay46 H M L p0 p128 p256 p384 p512 p640 C T (k0_pay44 H T) (k0_pay45 M T) T2 T16
      = allTails p0 p128 p256 p384 p512 p640 (nextBlock 768 slices_S1040x128_o768_0_S128x128 H M L C T)
        (nextBlock 896 slices_S1040x128_o896_0_S128x128 H M L (lastRow (nextBlock 768 slices_S1040x128_o768_0_S128x128 H M L C T)) T2)
        (newBlock H M L (lastRow (nextBlock 896 slices_S1040x128_o896_0_S128x128 H M L (lastRow (nextBlock 768 slices_S1040x128_o768_0_S128x128 H M L C T)) T2)) T16) := rfl

/-- The sums of all the keys, block by block. -/
theorem allTails_val (p0 p128 p256 p384 p512 p640 p768 p896 : FVec Ideal S128x128 .f32) (p1024 : FVec Ideal S16x128 .f32) (g : ℕ → EReal) (l : Fin 128)
    (h0 : ∀ i : Fin 128, p0 (ix2 i l) = g i.val) (h1 : ∀ i : Fin 128, p128 (ix2 i l) = g (128 + i.val)) (h2 : ∀ i : Fin 128, p256 (ix2 i l) = g (256 + i.val))
    (h3 : ∀ i : Fin 128, p384 (ix2 i l) = g (384 + i.val)) (h4 : ∀ i : Fin 128, p512 (ix2 i l) = g (512 + i.val)) (h5 : ∀ i : Fin 128, p640 (ix2 i l) = g (640 + i.val))
    (h6 : ∀ i : Fin 128, p768 (ix2 i l) = g (768 + i.val)) (h7 : ∀ i : Fin 128, p896 (ix2 i l) = g (896 + i.val)) (h8 : ∀ i : Fin 16, p1024 (ix2 i l) = g (1024 + i.val))
    (s : Fin 1040) : allTails p0 p128 p256 p384 p512 p640 p768 p896 p1024 (ix2 s l) = g s.val := by
  pointwise [allTails]
  simp only [h0, h1, h2, h3, h4, h5, h6, h7, h8]
  repeat' split
  all_goals (congr 1; try omega)

/-- Head `h` at query `t` is row `16h + t` of the product, at the head's columns. -/
theorem heads_val (M : FVec Ideal S128x1024 .f32) (h : Fin 8) (t : Fin 16) (d : Fin 128) :
    heads M (ix2 t ⟨h.val * 128 + d.val, by omega⟩) = M (ix2 ⟨h.val * 16 + t.val, by omega⟩ ⟨h.val * 128 + d.val, by omega⟩) := by
  pointwise [heads]
  have key : ∀ (n k : ℕ) (hn : n < 128) (hk : k < 1024), n = h.val * 16 + t.val → k = h.val * 128 + d.val → M (ix2 ⟨n, hn⟩ ⟨k, hk⟩) = M (ix2 ⟨h.val * 16 + t.val, by omega⟩ ⟨h.val * 128 + d.val, by omega⟩) := by
    intro n k hn hk e1 e2; subst e1; subst e2; rfl
  have := h.isLt
  have := t.isLt
  have := d.isLt
  repeat' split
  all_goals exact key _ _ _ _ (by omega) (by omega)

/-- The product of the weights with the values. -/
theorem product (w : FVec Ideal S1040x128 .bf16) (V : Vec Ideal S1040x1024 .bf16) (l : Fin 128) (j : Fin 1024) :
    (matmul (φ₁ := .bf16) (φ₂ := .bf16) dot_S1040x128_S1040x1024_S128x1024_0_0_1_1_n_n none w V (constant S128x1024 .f32 0x00000000#32) : FVec Ideal S128x1024 .f32) (ix2 l j) = ∑ s : Fin 1040, w (ix2 s l) * V (ix2 s j) := by
  pointwise []

/-- The gate, in the kernel's way. -/
def gateOf (v379 : Vec Ideal S16x1024 .f32) : FVec Ideal S16x1024 .f32 :=
  mulf v379 (select (cmpf .oge v379 (broadcast S16x1024 (Scalar.ofBits .f32 0x00000000#32 : Ideal .f32)))
    (divf (broadcast S16x1024 (Scalar.ofBits .f32 0x3F800000#32 : Ideal .f32)) (addf (broadcast S16x1024 (Scalar.ofBits .f32 0x3F800000#32 : Ideal .f32)) (exp (subf (broadcast S16x1024 (Scalar.ofBits .f32 0x00000000#32 : Ideal .f32)) (absf v379)))))
    (mulf (exp (subf (broadcast S16x1024 (Scalar.ofBits .f32 0x00000000#32 : Ideal .f32)) (absf v379)))
      (divf (broadcast S16x1024 (Scalar.ofBits .f32 0x3F800000#32 : Ideal .f32)) (addf (broadcast S16x1024 (Scalar.ofBits .f32 0x3F800000#32 : Ideal .f32)) (exp (subf (broadcast S16x1024 (Scalar.ofBits .f32 0x00000000#32 : Ideal .f32)) (absf v379)))))))

/-- The gate as a sigmoid. -/
theorem gateOf_val (g : Vec Ideal S16x1024 .f32) (t : Fin 16) (j : Fin 1024) :
    gateOf g (ix2 t j) = g (ix2 t j) * Ideal.div 1 (1 + Ideal.exp (-(g (ix2 t j)))) := by
  pointwise [gateOf]
  exact silu_eq _

/-- The kernel's result in these parts. -/
theorem outParts (w : FVec Ideal S1040x128 .bf16) (V : Vec Ideal S1040x1024 .bf16) (g : Vec Ideal S16x1024 .f32) :
    k0_pay1 w V (constant S128x1024 .f32 0x00000000#32) g
      = truncf .bf16 (mulf (heads (matmul (φ₁ := .bf16) (φ₂ := .bf16) dot_S1040x128_S1040x1024_S128x1024_0_0_1_1_n_n none w V (constant S128x1024 .f32 0x00000000#32))) (gateOf g)) bitsLt_bf16_f32 := rfl

/-- One element of the result from the weights. -/
theorem outW (w : FVec Ideal S1040x128 .bf16) (V : Vec Ideal S1040x1024 .bf16) (g : Vec Ideal S16x1024 .f32) (h : Fin 8) (t : Fin 16) (d : Fin 128) :
    k0_pay1 w V (constant S128x1024 .f32 0x00000000#32) g (ix2 t ⟨h.val * 128 + d.val, by omega⟩)
      = (∑ s : Fin 1040, w (ix2 s ⟨h.val * 16 + t.val, by omega⟩) * V (ix2 s ⟨h.val * 128 + d.val, by omega⟩))
        * (g (ix2 t ⟨h.val * 128 + d.val, by omega⟩) * Ideal.div 1 (1 + Ideal.exp (-(g (ix2 t ⟨h.val * 128 + d.val, by omega⟩))))) := by
  rw [outParts]
  pointwise []
  rw [gateOf_val, heads_val]
  exact congrArg (· * _) (product w V _ _)

end Cert.FoxKernelIdeal.Own
end
-- ==== Proof.FoxOut.lean ====
module
public import proofs.«01_k».proof.Proof.FoxBlocks
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.StickMath Cert.EMath Cert.FoxMath
open Idealize.ShloMosaic.Pipeline (Dat)
namespace Cert.FoxKernelIdeal.Own
open Cert.FoxKernelIdeal Cert.FoxKernelIdeal.Gen

/-- The sums of the log forget gates from the three roundings of each lane's gate. -/
def GS (H M L : FVec Ideal S1040x128 .bf16) (p0 p128 p256 : FVec Ideal S128x128 .f32) (C : FVec Ideal S1x128 .f32) (T : Vec Ideal S128x128 .bf16) (T16 : Vec Ideal S16x16 .bf16) : FVec Ideal S1040x128 .f32 :=
  k0_pay46 H M L p0 p128 p256 (k0_pay40 H M L C T) (k0_pay41 H M L C T T) (k0_pay42 H M L C T T T) (k0_pay43 H M L C T T T) T (k0_pay44 H T) (k0_pay45 M T) T T16

/-- The sums of the log forget gates from the gates `X` and the heads' lanes `E`. -/
def G (X : Vec Ideal S1040x32 .f32) (E : Vec Ideal S1x32x128 .bf16) (T : Vec Ideal S128x128 .bf16) (T16 : Vec Ideal S16x16 .bf16) : FVec Ideal S1040x128 .f32 :=
  GS (k0_pay32 (k0_pay27 X) (k0_pay28 E) (k0_pay29 X E) (k0_pay30 X E)) (k0_pay34 (k0_pay27 X) (k0_pay28 E) (k0_pay29 X E) (k0_pay30 X E)) (k0_pay35 (k0_pay27 X) (k0_pay28 E) (k0_pay29 X E) (k0_pay30 X E)) (k0_pay36 (k0_pay27 X) (k0_pay28 E) (k0_pay29 X E) (k0_pay30 X E) T) (k0_pay37 (k0_pay27 X) (k0_pay28 E) (k0_pay29 X E) (k0_pay30 X E) T T) (k0_pay38 (k0_pay27 X) (k0_pay28 E) (k0_pay29 X E) (k0_pay30 X E) T T T) (k0_pay39 (k0_pay27 X) (k0_pay28 E) (k0_pay29 X E) (k0_pay30 X E) T T T) T T16

/-- One block of the result from the sums and the loaded blocks. -/
def OUT (x0 g : Vec Ideal S16x1024 .f32) (K V : Vec Ideal S1040x1024 .bf16) (Gs : FVec Ideal S1040x128 .f32) : FVec Ideal S16x1024 .bf16 :=
  k0_pay1 (k0_pay56 Gs (iota Kind.tc S1040x128 32 [0] iota_S1040x128_d0_w32) (k0_pay51 (16#32) k0_pay47 k0_pay48 k0_pay49 k0_pay50) (k0_pay52 Gs (iota Kind.tc S1040x128 32 [0] iota_S1040x128_d0_w32) (16#32) k0_pay47 k0_pay48 k0_pay49 k0_pay50) (k0_pay53 x0) k0_pay54 (iota Kind.tc S128x1024 32 [1] iota_S128x1024_d1_w32) (128#32) k0_pay55 (0#32) K) V (constant S128x1024 .f32 0x00000000#32) g

/-- The sums are the running sums of the lane's gates. -/
theorem GS_val (H M L : FVec Ideal S1040x128 .bf16) (g : ℕ → EReal) (l : Fin 128) (hg : ∀ k, g k ≠ ⊤)
    (h0 : ∀ s : Fin 1040, H (ix2 s l) = g s.val) (h1 : ∀ s : Fin 1040, M (ix2 s l) = g s.val - g s.val)
    (h2 : ∀ s : Fin 1040, L (ix2 s l) = (g s.val - g s.val) - (g s.val - g s.val))
    (T : Vec Ideal S128x128 .bf16) (hT : ∀ i k : Fin 128, T (ix2 i k) = if k.val ≤ i.val then 1 else 0)
    (T16 : Vec Ideal S16x16 .bf16) (hT16 : ∀ i k : Fin 16, T16 (ix2 i k) = if k.val ≤ i.val then 1 else 0)
    (C : FVec Ideal S1x128 .f32) (hC : C (ix2 0 l) = up g 384) (p0 p128 p256 : FVec Ideal S128x128 .f32)
    (e0 : ∀ i : Fin 128, p0 (ix2 i l) = up g (i.val + 1)) (e1 : ∀ i : Fin 128, p128 (ix2 i l) = up g (128 + i.val + 1))
    (e2 : ∀ i : Fin 128, p256 (ix2 i l) = up g (256 + i.val + 1)) (s : Fin 1040) :
    GS H M L p0 p128 p256 C T T16 (ix2 s l) = up g (s.val + 1) := by
  have a7 := s768 H M L g l hg h0 h1 h2 T hT _ (c768 H M L g l hg h0 h1 h2 T hT C hC)
  have a8 := s896 H M L g l hg h0 h1 h2 T hT _ ((lastRow_val _ l).trans (a7 127))
  have a9 := s1024 H M L g l hg h0 h1 h2 _ T16 hT16 ((lastRow_val _ l).trans (a8 127))
  unfold GS
  rw [sumsParts]
  exact allTails_val _ _ _ _ _ _ _ _ _ (fun k => up g (k + 1)) l e0 e1 e2 (s384 H M L g l hg h0 h1 h2 T hT C hC) (s512 H M L g l hg h0 h1 h2 T hT C hC)
    (s640 H M L g l hg h0 h1 h2 T hT C hC) a7 a8 a9 s

/-- The sums at a lane: the running sums of its head's gates, put together from their roundings. -/
theorem G_val (X : Vec Ideal S1040x32 .f32) (E : Vec Ideal S1x32x128 .bf16) (l : Fin 128) (n : Fin 32)
    (hE : ∀ k : Fin 32, E (ix3 0 k l) = if k = n then 1 else 0) (f : ℕ → EReal) (hf : ∀ s : Fin 1040, X (ix2 s n) = f s.val)
    (T : Vec Ideal S128x128 .bf16) (hT : ∀ i k : Fin 128, T (ix2 i k) = if k.val ≤ i.val then 1 else 0)
    (T16 : Vec Ideal S16x16 .bf16) (hT16 : ∀ i k : Fin 16, T16 (ix2 i k) = if k.val ≤ i.val then 1 else 0) (s : Fin 1040) :
    G X E T T16 (ix2 s l) = up (fun j => sp (f j)) (s.val + 1) := by
  have h : ∀ s : Fin 1040, k0_pay31 (k0_pay27 X) (k0_pay28 E) (k0_pay29 X E) (k0_pay30 X E) (ix2 s l) = (fun j => sp (f j)) s.val := fun s => by
    rw [lane X E l n hE s, hf]
  unfold G
  generalize k0_pay27 X = a at *
  generalize k0_pay28 E = b at *
  generalize k0_pay29 X E = c at *
  generalize k0_pay30 X E = d at *
  have hg : ∀ k, (fun j => sp (f j)) k ≠ ⊤ := fun k => sp_ne_top _
  generalize (fun j => sp (f j)) = g at *
  have h0 := lane0 a b c d g l h
  have h1 := lane1 a b c d g l h
  have h2 := lane2 a b c d g l h
  exact GS_val _ _ _ g l hg h0 h1 h2 T hT T16 hT16 _ (c384 a b c d g l hg h0 h1 h2 T hT) _ _ _ (s0 a b c d g l hg h0 h1 h2 T hT) (s128 a b c d g l hg h0 h1 h2 T hT) (s256 a b c d g l hg h0 h1 h2 T hT) s

/-- One element of the result: the softmax's weighted values, gated. -/
theorem out_val (x0 g : Vec Ideal S16x1024 .f32) (K V : Vec Ideal S1040x1024 .bf16) (Gs : FVec Ideal S1040x128 .f32)
    (h : Fin 8) (t : Fin 16) (d : Fin 128) (z f : ℕ → EReal)
    (hz : ∀ s : Fin 1040, (∑ d : Fin 128, K (ix2 s ⟨h.val * 128 + d.val, by omega⟩) * (x0 (ix2 t ⟨h.val * 128 + d.val, by omega⟩) * Ideal.ofBits .f32 1035273459#32)) = z s.val)
    (hG : ∀ s : Fin 1040, Gs (ix2 s ⟨h.val * 16 + t.val, by omega⟩) = up (fun j => sp (f j)) (s.val + 1)) :
    OUT x0 g K V Gs (ix2 t ⟨h.val * 128 + d.val, by omega⟩)
      = (∑ s : Fin 1040, smx (scR z f (1024 + t.val)) s.val * V (ix2 s ⟨h.val * 128 + d.val, by omega⟩))
        * (g (ix2 t ⟨h.val * 128 + d.val, by omega⟩) * Ideal.div 1 (1 + Ideal.exp (-(g (ix2 t ⟨h.val * 128 + d.val, by omega⟩))))) := by
  unfold OUT
  refine (outW _ V g h t d).trans ?_
  refine congrArg (· * _) (Finset.sum_congr rfl fun s _ => ?_)
  rw [soft Gs _ x0 K h t z f hz hG (fquery Gs h t (fun k => up (fun j => sp (f j)) (k + 1)) hG) s, smx_eq z f (1024 + t.val) (by omega) s]

/-- Head 0 of a cached block. -/
theorem cache3 (x : Vec Ideal S1x1x1024x8x128 .f32) (s : Fin 1024) (d : Fin 128) : k0_pay3 x (ix2 s d) = x (ix5 0 0 s 0 d) := by
  pointwise [k0_pay3, k0_pay2]
  try (have e : s.val / 8 * 8 + s.val % 8 = s.val := by omega
       simp only [e])

/-- Head 0 of a cached block. -/
theorem cache13 (x : Vec Ideal S1x1x1024x8x128 .f32) (s : Fin 1024) (d : Fin 128) : k0_pay13 x (ix2 s d) = x (ix5 0 0 s 0 d) := by
  pointwise [k0_pay13, k0_pay12]
  try (have e : s.val / 8 * 8 + s.val % 8 = s.val := by omega
       simp only [e])

/-- Head 1 of a cached block. -/
theorem cache4 (x : Vec Ideal S1x1x1024x8x128 .f32) (s : Fin 1024) (d : Fin 128) : k0_pay4 x (ix2 s d) = x (ix5 0 0 s 1 d) := by
  pointwise [k0_pay4, k0_pay2]
  try (have e : s.val / 8 * 8 + s.val % 8 = s.val := by omega
       simp only [e])

/-- Head 1 of a cached block. -/
theorem cache14 (x : Vec Ideal S1x1x1024x8x128 .f32) (s : Fin 1024) (d : Fin 128) : k0_pay14 (k0_pay12 x) (ix2 s d) = x (ix5 0 0 s 1 d) := by
  pointwise [k0_pay14, k0_pay12]
  try (have e : s.val / 8 * 8 + s.val % 8 = s.val := by omega
       simp only [e])

/-- Head 2 of a cached block. -/
theorem cache5 (x : Vec Ideal S1x1x1024x8x128 .f32) (s : Fin 1024) (d : Fin 128) : k0_pay5 x (ix2 s d) = x (ix5 0 0 s 2 d) := by
  pointwise [k0_pay5, k0_pay2]
  try (have e : s.val / 8 * 8 + s.val % 8 = s.val := by omega
       simp only [e])

/-- Head 2 of a cached block. -/
theorem cache15 (x : Vec Ideal S1x1x1024x8x128 .f32) (s : Fin 1024) (d : Fin 128) : k0_pay15 (k0_pay12 x) (ix2 s d) = x (ix5 0 0 s 2 d) := by
  pointwise [k0_pay15, k0_pay12]
  try (have e : s.val / 8 * 8 + s.val % 8 = s.val := by omega
       simp only [e])

/-- Head 3 of a cached block. -/
theorem cache6 (x : Vec Ideal S1x1x1024x8x128 .f32) (s : Fin 1024) (d : Fin 128) : k0_pay6 x (ix2 s d) = x (ix5 0 0 s 3 d) := by
  pointwise [k0_pay6, k0_pay2]
  try (have e : s.val / 8 * 8 + s.val % 8 = s.val := by omega
       simp only [e])

/-- Head 3 of a cached block. -/
theorem cache16 (x : Vec Ideal S1x1x1024x8x128 .f32) (s : Fin 1024) (d : Fin 128) : k0_pay16 (k0_pay12 x) (ix2 s d) = x (ix5 0 0 s 3 d) := by
  pointwise [k0_pay16, k0_pay12]
  try (have e : s.val / 8 * 8 + s.val % 8 = s.val := by omega
       simp only [e])

/-- Head 4 of a cached block. -/
theorem cache7 (x : Vec Ideal S1x1x1024x8x128 .f32) (s : Fin 1024) (d : Fin 128) : k0_pay7 x (ix2 s d) = x (ix5 0 0 s 4 d) := by
  pointwise [k0_pay7, k0_pay2]
  try (have e : s.val / 8 * 8 + s.val % 8 = s.val := by omega
       simp only [e])

/-- Head 4 of a cached block. -/
theorem cache17 (x : Vec Ideal S1x1x1024x8x128 .f32) (s : Fin 1024) (d : Fin 128) : k0_pay17 (k0_pay12 x) (ix2 s d) = x (ix5 0 0 s 4 d) := by
  pointwise [k0_pay17, k0_pay12]
  try (have e : s.val / 8 * 8 + s.val % 8 = s.val := by omega
       simp only [e])

/-- Head 5 of a cached block. -/
theorem cache8 (x : Vec Ideal S1x1x1024x8x128 .f32) (s : Fin 1024) (d : Fin 128) : k0_pay8 (k0_pay2 x) (ix2 s d) = x (ix5 0 0 s 5 d) := by
  pointwise [k0_pay8, k0_pay2]
  try (have e : s.val / 8 * 8 + s.val % 8 = s.val := by omega
       simp only [e])

/-- Head 5 of a cached block. -/
theorem cache18 (x : Vec Ideal S1x1x1024x8x128 .f32) (s : Fin 1024) (d : Fin 128) : k0_pay18 (k0_pay12 x) (ix2 s d) = x (ix5 0 0 s 5 d) := by
  pointwise [k0_pay18, k0_pay12]
  try (have e : s.val / 8 * 8 + s.val % 8 = s.val := by omega
       simp only [e])

/-- Head 6 of a cached block. -/
theorem cache9 (x : Vec Ideal S1x1x1024x8x128 .f32) (s : Fin 1024) (d : Fin 128) : k0_pay9 (k0_pay2 x) (ix2 s d) = x (ix5 0 0 s 6 d) := by
  pointwise [k0_pay9, k0_pay2]
  try (have e : s.val / 8 * 8 + s.val % 8 = s.val := by omega
       simp only [e])

/-- Head 6 of a cached block. -/
theorem cache19 (x : Vec Ideal S1x1x1024x8x128 .f32) (s : Fin 1024) (d : Fin 128) : k0_pay19 (k0_pay12 x) (ix2 s d) = x (ix5 0 0 s 6 d) := by
  pointwise [k0_pay19, k0_pay12]
  try (have e : s.val / 8 * 8 + s.val % 8 = s.val := by omega
       simp only [e])

/-- Head 7 of a cached block. -/
theorem cache10 (x : Vec Ideal S1x1x1024x8x128 .f32) (s : Fin 1024) (d : Fin 128) : k0_pay10 (k0_pay2 x) (ix2 s d) = x (ix5 0 0 s 7 d) := by
  pointwise [k0_pay10, k0_pay2]
  try (have e : s.val / 8 * 8 + s.val % 8 = s.val := by omega
       simp only [e])

/-- Head 7 of a cached block. -/
theorem cache20 (x : Vec Ideal S1x1x1024x8x128 .f32) (s : Fin 1024) (d : Fin 128) : k0_pay20 (k0_pay12 x) (ix2 s d) = x (ix5 0 0 s 7 d) := by
  pointwise [k0_pay20, k0_pay12]
  try (have e : s.val / 8 * 8 + s.val % 8 = s.val := by omega
       simp only [e])

/-- The new keys, as stored. -/
theorem new11 (x : Vec Ideal S16x1024 .f32) (s : Fin 16) (j : Fin 1024) : k0_pay11 x (ix2 s j) = x (ix2 s j) := by
  pointwise [k0_pay11]

/-- The new values, as stored. -/
theorem new21 (x : Vec Ideal S16x1024 .f32) (s : Fin 16) (j : Fin 1024) : k0_pay21 x (ix2 s j) = x (ix2 s j) := by
  pointwise [k0_pay21]

/-- The cached log forget gates, as stored. -/
theorem cache22 (x : Vec Ideal S1x1x1024x32 .f32) (s : Fin 1024) (j : Fin 32) : k0_pay22 x (ix2 s j) = x (ix4 0 0 s j) := by
  pointwise [k0_pay22]

/-- The new log forget gates, as stored. -/
theorem new23 (x : Vec Ideal S16x32 .f32) (s : Fin 16) (j : Fin 32) : k0_pay23 x (ix2 s j) = x (ix2 s j) := by
  pointwise [k0_pay23]

/-- The lower triangle of ones the kernel is given. -/
theorem tri_bits : ∀ a b : Fin 128, lit0t (a.val * 128 + b.val) = if b.val ≤ a.val then 0x3F80#16 else 0#16 := by
  decide +kernel

/-- The heads' lanes the kernel is given: a one where the lane is the head's. -/
theorem lane_bits : ∀ (a : Fin 4) (k : Fin 32) (l : Fin 128), lit1t (a.val * 4096 + (k.val * 128 + l.val)) = if k.val = a.val * 8 + l.val / 16 then 0x3F80#16 else 0#16 := by
  decide +kernel
end Cert.FoxKernelIdeal.Own
end
-- ==== Proof.FoxRef.lean ====
module
public import proofs.«01_k».proof.Proof.FoxMath
public import Idealize.ShloMosaic.Lib.WordCmp
public import Idealize.ShloMosaic.Lib.KernelVsHost
public import proofs.«01_k».proof.Proof.Gen.FoxReferenceIdeal.Read
@[expose] public section
set_option maxRecDepth 16384
noncomputable section
open Idealize.ShloMosaic Idealize.ShloMosaic.TcCoe Idealize.SL.Sem Cert.StickMath Cert.FoxMath
namespace Cert.FoxReferenceIdeal.Own
open Cert.FoxReferenceIdeal Cert.FoxReferenceIdeal.Read Cert.FoxReferenceIdeal.Gen

variable (x0 : FVec Ideal S256x16416 .f32) (x1 : FVec Ideal S256x32 .f32) (x2 x3 : FVec Ideal S1x16x1024x32x128 .f32) (x4 : FVec Ideal S1x16x1024x32 .f32)

/-- A left fold of sums is the start plus the sum. -/
theorem foldl_sum {α : Type} (l : List α) (g : α → EReal) (a : EReal) :
    l.foldl (fun r n => r + g n) a = a + (l.map g).sum := by
  induction l generalizing a with
  | nil => simp
  | cons x l ih => rw [List.foldl_cons, ih, List.map_cons, List.sum_cons, add_assoc]

/-- The running sum, as the reference writes it: a window that looks back to the start of the row. -/
theorem window (x : FVec Ideal S16x1040x32 .f32) (ini : FVec Ideal S_ .f32) (h0 : ∀ i, ini i = 0)
    (b : Fin 16) (s : Fin 1040) (h : Fin 32) (f : ℕ → EReal) (hf : ∀ k : Fin 1040, x (ix3 b k h) = f k.val) :
    Host.reduceWindowAdd (F := Ideal) ![1, 1040, 1] ![1, 1, 1] ![0, 1039, 0] ![0, 0, 0] x ini
      reduceWindows_S16x1040x32_S16x1040x32_w1s1p0_0_w1040s1p1039_0_w1s1p0_0 h_S_ (ix3 b s h)
      = up f (s.val + 1) := by
  unfold Host.reduceWindowAdd
  rw [Ideal.hostReduceWindowAdd_def]
  unfold Ideal.hostReduceWindowAdd Host.reduceWindow
  rw [h0]
  refine (foldl_sum _ _ _).trans ?_
  rw [zero_add, ← Fin.sum_univ_def]
  rw [← Equiv.sum_comp (Shape.rowMajor _)]
  simp only [Equiv.symm_apply_apply]
  refine (sum_idx3 (n0 := 1) (n1 := 1040) (n2 := 1) _).trans ?_
  rw [Fin.sum_univ_one]
  have hd : ∀ (d : Fin 1040) (i : EReal), i = (if 1039 ≤ s.val + d.val then f (s.val + d.val - 1039) else 0) → i = (fun k => if 1039 ≤ s.val + k then f (s.val + k - 1039) else 0) d.val := fun d i h => h
  refine (Finset.sum_congr rfl fun d _ => (Fin.sum_univ_one _).trans (hd d _ ?_)).trans ?_
  · split
    · next hh =>
      have h3 := (hh 1).1
      change 1039 ≤ s.val * 1 + d.val at h3
      rw [if_pos (by omega)]
      refine Eq.trans (congrArg x ?_) (hf ⟨s.val + d.val - 1039, by omega⟩)
      funext a
      apply Fin.ext
      fin_cases a
      · show b.val * 1 + 0 - 0 = b.val; omega
      · show s.val * 1 + d.val - 1039 = s.val + d.val - 1039; omega
      · show h.val * 1 + 0 - 0 = h.val; omega
    · next hh =>
      rw [if_neg]
      intro h2
      refine hh fun a => ?_
      fin_cases a
      · exact ⟨Nat.zero_le _, by show b.val * 1 + 0 - 0 < 16; omega⟩
      · exact ⟨by show 1039 ≤ s.val * 1 + d.val; omega, by show s.val * 1 + d.val - 1039 < 1040; omega⟩
      · exact ⟨Nat.zero_le _, by show h.val * 1 + 0 - 0 < 32; omega⟩
  · rw [Fin.sum_univ_eq_sum_range (fun k => if 1039 ≤ s.val + k then f (s.val + k - 1039) else 0) 1040, ← Finset.sum_filter]
    unfold up
    refine Finset.sum_nbij' (fun d => s.val + d - 1039) (fun j => j + 1039 - s.val) ?_ ?_ ?_ ?_ ?_
    · intro a ha; simp only [Finset.mem_filter, Finset.mem_range] at ha ⊢; omega
    · intro a ha; simp only [Finset.mem_filter, Finset.mem_range] at ha ⊢; omega
    · intro a ha; simp only [Finset.mem_filter, Finset.mem_range] at ha ⊢; omega
    · intro a ha; simp only [Finset.mem_filter, Finset.mem_range] at ha ⊢; omega
    · intro a ha; rfl

/-- The reference's keys: the cached ones, then the new ones. -/
theorem keys (b : Fin 16) (h : Fin 32) (s : Fin 1040) (d : Fin 128) : val_main_v8 (F := Ideal) x0 x2 (ix4 b s h d)
    = if hs : s.val < 1024 then x2 (ix5 0 b ⟨s.val, hs⟩ h d) else x0 (ix2 ⟨b.val * 16 + (s.val - 1024), by omega⟩ ⟨4096 + (h.val * 128 + d.val), by omega⟩) := by
  pointwise [val_main_v8, val_main_v6, val_main_v7, val_main_v1]

/-- The reference's values: the cached ones, then the new ones. -/
theorem vals (b : Fin 16) (h : Fin 32) (s : Fin 1040) (d : Fin 128) : val_main_v11 (F := Ideal) x0 x3 (ix4 b s h d)
    = if hs : s.val < 1024 then x3 (ix5 0 b ⟨s.val, hs⟩ h d) else x0 (ix2 ⟨b.val * 16 + (s.val - 1024), by omega⟩ ⟨8192 + (h.val * 128 + d.val), by omega⟩) := by
  pointwise [val_main_v11, val_main_v9, val_main_v10, val_main_v2]

/-- The reference's log forget gates: the cached ones, then the new ones. -/
theorem gates (b : Fin 16) (h : Fin 32) (s : Fin 1040) : val_main_v14 (F := Ideal) x1 x4 (ix3 b s h)
    = if hs : s.val < 1024 then x4 (ix4 0 b ⟨s.val, hs⟩ h) else x1 (ix2 ⟨b.val * 16 + (s.val - 1024), by omega⟩ h) := by
  pointwise [val_main_v14, val_main_v12, val_main_v13]

/-- The reference's scores, with the scale on the query. -/
theorem score (b : Fin 16) (h : Fin 32) (t : Fin 16) (s : Fin 1040) : val_main_v21 (F := Ideal) x0 x2 (ix4 b h t s)
    = ∑ x : Fin 128, val_main_v8 (F := Ideal) x0 x2 (ix4 b s h x) * (x0 (ix2 ⟨b.val * 16 + t.val, by omega⟩ ⟨h.val * 128 + x.val, by omega⟩) * Ideal.ofBits .f32 1035273459#32) := by
  pointwise [val_main_v21, val_main_v20, val_main_cst, val_main_v19, val_main_v5, val_main_v0]
  obtain ⟨r, hr, h⟩ := scale_real
  rw [h]
  refine (Cert.EMath.sum_mul_coe _ _ r hr).trans (Finset.sum_congr rfl fun x _ => ?_)
  rw [mul_comm (x0 _), mul_assoc]

/-- The reference's mask: query `t` sees the cached keys and the new ones up to its own. -/
theorem mask (t : Fin 16) (s : Fin 1040) : val_main_v36 (F := Ideal) (ix2 t s) = if s.val ≤ 1024 + t.val then 1#1 else 0#1 := by
  pointwise [val_main_v36, val_main_v34, val_main_v35, val_main_v32, val_main_v33, val_main_v30, val_main_v31, val_main_v28, val_main_v29, val_main_c]
  have e : IntOp.addi (1024#32) (BitVec.ofNat 32 t.val) = BitVec.ofNat 32 (1024 + t.val) := (BitVec.ofNat_add 1024 t.val).symm
  rw [e]
  simp (disch := word_cmp_side) only [hlo_ix]
  by_cases h : s.val ≤ 1024 + t.val <;> simp [h]

/-- The maximum over the keys. -/
theorem rmax (A : FVec Ideal S16x32x16x1040 .f32) (b : Fin 16) (h : Fin 32) (t : Fin 16) :
    Host.reduce FloatOps.maximumf A (val_main_cst_1 (F := Ideal)) reducesTo_S16x32x16x1040_S16x32x16_d3 h_S_ (ix3 b h t) = Finset.univ.fold max (Ideal.ofBits .f32 0xFF800000#32) fun k : Fin 1040 => A (ix4 b h t k) := by
  have r : S16x32x16x1040.Reduces [3] S16x32x16 := by decide
  have e := congrFun (hostReduce_maximumf_eq_multiReduction A 0xFF800000#32 reducesTo_S16x32x16x1040_S16x32x16_d3 h_S_ r (.inl rfl) rfl) (ix3 b h t)
  refine Eq.trans e ?_
  clear e
  pointwise []

section
variable (b : Fin 16) (h : Fin 32) (t : Fin 16) (z f : ℕ → EReal) (hz : ∀ k : Fin 1040, val_main_v21 (F := Ideal) x0 x2 (ix4 b h t k) = z k.val)
  (hf : ∀ k : Fin 1040, val_main_v14 (F := Ideal) x1 x4 (ix3 b k h) = f k.val)

include hf in
/-- The running sums of the log forget gates. -/
theorem sums (s : Fin 1040) : val_main_v15 (F := Ideal) x1 x4 (ix3 b s h) = up f (s.val + 1) := by
  unfold val_main_v15
  refine window _ _ (fun i => ?_) b s h f fun k => hf k
  pointwise [val_main_call0_call0_v0, val_main_call0_call0_cst]

include hz hf

/-- The masked scores less what the gates forget. -/
theorem scoreR (s : Fin 1040) : val_main_v37 (F := Ideal) x0 x1 x2 x4 (ix4 b h t s) = scR z f (1024 + t.val) s.val := by
  rw [val_main_v37_apply]
  pointwise [val_main_call1_v1, val_main_call1_v2, val_main_call1_v0, val_main_cst_0, val_main_v27, val_main_v24, val_main_v26, val_main_v25, val_main_v23, val_main_v22, val_main_v18, val_main_v17, val_main_v16]
  rw [mask, hz]
  simp only [sums x1 x4 b h f hf]
  show Scalar.select _ _ (Ideal.ofBits .f32 0xFF800000#32) = _
  rw [neg_inf, scR]
  split <;> rfl

/-- The largest of a query's scores. -/
theorem largest : val_main_v40 (F := Ideal) x0 x1 x2 x4 (ix3 b h t) = peak (scR z f (1024 + t.val)) := by
  have key := scoreR x0 x1 x2 x4 b h t z f hz hf
  rw [val_main_v40_apply]
  unfold val_main_v38
  generalize val_main_v37 (F := Ideal) x0 x1 x2 x4 = A at key ⊢
  rw [rmax]
  simp only [key]
  pointwise [val_main_v39, val_main_cst_2, val_main_cst_1]
  rw [neg_inf]
  exact max_eq_right bot_le

/-- The reference's weights. -/
theorem weights (s : Fin 1040) : val_main_v48 (F := Ideal) x0 x1 x2 x4 (ix4 b h t s) = smx (scR z f (1024 + t.val)) s.val := by
  have key := scoreR x0 x1 x2 x4 b h t z f hz hf
  have k2 := largest x0 x1 x2 x4 b h t z f hz hf
  pointwise [val_main_v48, val_main_v47, val_main_v46, val_main_v45, val_main_cst_3, val_main_v44, val_main_v43, val_main_v42, val_main_v41]
  simp only [key, k2]
  rfl
end

/-- The reference's result: the weighted values, gated. -/
theorem result (b : Fin 16) (h : Fin 32) (t : Fin 16) (d : Fin 128) (z f : ℕ → EReal) (hz : ∀ k : Fin 1040, val_main_v21 (F := Ideal) x0 x2 (ix4 b h t k) = z k.val)
    (hf : ∀ k : Fin 1040, val_main_v14 (F := Ideal) x1 x4 (ix3 b k h) = f k.val) :
    val_main_v54 (F := Ideal) x0 x1 x2 x3 x4 (ix2 ⟨b.val * 16 + t.val, by omega⟩ ⟨h.val * 128 + d.val, by omega⟩)
      = (∑ s : Fin 1040, smx (scR z f (1024 + t.val)) s.val * val_main_v11 (F := Ideal) x0 x3 (ix4 b s h d))
        * (x0 (ix2 ⟨b.val * 16 + t.val, by omega⟩ ⟨12288 + (h.val * 128 + d.val), by omega⟩)
          * Ideal.div 1 (1 + Ideal.exp (-(x0 (ix2 ⟨b.val * 16 + t.val, by omega⟩ ⟨12288 + (h.val * 128 + d.val), by omega⟩))))) := by
  pointwise [val_main_v54, val_main_v53, val_main_v51, val_main_v50, val_main_v49, val_main_v52, val_main_call2_v0, val_main_call2_v1, val_main_call2_v2, val_main_call2_v3, val_main_call2_v4, val_main_call2_v5, val_main_call2_cst, val_main_call2_cst_0, val_main_v3]
  refine congrArg (fun e : EReal => e * _) (Finset.sum_congr rfl fun s _ => ?_)
  rw [weights x0 x1 x2 x4 b h t z f hz hf, mul_comm]
end Cert.FoxReferenceIdeal.Own
end
-- ==== Proof.FoxBlk.lean ====
module
public import proofs.«01_k».proof.Proof.FoxOut
public import proofs.«01_k».proof.Proof.FoxRef
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem Cert.StickMath Cert.FoxMath
open Idealize.ShloMosaic.Pipeline (Dat)
namespace Cert.FoxKernelIdeal.Own
open Cert.FoxKernelIdeal Cert.FoxKernelIdeal.Gen
variable (m : (ℓ : Loc nD τ sig) → Buf (Elt Ideal) ℓ)

/-- A key or a value of the block: cached, or new. -/
def both (kc : Vec Ideal S1x1x1024x8x128 .f32) (kn : Vec Ideal S16x1024 .f32) (s : Fin 1040) (h : Fin 8) (d : Fin 128) : EReal :=
  if hs : s.val < 1024 then kc (ix5 0 0 ⟨s.val, hs⟩ h d) else kn (ix2 ⟨s.val - 1024, by omega⟩ ⟨h.val * 128 + d.val, by omega⟩)

/-- The block indices of the windows at every grid point: the batch and the group of heads. -/
theorem idx : ∀ t : Fin cfg0.N, win0_0.index t = ![t.val / 4, t.val % 4]
    ∧ win0_1.index t = ![t.val / 4, 4 + t.val % 4]
    ∧ win0_2.index t = ![t.val / 4, 8 + t.val % 4]
    ∧ win0_3.index t = ![0, t.val / 4, 0, t.val % 4, 0]
    ∧ win0_4.index t = ![0, t.val / 4, 0, t.val % 4, 0]
    ∧ win0_5.index t = ![t.val / 4, 12 + t.val % 4]
    ∧ win0_6.index t = ![t.val / 4, 0]
    ∧ win0_7.index t = ![0, t.val / 4, 0, 0]
    ∧ win0_8.index t = ![t.val % 4, 0, 0]
    ∧ win0_9.index t = ![0, 0]
    ∧ win0_10.index t = ![t.val / 4, t.val % 4] :=
  (by decide +kernel : ∀ t : Fin grid0.N, _)

/-- The triangle block. -/
theorem tri (c : Dev nD) (t : Fin cfg0.N) (a b : Fin 128) : (iblk m c 9 t : Vec Ideal S128x128 .bf16) (ix2 a b) = (if b.val ≤ a.val then (1 : EReal) else 0) := by
  blk_simp [iblk, V]
  entry_read
  have e : ((View.whole main_cst).slice (win0_9.rect t)).emb (ix2 a b) = ix2 a b := by
    blk_point [idx t]
  rw [e]
  have e2 : (S128x128.rowMajor (ix2 a b)).val = a.val * 128 + b.val := by
    exact Shape.rowMajor_val_two _
  show FloatOps.ofBits FTy.bf16 (lit0t (S128x128.rowMajor (ix2 a b)).val) = _
  rw [e2, tri_bits]
  split
  · exact Ideal.ofBits_one_bf16
  · exact Ideal.ofBits_zero_bf16

/-- The heads' lanes block: a one where the lane is the head's. -/
theorem lanes (c : Dev nD) (t : Fin cfg0.N) (k : Fin 32) (l : Fin 128) : (iblk m c 8 t : Vec Ideal S1x32x128 .bf16) (ix3 0 k l) = (if k.val = t.val % 4 * 8 + l.val / 16 then (1 : EReal) else 0) := by
  blk_simp [iblk, V]
  entry_read
  have e : ((View.whole main_cst_0).slice (win0_8.rect t)).emb (ix3 0 k l) = ix3 ⟨t.val % 4, by omega⟩ k l := by
    blk_point [idx t]
  rw [e]
  have e2 : (S4x32x128.rowMajor (ix3 ⟨t.val % 4, by omega⟩ k l)).val = t.val % 4 * 4096 + (k.val * 128 + l.val) := by
    refine (Shape.rowMajor_val_three _).trans ?_
    show (t.val % 4 * 32 + k.val) * 128 + l.val = _
    ring
  show FloatOps.ofBits FTy.bf16 (lit1t (S4x32x128.rowMajor (ix3 ⟨t.val % 4, by omega⟩ k l)).val) = _
  rw [e2]
  have e3 := lane_bits ⟨t.val % 4, by omega⟩ k l
  simp only at e3
  rw [e3]
  split
  · exact Ideal.ofBits_one_bf16
  · exact Ideal.ofBits_zero_bf16

/-- A log forget gate of the block: cached, or new. -/
def bothF (fc : Vec Ideal S1x1x1024x32 .f32) (fn : Vec Ideal S16x32 .f32) (s : Fin 1040) (k : Fin 32) : EReal :=
  if hs : s.val < 1024 then fc (ix4 0 0 ⟨s.val, hs⟩ k) else fn (ix2 ⟨s.val - 1024, by omega⟩ k)

/-- The pieces stored in the scratch of log forget gates cover it. -/
theorem covF (p : Vec Ideal S16x32 .f32) (q : Vec Ideal S1024x32 .f32) (y : S1040x32.Idx) :
    ∃ r ∈ ([⟨Rect.unit ![1024, 0] ![16, 32] inb_S1040x32_S16x32_1024_0, p⟩, ⟨Rect.unit ![0, 0] ![1024, 32] inb_S1040x32_S1024x32_0_0, q⟩] : List (View.Piece (Elt Ideal) S1040x32 .f32)), y ∈ r.1.set := by
  have a : (y 0).val < 1040 := (y 0).isLt
  have b : (y 1).val < 32 := (y 1).isLt
  simp only [List.mem_cons, exists_eq_or_imp, exists_eq_left, List.not_mem_nil, false_and, exists_false, or_false, Rect.mem_set_unit]
  by_cases u : 1024 ≤ (y 0).val
  · refine Or.inl fun i => ?_
    fin_cases i
    · show 1024 ≤ (y 0).val ∧ (y 0).val < 1024 + 16; omega
    · show 0 ≤ (y 1).val ∧ (y 1).val < 0 + 32; omega
  · refine Or.inr fun i => ?_
    fin_cases i
    · show 0 ≤ (y 0).val ∧ (y 0).val < 0 + 1024; omega
    · show 0 ≤ (y 1).val ∧ (y 1).val < 0 + 32; omega

/-- The pieces stored in the scratch of keys (or of values) cover it. -/
theorem cov (p : Vec Ideal S16x1024 .bf16) (q0 q1 q2 q3 q4 q5 q6 q7 : Vec Ideal S1024x128 .bf16) (y : S1040x1024.Idx) :
    ∃ r ∈ ([⟨Rect.unit ![1024, 0] ![16, 1024] inb_S1040x1024_S16x1024_1024_0, p⟩, ⟨Rect.unit ![0, 896] ![1024, 128] inb_S1040x1024_S1024x128_0_896, q7⟩, ⟨Rect.unit ![0, 768] ![1024, 128] inb_S1040x1024_S1024x128_0_768, q6⟩, ⟨Rect.unit ![0, 640] ![1024, 128] inb_S1040x1024_S1024x128_0_640, q5⟩, ⟨Rect.unit ![0, 512] ![1024, 128] inb_S1040x1024_S1024x128_0_512, q4⟩, ⟨Rect.unit ![0, 384] ![1024, 128] inb_S1040x1024_S1024x128_0_384, q3⟩, ⟨Rect.unit ![0, 256] ![1024, 128] inb_S1040x1024_S1024x128_0_256, q2⟩, ⟨Rect.unit ![0, 128] ![1024, 128] inb_S1040x1024_S1024x128_0_128, q1⟩, ⟨Rect.unit ![0, 0] ![1024, 128] inb_S1040x1024_S1024x128_0_0, q0⟩] : List (View.Piece (Elt Ideal) S1040x1024 .bf16)), y ∈ r.1.set := by
  have a : (y 0).val < 1040 := (y 0).isLt
  have b : (y 1).val < 1024 := (y 1).isLt
  simp only [List.mem_cons, exists_eq_or_imp, exists_eq_left, List.not_mem_nil, false_and, exists_false, or_false, Rect.mem_set_unit]
  by_cases u : 1024 ≤ (y 0).val
  · refine Or.inl fun i => ?_
    fin_cases i
    · show 1024 ≤ (y 0).val ∧ (y 0).val < 1024 + 16; omega
    · show 0 ≤ (y 1).val ∧ (y 1).val < 0 + 1024; omega
  · have key : ∀ o : ℕ, o ≤ (y 1).val → (y 1).val < o + 128 → ∀ i : Fin 2, (![0, o] : Fin 2 → ℕ) i ≤ (y i).val ∧ (y i).val < (![0, o] : Fin 2 → ℕ) i + (![1024, 128] : Fin 2 → ℕ) i := by
      intro o v w i
      fin_cases i
      · show 0 ≤ (y 0).val ∧ (y 0).val < 0 + 1024; omega
      · exact ⟨v, w⟩
    refine Or.inr ?_
    rcases (by omega : ((896 ≤ (y 1).val ∧ (y 1).val < 896 + 128) ∨ (768 ≤ (y 1).val ∧ (y 1).val < 768 + 128) ∨ (640 ≤ (y 1).val ∧ (y 1).val < 640 + 128) ∨ (512 ≤ (y 1).val ∧ (y 1).val < 512 + 128) ∨ (384 ≤ (y 1).val ∧ (y 1).val < 384 + 128) ∨ (256 ≤ (y 1).val ∧ (y 1).val < 256 + 128) ∨ (128 ≤ (y 1).val ∧ (y 1).val < 128 + 128) ∨ (0 ≤ (y 1).val ∧ (y 1).val < 0 + 128))) with z | z | z | z | z | z | z | z
    · exact Or.inl (key _ z.1 z.2)
    · exact Or.inr (Or.inl (key _ z.1 z.2))
    · exact Or.inr (Or.inr (Or.inl (key _ z.1 z.2)))
    · exact Or.inr (Or.inr (Or.inr (Or.inl (key _ z.1 z.2))))
    · exact Or.inr (Or.inr (Or.inr (Or.inr (Or.inl (key _ z.1 z.2)))))
    · exact Or.inr (Or.inr (Or.inr (Or.inr (Or.inr (Or.inl (key _ z.1 z.2))))))
    · exact Or.inr (Or.inr (Or.inr (Or.inr (Or.inr (Or.inr (Or.inl (key _ z.1 z.2)))))))
    · exact Or.inr (Or.inr (Or.inr (Or.inr (Or.inr (Or.inr (Or.inr (key _ z.1 z.2)))))))

/-- A stored piece of cached rows holds the cached rows of its head. -/
theorem pieceC (kc : Vec Ideal S1x1x1024x8x128 .f32) (kn : Vec Ideal S16x1024 .f32) (P : Vec Ideal S1024x128 .bf16) (n0 : Fin 8)
    (w : ∀ (s : Fin 1024) (d : Fin 128), P (ix2 s d) = kc (ix5 0 0 s n0 d)) (s : Fin 1040) (n : Fin 8) (e : Fin 128) (x : S1024x128.Idx)
    (u : s.val = (x 0).val) (v : n.val * 128 + e.val = n0.val * 128 + (x 1).val) : P x = both kc kn s n e := by
  have b1 : (x 1).val < 128 := (x 1).isLt
  have b0 : (x 0).val < 1024 := (x 0).isLt
  have en : n = n0 := Fin.ext (by omega)
  have ex : x = ix2 ⟨s.val, by omega⟩ e := by
    funext a
    apply Fin.ext
    fin_cases a
    · exact u.symm
    · show (x 1).val = e.val
      subst en; omega
  have l : s.val < 1024 := by omega
  rw [ex, w, en]
  simp only [both, l, dite_true]

/-- The stored piece of new rows holds the new rows. -/
theorem pieceN (kc : Vec Ideal S1x1x1024x8x128 .f32) (kn : Vec Ideal S16x1024 .f32) (P : Vec Ideal S16x1024 .bf16)
    (w : ∀ (s : Fin 16) (d : Fin 1024), P (ix2 s d) = kn (ix2 s d)) (s : Fin 1040) (n : Fin 8) (e : Fin 128) (x : S16x1024.Idx)
    (u : s.val = 1024 + (x 0).val) (v : n.val * 128 + e.val = (x 1).val) : P x = both kc kn s n e := by
  have ex : x = ix2 ⟨s.val - 1024, by omega⟩ ⟨n.val * 128 + e.val, by omega⟩ := by
    funext a
    apply Fin.ext
    fin_cases a
    · show (x 0).val = s.val - 1024; omega
    · exact v.symm
  have l : ¬ s.val < 1024 := by omega
  rw [ex, w]
  simp only [both, l, dite_false]

/-- One block of the result, at one element. -/
theorem blk (c : Dev nD) (t : Fin cfg0.N) (x0 x1 x2 x5 : Vec Ideal S16x1024 .f32) (x3 x4 : Vec Ideal S1x1x1024x8x128 .f32) (x6 : Vec Ideal S16x32 .f32) (x7 : Vec Ideal S1x1x1024x32 .f32)
    (e0 : X0_0 m c t = x0) (e1 : X0_1 m c t = x1) (e2 : X0_2 m c t = x2) (e3 : iblk m c 3 t = x3) (e4 : iblk m c 4 t = x4) (e5 : X0_5 m c t = x5)
    (e6 : iblk m c 6 t = x6) (e7 : iblk m c 7 t = x7)
    (h : Fin 8) (q : Fin 16) (d : Fin 128) (z f : ℕ → EReal)
    (hz : ∀ s : Fin 1040, (∑ d : Fin 128, both x3 x1 s h d * (x0 (ix2 q ⟨h.val * 128 + d.val, by omega⟩) * Ideal.ofBits .f32 1035273459#32)) = z s.val)
    (hf : ∀ s : Fin 1040, bothF x7 x6 s ⟨t.val % 4 * 8 + h.val, by omega⟩ = f s.val) :
    outsAt0 m c t (ix2 q ⟨h.val * 128 + d.val, by omega⟩)
      = (∑ s : Fin 1040, smx (scR z f (1024 + q.val)) s.val * both x4 x2 s h d)
        * (x5 (ix2 q ⟨h.val * 128 + d.val, by omega⟩) * Ideal.div 1 (1 + Ideal.exp (-(x5 (ix2 q ⟨h.val * 128 + d.val, by omega⟩))))) := by
  have tr := tri m c t
  have ln := lanes m c t
  unfold outsAt0; frame_out
  rw [e0, e1, e2, e3, e4, e5, e6, e7]
  have ⟨T, hTT⟩ : ∃ T : Vec Ideal S128x128 .bf16, iblk m c 9 t = T := ⟨_, rfl⟩
  have ⟨E, hE⟩ : ∃ E : Vec Ideal S1x32x128 .bf16, iblk m c 8 t = E := ⟨_, rfl⟩
  rw [hTT] at tr ⊢
  rw [hE] at ln ⊢
  generalize hK : View.readCov (Val := Elt Ideal) (View.whole cc0_scratch0) _ _ = K
  generalize hV : View.readCov (Val := Elt Ideal) (View.whole cc0_scratch1) _ _ = V
  generalize hX : View.readCov (Val := Elt Ideal) (View.whole cc0_scratch2) _ _ = X
  generalize hT : View.ld (Val := Elt Ideal) T _ = T16
  show OUT x0 x5 K V (G X E T T16) _ = _
  have kK : ∀ (s : Fin 1040) (h : Fin 8) (d : Fin 128), K (ix2 s ⟨h.val * 128 + d.val, by omega⟩) = both x3 x1 s h d := by
    intro s n e
    rw [← hK, View.readCov_eq_canon']
    clear * -
    canon_tiles x h using cov _ _ _ _ _ _ _ _ _ _
    case piece0 =>
      have u : 0 + 1 * s.val = 1024 + (x 0).val := h0
      have v : 0 + 1 * (n.val * 128 + e.val) = (x 1).val := h1
      exact pieceN x3 x1 _ (new11 x1) s n e x (by omega) (by omega)
    case piece1 =>
      have u : 0 + 1 * s.val = (x 0).val := h0
      have v : 0 + 1 * (n.val * 128 + e.val) = 896 + (x 1).val := h1
      exact pieceC x3 x1 _ 7 (cache10 x3) s n e x (by omega) (by show _ = 7 * 128 + _; omega)
    case piece2 =>
      have u : 0 + 1 * s.val = (x 0).val := h0
      have v : 0 + 1 * (n.val * 128 + e.val) = 768 + (x 1).val := h1
      exact pieceC x3 x1 _ 6 (cache9 x3) s n e x (by omega) (by show _ = 6 * 128 + _; omega)
    case piece3 =>
      have u : 0 + 1 * s.val = (x 0).val := h0
      have v : 0 + 1 * (n.val * 128 + e.val) = 640 + (x 1).val := h1
      exact pieceC x3 x1 _ 5 (cache8 x3) s n e x (by omega) (by show _ = 5 * 128 + _; omega)
    case piece4 =>
      have u : 0 + 1 * s.val = (x 0).val := h0
      have v : 0 + 1 * (n.val * 128 + e.val) = 512 + (x 1).val := h1
      exact pieceC x3 x1 _ 4 (cache7 x3) s n e x (by omega) (by show _ = 4 * 128 + _; omega)
    case piece5 =>
      have u : 0 + 1 * s.val = (x 0).val := h0
      have v : 0 + 1 * (n.val * 128 + e.val) = 384 + (x 1).val := h1
      exact pieceC x3 x1 _ 3 (cache6 x3) s n e x (by omega) (by show _ = 3 * 128 + _; omega)
    case piece6 =>
      have u : 0 + 1 * s.val = (x 0).val := h0
      have v : 0 + 1 * (n.val * 128 + e.val) = 256 + (x 1).val := h1
      exact pieceC x3 x1 _ 2 (cache5 x3) s n e x (by omega) (by show _ = 2 * 128 + _; omega)
    case piece7 =>
      have u : 0 + 1 * s.val = (x 0).val := h0
      have v : 0 + 1 * (n.val * 128 + e.val) = 128 + (x 1).val := h1
      exact pieceC x3 x1 _ 1 (cache4 x3) s n e x (by omega) (by show _ = 1 * 128 + _; omega)
    case piece8 =>
      have u : 0 + 1 * s.val = (x 0).val := h0
      have v : 0 + 1 * (n.val * 128 + e.val) = (x 1).val := h1
      exact pieceC x3 x1 _ 0 (cache3 x3) s n e x (by omega) (by show _ = 0 * 128 + _; omega)
  have kV : ∀ (s : Fin 1040) (h : Fin 8) (d : Fin 128), V (ix2 s ⟨h.val * 128 + d.val, by omega⟩) = both x4 x2 s h d := by
    intro s n e
    rw [← hV, View.readCov_eq_canon']
    clear * -
    canon_tiles x h using cov _ _ _ _ _ _ _ _ _ _
    case piece0 =>
      have u : 0 + 1 * s.val = 1024 + (x 0).val := h0
      have v : 0 + 1 * (n.val * 128 + e.val) = (x 1).val := h1
      exact pieceN x4 x2 _ (new21 x2) s n e x (by omega) (by omega)
    case piece1 =>
      have u : 0 + 1 * s.val = (x 0).val := h0
      have v : 0 + 1 * (n.val * 128 + e.val) = 896 + (x 1).val := h1
      exact pieceC x4 x2 _ 7 (cache20 x4) s n e x (by omega) (by show _ = 7 * 128 + _; omega)
    case piece2 =>
      have u : 0 + 1 * s.val = (x 0).val := h0
      have v : 0 + 1 * (n.val * 128 + e.val) = 768 + (x 1).val := h1
      exact pieceC x4 x2 _ 6 (cache19 x4) s n e x (by omega) (by show _ = 6 * 128 + _; omega)
    case piece3 =>
      have u : 0 + 1 * s.val = (x 0).val := h0
      have v : 0 + 1 * (n.val * 128 + e.val) = 640 + (x 1).val := h1
      exact pieceC x4 x2 _ 5 (cache18 x4) s n e x (by omega) (by show _ = 5 * 128 + _; omega)
    case piece4 =>
      have u : 0 + 1 * s.val = (x 0).val := h0
      have v : 0 + 1 * (n.val * 128 + e.val) = 512 + (x 1).val := h1
      exact pieceC x4 x2 _ 4 (cache17 x4) s n e x (by omega) (by show _ = 4 * 128 + _; omega)
    case piece5 =>
      have u : 0 + 1 * s.val = (x 0).val := h0
      have v : 0 + 1 * (n.val * 128 + e.val) = 384 + (x 1).val := h1
      exact pieceC x4 x2 _ 3 (cache16 x4) s n e x (by omega) (by show _ = 3 * 128 + _; omega)
    case piece6 =>
      have u : 0 + 1 * s.val = (x 0).val := h0
      have v : 0 + 1 * (n.val * 128 + e.val) = 256 + (x 1).val := h1
      exact pieceC x4 x2 _ 2 (cache15 x4) s n e x (by omega) (by show _ = 2 * 128 + _; omega)
    case piece7 =>
      have u : 0 + 1 * s.val = (x 0).val := h0
      have v : 0 + 1 * (n.val * 128 + e.val) = 128 + (x 1).val := h1
      exact pieceC x4 x2 _ 1 (cache14 x4) s n e x (by omega) (by show _ = 1 * 128 + _; omega)
    case piece8 =>
      have u : 0 + 1 * s.val = (x 0).val := h0
      have v : 0 + 1 * (n.val * 128 + e.val) = (x 1).val := h1
      exact pieceC x4 x2 _ 0 (cache13 x4) s n e x (by omega) (by show _ = 0 * 128 + _; omega)
  have kX : ∀ (s : Fin 1040) (k : Fin 32), X (ix2 s k) = bothF x7 x6 s k := by
    intro s k
    rw [← hX, View.readCov_eq_canon']
    clear * -
    canon_tiles x h using covF _ _ _
    case piece0 =>
      have u : 0 + 1 * s.val = 1024 + (x 0).val := h0
      have v : 0 + 1 * k.val = (x 1).val := h1
      have ex : x = ix2 ⟨s.val - 1024, by omega⟩ k := by
        funext a
        apply Fin.ext
        fin_cases a
        · show (x 0).val = s.val - 1024; omega
        · show (x 1).val = k.val; omega
      have l : ¬ s.val < 1024 := by omega
      refine (congrArg (k0_pay23 x6) ex).trans ?_
      rw [new23]
      simp only [bothF, l, dite_false]
    case piece1 =>
      have u : 0 + 1 * s.val = (x 0).val := h0
      have v : 0 + 1 * k.val = (x 1).val := h1
      have b0 : (x 0).val < 1024 := (x 0).isLt
      have ex : x = ix2 ⟨s.val, by omega⟩ k := by
        funext a
        apply Fin.ext
        fin_cases a
        · show (x 0).val = s.val; omega
        · show (x 1).val = k.val; omega
      have l : s.val < 1024 := by omega
      refine (congrArg (k0_pay22 x7) ex).trans ?_
      rw [cache22]
      simp only [bothF, l, dite_true]
  have hT16 : ∀ k i : Fin 16, T16 (ix2 k i) = (if i.val ≤ k.val then (1 : EReal) else 0) := by
    intro k i
    rw [← hT]
    refine Eq.trans (congrArg T ?_) (tr ⟨k.val, by omega⟩ ⟨i.val, by omega⟩)
    funext a
    apply Fin.ext
    fin_cases a
    · show 0 + 1 * k.val = k.val; omega
    · show 0 + 1 * i.val = i.val; omega
  have hEl : ∀ k : Fin 32, E (ix3 0 k ⟨h.val * 16 + q.val, by omega⟩) = if k = ⟨t.val % 4 * 8 + h.val, by omega⟩ then (1 : EReal) else 0 := by
    intro k
    rw [ln]
    have w : (h.val * 16 + q.val) / 16 = h.val := by have := q.isLt; omega
    simp only [w, Fin.ext_iff]
  rw [out_val x0 x5 K V _ h q d z f (fun s => by simp only [kK]; exact hz s) (G_val X E _ _ hEl f (fun s => (kX s _).trans (hf s)) T tr T16 hT16)]
  simp only [kV]
end Cert.FoxKernelIdeal.Own
end
-- ==== Proof.FoxValue.lean ====
module
public import proofs.«01_k».proof.Proof.FoxBlk
@[expose] public section
set_option maxRecDepth 16384
noncomputable section
open Idealize.ShloMosaic Idealize.ShloMosaic.TcCoe Idealize.SL.Sem Cert.StickMath Cert.FoxMath
open Idealize.ShloMosaic.Pipeline (Dat)
namespace Cert.FoxKernelIdeal.Own
open Cert.FoxKernelIdeal Cert.FoxKernelIdeal.Gen
variable (m : (ℓ : Loc nD τ sig) → Buf (Elt Ideal) ℓ)

/-- The grid has a point for every batch and group of heads. -/
theorem points (t : Fin cfg0.N) : t.val < 64 := by
  have h := t.isLt
  have e : cfg0.N = 64 := by decide +kernel
  omega

/-- The array the projections come from. -/
abbrev A0 (c : Dev nD) : FVec Ideal S256x16416 .f32 := m ((c : Thread nD τ).loc main_arg0)
/-- The array of cached keys. -/
abbrev A2 (c : Dev nD) : FVec Ideal S1x16x1024x32x128 .f32 := m ((c : Thread nD τ).loc main_arg2)
/-- The array of cached values. -/
abbrev A3 (c : Dev nD) : FVec Ideal S1x16x1024x32x128 .f32 := m ((c : Thread nD τ).loc main_arg3)

/-- The array of new log forget gates. -/
abbrev A1 (c : Dev nD) : FVec Ideal S256x32 .f32 := m ((c : Thread nD τ).loc main_arg1)
/-- The array of cached log forget gates. -/
abbrev A4 (c : Dev nD) : FVec Ideal S1x16x1024x32 .f32 := m ((c : Thread nD τ).loc main_arg4)

/-- The batch of a grid point. -/
def bat (t : Fin cfg0.N) : Fin 16 := ⟨t.val / 4, by have := points t; omega⟩
/-- The head of the whole array that is head `h` of a grid point's group. -/
def hd (t : Fin cfg0.N) (h : Fin 8) : Fin 32 := ⟨t.val % 4 * 8 + h.val, by omega⟩

/-- The block of queries. -/
theorem r0 (c : Dev nD) (t : Fin cfg0.N) (i : Fin 16) (h : Fin 8) (d : Fin 128) :
    (X0_0 m c t : Vec Ideal S16x1024 .f32) (ix2 i ⟨h.val * 128 + d.val, by omega⟩)
      = A0 m c (ix2 ⟨(bat t).val * 16 + i.val, by omega⟩ ⟨((hd t h).val * 128 + d.val), by omega⟩) := by
  unfold bat hd
  unfold X0_0 Pipeline.Window.fill
  rw [dif_pos (moved0_0 t _)]
  blk_point [iblk, V, idx t]

/-- The block of new keys. -/
theorem r1 (c : Dev nD) (t : Fin cfg0.N) (i : Fin 16) (h : Fin 8) (d : Fin 128) :
    (X0_1 m c t : Vec Ideal S16x1024 .f32) (ix2 i ⟨h.val * 128 + d.val, by omega⟩)
      = A0 m c (ix2 ⟨(bat t).val * 16 + i.val, by omega⟩ ⟨4096 + ((hd t h).val * 128 + d.val), by omega⟩) := by
  unfold bat hd
  unfold X0_1 Pipeline.Window.fill
  rw [dif_pos (moved0_1 t _)]
  blk_point [iblk, V, idx t]

/-- The block of new values. -/
theorem r2 (c : Dev nD) (t : Fin cfg0.N) (i : Fin 16) (h : Fin 8) (d : Fin 128) :
    (X0_2 m c t : Vec Ideal S16x1024 .f32) (ix2 i ⟨h.val * 128 + d.val, by omega⟩)
      = A0 m c (ix2 ⟨(bat t).val * 16 + i.val, by omega⟩ ⟨8192 + ((hd t h).val * 128 + d.val), by omega⟩) := by
  unfold bat hd
  unfold X0_2 Pipeline.Window.fill
  rw [dif_pos (moved0_2 t _)]
  blk_point [iblk, V, idx t]

/-- The block of gates. -/
theorem r5 (c : Dev nD) (t : Fin cfg0.N) (i : Fin 16) (h : Fin 8) (d : Fin 128) :
    (X0_5 m c t : Vec Ideal S16x1024 .f32) (ix2 i ⟨h.val * 128 + d.val, by omega⟩)
      = A0 m c (ix2 ⟨(bat t).val * 16 + i.val, by omega⟩ ⟨12288 + ((hd t h).val * 128 + d.val), by omega⟩) := by
  unfold bat hd
  unfold X0_5 Pipeline.Window.fill
  rw [dif_pos (moved0_5 t _)]
  blk_point [iblk, V, idx t]

/-- The block of cached keys. -/
theorem r3 (c : Dev nD) (t : Fin cfg0.N) (s : Fin 1024) (h : Fin 8) (d : Fin 128) :
    (iblk m c 3 t : Vec Ideal S1x1x1024x8x128 .f32) (ix5 0 0 s h d) = A2 m c (ix5 0 (bat t) s (hd t h) d) := by
  unfold bat hd
  blk_point [iblk, V, idx t]

/-- The block of cached values. -/
theorem r4 (c : Dev nD) (t : Fin cfg0.N) (s : Fin 1024) (h : Fin 8) (d : Fin 128) :
    (iblk m c 4 t : Vec Ideal S1x1x1024x8x128 .f32) (ix5 0 0 s h d) = A3 m c (ix5 0 (bat t) s (hd t h) d) := by
  unfold bat hd
  blk_point [iblk, V, idx t]

/-- The block of new log forget gates. -/
theorem r6 (c : Dev nD) (t : Fin cfg0.N) (i : Fin 16) (k : Fin 32) :
    (iblk m c 6 t : Vec Ideal S16x32 .f32) (ix2 i k) = A1 m c (ix2 ⟨(bat t).val * 16 + i.val, by omega⟩ k) := by
  unfold bat
  blk_point [iblk, V, idx t]

/-- The block of cached log forget gates. -/
theorem r7 (c : Dev nD) (t : Fin cfg0.N) (s : Fin 1024) (k : Fin 32) :
    (iblk m c 7 t : Vec Ideal S1x1x1024x32 .f32) (ix4 0 0 s k) = A4 m c (ix4 0 (bat t) s k) := by
  unfold bat
  blk_point [iblk, V, idx t]

/-- A log forget gate of the block is the reference's. -/
theorem gatesF (c : Dev nD) (t : Fin cfg0.N) (s : Fin 1040) (k : Fin 32) :
    bothF (iblk m c 7 t) (iblk m c 6 t) s k = Cert.FoxReferenceIdeal.Read.val_main_v14 (F := Ideal) (A1 m c) (A4 m c) (ix3 (bat t) s k) := by
  rw [Cert.FoxReferenceIdeal.Own.gates, bothF]
  split
  · exact r7 m c t _ k
  · exact r6 m c t _ k

/-- A key of the block is the reference's. -/
theorem bothK (c : Dev nD) (t : Fin cfg0.N) (s : Fin 1040) (h : Fin 8) (d : Fin 128) :
    both (iblk m c 3 t) (X0_1 m c t) s h d = Cert.FoxReferenceIdeal.Read.val_main_v8 (F := Ideal) (A0 m c) (A2 m c) (ix4 (bat t) s (hd t h) d) := by
  rw [Cert.FoxReferenceIdeal.Own.keys, both]
  split
  · exact r3 m c t _ h d
  · exact r1 m c t _ h d

/-- A value of the block is the reference's. -/
theorem bothV (c : Dev nD) (t : Fin cfg0.N) (s : Fin 1040) (h : Fin 8) (d : Fin 128) :
    both (iblk m c 4 t) (X0_2 m c t) s h d = Cert.FoxReferenceIdeal.Read.val_main_v11 (F := Ideal) (A0 m c) (A3 m c) (ix4 (bat t) s (hd t h) d) := by
  rw [Cert.FoxReferenceIdeal.Own.vals, both]
  split
  · exact r4 m c t _ h d
  · exact r2 m c t _ h d

/-- One block of the result at one element: the reference at the element it lands on. -/
theorem elem (c : Dev nD) (t : Fin cfg0.N) (q : Fin 16) (h : Fin 8) (d : Fin 128) :
    outsAt0 m c t (ix2 q ⟨h.val * 128 + d.val, by omega⟩)
      = Cert.FoxReferenceIdeal.Read.val_main_v54 (F := Ideal) (A0 m c) (A1 m c) (A2 m c) (A3 m c) (A4 m c)
        (ix2 ⟨(bat t).val * 16 + q.val, by omega⟩ ⟨(hd t h).val * 128 + d.val, by omega⟩) := by
  have ⟨z, hz⟩ : ∃ z : ℕ → EReal, ∀ k : Fin 1040, Cert.FoxReferenceIdeal.Read.val_main_v21 (F := Ideal) (A0 m c) (A2 m c) (ix4 (bat t) (hd t h) q k) = z k.val :=
    ⟨fun k => if u : k < 1040 then Cert.FoxReferenceIdeal.Read.val_main_v21 (F := Ideal) (A0 m c) (A2 m c) (ix4 (bat t) (hd t h) q ⟨k, u⟩) else 0,
      fun k => by simp only [k.isLt, dite_true]⟩
  have ⟨f, hf⟩ : ∃ f : ℕ → EReal, ∀ k : Fin 1040, Cert.FoxReferenceIdeal.Read.val_main_v14 (F := Ideal) (A1 m c) (A4 m c) (ix3 (bat t) k (hd t h)) = f k.val :=
    ⟨fun k => if u : k < 1040 then Cert.FoxReferenceIdeal.Read.val_main_v14 (F := Ideal) (A1 m c) (A4 m c) (ix3 (bat t) ⟨k, u⟩ (hd t h)) else 0,
      fun k => by simp only [k.isLt, dite_true]⟩
  rw [Cert.FoxReferenceIdeal.Own.result _ _ _ _ _ (bat t) (hd t h) q d z f hz hf]
  rw [blk m c t _ _ _ _ _ _ _ _ rfl rfl rfl rfl rfl rfl rfl rfl h q d z f (fun s => by
    rw [← hz, Cert.FoxReferenceIdeal.Own.score]
    refine Finset.sum_congr rfl fun x _ => ?_
    rw [bothK, r0]) (fun s => (gatesF m c t s _).trans (hf s))]
  rw [r5]
  refine congrArg (· * _) (Finset.sum_congr rfl fun s _ => ?_)
  rw [bothV]

/-- One block of the result at any index. -/
theorem point (c : Dev nD) (t : Fin cfg0.N) (y) : outsAt0 m c t y
    = Cert.FoxReferenceIdeal.Read.val_main_v54 (F := Ideal) (A0 m c) (A1 m c) (A2 m c) (A3 m c) (A4 m c) (((cfg0.win 10).blk t).view.emb y) := by
  have b0 : (y 0).val < 16 := (y 0).isLt
  have b1 : (y 1).val < 1024 := (y 1).isLt
  have ey : y = ix2 ⟨(y 0).val, b0⟩ ⟨(⟨(y 1).val / 128, by omega⟩ : Fin 8).val * 128 + (⟨(y 1).val % 128, by omega⟩ : Fin 128).val, by simp only; omega⟩ := by
    funext a
    apply Fin.ext
    fin_cases a
    · rfl
    · show (y 1).val = (y 1).val / 128 * 128 + (y 1).val % 128; omega
  refine (congrArg (outsAt0 m c t) ey).trans ((elem m c t _ _ _).trans (congrArg _ ?_))
  unfold bat hd
  blk_point [idx t]

/-- The whole result after the run is the reference. -/
theorem final (c : Dev nD) : (dats m 0 c).arrAt 10 (cfgs 0).N
    = Cert.FoxReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t _ y => ?_
  blk_simp
  rw [after0_10]
  exact point m c t y
end Cert.FoxKernelIdeal.Own
end
-- ==== Proof.lean ====
/- The claim: the three frames of every part, and the equality of every kernel with its reference. -/
module

public import proofs.«01_k».proof.Defs
public import proofs.«01_k».proof.Proof.Gen.RecKernel
public import proofs.«01_k».proof.Proof.Gen.RecKernel.Frame
public import proofs.«01_k».proof.Proof.Gen.RecKernelIdeal
public import proofs.«01_k».proof.Proof.Gen.RecKernelIdeal.Frame
public import proofs.«01_k».proof.Proof.Gen.RecKernelIdeal.Value
public import proofs.«01_k».proof.Proof.Gen.RecReferenceIdeal
public import proofs.«01_k».proof.Proof.Gen.RecReferenceIdeal.Read
public import proofs.«01_k».proof.Proof.Gen.EvenQueryKernel
public import proofs.«01_k».proof.Proof.Gen.EvenQueryKernel.Frame
public import proofs.«01_k».proof.Proof.Gen.EvenQueryKernelIdeal
public import proofs.«01_k».proof.Proof.Gen.EvenQueryKernelIdeal.Frame
public import proofs.«01_k».proof.Proof.Gen.EvenQueryKernelIdeal.Value
public import proofs.«01_k».proof.Proof.Gen.EvenQueryReferenceIdeal
public import proofs.«01_k».proof.Proof.Gen.EvenQueryReferenceIdeal.Read
public import proofs.«01_k».proof.Proof.Gen.EvenKeyKernel
public import proofs.«01_k».proof.Proof.Gen.EvenKeyKernel.Frame
public import proofs.«01_k».proof.Proof.Gen.EvenKeyKernelIdeal
public import proofs.«01_k».proof.Proof.Gen.EvenKeyKernelIdeal.Frame
public import proofs.«01_k».proof.Proof.Gen.EvenKeyKernelIdeal.Value
public import proofs.«01_k».proof.Proof.Gen.EvenKeyReferenceIdeal
public import proofs.«01_k».proof.Proof.Gen.EvenKeyReferenceIdeal.Read
public import proofs.«01_k».proof.Proof.Gen.EvenValueKernel
public import proofs.«01_k».proof.Proof.Gen.EvenValueKernel.Frame
public import proofs.«01_k».proof.Proof.Gen.EvenValueKernelIdeal
public import proofs.«01_k».proof.Proof.Gen.EvenValueKernelIdeal.Frame
public import proofs.«01_k».proof.Proof.Gen.EvenValueKernelIdeal.Value
public import proofs.«01_k».proof.Proof.Gen.EvenValueReferenceIdeal
public import proofs.«01_k».proof.Proof.Gen.EvenValueReferenceIdeal.Read
public import proofs.«01_k».proof.Proof.Gen.EvenGateKernel
public import proofs.«01_k».proof.Proof.Gen.EvenGateKernel.Frame
public import proofs.«01_k».proof.Proof.Gen.EvenGateKernelIdeal
public import proofs.«01_k».proof.Proof.Gen.EvenGateKernelIdeal.Frame
public import proofs.«01_k».proof.Proof.Gen.EvenGateKernelIdeal.Value
public import proofs.«01_k».proof.Proof.Gen.EvenGateReferenceIdeal
public import proofs.«01_k».proof.Proof.Gen.EvenGateReferenceIdeal.Read
public import proofs.«01_k».proof.Proof.Gen.EvenOutKernel
public import proofs.«01_k».proof.Proof.Gen.EvenOutKernel.Frame
public import proofs.«01_k».proof.Proof.Gen.EvenOutKernelIdeal
public import proofs.«01_k».proof.Proof.Gen.EvenOutKernelIdeal.Frame
public import proofs.«01_k».proof.Proof.Gen.EvenOutKernelIdeal.Value
public import proofs.«01_k».proof.Proof.Gen.EvenOutReferenceIdeal
public import proofs.«01_k».proof.Proof.Gen.EvenOutReferenceIdeal.Read
public import proofs.«01_k».proof.Proof.Gen.OddQueryKernel
public import proofs.«01_k».proof.Proof.Gen.OddQueryKernel.Frame
public import proofs.«01_k».proof.Proof.Gen.OddQueryKernelIdeal
public import proofs.«01_k».proof.Proof.Gen.OddQueryKernelIdeal.Frame
public import proofs.«01_k».proof.Proof.Gen.OddQueryKernelIdeal.Value
public import proofs.«01_k».proof.Proof.Gen.OddQueryReferenceIdeal
public import proofs.«01_k».proof.Proof.Gen.OddQueryReferenceIdeal.Read
public import proofs.«01_k».proof.Proof.Gen.OddKeyKernel
public import proofs.«01_k».proof.Proof.Gen.OddKeyKernel.Frame
public import proofs.«01_k».proof.Proof.Gen.OddKeyKernelIdeal
public import proofs.«01_k».proof.Proof.Gen.OddKeyKernelIdeal.Frame
public import proofs.«01_k».proof.Proof.Gen.OddKeyKernelIdeal.Value
public import proofs.«01_k».proof.Proof.Gen.OddKeyReferenceIdeal
public import proofs.«01_k».proof.Proof.Gen.OddKeyReferenceIdeal.Read
public import proofs.«01_k».proof.Proof.Gen.OddValueKernel
public import proofs.«01_k».proof.Proof.Gen.OddValueKernel.Frame
public import proofs.«01_k».proof.Proof.Gen.OddValueKernelIdeal
public import proofs.«01_k».proof.Proof.Gen.OddValueKernelIdeal.Frame
public import proofs.«01_k».proof.Proof.Gen.OddValueKernelIdeal.Value
public import proofs.«01_k».proof.Proof.Gen.OddValueReferenceIdeal
public import proofs.«01_k».proof.Proof.Gen.OddValueReferenceIdeal.Read
public import proofs.«01_k».proof.Proof.Gen.OddGateKernel
public import proofs.«01_k».proof.Proof.Gen.OddGateKernel.Frame
public import proofs.«01_k».proof.Proof.Gen.OddGateKernelIdeal
public import proofs.«01_k».proof.Proof.Gen.OddGateKernelIdeal.Frame
public import proofs.«01_k».proof.Proof.Gen.OddGateKernelIdeal.Value
public import proofs.«01_k».proof.Proof.Gen.OddGateReferenceIdeal
public import proofs.«01_k».proof.Proof.Gen.OddGateReferenceIdeal.Read
public import proofs.«01_k».proof.Proof.Gen.OddForgetKernel
public import proofs.«01_k».proof.Proof.Gen.OddForgetKernel.Frame
public import proofs.«01_k».proof.Proof.Gen.OddForgetKernelIdeal
public import proofs.«01_k».proof.Proof.Gen.OddForgetKernelIdeal.Frame
public import proofs.«01_k».proof.Proof.Gen.OddForgetKernelIdeal.Value
public import proofs.«01_k».proof.Proof.Gen.OddForgetReferenceIdeal
public import proofs.«01_k».proof.Proof.Gen.OddForgetReferenceIdeal.Read
public import proofs.«01_k».proof.Proof.Gen.OddOutKernel
public import proofs.«01_k».proof.Proof.Gen.OddOutKernel.Frame
public import proofs.«01_k».proof.Proof.Gen.OddOutKernelIdeal
public import proofs.«01_k».proof.Proof.Gen.OddOutKernelIdeal.Frame
public import proofs.«01_k».proof.Proof.Gen.OddOutKernelIdeal.Value
public import proofs.«01_k».proof.Proof.Gen.OddOutReferenceIdeal
public import proofs.«01_k».proof.Proof.Gen.OddOutReferenceIdeal.Read
public import proofs.«01_k».proof.Proof.Gen.EvenColsKernel
public import proofs.«01_k».proof.Proof.Gen.EvenColsKernel.Frame
public import proofs.«01_k».proof.Proof.Gen.EvenColsKernelIdeal
public import proofs.«01_k».proof.Proof.Gen.EvenColsKernelIdeal.Frame
public import proofs.«01_k».proof.Proof.Gen.EvenColsKernelIdeal.Value
public import proofs.«01_k».proof.Proof.Gen.EvenColsReferenceIdeal
public import proofs.«01_k».proof.Proof.Gen.EvenColsReferenceIdeal.Read
public import proofs.«01_k».proof.Proof.Gen.EvenColsOutKernel
public import proofs.«01_k».proof.Proof.Gen.EvenColsOutKernel.Frame
public import proofs.«01_k».proof.Proof.Gen.EvenColsOutKernelIdeal
public import proofs.«01_k».proof.Proof.Gen.EvenColsOutKernelIdeal.Frame
public import proofs.«01_k».proof.Proof.Gen.EvenColsOutKernelIdeal.Value
public import proofs.«01_k».proof.Proof.Gen.EvenColsOutReferenceIdeal
public import proofs.«01_k».proof.Proof.Gen.EvenColsOutReferenceIdeal.Read
public import proofs.«01_k».proof.Proof.Gen.OddColsOutKernel
public import proofs.«01_k».proof.Proof.Gen.OddColsOutKernel.Frame
public import proofs.«01_k».proof.Proof.Gen.OddColsOutKernelIdeal
public import proofs.«01_k».proof.Proof.Gen.OddColsOutKernelIdeal.Frame
public import proofs.«01_k».proof.Proof.Gen.OddColsOutKernelIdeal.Value
public import proofs.«01_k».proof.Proof.Gen.OddColsOutReferenceIdeal
public import proofs.«01_k».proof.Proof.Gen.OddColsOutReferenceIdeal.Read
public import proofs.«01_k».proof.Proof.Gen.LogfKernel
public import proofs.«01_k».proof.Proof.Gen.LogfKernel.Frame
public import proofs.«01_k».proof.Proof.Gen.LogfKernelIdeal
public import proofs.«01_k».proof.Proof.Gen.LogfKernelIdeal.Frame
public import proofs.«01_k».proof.Proof.Gen.LogfKernelIdeal.Value
public import proofs.«01_k».proof.Proof.Gen.LogfReferenceIdeal
public import proofs.«01_k».proof.Proof.Gen.LogfReferenceIdeal.Read
public import proofs.«01_k».proof.Proof.Gen.LogfCumsumKernel
public import proofs.«01_k».proof.Proof.Gen.LogfCumsumKernel.Frame
public import proofs.«01_k».proof.Proof.Gen.LogfCumsumKernelIdeal
public import proofs.«01_k».proof.Proof.Gen.LogfCumsumKernelIdeal.Frame
public import proofs.«01_k».proof.Proof.Gen.LogfCumsumKernelIdeal.Value
public import proofs.«01_k».proof.Proof.Gen.LogfCumsumReferenceIdeal
public import proofs.«01_k».proof.Proof.Gen.LogfCumsumReferenceIdeal.Read
public import proofs.«01_k».proof.Proof.Gen.StickKernel
public import proofs.«01_k».proof.Proof.Gen.StickKernel.Frame
public import proofs.«01_k».proof.Proof.Gen.StickKernelIdeal
public import proofs.«01_k».proof.Proof.Gen.StickKernelIdeal.Frame
public import proofs.«01_k».proof.Proof.Gen.StickKernelIdeal.Value
public import proofs.«01_k».proof.Proof.Gen.StickReferenceIdeal
public import proofs.«01_k».proof.Proof.Gen.StickReferenceIdeal.Read
public import proofs.«01_k».proof.Proof.Gen.FoxKernel
public import proofs.«01_k».proof.Proof.Gen.FoxKernel.Frame
public import proofs.«01_k».proof.Proof.Gen.FoxKernelIdeal
public import proofs.«01_k».proof.Proof.Gen.FoxKernelIdeal.Frame
public import proofs.«01_k».proof.Proof.Gen.FoxKernelIdeal.Value
public import proofs.«01_k».proof.Proof.Gen.FoxReferenceIdeal
public import proofs.«01_k».proof.Proof.Gen.FoxReferenceIdeal.Read
public import proofs.«01_k».proof.Proof.RecValue
public import proofs.«01_k».proof.Proof.EvenQueryValue
public import proofs.«01_k».proof.Proof.EvenKeyValue
public import proofs.«01_k».proof.Proof.EvenValueValue
public import proofs.«01_k».proof.Proof.EvenGateValue
public import proofs.«01_k».proof.Proof.EvenOutValue
public import proofs.«01_k».proof.Proof.OddQueryValue
public import proofs.«01_k».proof.Proof.OddKeyValue
public import proofs.«01_k».proof.Proof.OddValueValue
public import proofs.«01_k».proof.Proof.OddGateValue
public import proofs.«01_k».proof.Proof.OddForgetValue
public import proofs.«01_k».proof.Proof.OddOutValue
public import proofs.«01_k».proof.Proof.EvenColsValue
public import proofs.«01_k».proof.Proof.EvenColsOutValue
public import proofs.«01_k».proof.Proof.OddColsOutValue
public import proofs.«01_k».proof.Proof.LogfValue
public import proofs.«01_k».proof.Proof.CumValue
public import proofs.«01_k».proof.Proof.StickValue
public import proofs.«01_k».proof.Proof.FoxValue
public import Idealize.ShloMosaic.Adequacy
public import Idealize.ShloMosaic.Init

@[expose] public section

set_option maxRecDepth 16384

noncomputable section

namespace Cert.Proof

open Idealize.ShloMosaic Idealize.SL.Sem

/-- Rec: over the extended reals the kernel's result is the reference's. -/
theorem algebraic_Rec : Cert.algebraic_RecKernelIdeal_RecReferenceIdeal (hRecKernelIdeal := Cert.RecKernelIdeal.Gen.facts) (hRecReferenceIdeal := Cert.RecReferenceIdeal.Gen.facts) := by
  pair_intro
  · run_from Cert.RecKernelIdeal.Gen.run_main m g
  · run_from Cert.RecReferenceIdeal.Value.run m' g'
    exact (Cert.RecKernelIdeal.Own.final m c).symm

/-- EvenQuery: over the extended reals the kernel's result is the reference's. -/
theorem algebraic_EvenQuery : Cert.algebraic_EvenQueryKernelIdeal_EvenQueryReferenceIdeal (hEvenQueryKernelIdeal := Cert.EvenQueryKernelIdeal.Gen.facts) (hEvenQueryReferenceIdeal := Cert.EvenQueryReferenceIdeal.Gen.facts) := by
  pair_intro
  · run_from Cert.EvenQueryKernelIdeal.Gen.run_main m g
  · run_from Cert.EvenQueryReferenceIdeal.Value.run m' g'
    exact (Cert.EvenQueryKernelIdeal.Own.final m c).symm

/-- EvenKey: over the extended reals the kernel's result is the reference's. -/
theorem algebraic_EvenKey : Cert.algebraic_EvenKeyKernelIdeal_EvenKeyReferenceIdeal (hEvenKeyKernelIdeal := Cert.EvenKeyKernelIdeal.Gen.facts) (hEvenKeyReferenceIdeal := Cert.EvenKeyReferenceIdeal.Gen.facts) := by
  pair_intro
  · run_from Cert.EvenKeyKernelIdeal.Gen.run_main m g
  · run_from Cert.EvenKeyReferenceIdeal.Value.run m' g'
    · exact (Cert.EvenKeyKernelIdeal.Own.final0 m c).symm
    · exact (Cert.EvenKeyKernelIdeal.Own.final1 m c).symm

/-- EvenValue: over the extended reals the kernel's result is the reference's. -/
theorem algebraic_EvenValue : Cert.algebraic_EvenValueKernelIdeal_EvenValueReferenceIdeal (hEvenValueKernelIdeal := Cert.EvenValueKernelIdeal.Gen.facts) (hEvenValueReferenceIdeal := Cert.EvenValueReferenceIdeal.Gen.facts) := by
  pair_intro
  · run_from Cert.EvenValueKernelIdeal.Gen.run_main m g
  · run_from Cert.EvenValueReferenceIdeal.Value.run m' g'
    · exact (Cert.EvenValueKernelIdeal.Own.final0 m c).symm
    · exact (Cert.EvenValueKernelIdeal.Own.final1 m c).symm

/-- EvenGate: over the extended reals the kernel's result is the reference's. -/
theorem algebraic_EvenGate : Cert.algebraic_EvenGateKernelIdeal_EvenGateReferenceIdeal (hEvenGateKernelIdeal := Cert.EvenGateKernelIdeal.Gen.facts) (hEvenGateReferenceIdeal := Cert.EvenGateReferenceIdeal.Gen.facts) := by
  pair_intro
  · run_from Cert.EvenGateKernelIdeal.Gen.run_main m g
  · run_from Cert.EvenGateReferenceIdeal.Value.run m' g'
    exact (Cert.EvenGateKernelIdeal.Own.final m c).symm

/-- EvenOut: over the extended reals the kernel's result is the reference's. -/
theorem algebraic_EvenOut : Cert.algebraic_EvenOutKernelIdeal_EvenOutReferenceIdeal (hEvenOutKernelIdeal := Cert.EvenOutKernelIdeal.Gen.facts) (hEvenOutReferenceIdeal := Cert.EvenOutReferenceIdeal.Gen.facts) := by
  pair_intro
  · run_from Cert.EvenOutKernelIdeal.Gen.run_main m g
  · run_from Cert.EvenOutReferenceIdeal.Value.run m' g'
    exact (Cert.EvenOutKernelIdeal.Own.final m c).symm

/-- OddQuery: over the extended reals the kernel's result is the reference's. -/
theorem algebraic_OddQuery : Cert.algebraic_OddQueryKernelIdeal_OddQueryReferenceIdeal (hOddQueryKernelIdeal := Cert.OddQueryKernelIdeal.Gen.facts) (hOddQueryReferenceIdeal := Cert.OddQueryReferenceIdeal.Gen.facts) := by
  pair_intro
  · run_from Cert.OddQueryKernelIdeal.Gen.run_main m g
  · run_from Cert.OddQueryReferenceIdeal.Value.run m' g'
    exact (Cert.OddQueryKernelIdeal.Own.final m c).symm

/-- OddKey: over the extended reals the kernel's result is the reference's. -/
theorem algebraic_OddKey : Cert.algebraic_OddKeyKernelIdeal_OddKeyReferenceIdeal (hOddKeyKernelIdeal := Cert.OddKeyKernelIdeal.Gen.facts) (hOddKeyReferenceIdeal := Cert.OddKeyReferenceIdeal.Gen.facts) := by
  pair_intro
  · run_from Cert.OddKeyKernelIdeal.Gen.run_main m g
  · run_from Cert.OddKeyReferenceIdeal.Value.run m' g'
    exact (Cert.OddKeyKernelIdeal.Own.final m c).symm

/-- OddValue: over the extended reals the kernel's result is the reference's. -/
theorem algebraic_OddValue : Cert.algebraic_OddValueKernelIdeal_OddValueReferenceIdeal (hOddValueKernelIdeal := Cert.OddValueKernelIdeal.Gen.facts) (hOddValueReferenceIdeal := Cert.OddValueReferenceIdeal.Gen.facts) := by
  pair_intro
  · run_from Cert.OddValueKernelIdeal.Gen.run_main m g
  · run_from Cert.OddValueReferenceIdeal.Value.run m' g'
    exact (Cert.OddValueKernelIdeal.Own.final m c).symm

/-- OddGate: over the extended reals the kernel's result is the reference's. -/
theorem algebraic_OddGate : Cert.algebraic_OddGateKernelIdeal_OddGateReferenceIdeal (hOddGateKernelIdeal := Cert.OddGateKernelIdeal.Gen.facts) (hOddGateReferenceIdeal := Cert.OddGateReferenceIdeal.Gen.facts) := by
  pair_intro
  · run_from Cert.OddGateKernelIdeal.Gen.run_main m g
  · run_from Cert.OddGateReferenceIdeal.Value.run m' g'
    exact (Cert.OddGateKernelIdeal.Own.final m c).symm

/-- OddForget: over the extended reals the kernel's result is the reference's. -/
theorem algebraic_OddForget : Cert.algebraic_OddForgetKernelIdeal_OddForgetReferenceIdeal (hOddForgetKernelIdeal := Cert.OddForgetKernelIdeal.Gen.facts) (hOddForgetReferenceIdeal := Cert.OddForgetReferenceIdeal.Gen.facts) := by
  pair_intro
  · run_from Cert.OddForgetKernelIdeal.Gen.run_main m g
  · run_from Cert.OddForgetReferenceIdeal.Value.run m' g'
    exact (Cert.OddForgetKernelIdeal.Own.final m c).symm

/-- OddOut: over the extended reals the kernel's result is the reference's. -/
theorem algebraic_OddOut : Cert.algebraic_OddOutKernelIdeal_OddOutReferenceIdeal (hOddOutKernelIdeal := Cert.OddOutKernelIdeal.Gen.facts) (hOddOutReferenceIdeal := Cert.OddOutReferenceIdeal.Gen.facts) := by
  pair_intro
  · run_from Cert.OddOutKernelIdeal.Gen.run_main m g
  · run_from Cert.OddOutReferenceIdeal.Value.run m' g'
    exact (Cert.OddOutKernelIdeal.Own.final m c).symm

/-- EvenCols: over the extended reals the kernel's result is the reference's. -/
theorem algebraic_EvenCols : Cert.algebraic_EvenColsKernelIdeal_EvenColsReferenceIdeal (hEvenColsKernelIdeal := Cert.EvenColsKernelIdeal.Gen.facts) (hEvenColsReferenceIdeal := Cert.EvenColsReferenceIdeal.Gen.facts) := by
  pair_intro
  · run_from Cert.EvenColsKernelIdeal.Gen.run_main m g
  · run_from Cert.EvenColsReferenceIdeal.Value.run m' g'
    · exact (Cert.EvenColsKernelIdeal.Own.final0 m c).symm
    · exact (Cert.EvenColsKernelIdeal.Own.final1 m c).symm

/-- EvenColsOut: over the extended reals the kernel's result is the reference's. -/
theorem algebraic_EvenColsOut : Cert.algebraic_EvenColsOutKernelIdeal_EvenColsOutReferenceIdeal (hEvenColsOutKernelIdeal := Cert.EvenColsOutKernelIdeal.Gen.facts) (hEvenColsOutReferenceIdeal := Cert.EvenColsOutReferenceIdeal.Gen.facts) := by
  pair_intro
  · run_from Cert.EvenColsOutKernelIdeal.Gen.run_main m g
  · run_from Cert.EvenColsOutReferenceIdeal.Value.run m' g'
    · exact (Cert.EvenColsOutKernelIdeal.Own.final0 m c).symm
    · exact (Cert.EvenColsOutKernelIdeal.Own.final1 m c).symm

/-- OddColsOut: over the extended reals the kernel's result is the reference's. -/
theorem algebraic_OddColsOut : Cert.algebraic_OddColsOutKernelIdeal_OddColsOutReferenceIdeal (hOddColsOutKernelIdeal := Cert.OddColsOutKernelIdeal.Gen.facts) (hOddColsOutReferenceIdeal := Cert.OddColsOutReferenceIdeal.Gen.facts) := by
  pair_intro
  · run_from Cert.OddColsOutKernelIdeal.Gen.run_main m g
  · run_from Cert.OddColsOutReferenceIdeal.Value.run m' g'
    · exact (Cert.OddColsOutKernelIdeal.Own.final0 m c).symm
    · exact (Cert.OddColsOutKernelIdeal.Own.final1 m c).symm

/-- Logf: over the extended reals the kernel's result is the reference's. -/
theorem algebraic_Logf : Cert.algebraic_LogfKernelIdeal_LogfReferenceIdeal (hLogfKernelIdeal := Cert.LogfKernelIdeal.Gen.facts) (hLogfReferenceIdeal := Cert.LogfReferenceIdeal.Gen.facts) := by
  pair_intro
  · run_from Cert.LogfKernelIdeal.Gen.run_main m g
  · run_from Cert.LogfReferenceIdeal.Value.run m' g'
    exact (Cert.LogfKernelIdeal.Own.final m c).symm

/-- LogfCumsum: over the extended reals the kernel's results are the reference's. -/
theorem algebraic_LogfCumsum : Cert.algebraic_LogfCumsumKernelIdeal_LogfCumsumReferenceIdeal (hLogfCumsumKernelIdeal := Cert.LogfCumsumKernelIdeal.Gen.facts) (hLogfCumsumReferenceIdeal := Cert.LogfCumsumReferenceIdeal.Gen.facts) := by
  pair_intro
  · run_from Cert.LogfCumsumKernelIdeal.Gen.run_main m g
    exact Cert.LogfCumsumKernelIdeal.Gen.V_main_arg1 m c
  · refine Idealize.ShloMosaic.θ_run_mono (Cert.LogfCumsumReferenceIdeal.Value.run m' g') ?_
    intro r hr c
    obtain ⟨h0, h1, h2, h3⟩ := hr c
    obtain ⟨e0, e1⟩ := hagree c
    refine ⟨h0.trans ?_, h1.trans ?_, h2, h3⟩
    · refine (Cert.LogfCumsumReferenceIdeal.Read.val_main_v4_eq (F := Ideal) _ _).trans ?_
      rw [e0, e1]
      exact (Cert.LogfCumsumKernelIdeal.Own.final0 m c).symm
    · refine (Cert.LogfCumsumReferenceIdeal.Read.val_main_v7_eq (F := Ideal) _ _).trans ?_
      rw [e0, e1]
      exact (Cert.LogfCumsumKernelIdeal.Own.final1 m c).symm

/-- Stick: over the extended reals the kernel's result is the reference's. -/
theorem algebraic_Stick : Cert.algebraic_StickKernelIdeal_StickReferenceIdeal (hStickKernelIdeal := Cert.StickKernelIdeal.Gen.facts) (hStickReferenceIdeal := Cert.StickReferenceIdeal.Gen.facts) := by
  pair_intro
  · run_from Cert.StickKernelIdeal.Gen.run_main m g
  · run_from Cert.StickReferenceIdeal.Value.run m' g'
    refine (Cert.StickReferenceIdeal.Read.val_main_v41_eq (F := Ideal) m' c).trans ?_
    obtain ⟨e0, e1, e2⟩ := hagree c
    rw [e0, e1, e2]
    exact (Cert.StickKernelIdeal.Own.final m c).symm

/-- Fox: over the extended reals the kernel's result is the reference's. -/
theorem algebraic_Fox : Cert.algebraic_FoxKernelIdeal_FoxReferenceIdeal (hFoxKernelIdeal := Cert.FoxKernelIdeal.Gen.facts) (hFoxReferenceIdeal := Cert.FoxReferenceIdeal.Gen.facts) := by
  pair_intro
  · run_from Cert.FoxKernelIdeal.Gen.run_main m g
  · run_from Cert.FoxReferenceIdeal.Value.run m' g'
    refine (Cert.FoxReferenceIdeal.Read.val_main_v54_eq (F := Ideal) m' c).trans ?_
    obtain ⟨e0, e1, e2, e3, e4⟩ := hagree c
    rw [e0, e1, e2, e3, e4]
    exact (Cert.FoxKernelIdeal.Own.final m c).symm

/-- The reference of Rec runs and leaves its arguments unchanged. -/
theorem frame_RecReference : Cert.quiescent_RecReferenceIdeal (hRecReferenceIdeal := Cert.RecReferenceIdeal.Gen.facts) := by
  intro m g _
  run_from Cert.RecReferenceIdeal.Value.run m g
  all_goals first
    | (intros; simp; done)
    | exact Idealize.ShloMosaic.sem_eq_zero_of_no_sems (sig := Cert.RecReferenceIdeal.sig) (by decide) _

/-- The reference of EvenQuery runs and leaves its arguments unchanged. -/
theorem frame_EvenQueryReference : Cert.quiescent_EvenQueryReferenceIdeal (hEvenQueryReferenceIdeal := Cert.EvenQueryReferenceIdeal.Gen.facts) := by
  intro m g _
  run_from Cert.EvenQueryReferenceIdeal.Value.run m g
  all_goals first
    | (intros; simp; done)
    | exact Idealize.ShloMosaic.sem_eq_zero_of_no_sems (sig := Cert.EvenQueryReferenceIdeal.sig) (by decide) _

/-- The reference of EvenKey runs and leaves its arguments unchanged. -/
theorem frame_EvenKeyReference : Cert.quiescent_EvenKeyReferenceIdeal (hEvenKeyReferenceIdeal := Cert.EvenKeyReferenceIdeal.Gen.facts) := by
  intro m g _
  run_from Cert.EvenKeyReferenceIdeal.Value.run m g
  all_goals first
    | (intros; simp; done)
    | exact Idealize.ShloMosaic.sem_eq_zero_of_no_sems (sig := Cert.EvenKeyReferenceIdeal.sig) (by decide) _

/-- The reference of EvenValue runs and leaves its arguments unchanged. -/
theorem frame_EvenValueReference : Cert.quiescent_EvenValueReferenceIdeal (hEvenValueReferenceIdeal := Cert.EvenValueReferenceIdeal.Gen.facts) := by
  intro m g _
  run_from Cert.EvenValueReferenceIdeal.Value.run m g
  all_goals first
    | (intros; simp; done)
    | exact Idealize.ShloMosaic.sem_eq_zero_of_no_sems (sig := Cert.EvenValueReferenceIdeal.sig) (by decide) _

/-- The reference of EvenGate runs and leaves its arguments unchanged. -/
theorem frame_EvenGateReference : Cert.quiescent_EvenGateReferenceIdeal (hEvenGateReferenceIdeal := Cert.EvenGateReferenceIdeal.Gen.facts) := by
  intro m g _
  run_from Cert.EvenGateReferenceIdeal.Value.run m g
  all_goals first
    | (intros; simp; done)
    | exact Idealize.ShloMosaic.sem_eq_zero_of_no_sems (sig := Cert.EvenGateReferenceIdeal.sig) (by decide) _

/-- The reference of EvenOut runs and leaves its arguments unchanged. -/
theorem frame_EvenOutReference : Cert.quiescent_EvenOutReferenceIdeal (hEvenOutReferenceIdeal := Cert.EvenOutReferenceIdeal.Gen.facts) := by
  intro m g _
  run_from Cert.EvenOutReferenceIdeal.Value.run m g
  all_goals first
    | (intros; simp; done)
    | exact Idealize.ShloMosaic.sem_eq_zero_of_no_sems (sig := Cert.EvenOutReferenceIdeal.sig) (by decide) _

/-- The reference of OddQuery runs and leaves its arguments unchanged. -/
theorem frame_OddQueryReference : Cert.quiescent_OddQueryReferenceIdeal (hOddQueryReferenceIdeal := Cert.OddQueryReferenceIdeal.Gen.facts) := by
  intro m g _
  run_from Cert.OddQueryReferenceIdeal.Value.run m g
  all_goals first
    | (intros; simp; done)
    | exact Idealize.ShloMosaic.sem_eq_zero_of_no_sems (sig := Cert.OddQueryReferenceIdeal.sig) (by decide) _

/-- The reference of OddKey runs and leaves its arguments unchanged. -/
theorem frame_OddKeyReference : Cert.quiescent_OddKeyReferenceIdeal (hOddKeyReferenceIdeal := Cert.OddKeyReferenceIdeal.Gen.facts) := by
  intro m g _
  run_from Cert.OddKeyReferenceIdeal.Value.run m g
  all_goals first
    | (intros; simp; done)
    | exact Idealize.ShloMosaic.sem_eq_zero_of_no_sems (sig := Cert.OddKeyReferenceIdeal.sig) (by decide) _

/-- The reference of OddValue runs and leaves its arguments unchanged. -/
theorem frame_OddValueReference : Cert.quiescent_OddValueReferenceIdeal (hOddValueReferenceIdeal := Cert.OddValueReferenceIdeal.Gen.facts) := by
  intro m g _
  run_from Cert.OddValueReferenceIdeal.Value.run m g
  all_goals first
    | (intros; simp; done)
    | exact Idealize.ShloMosaic.sem_eq_zero_of_no_sems (sig := Cert.OddValueReferenceIdeal.sig) (by decide) _

/-- The reference of OddGate runs and leaves its arguments unchanged. -/
theorem frame_OddGateReference : Cert.quiescent_OddGateReferenceIdeal (hOddGateReferenceIdeal := Cert.OddGateReferenceIdeal.Gen.facts) := by
  intro m g _
  run_from Cert.OddGateReferenceIdeal.Value.run m g
  all_goals first
    | (intros; simp; done)
    | exact Idealize.ShloMosaic.sem_eq_zero_of_no_sems (sig := Cert.OddGateReferenceIdeal.sig) (by decide) _

/-- The reference of OddForget runs and leaves its arguments unchanged. -/
theorem frame_OddForgetReference : Cert.quiescent_OddForgetReferenceIdeal (hOddForgetReferenceIdeal := Cert.OddForgetReferenceIdeal.Gen.facts) := by
  intro m g _
  run_from Cert.OddForgetReferenceIdeal.Value.run m g
  all_goals first
    | (intros; simp; done)
    | exact Idealize.ShloMosaic.sem_eq_zero_of_no_sems (sig := Cert.OddForgetReferenceIdeal.sig) (by decide) _

/-- The reference of OddOut runs and leaves its arguments unchanged. -/
theorem frame_OddOutReference : Cert.quiescent_OddOutReferenceIdeal (hOddOutReferenceIdeal := Cert.OddOutReferenceIdeal.Gen.facts) := by
  intro m g _
  run_from Cert.OddOutReferenceIdeal.Value.run m g
  all_goals first
    | (intros; simp; done)
    | exact Idealize.ShloMosaic.sem_eq_zero_of_no_sems (sig := Cert.OddOutReferenceIdeal.sig) (by decide) _

/-- The reference of EvenCols runs and leaves its arguments unchanged. -/
theorem frame_EvenColsReference : Cert.quiescent_EvenColsReferenceIdeal (hEvenColsReferenceIdeal := Cert.EvenColsReferenceIdeal.Gen.facts) := by
  intro m g _
  run_from Cert.EvenColsReferenceIdeal.Value.run m g
  all_goals first
    | (intros; simp; done)
    | exact Idealize.ShloMosaic.sem_eq_zero_of_no_sems (sig := Cert.EvenColsReferenceIdeal.sig) (by decide) _

/-- The reference of EvenColsOut runs and leaves its arguments unchanged. -/
theorem frame_EvenColsOutReference : Cert.quiescent_EvenColsOutReferenceIdeal (hEvenColsOutReferenceIdeal := Cert.EvenColsOutReferenceIdeal.Gen.facts) := by
  intro m g _
  run_from Cert.EvenColsOutReferenceIdeal.Value.run m g
  all_goals first
    | (intros; simp; done)
    | exact Idealize.ShloMosaic.sem_eq_zero_of_no_sems (sig := Cert.EvenColsOutReferenceIdeal.sig) (by decide) _

/-- The reference of OddColsOut runs and leaves its arguments unchanged. -/
theorem frame_OddColsOutReference : Cert.quiescent_OddColsOutReferenceIdeal (hOddColsOutReferenceIdeal := Cert.OddColsOutReferenceIdeal.Gen.facts) := by
  intro m g _
  run_from Cert.OddColsOutReferenceIdeal.Value.run m g
  all_goals first
    | (intros; simp; done)
    | exact Idealize.ShloMosaic.sem_eq_zero_of_no_sems (sig := Cert.OddColsOutReferenceIdeal.sig) (by decide) _

/-- The reference of Logf runs and leaves its arguments unchanged. -/
theorem frame_LogfReference : Cert.quiescent_LogfReferenceIdeal (hLogfReferenceIdeal := Cert.LogfReferenceIdeal.Gen.facts) := by
  intro m g _
  run_from Cert.LogfReferenceIdeal.Value.run m g
  all_goals first
    | (intros; simp; done)
    | exact Idealize.ShloMosaic.sem_eq_zero_of_no_sems (sig := Cert.LogfReferenceIdeal.sig) (by decide) _

/-- The reference of LogfCumsum runs and leaves its arguments unchanged. -/
theorem frame_LogfCumsumReference : Cert.quiescent_LogfCumsumReferenceIdeal (hLogfCumsumReferenceIdeal := Cert.LogfCumsumReferenceIdeal.Gen.facts) := by
  intro m g _
  run_from Cert.LogfCumsumReferenceIdeal.Value.run m g
  all_goals first
    | (intros; simp; done)
    | exact Idealize.ShloMosaic.sem_eq_zero_of_no_sems (sig := Cert.LogfCumsumReferenceIdeal.sig) (by decide) _

/-- The reference of Stick runs and leaves its arguments unchanged. -/
theorem frame_StickReference : Cert.quiescent_StickReferenceIdeal (hStickReferenceIdeal := Cert.StickReferenceIdeal.Gen.facts) := by
  intro m g _
  run_from Cert.StickReferenceIdeal.Value.run m g
  all_goals first
    | (intros; simp; done)
    | exact Idealize.ShloMosaic.sem_eq_zero_of_no_sems (sig := Cert.StickReferenceIdeal.sig) (by decide) _

/-- The reference of Fox runs and leaves its arguments unchanged. -/
theorem frame_FoxReference : Cert.quiescent_FoxReferenceIdeal (hFoxReferenceIdeal := Cert.FoxReferenceIdeal.Gen.facts) := by
  intro m g _
  run_from Cert.FoxReferenceIdeal.Value.run m g
  all_goals first
    | (intros; simp; done)
    | exact Idealize.ShloMosaic.sem_eq_zero_of_no_sems (sig := Cert.FoxReferenceIdeal.sig) (by decide) _

/-- The claim of the whole file: frames first, then each equality. -/
theorem claim : Cert.Claim := ⟨Cert.RecKernel.Gen.facts,
  Cert.RecKernelIdeal.Gen.facts,
  Cert.RecReferenceIdeal.Gen.facts,
  Cert.EvenQueryKernel.Gen.facts,
  Cert.EvenQueryKernelIdeal.Gen.facts,
  Cert.EvenQueryReferenceIdeal.Gen.facts,
  Cert.EvenKeyKernel.Gen.facts,
  Cert.EvenKeyKernelIdeal.Gen.facts,
  Cert.EvenKeyReferenceIdeal.Gen.facts,
  Cert.EvenValueKernel.Gen.facts,
  Cert.EvenValueKernelIdeal.Gen.facts,
  Cert.EvenValueReferenceIdeal.Gen.facts,
  Cert.EvenGateKernel.Gen.facts,
  Cert.EvenGateKernelIdeal.Gen.facts,
  Cert.EvenGateReferenceIdeal.Gen.facts,
  Cert.EvenOutKernel.Gen.facts,
  Cert.EvenOutKernelIdeal.Gen.facts,
  Cert.EvenOutReferenceIdeal.Gen.facts,
  Cert.OddQueryKernel.Gen.facts,
  Cert.OddQueryKernelIdeal.Gen.facts,
  Cert.OddQueryReferenceIdeal.Gen.facts,
  Cert.OddKeyKernel.Gen.facts,
  Cert.OddKeyKernelIdeal.Gen.facts,
  Cert.OddKeyReferenceIdeal.Gen.facts,
  Cert.OddValueKernel.Gen.facts,
  Cert.OddValueKernelIdeal.Gen.facts,
  Cert.OddValueReferenceIdeal.Gen.facts,
  Cert.OddGateKernel.Gen.facts,
  Cert.OddGateKernelIdeal.Gen.facts,
  Cert.OddGateReferenceIdeal.Gen.facts,
  Cert.OddForgetKernel.Gen.facts,
  Cert.OddForgetKernelIdeal.Gen.facts,
  Cert.OddForgetReferenceIdeal.Gen.facts,
  Cert.OddOutKernel.Gen.facts,
  Cert.OddOutKernelIdeal.Gen.facts,
  Cert.OddOutReferenceIdeal.Gen.facts,
  Cert.EvenColsKernel.Gen.facts,
  Cert.EvenColsKernelIdeal.Gen.facts,
  Cert.EvenColsReferenceIdeal.Gen.facts,
  Cert.EvenColsOutKernel.Gen.facts,
  Cert.EvenColsOutKernelIdeal.Gen.facts,
  Cert.EvenColsOutReferenceIdeal.Gen.facts,
  Cert.OddColsOutKernel.Gen.facts,
  Cert.OddColsOutKernelIdeal.Gen.facts,
  Cert.OddColsOutReferenceIdeal.Gen.facts,
  Cert.LogfKernel.Gen.facts,
  Cert.LogfKernelIdeal.Gen.facts,
  Cert.LogfReferenceIdeal.Gen.facts,
  Cert.LogfCumsumKernel.Gen.facts,
  Cert.LogfCumsumKernelIdeal.Gen.facts,
  Cert.LogfCumsumReferenceIdeal.Gen.facts,
  Cert.StickKernel.Gen.facts,
  Cert.StickKernelIdeal.Gen.facts,
  Cert.StickReferenceIdeal.Gen.facts,
  Cert.FoxKernel.Gen.facts,
  Cert.FoxKernelIdeal.Gen.facts,
  Cert.FoxReferenceIdeal.Gen.facts,
  fun m ρ _ => Cert.RecKernel.Gen.frame m ρ,
  fun m ρ _ => Cert.RecKernelIdeal.Gen.frame m ρ,
  frame_RecReference,
  fun m ρ _ => Cert.EvenQueryKernel.Gen.frame m ρ,
  fun m ρ _ => Cert.EvenQueryKernelIdeal.Gen.frame m ρ,
  frame_EvenQueryReference,
  fun m ρ _ => Cert.EvenKeyKernel.Gen.frame m ρ,
  fun m ρ _ => Cert.EvenKeyKernelIdeal.Gen.frame m ρ,
  frame_EvenKeyReference,
  fun m ρ _ => Cert.EvenValueKernel.Gen.frame m ρ,
  fun m ρ _ => Cert.EvenValueKernelIdeal.Gen.frame m ρ,
  frame_EvenValueReference,
  fun m ρ _ => Cert.EvenGateKernel.Gen.frame m ρ,
  fun m ρ _ => Cert.EvenGateKernelIdeal.Gen.frame m ρ,
  frame_EvenGateReference,
  fun m ρ _ => Cert.EvenOutKernel.Gen.frame m ρ,
  fun m ρ _ => Cert.EvenOutKernelIdeal.Gen.frame m ρ,
  frame_EvenOutReference,
  fun m ρ _ => Cert.OddQueryKernel.Gen.frame m ρ,
  fun m ρ _ => Cert.OddQueryKernelIdeal.Gen.frame m ρ,
  frame_OddQueryReference,
  fun m ρ _ => Cert.OddKeyKernel.Gen.frame m ρ,
  fun m ρ _ => Cert.OddKeyKernelIdeal.Gen.frame m ρ,
  frame_OddKeyReference,
  fun m ρ _ => Cert.OddValueKernel.Gen.frame m ρ,
  fun m ρ _ => Cert.OddValueKernelIdeal.Gen.frame m ρ,
  frame_OddValueReference,
  fun m ρ _ => Cert.OddGateKernel.Gen.frame m ρ,
  fun m ρ _ => Cert.OddGateKernelIdeal.Gen.frame m ρ,
  frame_OddGateReference,
  fun m ρ _ => Cert.OddForgetKernel.Gen.frame m ρ,
  fun m ρ _ => Cert.OddForgetKernelIdeal.Gen.frame m ρ,
  frame_OddForgetReference,
  fun m ρ _ => Cert.OddOutKernel.Gen.frame m ρ,
  fun m ρ _ => Cert.OddOutKernelIdeal.Gen.frame m ρ,
  frame_OddOutReference,
  fun m ρ _ => Cert.EvenColsKernel.Gen.frame m ρ,
  fun m ρ _ => Cert.EvenColsKernelIdeal.Gen.frame m ρ,
  frame_EvenColsReference,
  fun m ρ _ => Cert.EvenColsOutKernel.Gen.frame m ρ,
  fun m ρ _ => Cert.EvenColsOutKernelIdeal.Gen.frame m ρ,
  frame_EvenColsOutReference,
  fun m ρ _ => Cert.OddColsOutKernel.Gen.frame m ρ,
  fun m ρ _ => Cert.OddColsOutKernelIdeal.Gen.frame m ρ,
  frame_OddColsOutReference,
  fun m ρ _ => Cert.LogfKernel.Gen.frame m ρ,
  fun m ρ _ => Cert.LogfKernelIdeal.Gen.frame m ρ,
  frame_LogfReference,
  fun m ρ _ => Cert.LogfCumsumKernel.Gen.frame m ρ,
  fun m ρ _ => Cert.LogfCumsumKernelIdeal.Gen.frame m ρ,
  frame_LogfCumsumReference,
  fun m ρ _ => Cert.StickKernel.Gen.frame m ρ,
  fun m ρ _ => Cert.StickKernelIdeal.Gen.frame m ρ,
  frame_StickReference,
  fun m ρ _ => Cert.FoxKernel.Gen.frame m ρ,
  fun m ρ _ => Cert.FoxKernelIdeal.Gen.frame m ρ,
  frame_FoxReference,
  trivial,
  algebraic_Rec,
  trivial,
  algebraic_EvenQuery,
  trivial,
  algebraic_EvenKey,
  trivial,
  algebraic_EvenValue,
  trivial,
  algebraic_EvenGate,
  trivial,
  algebraic_EvenOut,
  trivial,
  algebraic_OddQuery,
  trivial,
  algebraic_OddKey,
  trivial,
  algebraic_OddValue,
  trivial,
  algebraic_OddGate,
  trivial,
  algebraic_OddForget,
  trivial,
  algebraic_OddOut,
  trivial,
  algebraic_EvenCols,
  trivial,
  algebraic_EvenColsOut,
  trivial,
  algebraic_OddColsOut,
  trivial,
  algebraic_Logf,
  trivial,
  algebraic_LogfCumsum,
  trivial,
  algebraic_Stick,
  trivial,
  algebraic_Fox⟩

end Cert.Proof

end
